-- ==== Defs.lean ====
def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_gate_finite [hPre_gate_finite : Cert.Pre_gate_finite.Facts] (m : (ℓ : Loc Cert.GateIdeal.nD Cert.GateIdeal.τ Cert.GateIdeal.sig) → Buf (Elt Ideal) ℓ) : Prop :=
  ∀ c : Dev Cert.GateIdeal.nD,
    (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).1 = (fun _ => 1#1)
    ∧ (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).2.1 = (fun _ => 1#1)
    ∧ (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).2.2.1 = (fun _ => 1#1)
    ∧ (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).2.2.2 = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_gate_finite [hPre_gate_finite : Cert.Pre_gate_finite.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).1 = (fun _ => 1#1)
    ∧ (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).2.1 = (fun _ => 1#1)
    ∧ (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).2.2.1 = (fun _ => 1#1)
    ∧ (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).2.2.2 = (fun _ => 1#1)

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactRefIdeal (m : (ℓ : Loc Cert.DactRefIdeal.nD Cert.DactRefIdeal.τ Cert.DactRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_UpFwd (m : (ℓ : Loc Cert.UpFwd.nD Cert.UpFwd.τ Cert.UpFwd.sig) → Buf (Elt Bits) ℓ) : Prop :=
  True

def Pre_UpFwdIdeal (m : (ℓ : Loc Cert.UpFwdIdeal.nD Cert.UpFwdIdeal.τ Cert.UpFwdIdeal.sig) → Buf (Elt Ideal) ℓ) : Prop :=
  True

def Pre_UpFwdRefIdeal (m : (ℓ : Loc Cert.UpFwdRefIdeal.nD Cert.UpFwdRefIdeal.τ Cert.UpFwdRefIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdRefIdeal (m : (ℓ : Loc Cert.DownFwdRefIdeal.nD Cert.DownFwdRefIdeal.τ Cert.DownFwdRefIdeal.sig) → Buf (Elt Ideal) ℓ) : Prop :=
  True

def Pre_AttnDx (m : (ℓ : Loc Cert.AttnDx.nD Cert.AttnDx.τ Cert.AttnDx.sig) → Buf (Elt Bits) ℓ) : Prop :=
  True

def Pre_AttnDxIdeal (m : (ℓ : Loc Cert.AttnDxIdeal.nD Cert.AttnDxIdeal.τ Cert.AttnDxIdeal.sig) → Buf (Elt Ideal) ℓ) : Prop :=
  True

def Pre_AttnDxRefIdeal (m : (ℓ : Loc Cert.AttnDxRefIdeal.nD Cert.AttnDxRefIdeal.τ Cert.AttnDxRefIdeal.sig) → Buf (Elt Ideal) ℓ) : Prop :=
  True

def Pre_ConvDx (m : (ℓ : Loc Cert.ConvDx.nD Cert.ConvDx.τ Cert.ConvDx.sig) → Buf (Elt Bits) ℓ) : Prop :=
  True

def Pre_ConvDxIdeal (m : (ℓ : Loc Cert.ConvDxIdeal.nD Cert.ConvDxIdeal.τ Cert.ConvDxIdeal.sig) → Buf (Elt Ideal) ℓ) : Prop :=
  True

def Pre_ConvDxRefIdeal (m : (ℓ : Loc Cert.ConvDxRefIdeal.nD Cert.ConvDxRefIdeal.τ Cert.ConvDxRefIdeal.sig) → Buf (Elt Ideal) ℓ) : Prop :=
  True

def Pre_DwUpU (m : (ℓ : Loc Cert.DwUpU.nD Cert.DwUpU.τ Cert.DwUpU.sig) → Buf (Elt Bits) ℓ) : Prop :=
  True

def Pre_DwUpUIdeal (m : (ℓ : Loc Cert.DwUpUIdeal.nD Cert.DwUpUIdeal.τ Cert.DwUpUIdeal.sig) → Buf (Elt Ideal) ℓ) : Prop :=
  True

def Pre_DwUpURefIdeal (m : (ℓ : Loc Cert.DwUpURefIdeal.nD Cert.DwUpURefIdeal.τ Cert.DwUpURefIdeal.sig) → Buf (Elt Ideal) ℓ) : Prop :=
  True

def Pre_PwW (m : (ℓ : Loc Cert.PwW.nD Cert.PwW.τ Cert.PwW.sig) → Buf (Elt Bits) ℓ) : Prop :=
  True

def Pre_PwWIdeal (m : (ℓ : Loc Cert.PwWIdeal.nD Cert.PwWIdeal.τ Cert.PwWIdeal.sig) → Buf (Elt Ideal) ℓ) : Prop :=
  True

def Pre_PwWRefIdeal (m : (ℓ : Loc Cert.PwWRefIdeal.nD Cert.PwWRefIdeal.τ Cert.PwWRefIdeal.sig) → Buf (Elt Ideal) ℓ) : Prop :=
  True

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4)
      ∧ r.2.mem ((c.tc : Thread Cert.Up.nD Cert.Up.τ).loc Cert.Up.main_arg5) = m ((c.tc : Thread Cert.Up.nD Cert.Up.τ).loc Cert.Up.main_arg5))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateIdeal_pre_gate_finite [hGateIdeal : Cert.GateIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg), Pre_GateIdeal_gate_finite m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_GateRefIdeal_pre_gate_finite [hGateRefIdeal : Cert.GateRefIdeal.Facts] [hPre_gate_finite : Cert.Pre_gate_finite.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_gate_finite m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1)
      ∧ r.2.mem ((c.tc : Thread Cert.DwUp.nD Cert.DwUp.τ).loc Cert.DwUp.main_arg2) = m ((c.tc : Thread Cert.DwUp.nD Cert.DwUp.τ).loc Cert.DwUp.main_arg2))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
      ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1)
      ∧ r.2.mem ((c.tc : Thread Cert.DwUpRefIdeal.nD Cert.DwUpRefIdeal.τ).loc Cert.DwUpRefIdeal.main_arg2) = m ((c.tc : Thread Cert.DwUpRefIdeal.nD Cert.DwUpRefIdeal.τ).loc Cert.DwUpRefIdeal.main_arg2))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2))
      ∧ r.2.sem = fun _ => 0)

def quiescent_UpFwd [hUpFwd : Cert.UpFwd.Facts] : Prop :=
  ∀ (m : (ℓ : Loc Cert.UpFwd.nD Cert.UpFwd.τ Cert.UpFwd.sig) → Buf (Elt Bits) ℓ) (g : Dev Cert.UpFwd.nD → PrngReg), Pre_UpFwd m →
    θ_run (Cert.UpFwd.defs (F := Bits)) (onTc (τ := Cert.UpFwd.τ) (Cert.UpFwd.main (F := Bits))) ⟨m, fun _ => 0, g⟩ (fun r => (∀ c : Dev Cert.UpFwd.nD,
      r.2.mem ((c.tc : Thread Cert.UpFwd.nD Cert.UpFwd.τ).loc Cert.UpFwd.main_arg0) = m ((c.tc : Thread Cert.UpFwd.nD Cert.UpFwd.τ).loc Cert.UpFwd.main_arg0)
      ∧ r.2.mem ((c.tc : Thread Cert.UpFwd.nD Cert.UpFwd.τ).loc Cert.UpFwd.main_arg1) = m ((c.tc : Thread Cert.UpFwd.nD Cert.UpFwd.τ).loc Cert.UpFwd.main_arg1)
      ∧ r.2.mem ((c.tc : Thread Cert.UpFwd.nD Cert.UpFwd.τ).loc Cert.UpFwd.main_arg2) = m ((c.tc : Thread Cert.UpFwd.nD Cert.UpFwd.τ).loc Cert.UpFwd.main_arg2))
      ∧ r.2.sem = fun _ => 0)

def quiescent_UpFwdIdeal [hUpFwdIdeal : Cert.UpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1)
      ∧ r.2.mem ((c.tc : Thread Cert.UpFwdIdeal.nD Cert.UpFwdIdeal.τ).loc Cert.UpFwdIdeal.main_arg2) = m ((c.tc : Thread Cert.UpFwdIdeal.nD Cert.UpFwdIdeal.τ).loc Cert.UpFwdIdeal.main_arg2))
      ∧ r.2.sem = fun _ => 0)

def quiescent_UpFwdRefIdeal [hUpFwdRefIdeal : Cert.UpFwdRefIdeal.Facts] : Prop :=
  ∀ (m : (ℓ : Loc Cert.UpFwdRefIdeal.nD Cert.UpFwdRefIdeal.τ Cert.UpFwdRefIdeal.sig) → Buf (Elt Ideal) ℓ) (g : Dev Cert.UpFwdRefIdeal.nD → PrngReg), Pre_UpFwdRefIdeal m →
    θ_run (Cert.UpFwdRefIdeal.defs (F := Ideal)) (onTc (τ := Cert.UpFwdRefIdeal.τ) (Cert.UpFwdRefIdeal.main (F := Ideal))) ⟨m, fun _ => 0, g⟩ (fun r => (∀ c : Dev Cert.UpFwdRefIdeal.nD,
      r.2.mem ((c.tc : Thread Cert.UpFwdRefIdeal.nD Cert.UpFwdRefIdeal.τ).loc Cert.UpFwdRefIdeal.main_arg0) = m ((c.tc : Thread Cert.UpFwdRefIdeal.nD Cert.UpFwdRefIdeal.τ).loc Cert.UpFwdRefIdeal.main_arg0)
      ∧ r.2.mem ((c.tc : Thread Cert.UpFwdRefIdeal.nD Cert.UpFwdRefIdeal.τ).loc Cert.UpFwdRefIdeal.main_arg1) = m ((c.tc : Thread Cert.UpFwdRefIdeal.nD Cert.UpFwdRefIdeal.τ).loc Cert.UpFwdRefIdeal.main_arg1)
      ∧ r.2.mem ((c.tc : Thread Cert.UpFwdRefIdeal.nD Cert.UpFwdRefIdeal.τ).loc Cert.UpFwdRefIdeal.main_arg2) = m ((c.tc : Thread Cert.UpFwdRefIdeal.nD Cert.UpFwdRefIdeal.τ).loc Cert.UpFwdRefIdeal.main_arg2))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1)
      ∧ r.2.mem ((c.tc : Thread Cert.DownFwd.nD Cert.DownFwd.τ).loc Cert.DownFwd.main_arg2) = m ((c.tc : Thread Cert.DownFwd.nD Cert.DownFwd.τ).loc Cert.DownFwd.main_arg2)
      ∧ r.2.mem ((c.tc : Thread Cert.DownFwd.nD Cert.DownFwd.τ).loc Cert.DownFwd.main_arg3) = m ((c.tc : Thread Cert.DownFwd.nD Cert.DownFwd.τ).loc Cert.DownFwd.main_arg3))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
      ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2)
      ∧ r.2.mem ((c.tc : Thread Cert.DownFwdIdeal.nD Cert.DownFwdIdeal.τ).loc Cert.DownFwdIdeal.main_arg3) = m ((c.tc : Thread Cert.DownFwdIdeal.nD Cert.DownFwdIdeal.τ).loc Cert.DownFwdIdeal.main_arg3))
      ∧ r.2.sem = fun _ => 0)

def quiescent_DownFwdRefIdeal [hDownFwdRefIdeal : Cert.DownFwdRefIdeal.Facts] : Prop :=
  ∀ (m : (ℓ : Loc Cert.DownFwdRefIdeal.nD Cert.DownFwdRefIdeal.τ Cert.DownFwdRefIdeal.sig) → Buf (Elt Ideal) ℓ) (g : Dev Cert.DownFwdRefIdeal.nD → PrngReg), Pre_DownFwdRefIdeal m →
    θ_run (Cert.DownFwdRefIdeal.defs (F := Ideal)) (onTc (τ := Cert.DownFwdRefIdeal.τ) (Cert.DownFwdRefIdeal.main (F := Ideal))) ⟨m, fun _ => 0, g⟩ (fun r => (∀ c : Dev Cert.DownFwdRefIdeal.nD,
      r.2.mem ((c.tc : Thread Cert.DownFwdRefIdeal.nD Cert.DownFwdRefIdeal.τ).loc Cert.DownFwdRefIdeal.main_arg0) = m ((c.tc : Thread Cert.DownFwdRefIdeal.nD Cert.DownFwdRefIdeal.τ).loc Cert.DownFwdRefIdeal.main_arg0)
      ∧ r.2.mem ((c.tc : Thread Cert.DownFwdRefIdeal.nD Cert.DownFwdRefIdeal.τ).loc Cert.DownFwdRefIdeal.main_arg1) = m ((c.tc : Thread Cert.DownFwdRefIdeal.nD Cert.DownFwdRefIdeal.τ).loc Cert.DownFwdRefIdeal.main_arg1)
      ∧ r.2.mem ((c.tc : Thread Cert.DownFwdRefIdeal.nD Cert.DownFwdRefIdeal.τ).loc Cert.DownFwdRefIdeal.main_arg2) = m ((c.tc : Thread Cert.DownFwdRefIdeal.nD Cert.DownFwdRefIdeal.τ).loc Cert.DownFwdRefIdeal.main_arg2)
      ∧ r.2.mem ((c.tc : Thread Cert.DownFwdRefIdeal.nD Cert.DownFwdRefIdeal.τ).loc Cert.DownFwdRefIdeal.main_arg3) = m ((c.tc : Thread Cert.DownFwdRefIdeal.nD Cert.DownFwdRefIdeal.τ).loc Cert.DownFwdRefIdeal.main_arg3))
      ∧ r.2.sem = fun _ => 0)

def quiescent_AttnDx [hAttnDx : Cert.AttnDx.Facts] : Prop :=
  ∀ (m : (ℓ : Loc Cert.AttnDx.nD Cert.AttnDx.τ Cert.AttnDx.sig) → Buf (Elt Bits) ℓ) (g : Dev Cert.AttnDx.nD → PrngReg), Pre_AttnDx m →
    θ_run (Cert.AttnDx.defs (F := Bits)) (onTc (τ := Cert.AttnDx.τ) (Cert.AttnDx.main (F := Bits))) ⟨m, fun _ => 0, g⟩ (fun r => (∀ c : Dev Cert.AttnDx.nD,
      r.2.mem ((c.tc : Thread Cert.AttnDx.nD Cert.AttnDx.τ).loc Cert.AttnDx.main_arg0) = m ((c.tc : Thread Cert.AttnDx.nD Cert.AttnDx.τ).loc Cert.AttnDx.main_arg0)
      ∧ r.2.mem ((c.tc : Thread Cert.AttnDx.nD Cert.AttnDx.τ).loc Cert.AttnDx.main_arg1) = m ((c.tc : Thread Cert.AttnDx.nD Cert.AttnDx.τ).loc Cert.AttnDx.main_arg1)
      ∧ r.2.mem ((c.tc : Thread Cert.AttnDx.nD Cert.AttnDx.τ).loc Cert.AttnDx.main_arg2) = m ((c.tc : Thread Cert.AttnDx.nD Cert.AttnDx.τ).loc Cert.AttnDx.main_arg2)
      ∧ r.2.mem ((c.tc : Thread Cert.AttnDx.nD Cert.AttnDx.τ).loc Cert.AttnDx.main_arg3) = m ((c.tc : Thread Cert.AttnDx.nD Cert.AttnDx.τ).loc Cert.AttnDx.main_arg3)
      ∧ r.2.mem ((c.tc : Thread Cert.AttnDx.nD Cert.AttnDx.τ).loc Cert.AttnDx.main_arg4) = m ((c.tc : Thread Cert.AttnDx.nD Cert.AttnDx.τ).loc Cert.AttnDx.main_arg4)
      ∧ r.2.mem ((c.tc : Thread Cert.AttnDx.nD Cert.AttnDx.τ).loc Cert.AttnDx.main_arg5) = m ((c.tc : Thread Cert.AttnDx.nD Cert.AttnDx.τ).loc Cert.AttnDx.main_arg5)
      ∧ r.2.mem ((c.tc : Thread Cert.AttnDx.nD Cert.AttnDx.τ).loc Cert.AttnDx.main_arg6) = m ((c.tc : Thread Cert.AttnDx.nD Cert.AttnDx.τ).loc Cert.AttnDx.main_arg6)
      ∧ r.2.mem ((c.tc : Thread Cert.AttnDx.nD Cert.AttnDx.τ).loc Cert.AttnDx.main_arg7) = m ((c.tc : Thread Cert.AttnDx.nD Cert.AttnDx.τ).loc Cert.AttnDx.main_arg7)
      ∧ r.2.mem ((c.tc : Thread Cert.AttnDx.nD Cert.AttnDx.τ).loc Cert.AttnDx.main_arg8) = m ((c.tc : Thread Cert.AttnDx.nD Cert.AttnDx.τ).loc Cert.AttnDx.main_arg8)
      ∧ r.2.mem ((c.tc : Thread Cert.AttnDx.nD Cert.AttnDx.τ).loc Cert.AttnDx.main_arg9) = m ((c.tc : Thread Cert.AttnDx.nD Cert.AttnDx.τ).loc Cert.AttnDx.main_arg9))
      ∧ r.2.sem = fun _ => 0)

def quiescent_AttnDxIdeal [hAttnDxIdeal : Cert.AttnDxIdeal.Facts] : Prop :=
  ∀ (m : (ℓ : Loc Cert.AttnDxIdeal.nD Cert.AttnDxIdeal.τ Cert.AttnDxIdeal.sig) → Buf (Elt Ideal) ℓ) (g : Dev Cert.AttnDxIdeal.nD → PrngReg), Pre_AttnDxIdeal m →
    θ_run (Cert.AttnDxIdeal.defs (F := Ideal)) (onTc (τ := Cert.AttnDxIdeal.τ) (Cert.AttnDxIdeal.main (F := Ideal))) ⟨m, fun _ => 0, g⟩ (fun r => (∀ c : Dev Cert.AttnDxIdeal.nD,
      r.2.mem ((c.tc : Thread Cert.AttnDxIdeal.nD Cert.AttnDxIdeal.τ).loc Cert.AttnDxIdeal.main_arg0) = m ((c.tc : Thread Cert.AttnDxIdeal.nD Cert.AttnDxIdeal.τ).loc Cert.AttnDxIdeal.main_arg0)
      ∧ r.2.mem ((c.tc : Thread Cert.AttnDxIdeal.nD Cert.AttnDxIdeal.τ).loc Cert.AttnDxIdeal.main_arg1) = m ((c.tc : Thread Cert.AttnDxIdeal.nD Cert.AttnDxIdeal.τ).loc Cert.AttnDxIdeal.main_arg1)
      ∧ r.2.mem ((c.tc : Thread Cert.AttnDxIdeal.nD Cert.AttnDxIdeal.τ).loc Cert.AttnDxIdeal.main_arg2) = m ((c.tc : Thread Cert.AttnDxIdeal.nD Cert.AttnDxIdeal.τ).loc Cert.AttnDxIdeal.main_arg2)
      ∧ r.2.mem ((c.tc : Thread Cert.AttnDxIdeal.nD Cert.AttnDxIdeal.τ).loc Cert.AttnDxIdeal.main_arg3) = m ((c.tc : Thread Cert.AttnDxIdeal.nD Cert.AttnDxIdeal.τ).loc Cert.AttnDxIdeal.main_arg3)
      ∧ r.2.mem ((c.tc : Thread Cert.AttnDxIdeal.nD Cert.AttnDxIdeal.τ).loc Cert.AttnDxIdeal.main_arg4) = m ((c.tc : Thread Cert.AttnDxIdeal.nD Cert.AttnDxIdeal.τ).loc Cert.AttnDxIdeal.main_arg4)
      ∧ r.2.mem ((c.tc : Thread Cert.AttnDxIdeal.nD Cert.AttnDxIdeal.τ).loc Cert.AttnDxIdeal.main_arg5) = m ((c.tc : Thread Cert.AttnDxIdeal.nD Cert.AttnDxIdeal.τ).loc Cert.AttnDxIdeal.main_arg5)
      ∧ r.2.mem ((c.tc : Thread Cert.AttnDxIdeal.nD Cert.AttnDxIdeal.τ).loc Cert.AttnDxIdeal.main_arg6) = m ((c.tc : Thread Cert.AttnDxIdeal.nD Cert.AttnDxIdeal.τ).loc Cert.AttnDxIdeal.main_arg6)
      ∧ r.2.mem ((c.tc : Thread Cert.AttnDxIdeal.nD Cert.AttnDxIdeal.τ).loc Cert.AttnDxIdeal.main_arg7) = m ((c.tc : Thread Cert.AttnDxIdeal.nD Cert.AttnDxIdeal.τ).loc Cert.AttnDxIdeal.main_arg7)
      ∧ r.2.mem ((c.tc : Thread Cert.AttnDxIdeal.nD Cert.AttnDxIdeal.τ).loc Cert.AttnDxIdeal.main_arg8) = m ((c.tc : Thread Cert.AttnDxIdeal.nD Cert.AttnDxIdeal.τ).loc Cert.AttnDxIdeal.main_arg8)
      ∧ r.2.mem ((c.tc : Thread Cert.AttnDxIdeal.nD Cert.AttnDxIdeal.τ).loc Cert.AttnDxIdeal.main_arg9) = m ((c.tc : Thread Cert.AttnDxIdeal.nD Cert.AttnDxIdeal.τ).loc Cert.AttnDxIdeal.main_arg9))
      ∧ r.2.sem = fun _ => 0)

def quiescent_AttnDxRefIdeal [hAttnDxRefIdeal : Cert.AttnDxRefIdeal.Facts] : Prop :=
  ∀ (m : (ℓ : Loc Cert.AttnDxRefIdeal.nD Cert.AttnDxRefIdeal.τ Cert.AttnDxRefIdeal.sig) → Buf (Elt Ideal) ℓ) (g : Dev Cert.AttnDxRefIdeal.nD → PrngReg), Pre_AttnDxRefIdeal m →
    θ_run (Cert.AttnDxRefIdeal.defs (F := Ideal)) (onTc (τ := Cert.AttnDxRefIdeal.τ) (Cert.AttnDxRefIdeal.main (F := Ideal))) ⟨m, fun _ => 0, g⟩ (fun r => (∀ c : Dev Cert.AttnDxRefIdeal.nD,
      r.2.mem ((c.tc : Thread Cert.AttnDxRefIdeal.nD Cert.AttnDxRefIdeal.τ).loc Cert.AttnDxRefIdeal.main_arg0) = m ((c.tc : Thread Cert.AttnDxRefIdeal.nD Cert.AttnDxRefIdeal.τ).loc Cert.AttnDxRefIdeal.main_arg0)
      ∧ r.2.mem ((c.tc : Thread Cert.AttnDxRefIdeal.nD Cert.AttnDxRefIdeal.τ).loc Cert.AttnDxRefIdeal.main_arg1) = m ((c.tc : Thread Cert.AttnDxRefIdeal.nD Cert.AttnDxRefIdeal.τ).loc Cert.AttnDxRefIdeal.main_arg1)
      ∧ r.2.mem ((c.tc : Thread Cert.AttnDxRefIdeal.nD Cert.AttnDxRefIdeal.τ).loc Cert.AttnDxRefIdeal.main_arg2) = m ((c.tc : Thread Cert.AttnDxRefIdeal.nD Cert.AttnDxRefIdeal.τ).loc Cert.AttnDxRefIdeal.main_arg2)
      ∧ r.2.mem ((c.tc : Thread Cert.AttnDxRefIdeal.nD Cert.AttnDxRefIdeal.τ).loc Cert.AttnDxRefIdeal.main_arg3) = m ((c.tc : Thread Cert.AttnDxRefIdeal.nD Cert.AttnDxRefIdeal.τ).loc Cert.AttnDxRefIdeal.main_arg3)
      ∧ r.2.mem ((c.tc : Thread Cert.AttnDxRefIdeal.nD Cert.AttnDxRefIdeal.τ).loc Cert.AttnDxRefIdeal.main_arg4) = m ((c.tc : Thread Cert.AttnDxRefIdeal.nD Cert.AttnDxRefIdeal.τ).loc Cert.AttnDxRefIdeal.main_arg4)
      ∧ r.2.mem ((c.tc : Thread Cert.AttnDxRefIdeal.nD Cert.AttnDxRefIdeal.τ).loc Cert.AttnDxRefIdeal.main_arg5) = m ((c.tc : Thread Cert.AttnDxRefIdeal.nD Cert.AttnDxRefIdeal.τ).loc Cert.AttnDxRefIdeal.main_arg5)
      ∧ r.2.mem ((c.tc : Thread Cert.AttnDxRefIdeal.nD Cert.AttnDxRefIdeal.τ).loc Cert.AttnDxRefIdeal.main_arg6) = m ((c.tc : Thread Cert.AttnDxRefIdeal.nD Cert.AttnDxRefIdeal.τ).loc Cert.AttnDxRefIdeal.main_arg6)
      ∧ r.2.mem ((c.tc : Thread Cert.AttnDxRefIdeal.nD Cert.AttnDxRefIdeal.τ).loc Cert.AttnDxRefIdeal.main_arg7) = m ((c.tc : Thread Cert.AttnDxRefIdeal.nD Cert.AttnDxRefIdeal.τ).loc Cert.AttnDxRefIdeal.main_arg7)
      ∧ r.2.mem ((c.tc : Thread Cert.AttnDxRefIdeal.nD Cert.AttnDxRefIdeal.τ).loc Cert.AttnDxRefIdeal.main_arg8) = m ((c.tc : Thread Cert.AttnDxRefIdeal.nD Cert.AttnDxRefIdeal.τ).loc Cert.AttnDxRefIdeal.main_arg8)
      ∧ r.2.mem ((c.tc : Thread Cert.AttnDxRefIdeal.nD Cert.AttnDxRefIdeal.τ).loc Cert.AttnDxRefIdeal.main_arg9) = m ((c.tc : Thread Cert.AttnDxRefIdeal.nD Cert.AttnDxRefIdeal.τ).loc Cert.AttnDxRefIdeal.main_arg9))
      ∧ r.2.sem = fun _ => 0)

def quiescent_ConvDx [hConvDx : Cert.ConvDx.Facts] : Prop :=
  ∀ (m : (ℓ : Loc Cert.ConvDx.nD Cert.ConvDx.τ Cert.ConvDx.sig) → Buf (Elt Bits) ℓ) (g : Dev Cert.ConvDx.nD → PrngReg), Pre_ConvDx m →
    θ_run (Cert.ConvDx.defs (F := Bits)) (onTc (τ := Cert.ConvDx.τ) (Cert.ConvDx.main (F := Bits))) ⟨m, fun _ => 0, g⟩ (fun r => (∀ c : Dev Cert.ConvDx.nD,
      r.2.mem ((c.tc : Thread Cert.ConvDx.nD Cert.ConvDx.τ).loc Cert.ConvDx.main_arg0) = m ((c.tc : Thread Cert.ConvDx.nD Cert.ConvDx.τ).loc Cert.ConvDx.main_arg0)
      ∧ r.2.mem ((c.tc : Thread Cert.ConvDx.nD Cert.ConvDx.τ).loc Cert.ConvDx.main_arg1) = m ((c.tc : Thread Cert.ConvDx.nD Cert.ConvDx.τ).loc Cert.ConvDx.main_arg1)
      ∧ r.2.mem ((c.tc : Thread Cert.ConvDx.nD Cert.ConvDx.τ).loc Cert.ConvDx.main_arg2) = m ((c.tc : Thread Cert.ConvDx.nD Cert.ConvDx.τ).loc Cert.ConvDx.main_arg2)
      ∧ r.2.mem ((c.tc : Thread Cert.ConvDx.nD Cert.ConvDx.τ).loc Cert.ConvDx.main_arg3) = m ((c.tc : Thread Cert.ConvDx.nD Cert.ConvDx.τ).loc Cert.ConvDx.main_arg3)
      ∧ r.2.mem ((c.tc : Thread Cert.ConvDx.nD Cert.ConvDx.τ).loc Cert.ConvDx.main_arg4) = m ((c.tc : Thread Cert.ConvDx.nD Cert.ConvDx.τ).loc Cert.ConvDx.main_arg4))
      ∧ r.2.sem = fun _ => 0)

def quiescent_ConvDxIdeal [hConvDxIdeal : Cert.ConvDxIdeal.Facts] : Prop :=
  ∀ (m : (ℓ : Loc Cert.ConvDxIdeal.nD Cert.ConvDxIdeal.τ Cert.ConvDxIdeal.sig) → Buf (Elt Ideal) ℓ) (g : Dev Cert.ConvDxIdeal.nD → PrngReg), Pre_ConvDxIdeal m →
    θ_run (Cert.ConvDxIdeal.defs (F := Ideal)) (onTc (τ := Cert.ConvDxIdeal.τ) (Cert.ConvDxIdeal.main (F := Ideal))) ⟨m, fun _ => 0, g⟩ (fun r => (∀ c : Dev Cert.ConvDxIdeal.nD,
      r.2.mem ((c.tc : Thread Cert.ConvDxIdeal.nD Cert.ConvDxIdeal.τ).loc Cert.ConvDxIdeal.main_arg0) = m ((c.tc : Thread Cert.ConvDxIdeal.nD Cert.ConvDxIdeal.τ).loc Cert.ConvDxIdeal.main_arg0)
      ∧ r.2.mem ((c.tc : Thread Cert.ConvDxIdeal.nD Cert.ConvDxIdeal.τ).loc Cert.ConvDxIdeal.main_arg1) = m ((c.tc : Thread Cert.ConvDxIdeal.nD Cert.ConvDxIdeal.τ).loc Cert.ConvDxIdeal.main_arg1)
      ∧ r.2.mem ((c.tc : Thread Cert.ConvDxIdeal.nD Cert.ConvDxIdeal.τ).loc Cert.ConvDxIdeal.main_arg2) = m ((c.tc : Thread Cert.ConvDxIdeal.nD Cert.ConvDxIdeal.τ).loc Cert.ConvDxIdeal.main_arg2)
      ∧ r.2.mem ((c.tc : Thread Cert.ConvDxIdeal.nD Cert.ConvDxIdeal.τ).loc Cert.ConvDxIdeal.main_arg3) = m ((c.tc : Thread Cert.ConvDxIdeal.nD Cert.ConvDxIdeal.τ).loc Cert.ConvDxIdeal.main_arg3)
      ∧ r.2.mem ((c.tc : Thread Cert.ConvDxIdeal.nD Cert.ConvDxIdeal.τ).loc Cert.ConvDxIdeal.main_arg4) = m ((c.tc : Thread Cert.ConvDxIdeal.nD Cert.ConvDxIdeal.τ).loc Cert.ConvDxIdeal.main_arg4))
      ∧ r.2.sem = fun _ => 0)

def quiescent_ConvDxRefIdeal [hConvDxRefIdeal : Cert.ConvDxRefIdeal.Facts] : Prop :=
  ∀ (m : (ℓ : Loc Cert.ConvDxRefIdeal.nD Cert.ConvDxRefIdeal.τ Cert.ConvDxRefIdeal.sig) → Buf (Elt Ideal) ℓ) (g : Dev Cert.ConvDxRefIdeal.nD → PrngReg), Pre_ConvDxRefIdeal m →
    θ_run (Cert.ConvDxRefIdeal.defs (F := Ideal)) (onTc (τ := Cert.ConvDxRefIdeal.τ) (Cert.ConvDxRefIdeal.main (F := Ideal))) ⟨m, fun _ => 0, g⟩ (fun r => (∀ c : Dev Cert.ConvDxRefIdeal.nD,
      r.2.mem ((c.tc : Thread Cert.ConvDxRefIdeal.nD Cert.ConvDxRefIdeal.τ).loc Cert.ConvDxRefIdeal.main_arg0) = m ((c.tc : Thread Cert.ConvDxRefIdeal.nD Cert.ConvDxRefIdeal.τ).loc Cert.ConvDxRefIdeal.main_arg0)
      ∧ r.2.mem ((c.tc : Thread Cert.ConvDxRefIdeal.nD Cert.ConvDxRefIdeal.τ).loc Cert.ConvDxRefIdeal.main_arg1) = m ((c.tc : Thread Cert.ConvDxRefIdeal.nD Cert.ConvDxRefIdeal.τ).loc Cert.ConvDxRefIdeal.main_arg1)
      ∧ r.2.mem ((c.tc : Thread Cert.ConvDxRefIdeal.nD Cert.ConvDxRefIdeal.τ).loc Cert.ConvDxRefIdeal.main_arg2) = m ((c.tc : Thread Cert.ConvDxRefIdeal.nD Cert.ConvDxRefIdeal.τ).loc Cert.ConvDxRefIdeal.main_arg2)
      ∧ r.2.mem ((c.tc : Thread Cert.ConvDxRefIdeal.nD Cert.ConvDxRefIdeal.τ).loc Cert.ConvDxRefIdeal.main_arg3) = m ((c.tc : Thread Cert.ConvDxRefIdeal.nD Cert.ConvDxRefIdeal.τ).loc Cert.ConvDxRefIdeal.main_arg3)
      ∧ r.2.mem ((c.tc : Thread Cert.ConvDxRefIdeal.nD Cert.ConvDxRefIdeal.τ).loc Cert.ConvDxRefIdeal.main_arg4) = m ((c.tc : Thread Cert.ConvDxRefIdeal.nD Cert.ConvDxRefIdeal.τ).loc Cert.ConvDxRefIdeal.main_arg4))
      ∧ r.2.sem = fun _ => 0)

def quiescent_DwUpU [hDwUpU : Cert.DwUpU.Facts] : Prop :=
  ∀ (m : (ℓ : Loc Cert.DwUpU.nD Cert.DwUpU.τ Cert.DwUpU.sig) → Buf (Elt Bits) ℓ) (g : Dev Cert.DwUpU.nD → PrngReg), Pre_DwUpU m →
    θ_run (Cert.DwUpU.defs (F := Bits)) (onTc (τ := Cert.DwUpU.τ) (Cert.DwUpU.main (F := Bits))) ⟨m, fun _ => 0, g⟩ (fun r => (∀ c : Dev Cert.DwUpU.nD,
      r.2.mem ((c.tc : Thread Cert.DwUpU.nD Cert.DwUpU.τ).loc Cert.DwUpU.main_arg0) = m ((c.tc : Thread Cert.DwUpU.nD Cert.DwUpU.τ).loc Cert.DwUpU.main_arg0)
      ∧ r.2.mem ((c.tc : Thread Cert.DwUpU.nD Cert.DwUpU.τ).loc Cert.DwUpU.main_arg1) = m ((c.tc : Thread Cert.DwUpU.nD Cert.DwUpU.τ).loc Cert.DwUpU.main_arg1))
      ∧ r.2.sem = fun _ => 0)

def quiescent_DwUpUIdeal [hDwUpUIdeal : Cert.DwUpUIdeal.Facts] : Prop :=
  ∀ (m : (ℓ : Loc Cert.DwUpUIdeal.nD Cert.DwUpUIdeal.τ Cert.DwUpUIdeal.sig) → Buf (Elt Ideal) ℓ) (g : Dev Cert.DwUpUIdeal.nD → PrngReg), Pre_DwUpUIdeal m →
    θ_run (Cert.DwUpUIdeal.defs (F := Ideal)) (onTc (τ := Cert.DwUpUIdeal.τ) (Cert.DwUpUIdeal.main (F := Ideal))) ⟨m, fun _ => 0, g⟩ (fun r => (∀ c : Dev Cert.DwUpUIdeal.nD,
      r.2.mem ((c.tc : Thread Cert.DwUpUIdeal.nD Cert.DwUpUIdeal.τ).loc Cert.DwUpUIdeal.main_arg0) = m ((c.tc : Thread Cert.DwUpUIdeal.nD Cert.DwUpUIdeal.τ).loc Cert.DwUpUIdeal.main_arg0)
      ∧ r.2.mem ((c.tc : Thread Cert.DwUpUIdeal.nD Cert.DwUpUIdeal.τ).loc Cert.DwUpUIdeal.main_arg1) = m ((c.tc : Thread Cert.DwUpUIdeal.nD Cert.DwUpUIdeal.τ).loc Cert.DwUpUIdeal.main_arg1))
      ∧ r.2.sem = fun _ => 0)

def quiescent_DwUpURefIdeal [hDwUpURefIdeal : Cert.DwUpURefIdeal.Facts] : Prop :=
  ∀ (m : (ℓ : Loc Cert.DwUpURefIdeal.nD Cert.DwUpURefIdeal.τ Cert.DwUpURefIdeal.sig) → Buf (Elt Ideal) ℓ) (g : Dev Cert.DwUpURefIdeal.nD → PrngReg), Pre_DwUpURefIdeal m →
    θ_run (Cert.DwUpURefIdeal.defs (F := Ideal)) (onTc (τ := Cert.DwUpURefIdeal.τ) (Cert.DwUpURefIdeal.main (F := Ideal))) ⟨m, fun _ => 0, g⟩ (fun r => (∀ c : Dev Cert.DwUpURefIdeal.nD,
      r.2.mem ((c.tc : Thread Cert.DwUpURefIdeal.nD Cert.DwUpURefIdeal.τ).loc Cert.DwUpURefIdeal.main_arg0) = m ((c.tc : Thread Cert.DwUpURefIdeal.nD Cert.DwUpURefIdeal.τ).loc Cert.DwUpURefIdeal.main_arg0)
      ∧ r.2.mem ((c.tc : Thread Cert.DwUpURefIdeal.nD Cert.DwUpURefIdeal.τ).loc Cert.DwUpURefIdeal.main_arg1) = m ((c.tc : Thread Cert.DwUpURefIdeal.nD Cert.DwUpURefIdeal.τ).loc Cert.DwUpURefIdeal.main_arg1))
      ∧ r.2.sem = fun _ => 0)

def quiescent_PwW [hPwW : Cert.PwW.Facts] : Prop :=
  ∀ (m : (ℓ : Loc Cert.PwW.nD Cert.PwW.τ Cert.PwW.sig) → Buf (Elt Bits) ℓ) (g : Dev Cert.PwW.nD → PrngReg), Pre_PwW m →
    θ_run (Cert.PwW.defs (F := Bits)) (onTc (τ := Cert.PwW.τ) (Cert.PwW.main (F := Bits))) ⟨m, fun _ => 0, g⟩ (fun r => (∀ c : Dev Cert.PwW.nD,
      r.2.mem ((c.tc : Thread Cert.PwW.nD Cert.PwW.τ).loc Cert.PwW.main_arg0) = m ((c.tc : Thread Cert.PwW.nD Cert.PwW.τ).loc Cert.PwW.main_arg0)
      ∧ r.2.mem ((c.tc : Thread Cert.PwW.nD Cert.PwW.τ).loc Cert.PwW.main_arg1) = m ((c.tc : Thread Cert.PwW.nD Cert.PwW.τ).loc Cert.PwW.main_arg1))
      ∧ r.2.sem = fun _ => 0)

def quiescent_PwWIdeal [hPwWIdeal : Cert.PwWIdeal.Facts] : Prop :=
  ∀ (m : (ℓ : Loc Cert.PwWIdeal.nD Cert.PwWIdeal.τ Cert.PwWIdeal.sig) → Buf (Elt Ideal) ℓ) (g : Dev Cert.PwWIdeal.nD → PrngReg), Pre_PwWIdeal m →
    θ_run (Cert.PwWIdeal.defs (F := Ideal)) (onTc (τ := Cert.PwWIdeal.τ) (Cert.PwWIdeal.main (F := Ideal))) ⟨m, fun _ => 0, g⟩ (fun r => (∀ c : Dev Cert.PwWIdeal.nD,
      r.2.mem ((c.tc : Thread Cert.PwWIdeal.nD Cert.PwWIdeal.τ).loc Cert.PwWIdeal.main_arg0) = m ((c.tc : Thread Cert.PwWIdeal.nD Cert.PwWIdeal.τ).loc Cert.PwWIdeal.main_arg0)
      ∧ r.2.mem ((c.tc : Thread Cert.PwWIdeal.nD Cert.PwWIdeal.τ).loc Cert.PwWIdeal.main_arg1) = m ((c.tc : Thread Cert.PwWIdeal.nD Cert.PwWIdeal.τ).loc Cert.PwWIdeal.main_arg1))
      ∧ r.2.sem = fun _ => 0)

def quiescent_PwWRefIdeal [hPwWRefIdeal : Cert.PwWRefIdeal.Facts] : Prop :=
  ∀ (m : (ℓ : Loc Cert.PwWRefIdeal.nD Cert.PwWRefIdeal.τ Cert.PwWRefIdeal.sig) → Buf (Elt Ideal) ℓ) (g : Dev Cert.PwWRefIdeal.nD → PrngReg), Pre_PwWRefIdeal m →
    θ_run (Cert.PwWRefIdeal.defs (F := Ideal)) (onTc (τ := Cert.PwWRefIdeal.τ) (Cert.PwWRefIdeal.main (F := Ideal))) ⟨m, fun _ => 0, g⟩ (fun r => (∀ c : Dev Cert.PwWRefIdeal.nD,
      r.2.mem ((c.tc : Thread Cert.PwWRefIdeal.nD Cert.PwWRefIdeal.τ).loc Cert.PwWRefIdeal.main_arg0) = m ((c.tc : Thread Cert.PwWRefIdeal.nD Cert.PwWRefIdeal.τ).loc Cert.PwWRefIdeal.main_arg0)
      ∧ r.2.mem ((c.tc : Thread Cert.PwWRefIdeal.nD Cert.PwWRefIdeal.τ).loc Cert.PwWRefIdeal.main_arg1) = m ((c.tc : Thread Cert.PwWRefIdeal.nD Cert.PwWRefIdeal.τ).loc Cert.PwWRefIdeal.main_arg1))
      ∧ r.2.sem = fun _ => 0)

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)) →
    ∃ (v0 : (c : Dev Cert.ConvIdeal.nD) → Buf (Elt Ideal) ((c.tc : Thread Cert.ConvIdeal.nD Cert.ConvIdeal.τ).loc Cert.ConvIdeal.main_v0)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v41) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)
      ∧ m' ((c.tc : Thread Cert.UpRefIdeal.nD Cert.UpRefIdeal.τ).loc Cert.UpRefIdeal.main_arg5) = m ((c.tc : Thread Cert.UpIdeal.nD Cert.UpIdeal.τ).loc Cert.UpIdeal.main_arg5)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
          ∧ r.2.mem ((c.tc : Thread Cert.UpIdeal.nD Cert.UpIdeal.τ).loc Cert.UpIdeal.main_arg5) = m ((c.tc : Thread Cert.UpIdeal.nD Cert.UpIdeal.τ).loc Cert.UpIdeal.main_arg5))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v41) = v0 c
          ∧ r.2.mem ((c.tc : Thread Cert.UpRefIdeal.nD Cert.UpRefIdeal.τ).loc Cert.UpRefIdeal.main_v24) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4)
          ∧ r.2.mem ((c.tc : Thread Cert.UpRefIdeal.nD Cert.UpRefIdeal.τ).loc Cert.UpRefIdeal.main_arg5) = m' ((c.tc : Thread Cert.UpRefIdeal.nD Cert.UpRefIdeal.τ).loc Cert.UpRefIdeal.main_arg5))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v8) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Gate_GateIdeal : Prop :=
  True

def algebraic_GateIdeal_GateRefIdeal_pre_gate_finite [hGateIdeal : Cert.GateIdeal.Facts] [hGateRefIdeal : Cert.GateRefIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_gate_finite m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v0_0)) (v1 : (c : Dev Cert.GateIdeal.nD) → Buf (Elt Ideal) ((c.tc : Thread Cert.GateIdeal.nD Cert.GateIdeal.τ).loc Cert.GateIdeal.main_v0_1)) (v2 : (c : Dev Cert.GateIdeal.nD) → Buf (Elt Ideal) ((c.tc : Thread Cert.GateIdeal.nD Cert.GateIdeal.τ).loc Cert.GateIdeal.main_v0_2)) (v3 : (c : Dev Cert.GateIdeal.nD) → Buf (Elt Ideal) ((c.tc : Thread Cert.GateIdeal.nD Cert.GateIdeal.τ).loc Cert.GateIdeal.main_v0_3)) (v4 : (c : Dev Cert.GateIdeal.nD) → Buf (Elt Ideal) ((c.tc : Thread Cert.GateIdeal.nD Cert.GateIdeal.τ).loc Cert.GateIdeal.main_v0_4)) (v5 : (c : Dev Cert.GateIdeal.nD) → Buf (Elt Ideal) ((c.tc : Thread Cert.GateIdeal.nD Cert.GateIdeal.τ).loc Cert.GateIdeal.main_v0_5)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0_0) = v0 c
          ∧ r.2.mem ((c.tc : Thread Cert.GateIdeal.nD Cert.GateIdeal.τ).loc Cert.GateIdeal.main_v0_1) = v1 c
          ∧ r.2.mem ((c.tc : Thread Cert.GateIdeal.nD Cert.GateIdeal.τ).loc Cert.GateIdeal.main_v0_2) = v2 c
          ∧ r.2.mem ((c.tc : Thread Cert.GateIdeal.nD Cert.GateIdeal.τ).loc Cert.GateIdeal.main_v0_3) = v3 c
          ∧ r.2.mem ((c.tc : Thread Cert.GateIdeal.nD Cert.GateIdeal.τ).loc Cert.GateIdeal.main_v0_4) = v4 c
          ∧ r.2.mem ((c.tc : Thread Cert.GateIdeal.nD Cert.GateIdeal.τ).loc Cert.GateIdeal.main_v0_5) = v5 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v59) = v0 c
          ∧ r.2.mem ((c.tc : Thread Cert.GateRefIdeal.nD Cert.GateRefIdeal.τ).loc Cert.GateRefIdeal.main_v60) = v1 c
          ∧ r.2.mem ((c.tc : Thread Cert.GateRefIdeal.nD Cert.GateRefIdeal.τ).loc Cert.GateRefIdeal.main_v61) = v2 c
          ∧ r.2.mem ((c.tc : Thread Cert.GateRefIdeal.nD Cert.GateRefIdeal.τ).loc Cert.GateRefIdeal.main_v62) = v3 c
          ∧ r.2.mem ((c.tc : Thread Cert.GateRefIdeal.nD Cert.GateRefIdeal.τ).loc Cert.GateRefIdeal.main_v63) = v4 c
          ∧ r.2.mem ((c.tc : Thread Cert.GateRefIdeal.nD Cert.GateRefIdeal.τ).loc Cert.GateRefIdeal.main_v64) = v5 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)
      ∧ m' ((c.tc : Thread Cert.DwUpRefIdeal.nD Cert.DwUpRefIdeal.τ).loc Cert.DwUpRefIdeal.main_arg2) = m ((c.tc : Thread Cert.DwUpIdeal.nD Cert.DwUpIdeal.τ).loc Cert.DwUpIdeal.main_arg2)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
          ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v12) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1)
          ∧ r.2.mem ((c.tc : Thread Cert.DwUpRefIdeal.nD Cert.DwUpRefIdeal.τ).loc Cert.DwUpRefIdeal.main_arg2) = m' ((c.tc : Thread Cert.DwUpRefIdeal.nD Cert.DwUpRefIdeal.τ).loc Cert.DwUpRefIdeal.main_arg2))

def preserves_Dact_DactIdeal : Prop :=
  True

def algebraic_DactIdeal_DactRefIdeal [hDactIdeal : Cert.DactIdeal.Facts] [hDactRefIdeal : Cert.DactRefIdeal.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)) →
    ∃ (v0 : (c : Dev Cert.DactIdeal.nD) → Buf (Elt Ideal) ((c.tc : Thread Cert.DactIdeal.nD Cert.DactIdeal.τ).loc Cert.DactIdeal.main_v0)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v0) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v5) = v0 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)) →
    ∃ (v0 : (c : Dev Cert.PostIdeal.nD) → Buf (Elt Ideal) ((c.tc : Thread Cert.PostIdeal.nD Cert.PostIdeal.τ).loc Cert.PostIdeal.main_v0_0)) (v1 : (c : Dev Cert.PostIdeal.nD) → Buf (Elt Ideal) ((c.tc : Thread Cert.PostIdeal.nD Cert.PostIdeal.τ).loc Cert.PostIdeal.main_v0_1)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v0_0) = v0 c
          ∧ r.2.mem ((c.tc : Thread Cert.PostIdeal.nD Cert.PostIdeal.τ).loc Cert.PostIdeal.main_v0_1) = v1 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v34) = v0 c
          ∧ r.2.mem ((c.tc : Thread Cert.PostRefIdeal.nD Cert.PostRefIdeal.τ).loc Cert.PostRefIdeal.main_v17) = v1 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2))

def preserves_UpFwd_UpFwdIdeal : Prop :=
  True

def algebraic_UpFwdIdeal_UpFwdRefIdeal [hUpFwdIdeal : Cert.UpFwdIdeal.Facts] [hUpFwdRefIdeal : Cert.UpFwdRefIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg)
    (m' : (ℓ : Loc Cert.UpFwdRefIdeal.nD Cert.UpFwdRefIdeal.τ Cert.UpFwdRefIdeal.sig) → Buf (Elt Ideal) ℓ) (g' : Dev Cert.UpFwdRefIdeal.nD → PrngReg), Pre_UpFwdIdeal m →
    (∀ c : Dev Cert.UpFwdIdeal.nD,
      m' ((c.tc : Thread Cert.UpFwdRefIdeal.nD Cert.UpFwdRefIdeal.τ).loc Cert.UpFwdRefIdeal.main_arg0) = m ((c.tc : Thread Cert.UpFwdIdeal.nD Cert.UpFwdIdeal.τ).loc Cert.UpFwdIdeal.main_arg0)
      ∧ m' ((c.tc : Thread Cert.UpFwdRefIdeal.nD Cert.UpFwdRefIdeal.τ).loc Cert.UpFwdRefIdeal.main_arg1) = m ((c.tc : Thread Cert.UpFwdIdeal.nD Cert.UpFwdIdeal.τ).loc Cert.UpFwdIdeal.main_arg1)
      ∧ m' ((c.tc : Thread Cert.UpFwdRefIdeal.nD Cert.UpFwdRefIdeal.τ).loc Cert.UpFwdRefIdeal.main_arg2) = m ((c.tc : Thread Cert.UpFwdIdeal.nD Cert.UpFwdIdeal.τ).loc Cert.UpFwdIdeal.main_arg2)) →
    ∃ (v0 : (c : Dev Cert.UpFwdIdeal.nD) → Buf (Elt Ideal) ((c.tc : Thread Cert.UpFwdIdeal.nD Cert.UpFwdIdeal.τ).loc Cert.UpFwdIdeal.main_v0_0)) (v1 : (c : Dev Cert.UpFwdIdeal.nD) → Buf (Elt Ideal) ((c.tc : Thread Cert.UpFwdIdeal.nD Cert.UpFwdIdeal.τ).loc Cert.UpFwdIdeal.main_v0_1)),
      θ_run (Cert.UpFwdIdeal.defs (F := Ideal)) (onTc (τ := Cert.UpFwdIdeal.τ) (Cert.UpFwdIdeal.main (F := Ideal))) ⟨m, fun _ => 0, g⟩ (fun r => ∀ c : Dev Cert.UpFwdIdeal.nD,
          r.2.mem ((c.tc : Thread Cert.UpFwdIdeal.nD Cert.UpFwdIdeal.τ).loc Cert.UpFwdIdeal.main_v0_0) = v0 c
          ∧ r.2.mem ((c.tc : Thread Cert.UpFwdIdeal.nD Cert.UpFwdIdeal.τ).loc Cert.UpFwdIdeal.main_v0_1) = v1 c
          ∧ r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
          ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1)
          ∧ r.2.mem ((c.tc : Thread Cert.UpFwdIdeal.nD Cert.UpFwdIdeal.τ).loc Cert.UpFwdIdeal.main_arg2) = m ((c.tc : Thread Cert.UpFwdIdeal.nD Cert.UpFwdIdeal.τ).loc Cert.UpFwdIdeal.main_arg2))
      ∧ θ_run (Cert.UpFwdRefIdeal.defs (F := Ideal)) (onTc (τ := Cert.UpFwdRefIdeal.τ) (Cert.UpFwdRefIdeal.main (F := Ideal))) ⟨m', fun _ => 0, g'⟩ (fun r => ∀ c : Dev Cert.UpFwdRefIdeal.nD,
          r.2.mem ((c.tc : Thread Cert.UpFwdRefIdeal.nD Cert.UpFwdRefIdeal.τ).loc Cert.UpFwdRefIdeal.main_v12) = v0 c
          ∧ r.2.mem ((c.tc : Thread Cert.UpFwdRefIdeal.nD Cert.UpFwdRefIdeal.τ).loc Cert.UpFwdRefIdeal.main_v17) = v1 c
          ∧ r.2.mem ((c.tc : Thread Cert.UpFwdRefIdeal.nD Cert.UpFwdRefIdeal.τ).loc Cert.UpFwdRefIdeal.main_arg0) = m' ((c.tc : Thread Cert.UpFwdRefIdeal.nD Cert.UpFwdRefIdeal.τ).loc Cert.UpFwdRefIdeal.main_arg0)
          ∧ r.2.mem ((c.tc : Thread Cert.UpFwdRefIdeal.nD Cert.UpFwdRefIdeal.τ).loc Cert.UpFwdRefIdeal.main_arg1) = m' ((c.tc : Thread Cert.UpFwdRefIdeal.nD Cert.UpFwdRefIdeal.τ).loc Cert.UpFwdRefIdeal.main_arg1)
          ∧ r.2.mem ((c.tc : Thread Cert.UpFwdRefIdeal.nD Cert.UpFwdRefIdeal.τ).loc Cert.UpFwdRefIdeal.main_arg2) = m' ((c.tc : Thread Cert.UpFwdRefIdeal.nD Cert.UpFwdRefIdeal.τ).loc Cert.UpFwdRefIdeal.main_arg2))

def preserves_DownFwd_DownFwdIdeal : Prop :=
  True

def algebraic_DownFwdIdeal_DownFwdRefIdeal [hDownFwdIdeal : Cert.DownFwdIdeal.Facts] [hDownFwdRefIdeal : Cert.DownFwdRefIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdRefIdeal.nD Cert.DownFwdRefIdeal.τ Cert.DownFwdRefIdeal.sig) → Buf (Elt Ideal) ℓ) (g' : Dev Cert.DownFwdRefIdeal.nD → PrngReg), Pre_DownFwdIdeal m →
    (∀ c : Dev Cert.DownFwdIdeal.nD,
      m' ((c.tc : Thread Cert.DownFwdRefIdeal.nD Cert.DownFwdRefIdeal.τ).loc Cert.DownFwdRefIdeal.main_arg0) = m ((c.tc : Thread Cert.DownFwdIdeal.nD Cert.DownFwdIdeal.τ).loc Cert.DownFwdIdeal.main_arg0)
      ∧ m' ((c.tc : Thread Cert.DownFwdRefIdeal.nD Cert.DownFwdRefIdeal.τ).loc Cert.DownFwdRefIdeal.main_arg1) = m ((c.tc : Thread Cert.DownFwdIdeal.nD Cert.DownFwdIdeal.τ).loc Cert.DownFwdIdeal.main_arg1)
      ∧ m' ((c.tc : Thread Cert.DownFwdRefIdeal.nD Cert.DownFwdRefIdeal.τ).loc Cert.DownFwdRefIdeal.main_arg2) = m ((c.tc : Thread Cert.DownFwdIdeal.nD Cert.DownFwdIdeal.τ).loc Cert.DownFwdIdeal.main_arg2)
      ∧ m' ((c.tc : Thread Cert.DownFwdRefIdeal.nD Cert.DownFwdRefIdeal.τ).loc Cert.DownFwdRefIdeal.main_arg3) = m ((c.tc : Thread Cert.DownFwdIdeal.nD Cert.DownFwdIdeal.τ).loc Cert.DownFwdIdeal.main_arg3)) →
    ∃ (v0 : (c : Dev Cert.DownFwdIdeal.nD) → Buf (Elt Ideal) ((c.tc : Thread Cert.DownFwdIdeal.nD Cert.DownFwdIdeal.τ).loc Cert.DownFwdIdeal.main_v0_0)) (v1 : (c : Dev Cert.DownFwdIdeal.nD) → Buf (Elt Ideal) ((c.tc : Thread Cert.DownFwdIdeal.nD Cert.DownFwdIdeal.τ).loc Cert.DownFwdIdeal.main_v0_1)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v0_0) = v0 c
          ∧ r.2.mem ((c.tc : Thread Cert.DownFwdIdeal.nD Cert.DownFwdIdeal.τ).loc Cert.DownFwdIdeal.main_v0_1) = v1 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
          ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2)
          ∧ r.2.mem ((c.tc : Thread Cert.DownFwdIdeal.nD Cert.DownFwdIdeal.τ).loc Cert.DownFwdIdeal.main_arg3) = m ((c.tc : Thread Cert.DownFwdIdeal.nD Cert.DownFwdIdeal.τ).loc Cert.DownFwdIdeal.main_arg3))
      ∧ θ_run (Cert.DownFwdRefIdeal.defs (F := Ideal)) (onTc (τ := Cert.DownFwdRefIdeal.τ) (Cert.DownFwdRefIdeal.main (F := Ideal))) ⟨m', fun _ => 0, g'⟩ (fun r => ∀ c : Dev Cert.DownFwdRefIdeal.nD,
          r.2.mem ((c.tc : Thread Cert.DownFwdRefIdeal.nD Cert.DownFwdRefIdeal.τ).loc Cert.DownFwdRefIdeal.main_v2) = v0 c
          ∧ r.2.mem ((c.tc : Thread Cert.DownFwdRefIdeal.nD Cert.DownFwdRefIdeal.τ).loc Cert.DownFwdRefIdeal.main_v15) = v1 c
          ∧ r.2.mem ((c.tc : Thread Cert.DownFwdRefIdeal.nD Cert.DownFwdRefIdeal.τ).loc Cert.DownFwdRefIdeal.main_arg0) = m' ((c.tc : Thread Cert.DownFwdRefIdeal.nD Cert.DownFwdRefIdeal.τ).loc Cert.DownFwdRefIdeal.main_arg0)
          ∧ r.2.mem ((c.tc : Thread Cert.DownFwdRefIdeal.nD Cert.DownFwdRefIdeal.τ).loc Cert.DownFwdRefIdeal.main_arg1) = m' ((c.tc : Thread Cert.DownFwdRefIdeal.nD Cert.DownFwdRefIdeal.τ).loc Cert.DownFwdRefIdeal.main_arg1)
          ∧ r.2.mem ((c.tc : Thread Cert.DownFwdRefIdeal.nD Cert.DownFwdRefIdeal.τ).loc Cert.DownFwdRefIdeal.main_arg2) = m' ((c.tc : Thread Cert.DownFwdRefIdeal.nD Cert.DownFwdRefIdeal.τ).loc Cert.DownFwdRefIdeal.main_arg2)
          ∧ r.2.mem ((c.tc : Thread Cert.DownFwdRefIdeal.nD Cert.DownFwdRefIdeal.τ).loc Cert.DownFwdRefIdeal.main_arg3) = m' ((c.tc : Thread Cert.DownFwdRefIdeal.nD Cert.DownFwdRefIdeal.τ).loc Cert.DownFwdRefIdeal.main_arg3))

def preserves_AttnDx_AttnDxIdeal : Prop :=
  True

def algebraic_AttnDxIdeal_AttnDxRefIdeal [hAttnDxIdeal : Cert.AttnDxIdeal.Facts] [hAttnDxRefIdeal : Cert.AttnDxRefIdeal.Facts] : Prop :=
  ∀ (m : (ℓ : Loc Cert.AttnDxIdeal.nD Cert.AttnDxIdeal.τ Cert.AttnDxIdeal.sig) → Buf (Elt Ideal) ℓ) (g : Dev Cert.AttnDxIdeal.nD → PrngReg)
    (m' : (ℓ : Loc Cert.AttnDxRefIdeal.nD Cert.AttnDxRefIdeal.τ Cert.AttnDxRefIdeal.sig) → Buf (Elt Ideal) ℓ) (g' : Dev Cert.AttnDxRefIdeal.nD → PrngReg), Pre_AttnDxIdeal m →
    (∀ c : Dev Cert.AttnDxIdeal.nD,
      m' ((c.tc : Thread Cert.AttnDxRefIdeal.nD Cert.AttnDxRefIdeal.τ).loc Cert.AttnDxRefIdeal.main_arg0) = m ((c.tc : Thread Cert.AttnDxIdeal.nD Cert.AttnDxIdeal.τ).loc Cert.AttnDxIdeal.main_arg0)
      ∧ m' ((c.tc : Thread Cert.AttnDxRefIdeal.nD Cert.AttnDxRefIdeal.τ).loc Cert.AttnDxRefIdeal.main_arg1) = m ((c.tc : Thread Cert.AttnDxIdeal.nD Cert.AttnDxIdeal.τ).loc Cert.AttnDxIdeal.main_arg1)
      ∧ m' ((c.tc : Thread Cert.AttnDxRefIdeal.nD Cert.AttnDxRefIdeal.τ).loc Cert.AttnDxRefIdeal.main_arg2) = m ((c.tc : Thread Cert.AttnDxIdeal.nD Cert.AttnDxIdeal.τ).loc Cert.AttnDxIdeal.main_arg2)
      ∧ m' ((c.tc : Thread Cert.AttnDxRefIdeal.nD Cert.AttnDxRefIdeal.τ).loc Cert.AttnDxRefIdeal.main_arg3) = m ((c.tc : Thread Cert.AttnDxIdeal.nD Cert.AttnDxIdeal.τ).loc Cert.AttnDxIdeal.main_arg3)
      ∧ m' ((c.tc : Thread Cert.AttnDxRefIdeal.nD Cert.AttnDxRefIdeal.τ).loc Cert.AttnDxRefIdeal.main_arg4) = m ((c.tc : Thread Cert.AttnDxIdeal.nD Cert.AttnDxIdeal.τ).loc Cert.AttnDxIdeal.main_arg4)
      ∧ m' ((c.tc : Thread Cert.AttnDxRefIdeal.nD Cert.AttnDxRefIdeal.τ).loc Cert.AttnDxRefIdeal.main_arg5) = m ((c.tc : Thread Cert.AttnDxIdeal.nD Cert.AttnDxIdeal.τ).loc Cert.AttnDxIdeal.main_arg5)
      ∧ m' ((c.tc : Thread Cert.AttnDxRefIdeal.nD Cert.AttnDxRefIdeal.τ).loc Cert.AttnDxRefIdeal.main_arg6) = m ((c.tc : Thread Cert.AttnDxIdeal.nD Cert.AttnDxIdeal.τ).loc Cert.AttnDxIdeal.main_arg6)
      ∧ m' ((c.tc : Thread Cert.AttnDxRefIdeal.nD Cert.AttnDxRefIdeal.τ).loc Cert.AttnDxRefIdeal.main_arg7) = m ((c.tc : Thread Cert.AttnDxIdeal.nD Cert.AttnDxIdeal.τ).loc Cert.AttnDxIdeal.main_arg7)
      ∧ m' ((c.tc : Thread Cert.AttnDxRefIdeal.nD Cert.AttnDxRefIdeal.τ).loc Cert.AttnDxRefIdeal.main_arg8) = m ((c.tc : Thread Cert.AttnDxIdeal.nD Cert.AttnDxIdeal.τ).loc Cert.AttnDxIdeal.main_arg8)
      ∧ m' ((c.tc : Thread Cert.AttnDxRefIdeal.nD Cert.AttnDxRefIdeal.τ).loc Cert.AttnDxRefIdeal.main_arg9) = m ((c.tc : Thread Cert.AttnDxIdeal.nD Cert.AttnDxIdeal.τ).loc Cert.AttnDxIdeal.main_arg9)) →
    ∃ (v0 : (c : Dev Cert.AttnDxIdeal.nD) → Buf (Elt Ideal) ((c.tc : Thread Cert.AttnDxIdeal.nD Cert.AttnDxIdeal.τ).loc Cert.AttnDxIdeal.main_v0_0)) (v1 : (c : Dev Cert.AttnDxIdeal.nD) → Buf (Elt Ideal) ((c.tc : Thread Cert.AttnDxIdeal.nD Cert.AttnDxIdeal.τ).loc Cert.AttnDxIdeal.main_v0_1)),
      θ_run (Cert.AttnDxIdeal.defs (F := Ideal)) (onTc (τ := Cert.AttnDxIdeal.τ) (Cert.AttnDxIdeal.main (F := Ideal))) ⟨m, fun _ => 0, g⟩ (fun r => ∀ c : Dev Cert.AttnDxIdeal.nD,
          r.2.mem ((c.tc : Thread Cert.AttnDxIdeal.nD Cert.AttnDxIdeal.τ).loc Cert.AttnDxIdeal.main_v0_0) = v0 c
          ∧ r.2.mem ((c.tc : Thread Cert.AttnDxIdeal.nD Cert.AttnDxIdeal.τ).loc Cert.AttnDxIdeal.main_v0_1) = v1 c
          ∧ r.2.mem ((c.tc : Thread Cert.AttnDxIdeal.nD Cert.AttnDxIdeal.τ).loc Cert.AttnDxIdeal.main_arg0) = m ((c.tc : Thread Cert.AttnDxIdeal.nD Cert.AttnDxIdeal.τ).loc Cert.AttnDxIdeal.main_arg0)
          ∧ r.2.mem ((c.tc : Thread Cert.AttnDxIdeal.nD Cert.AttnDxIdeal.τ).loc Cert.AttnDxIdeal.main_arg1) = m ((c.tc : Thread Cert.AttnDxIdeal.nD Cert.AttnDxIdeal.τ).loc Cert.AttnDxIdeal.main_arg1)
          ∧ r.2.mem ((c.tc : Thread Cert.AttnDxIdeal.nD Cert.AttnDxIdeal.τ).loc Cert.AttnDxIdeal.main_arg2) = m ((c.tc : Thread Cert.AttnDxIdeal.nD Cert.AttnDxIdeal.τ).loc Cert.AttnDxIdeal.main_arg2)
          ∧ r.2.mem ((c.tc : Thread Cert.AttnDxIdeal.nD Cert.AttnDxIdeal.τ).loc Cert.AttnDxIdeal.main_arg3) = m ((c.tc : Thread Cert.AttnDxIdeal.nD Cert.AttnDxIdeal.τ).loc Cert.AttnDxIdeal.main_arg3)
          ∧ r.2.mem ((c.tc : Thread Cert.AttnDxIdeal.nD Cert.AttnDxIdeal.τ).loc Cert.AttnDxIdeal.main_arg4) = m ((c.tc : Thread Cert.AttnDxIdeal.nD Cert.AttnDxIdeal.τ).loc Cert.AttnDxIdeal.main_arg4)
          ∧ r.2.mem ((c.tc : Thread Cert.AttnDxIdeal.nD Cert.AttnDxIdeal.τ).loc Cert.AttnDxIdeal.main_arg5) = m ((c.tc : Thread Cert.AttnDxIdeal.nD Cert.AttnDxIdeal.τ).loc Cert.AttnDxIdeal.main_arg5)
          ∧ r.2.mem ((c.tc : Thread Cert.AttnDxIdeal.nD Cert.AttnDxIdeal.τ).loc Cert.AttnDxIdeal.main_arg6) = m ((c.tc : Thread Cert.AttnDxIdeal.nD Cert.AttnDxIdeal.τ).loc Cert.AttnDxIdeal.main_arg6)
          ∧ r.2.mem ((c.tc : Thread Cert.AttnDxIdeal.nD Cert.AttnDxIdeal.τ).loc Cert.AttnDxIdeal.main_arg7) = m ((c.tc : Thread Cert.AttnDxIdeal.nD Cert.AttnDxIdeal.τ).loc Cert.AttnDxIdeal.main_arg7)
          ∧ r.2.mem ((c.tc : Thread Cert.AttnDxIdeal.nD Cert.AttnDxIdeal.τ).loc Cert.AttnDxIdeal.main_arg8) = m ((c.tc : Thread Cert.AttnDxIdeal.nD Cert.AttnDxIdeal.τ).loc Cert.AttnDxIdeal.main_arg8)
          ∧ r.2.mem ((c.tc : Thread Cert.AttnDxIdeal.nD Cert.AttnDxIdeal.τ).loc Cert.AttnDxIdeal.main_arg9) = m ((c.tc : Thread Cert.AttnDxIdeal.nD Cert.AttnDxIdeal.τ).loc Cert.AttnDxIdeal.main_arg9))
      ∧ θ_run (Cert.AttnDxRefIdeal.defs (F := Ideal)) (onTc (τ := Cert.AttnDxRefIdeal.τ) (Cert.AttnDxRefIdeal.main (F := Ideal))) ⟨m', fun _ => 0, g'⟩ (fun r => ∀ c : Dev Cert.AttnDxRefIdeal.nD,
          r.2.mem ((c.tc : Thread Cert.AttnDxRefIdeal.nD Cert.AttnDxRefIdeal.τ).loc Cert.AttnDxRefIdeal.main_v46) = v0 c
          ∧ r.2.mem ((c.tc : Thread Cert.AttnDxRefIdeal.nD Cert.AttnDxRefIdeal.τ).loc Cert.AttnDxRefIdeal.main_v29) = v1 c
          ∧ r.2.mem ((c.tc : Thread Cert.AttnDxRefIdeal.nD Cert.AttnDxRefIdeal.τ).loc Cert.AttnDxRefIdeal.main_arg0) = m' ((c.tc : Thread Cert.AttnDxRefIdeal.nD Cert.AttnDxRefIdeal.τ).loc Cert.AttnDxRefIdeal.main_arg0)
          ∧ r.2.mem ((c.tc : Thread Cert.AttnDxRefIdeal.nD Cert.AttnDxRefIdeal.τ).loc Cert.AttnDxRefIdeal.main_arg1) = m' ((c.tc : Thread Cert.AttnDxRefIdeal.nD Cert.AttnDxRefIdeal.τ).loc Cert.AttnDxRefIdeal.main_arg1)
          ∧ r.2.mem ((c.tc : Thread Cert.AttnDxRefIdeal.nD Cert.AttnDxRefIdeal.τ).loc Cert.AttnDxRefIdeal.main_arg2) = m' ((c.tc : Thread Cert.AttnDxRefIdeal.nD Cert.AttnDxRefIdeal.τ).loc Cert.AttnDxRefIdeal.main_arg2)
          ∧ r.2.mem ((c.tc : Thread Cert.AttnDxRefIdeal.nD Cert.AttnDxRefIdeal.τ).loc Cert.AttnDxRefIdeal.main_arg3) = m' ((c.tc : Thread Cert.AttnDxRefIdeal.nD Cert.AttnDxRefIdeal.τ).loc Cert.AttnDxRefIdeal.main_arg3)
          ∧ r.2.mem ((c.tc : Thread Cert.AttnDxRefIdeal.nD Cert.AttnDxRefIdeal.τ).loc Cert.AttnDxRefIdeal.main_arg4) = m' ((c.tc : Thread Cert.AttnDxRefIdeal.nD Cert.AttnDxRefIdeal.τ).loc Cert.AttnDxRefIdeal.main_arg4)
          ∧ r.2.mem ((c.tc : Thread Cert.AttnDxRefIdeal.nD Cert.AttnDxRefIdeal.τ).loc Cert.AttnDxRefIdeal.main_arg5) = m' ((c.tc : Thread Cert.AttnDxRefIdeal.nD Cert.AttnDxRefIdeal.τ).loc Cert.AttnDxRefIdeal.main_arg5)
          ∧ r.2.mem ((c.tc : Thread Cert.AttnDxRefIdeal.nD Cert.AttnDxRefIdeal.τ).loc Cert.AttnDxRefIdeal.main_arg6) = m' ((c.tc : Thread Cert.AttnDxRefIdeal.nD Cert.AttnDxRefIdeal.τ).loc Cert.AttnDxRefIdeal.main_arg6)
          ∧ r.2.mem ((c.tc : Thread Cert.AttnDxRefIdeal.nD Cert.AttnDxRefIdeal.τ).loc Cert.AttnDxRefIdeal.main_arg7) = m' ((c.tc : Thread Cert.AttnDxRefIdeal.nD Cert.AttnDxRefIdeal.τ).loc Cert.AttnDxRefIdeal.main_arg7)
          ∧ r.2.mem ((c.tc : Thread Cert.AttnDxRefIdeal.nD Cert.AttnDxRefIdeal.τ).loc Cert.AttnDxRefIdeal.main_arg8) = m' ((c.tc : Thread Cert.AttnDxRefIdeal.nD Cert.AttnDxRefIdeal.τ).loc Cert.AttnDxRefIdeal.main_arg8)
          ∧ r.2.mem ((c.tc : Thread Cert.AttnDxRefIdeal.nD Cert.AttnDxRefIdeal.τ).loc Cert.AttnDxRefIdeal.main_arg9) = m' ((c.tc : Thread Cert.AttnDxRefIdeal.nD Cert.AttnDxRefIdeal.τ).loc Cert.AttnDxRefIdeal.main_arg9))

def preserves_ConvDx_ConvDxIdeal : Prop :=
  True

def algebraic_ConvDxIdeal_ConvDxRefIdeal [hConvDxIdeal : Cert.ConvDxIdeal.Facts] [hConvDxRefIdeal : Cert.ConvDxRefIdeal.Facts] : Prop :=
  ∀ (m : (ℓ : Loc Cert.ConvDxIdeal.nD Cert.ConvDxIdeal.τ Cert.ConvDxIdeal.sig) → Buf (Elt Ideal) ℓ) (g : Dev Cert.ConvDxIdeal.nD → PrngReg)
    (m' : (ℓ : Loc Cert.ConvDxRefIdeal.nD Cert.ConvDxRefIdeal.τ Cert.ConvDxRefIdeal.sig) → Buf (Elt Ideal) ℓ) (g' : Dev Cert.ConvDxRefIdeal.nD → PrngReg), Pre_ConvDxIdeal m →
    (∀ c : Dev Cert.ConvDxIdeal.nD,
      m' ((c.tc : Thread Cert.ConvDxRefIdeal.nD Cert.ConvDxRefIdeal.τ).loc Cert.ConvDxRefIdeal.main_arg0) = m ((c.tc : Thread Cert.ConvDxIdeal.nD Cert.ConvDxIdeal.τ).loc Cert.ConvDxIdeal.main_arg0)
      ∧ m' ((c.tc : Thread Cert.ConvDxRefIdeal.nD Cert.ConvDxRefIdeal.τ).loc Cert.ConvDxRefIdeal.main_arg1) = m ((c.tc : Thread Cert.ConvDxIdeal.nD Cert.ConvDxIdeal.τ).loc Cert.ConvDxIdeal.main_arg1)
      ∧ m' ((c.tc : Thread Cert.ConvDxRefIdeal.nD Cert.ConvDxRefIdeal.τ).loc Cert.ConvDxRefIdeal.main_arg2) = m ((c.tc : Thread Cert.ConvDxIdeal.nD Cert.ConvDxIdeal.τ).loc Cert.ConvDxIdeal.main_arg2)
      ∧ m' ((c.tc : Thread Cert.ConvDxRefIdeal.nD Cert.ConvDxRefIdeal.τ).loc Cert.ConvDxRefIdeal.main_arg3) = m ((c.tc : Thread Cert.ConvDxIdeal.nD Cert.ConvDxIdeal.τ).loc Cert.ConvDxIdeal.main_arg3)
      ∧ m' ((c.tc : Thread Cert.ConvDxRefIdeal.nD Cert.ConvDxRefIdeal.τ).loc Cert.ConvDxRefIdeal.main_arg4) = m ((c.tc : Thread Cert.ConvDxIdeal.nD Cert.ConvDxIdeal.τ).loc Cert.ConvDxIdeal.main_arg4)) →
    ∃ (v0 : (c : Dev Cert.ConvDxIdeal.nD) → Buf (Elt Ideal) ((c.tc : Thread Cert.ConvDxIdeal.nD Cert.ConvDxIdeal.τ).loc Cert.ConvDxIdeal.main_v0_0)) (v1 : (c : Dev Cert.ConvDxIdeal.nD) → Buf (Elt Ideal) ((c.tc : Thread Cert.ConvDxIdeal.nD Cert.ConvDxIdeal.τ).loc Cert.ConvDxIdeal.main_v0_1)),
      θ_run (Cert.ConvDxIdeal.defs (F := Ideal)) (onTc (τ := Cert.ConvDxIdeal.τ) (Cert.ConvDxIdeal.main (F := Ideal))) ⟨m, fun _ => 0, g⟩ (fun r => ∀ c : Dev Cert.ConvDxIdeal.nD,
          r.2.mem ((c.tc : Thread Cert.ConvDxIdeal.nD Cert.ConvDxIdeal.τ).loc Cert.ConvDxIdeal.main_v0_0) = v0 c
          ∧ r.2.mem ((c.tc : Thread Cert.ConvDxIdeal.nD Cert.ConvDxIdeal.τ).loc Cert.ConvDxIdeal.main_v0_1) = v1 c
          ∧ r.2.mem ((c.tc : Thread Cert.ConvDxIdeal.nD Cert.ConvDxIdeal.τ).loc Cert.ConvDxIdeal.main_arg0) = m ((c.tc : Thread Cert.ConvDxIdeal.nD Cert.ConvDxIdeal.τ).loc Cert.ConvDxIdeal.main_arg0)
          ∧ r.2.mem ((c.tc : Thread Cert.ConvDxIdeal.nD Cert.ConvDxIdeal.τ).loc Cert.ConvDxIdeal.main_arg1) = m ((c.tc : Thread Cert.ConvDxIdeal.nD Cert.ConvDxIdeal.τ).loc Cert.ConvDxIdeal.main_arg1)
          ∧ r.2.mem ((c.tc : Thread Cert.ConvDxIdeal.nD Cert.ConvDxIdeal.τ).loc Cert.ConvDxIdeal.main_arg2) = m ((c.tc : Thread Cert.ConvDxIdeal.nD Cert.ConvDxIdeal.τ).loc Cert.ConvDxIdeal.main_arg2)
          ∧ r.2.mem ((c.tc : Thread Cert.ConvDxIdeal.nD Cert.ConvDxIdeal.τ).loc Cert.ConvDxIdeal.main_arg3) = m ((c.tc : Thread Cert.ConvDxIdeal.nD Cert.ConvDxIdeal.τ).loc Cert.ConvDxIdeal.main_arg3)
          ∧ r.2.mem ((c.tc : Thread Cert.ConvDxIdeal.nD Cert.ConvDxIdeal.τ).loc Cert.ConvDxIdeal.main_arg4) = m ((c.tc : Thread Cert.ConvDxIdeal.nD Cert.ConvDxIdeal.τ).loc Cert.ConvDxIdeal.main_arg4))
      ∧ θ_run (Cert.ConvDxRefIdeal.defs (F := Ideal)) (onTc (τ := Cert.ConvDxRefIdeal.τ) (Cert.ConvDxRefIdeal.main (F := Ideal))) ⟨m', fun _ => 0, g'⟩ (fun r => ∀ c : Dev Cert.ConvDxRefIdeal.nD,
          r.2.mem ((c.tc : Thread Cert.ConvDxRefIdeal.nD Cert.ConvDxRefIdeal.τ).loc Cert.ConvDxRefIdeal.main_v39) = v0 c
          ∧ r.2.mem ((c.tc : Thread Cert.ConvDxRefIdeal.nD Cert.ConvDxRefIdeal.τ).loc Cert.ConvDxRefIdeal.main_v22) = v1 c
          ∧ r.2.mem ((c.tc : Thread Cert.ConvDxRefIdeal.nD Cert.ConvDxRefIdeal.τ).loc Cert.ConvDxRefIdeal.main_arg0) = m' ((c.tc : Thread Cert.ConvDxRefIdeal.nD Cert.ConvDxRefIdeal.τ).loc Cert.ConvDxRefIdeal.main_arg0)
          ∧ r.2.mem ((c.tc : Thread Cert.ConvDxRefIdeal.nD Cert.ConvDxRefIdeal.τ).loc Cert.ConvDxRefIdeal.main_arg1) = m' ((c.tc : Thread Cert.ConvDxRefIdeal.nD Cert.ConvDxRefIdeal.τ).loc Cert.ConvDxRefIdeal.main_arg1)
          ∧ r.2.mem ((c.tc : Thread Cert.ConvDxRefIdeal.nD Cert.ConvDxRefIdeal.τ).loc Cert.ConvDxRefIdeal.main_arg2) = m' ((c.tc : Thread Cert.ConvDxRefIdeal.nD Cert.ConvDxRefIdeal.τ).loc Cert.ConvDxRefIdeal.main_arg2)
          ∧ r.2.mem ((c.tc : Thread Cert.ConvDxRefIdeal.nD Cert.ConvDxRefIdeal.τ).loc Cert.ConvDxRefIdeal.main_arg3) = m' ((c.tc : Thread Cert.ConvDxRefIdeal.nD Cert.ConvDxRefIdeal.τ).loc Cert.ConvDxRefIdeal.main_arg3)
          ∧ r.2.mem ((c.tc : Thread Cert.ConvDxRefIdeal.nD Cert.ConvDxRefIdeal.τ).loc Cert.ConvDxRefIdeal.main_arg4) = m' ((c.tc : Thread Cert.ConvDxRefIdeal.nD Cert.ConvDxRefIdeal.τ).loc Cert.ConvDxRefIdeal.main_arg4))

def preserves_DwUpU_DwUpUIdeal : Prop :=
  True

def algebraic_DwUpUIdeal_DwUpURefIdeal [hDwUpUIdeal : Cert.DwUpUIdeal.Facts] [hDwUpURefIdeal : Cert.DwUpURefIdeal.Facts] : Prop :=
  ∀ (m : (ℓ : Loc Cert.DwUpUIdeal.nD Cert.DwUpUIdeal.τ Cert.DwUpUIdeal.sig) → Buf (Elt Ideal) ℓ) (g : Dev Cert.DwUpUIdeal.nD → PrngReg)
    (m' : (ℓ : Loc Cert.DwUpURefIdeal.nD Cert.DwUpURefIdeal.τ Cert.DwUpURefIdeal.sig) → Buf (Elt Ideal) ℓ) (g' : Dev Cert.DwUpURefIdeal.nD → PrngReg), Pre_DwUpUIdeal m →
    (∀ c : Dev Cert.DwUpUIdeal.nD,
      m' ((c.tc : Thread Cert.DwUpURefIdeal.nD Cert.DwUpURefIdeal.τ).loc Cert.DwUpURefIdeal.main_arg0) = m ((c.tc : Thread Cert.DwUpUIdeal.nD Cert.DwUpUIdeal.τ).loc Cert.DwUpUIdeal.main_arg0)
      ∧ m' ((c.tc : Thread Cert.DwUpURefIdeal.nD Cert.DwUpURefIdeal.τ).loc Cert.DwUpURefIdeal.main_arg1) = m ((c.tc : Thread Cert.DwUpUIdeal.nD Cert.DwUpUIdeal.τ).loc Cert.DwUpUIdeal.main_arg1)) →
    ∃ (v0 : (c : Dev Cert.DwUpUIdeal.nD) → Buf (Elt Ideal) ((c.tc : Thread Cert.DwUpUIdeal.nD Cert.DwUpUIdeal.τ).loc Cert.DwUpUIdeal.main_v1)),
      θ_run (Cert.DwUpUIdeal.defs (F := Ideal)) (onTc (τ := Cert.DwUpUIdeal.τ) (Cert.DwUpUIdeal.main (F := Ideal))) ⟨m, fun _ => 0, g⟩ (fun r => ∀ c : Dev Cert.DwUpUIdeal.nD,
          r.2.mem ((c.tc : Thread Cert.DwUpUIdeal.nD Cert.DwUpUIdeal.τ).loc Cert.DwUpUIdeal.main_v1) = v0 c
          ∧ r.2.mem ((c.tc : Thread Cert.DwUpUIdeal.nD Cert.DwUpUIdeal.τ).loc Cert.DwUpUIdeal.main_arg0) = m ((c.tc : Thread Cert.DwUpUIdeal.nD Cert.DwUpUIdeal.τ).loc Cert.DwUpUIdeal.main_arg0)
          ∧ r.2.mem ((c.tc : Thread Cert.DwUpUIdeal.nD Cert.DwUpUIdeal.τ).loc Cert.DwUpUIdeal.main_arg1) = m ((c.tc : Thread Cert.DwUpUIdeal.nD Cert.DwUpUIdeal.τ).loc Cert.DwUpUIdeal.main_arg1))
      ∧ θ_run (Cert.DwUpURefIdeal.defs (F := Ideal)) (onTc (τ := Cert.DwUpURefIdeal.τ) (Cert.DwUpURefIdeal.main (F := Ideal))) ⟨m', fun _ => 0, g'⟩ (fun r => ∀ c : Dev Cert.DwUpURefIdeal.nD,
          r.2.mem ((c.tc : Thread Cert.DwUpURefIdeal.nD Cert.DwUpURefIdeal.τ).loc Cert.DwUpURefIdeal.main_v10) = v0 c
          ∧ r.2.mem ((c.tc : Thread Cert.DwUpURefIdeal.nD Cert.DwUpURefIdeal.τ).loc Cert.DwUpURefIdeal.main_arg0) = m' ((c.tc : Thread Cert.DwUpURefIdeal.nD Cert.DwUpURefIdeal.τ).loc Cert.DwUpURefIdeal.main_arg0)
          ∧ r.2.mem ((c.tc : Thread Cert.DwUpURefIdeal.nD Cert.DwUpURefIdeal.τ).loc Cert.DwUpURefIdeal.main_arg1) = m' ((c.tc : Thread Cert.DwUpURefIdeal.nD Cert.DwUpURefIdeal.τ).loc Cert.DwUpURefIdeal.main_arg1))

def preserves_PwW_PwWIdeal : Prop :=
  True

def algebraic_PwWIdeal_PwWRefIdeal [hPwWIdeal : Cert.PwWIdeal.Facts] [hPwWRefIdeal : Cert.PwWRefIdeal.Facts] : Prop :=
  ∀ (m : (ℓ : Loc Cert.PwWIdeal.nD Cert.PwWIdeal.τ Cert.PwWIdeal.sig) → Buf (Elt Ideal) ℓ) (g : Dev Cert.PwWIdeal.nD → PrngReg)
    (m' : (ℓ : Loc Cert.PwWRefIdeal.nD Cert.PwWRefIdeal.τ Cert.PwWRefIdeal.sig) → Buf (Elt Ideal) ℓ) (g' : Dev Cert.PwWRefIdeal.nD → PrngReg), Pre_PwWIdeal m →
    (∀ c : Dev Cert.PwWIdeal.nD,
      m' ((c.tc : Thread Cert.PwWRefIdeal.nD Cert.PwWRefIdeal.τ).loc Cert.PwWRefIdeal.main_arg0) = m ((c.tc : Thread Cert.PwWIdeal.nD Cert.PwWIdeal.τ).loc Cert.PwWIdeal.main_arg0)
      ∧ m' ((c.tc : Thread Cert.PwWRefIdeal.nD Cert.PwWRefIdeal.τ).loc Cert.PwWRefIdeal.main_arg1) = m ((c.tc : Thread Cert.PwWIdeal.nD Cert.PwWIdeal.τ).loc Cert.PwWIdeal.main_arg1)) →
    ∃ (v0 : (c : Dev Cert.PwWIdeal.nD) → Buf (Elt Ideal) ((c.tc : Thread Cert.PwWIdeal.nD Cert.PwWIdeal.τ).loc Cert.PwWIdeal.main_v0)),
      θ_run (Cert.PwWIdeal.defs (F := Ideal)) (onTc (τ := Cert.PwWIdeal.τ) (Cert.PwWIdeal.main (F := Ideal))) ⟨m, fun _ => 0, g⟩ (fun r => ∀ c : Dev Cert.PwWIdeal.nD,
          r.2.mem ((c.tc : Thread Cert.PwWIdeal.nD Cert.PwWIdeal.τ).loc Cert.PwWIdeal.main_v0) = v0 c
          ∧ r.2.mem ((c.tc : Thread Cert.PwWIdeal.nD Cert.PwWIdeal.τ).loc Cert.PwWIdeal.main_arg0) = m ((c.tc : Thread Cert.PwWIdeal.nD Cert.PwWIdeal.τ).loc Cert.PwWIdeal.main_arg0)
          ∧ r.2.mem ((c.tc : Thread Cert.PwWIdeal.nD Cert.PwWIdeal.τ).loc Cert.PwWIdeal.main_arg1) = m ((c.tc : Thread Cert.PwWIdeal.nD Cert.PwWIdeal.τ).loc Cert.PwWIdeal.main_arg1))
      ∧ θ_run (Cert.PwWRefIdeal.defs (F := Ideal)) (onTc (τ := Cert.PwWRefIdeal.τ) (Cert.PwWRefIdeal.main (F := Ideal))) ⟨m', fun _ => 0, g'⟩ (fun r => ∀ c : Dev Cert.PwWRefIdeal.nD,
          r.2.mem ((c.tc : Thread Cert.PwWRefIdeal.nD Cert.PwWRefIdeal.τ).loc Cert.PwWRefIdeal.main_v10) = v0 c
          ∧ r.2.mem ((c.tc : Thread Cert.PwWRefIdeal.nD Cert.PwWRefIdeal.τ).loc Cert.PwWRefIdeal.main_arg0) = m' ((c.tc : Thread Cert.PwWRefIdeal.nD Cert.PwWRefIdeal.τ).loc Cert.PwWRefIdeal.main_arg0)
          ∧ r.2.mem ((c.tc : Thread Cert.PwWRefIdeal.nD Cert.PwWRefIdeal.τ).loc Cert.PwWRefIdeal.main_arg1) = m' ((c.tc : Thread Cert.PwWRefIdeal.nD Cert.PwWRefIdeal.τ).loc Cert.PwWRefIdeal.main_arg1))

def Claim : Prop :=
  ∃ (hConv : Cert.Conv.Facts) (hConvIdeal : Cert.ConvIdeal.Facts) (hConvRefIdeal : Cert.ConvRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hGate : Cert.Gate.Facts) (hGateIdeal : Cert.GateIdeal.Facts) (hGateRefIdeal : Cert.GateRefIdeal.Facts) (hDwUp : Cert.DwUp.Facts) (hDwUpIdeal : Cert.DwUpIdeal.Facts) (hDwUpRefIdeal : Cert.DwUpRefIdeal.Facts) (hDact : Cert.Dact.Facts) (hDactIdeal : Cert.DactIdeal.Facts) (hDactRefIdeal : Cert.DactRefIdeal.Facts) (hPost : Cert.Post.Facts) (hPostIdeal : Cert.PostIdeal.Facts) (hPostRefIdeal : Cert.PostRefIdeal.Facts) (hUpFwd : Cert.UpFwd.Facts) (hUpFwdIdeal : Cert.UpFwdIdeal.Facts) (hUpFwdRefIdeal : Cert.UpFwdRefIdeal.Facts) (hDownFwd : Cert.DownFwd.Facts) (hDownFwdIdeal : Cert.DownFwdIdeal.Facts) (hDownFwdRefIdeal : Cert.DownFwdRefIdeal.Facts) (hAttnDx : Cert.AttnDx.Facts) (hAttnDxIdeal : Cert.AttnDxIdeal.Facts) (hAttnDxRefIdeal : Cert.AttnDxRefIdeal.Facts) (hConvDx : Cert.ConvDx.Facts) (hConvDxIdeal : Cert.ConvDxIdeal.Facts) (hConvDxRefIdeal : Cert.ConvDxRefIdeal.Facts) (hDwUpU : Cert.DwUpU.Facts) (hDwUpUIdeal : Cert.DwUpUIdeal.Facts) (hDwUpURefIdeal : Cert.DwUpURefIdeal.Facts) (hPwW : Cert.PwW.Facts) (hPwWIdeal : Cert.PwWIdeal.Facts) (hPwWRefIdeal : Cert.PwWRefIdeal.Facts) (hPre_gate_finite : Cert.Pre_gate_finite.Facts),
    quiescent_Conv (hConv := hConv)
    ∧ quiescent_ConvIdeal (hConvIdeal := hConvIdeal)
    ∧ quiescent_ConvRefIdeal (hConvRefIdeal := hConvRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Gate (hGate := hGate)
    ∧ quiescent_GateIdeal (hGateIdeal := hGateIdeal)
    ∧ quiescent_GateIdeal_pre_gate_finite (hGateIdeal := hGateIdeal) (hPre_gate_finite := hPre_gate_finite)
    ∧ quiescent_GateRefIdeal (hGateRefIdeal := hGateRefIdeal)
    ∧ quiescent_GateRefIdeal_pre_gate_finite (hGateRefIdeal := hGateRefIdeal) (hPre_gate_finite := hPre_gate_finite)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_Dact (hDact := hDact)
    ∧ quiescent_DactIdeal (hDactIdeal := hDactIdeal)
    ∧ quiescent_DactRefIdeal (hDactRefIdeal := hDactRefIdeal)
    ∧ quiescent_Post (hPost := hPost)
    ∧ quiescent_PostIdeal (hPostIdeal := hPostIdeal)
    ∧ quiescent_PostRefIdeal (hPostRefIdeal := hPostRefIdeal)
    ∧ quiescent_UpFwd (hUpFwd := hUpFwd)
    ∧ quiescent_UpFwdIdeal (hUpFwdIdeal := hUpFwdIdeal)
    ∧ quiescent_UpFwdRefIdeal (hUpFwdRefIdeal := hUpFwdRefIdeal)
    ∧ quiescent_DownFwd (hDownFwd := hDownFwd)
    ∧ quiescent_DownFwdIdeal (hDownFwdIdeal := hDownFwdIdeal)
    ∧ quiescent_DownFwdRefIdeal (hDownFwdRefIdeal := hDownFwdRefIdeal)
    ∧ quiescent_AttnDx (hAttnDx := hAttnDx)
    ∧ quiescent_AttnDxIdeal (hAttnDxIdeal := hAttnDxIdeal)
    ∧ quiescent_AttnDxRefIdeal (hAttnDxRefIdeal := hAttnDxRefIdeal)
    ∧ quiescent_ConvDx (hConvDx := hConvDx)
    ∧ quiescent_ConvDxIdeal (hConvDxIdeal := hConvDxIdeal)
    ∧ quiescent_ConvDxRefIdeal (hConvDxRefIdeal := hConvDxRefIdeal)
    ∧ quiescent_DwUpU (hDwUpU := hDwUpU)
    ∧ quiescent_DwUpUIdeal (hDwUpUIdeal := hDwUpUIdeal)
    ∧ quiescent_DwUpURefIdeal (hDwUpURefIdeal := hDwUpURefIdeal)
    ∧ quiescent_PwW (hPwW := hPwW)
    ∧ quiescent_PwWIdeal (hPwWIdeal := hPwWIdeal)
    ∧ quiescent_PwWRefIdeal (hPwWRefIdeal := hPwWRefIdeal)
    ∧ preserves_Conv_ConvIdeal
    ∧ algebraic_ConvIdeal_ConvRefIdeal (hConvIdeal := hConvIdeal) (hConvRefIdeal := hConvRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Gate_GateIdeal
    ∧ algebraic_GateIdeal_GateRefIdeal_pre_gate_finite (hGateIdeal := hGateIdeal) (hGateRefIdeal := hGateRefIdeal) (hPre_gate_finite := hPre_gate_finite)
    ∧ preserves_DwUp_DwUpIdeal
    ∧ algebraic_DwUpIdeal_DwUpRefIdeal (hDwUpIdeal := hDwUpIdeal) (hDwUpRefIdeal := hDwUpRefIdeal)
    ∧ preserves_Dact_DactIdeal
    ∧ algebraic_DactIdeal_DactRefIdeal (hDactIdeal := hDactIdeal) (hDactRefIdeal := hDactRefIdeal)
    ∧ preserves_Post_PostIdeal
    ∧ algebraic_PostIdeal_PostRefIdeal (hPostIdeal := hPostIdeal) (hPostRefIdeal := hPostRefIdeal)
    ∧ preserves_UpFwd_UpFwdIdeal
    ∧ algebraic_UpFwdIdeal_UpFwdRefIdeal (hUpFwdIdeal := hUpFwdIdeal) (hUpFwdRefIdeal := hUpFwdRefIdeal)
    ∧ preserves_DownFwd_DownFwdIdeal
    ∧ algebraic_DownFwdIdeal_DownFwdRefIdeal (hDownFwdIdeal := hDownFwdIdeal) (hDownFwdRefIdeal := hDownFwdRefIdeal)
    ∧ preserves_AttnDx_AttnDxIdeal
    ∧ algebraic_AttnDxIdeal_AttnDxRefIdeal (hAttnDxIdeal := hAttnDxIdeal) (hAttnDxRefIdeal := hAttnDxRefIdeal)
    ∧ preserves_ConvDx_ConvDxIdeal
    ∧ algebraic_ConvDxIdeal_ConvDxRefIdeal (hConvDxIdeal := hConvDxIdeal) (hConvDxRefIdeal := hConvDxRefIdeal)
    ∧ preserves_DwUpU_DwUpUIdeal
    ∧ algebraic_DwUpUIdeal_DwUpURefIdeal (hDwUpUIdeal := hDwUpUIdeal) (hDwUpURefIdeal := hDwUpURefIdeal)
    ∧ preserves_PwW_PwWIdeal
    ∧ algebraic_PwWIdeal_PwWRefIdeal (hPwWIdeal := hPwWIdeal) (hPwWRefIdeal := hPwWRefIdeal)
-- ==== Pre_gate_finite.lean ====
abbrev S8192x5632 : Shape := ⟨2, ![8192, 5632]⟩
abbrev S8192x2816 : Shape := ⟨2, ![8192, 2816]⟩
abbrev S3x5632 : Shape := ⟨2, ![3, 5632]⟩
abbrev S1x5632 : Shape := ⟨2, ![1, 5632]⟩
abbrev S_ : Shape := ⟨0, ![]⟩

class Facts : Prop where
  bitsLt_bf16_f32 : FTy.bits .bf16 < FTy.bits .f32
  bcast_S_S8192x5632 : S_.BroadcastsInDim S8192x5632 (![] : Fin 0 → Fin S8192x5632.rank)
  bcast_S_S8192x2816 : S_.BroadcastsInDim S8192x2816 (![] : Fin 0 → Fin S8192x2816.rank)
  bcast_S_S3x5632 : S_.BroadcastsInDim S3x5632 (![] : Fin 0 → Fin S3x5632.rank)
  bcast_S_S1x5632 : S_.BroadcastsInDim S1x5632 (![] : Fin 0 → Fin S1x5632.rank)

variable [Facts]

def fn {F : FTy → Type} [FloatOps F] (main_arg0 : FVec F S8192x5632 .bf16) (main_arg1 : FVec F S8192x2816 .bf16) (main_arg2 : FVec F S3x5632 .f32) (main_arg3 : FVec F S1x5632 .f32) : IVec S8192x5632 1 × IVec S8192x2816 1 × IVec S3x5632 1 × IVec S1x5632 1 :=
  let main_v0 : FVec F S8192x5632 .f32 := (extf .f32 · bitsLt_bf16_f32) main_arg0
  let main_v1 : FVec F S8192x5632 .f32 := Host.absf main_v0
  let main_cst : FVec F S_ .f32 := constant S_ .f32 0x7F800000#32
  let main_v2 : FVec F S8192x5632 .f32 := broadcastInDim S8192x5632 ![] bcast_S_S8192x5632 main_cst
  let main_v3 : IVec S8192x5632 1 := cmpf .olt main_v1 main_v2
  let main_v4 : FVec F S8192x2816 .f32 := (extf .f32 · bitsLt_bf16_f32) main_arg1
  let main_v5 : FVec F S8192x2816 .f32 := Host.absf main_v4
  let main_cst_0 : FVec F S_ .f32 := constant S_ .f32 0x7F800000#32
  let main_v6 : FVec F S8192x2816 .f32 := broadcastInDim S8192x2816 ![] bcast_S_S8192x2816 main_cst_0
  let main_v7 : IVec S8192x2816 1 := cmpf .olt main_v5 main_v6
  let main_v8 : FVec F S3x5632 .f32 := Host.absf main_arg2
  let main_cst_1 : FVec F S_ .f32 := constant S_ .f32 0x7F800000#32
  let main_v9 : FVec F S3x5632 .f32 := broadcastInDim S3x5632 ![] bcast_S_S3x5632 main_cst_1
  let main_v10 : IVec S3x5632 1 := cmpf .olt main_v8 main_v9
  let main_v11 : FVec F S1x5632 .f32 := Host.absf main_arg3
  let main_cst_2 : FVec F S_ .f32 := constant S_ .f32 0x7F800000#32
  let main_v12 : FVec F S1x5632 .f32 := broadcastInDim S1x5632 ![] bcast_S_S1x5632 main_cst_2
  let main_v13 : IVec S1x5632 1 := cmpf .olt main_v11 main_v12
  (main_v3, main_v7, main_v10, main_v13)
-- ==== Conv.lean ====
abbrev S8192x2816 : Shape := ⟨2, ![8192, 2816]⟩
abbrev S3x5632 : Shape := ⟨2, ![3, 5632]⟩
abbrev S1024x1408 : Shape := ⟨2, ![1024, 1408]⟩
abbrev S8x1408 : Shape := ⟨2, ![8, 1408]⟩
abbrev S3x1408 : Shape := ⟨2, ![3, 1408]⟩
abbrev S256x128 : Shape := ⟨2, ![256, 128]⟩
abbrev S16x128 : Shape := ⟨2, ![16, 128]⟩
abbrev S8x128 : Shape := ⟨2, ![8, 128]⟩
abbrev S1x128 : Shape := ⟨2, ![1, 128]⟩
abbrev S248x128 : Shape := ⟨2, ![248, 128]⟩

abbrev nBuf : Space → Nat
  | .hbm => 3
  | .vmem => 8
  | .smem => 0
  | _ => 0

abbrev bufTy : (tb : Table) → Fin (tcTables nBuf tb) → BufTy
  | .hbm, ⟨0, _⟩ => ⟨S8192x2816, .bf16⟩
  | .hbm, ⟨1, _⟩ => ⟨S3x5632, .f32⟩
  | .hbm, ⟨2, _⟩ => ⟨S8192x2816, .bf16⟩
  | .local _ .vmem, ⟨0, _⟩ => ⟨S1024x1408, .bf16⟩
  | .local _ .vmem, ⟨1, _⟩ => ⟨S1024x1408, .bf16⟩
  | .local _ .vmem, ⟨2, _⟩ => ⟨S8x1408, .bf16⟩
  | .local _ .vmem, ⟨3, _⟩ => ⟨S8x1408, .bf16⟩
  | .local _ .vmem, ⟨4, _⟩ => ⟨S3x1408, .f32⟩
  | .local _ .vmem, ⟨5, _⟩ => ⟨S3x1408, .f32⟩
  | .local _ .vmem, ⟨6, _⟩ => ⟨S1024x1408, .bf16⟩
  | .local _ .vmem, ⟨7, _⟩ => ⟨S1024x1408, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

@[reducible] def k0_t1_loop : Scf.Loop 32 :=
  let c0_i32 : BitVec 32 := 0#32
  let c11_i32 : BitVec 32 := 11#32
  let v2 : BitVec 32 := Scalar.addi c0_i32 c11_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c128_i32 : BitVec 32 := 128#32
  let v3 : BitVec 32 := Scalar.muli arg6 c128_i32
  v3
def k0_off1 (k0_t1 : Fin k0_t1_loop.trips) : Fin 2 → Nat :=
  let c0 : Index := 0#32
  let c0_i32 : BitVec 32 := 0#32
  let c1_i32 : BitVec 32 := 1#32
  let arg6 : BitVec 32 := Scf.iv c0_i32 c1_i32 k0_t1
  let c128_i32 : BitVec 32 := 128#32
  let v3 : BitVec 32 := Scalar.muli arg6 c128_i32
  let v4 : BitVec 32 := v3
  let v5 : Index := Scalar.indexCast v4
  ![0, v5.toNat]
def k0_off2 (k0_t1 : Fin k0_t1_loop.trips) : Fin 2 → Nat :=
  let c256 : Index := 256#32
  let c0_i32 : BitVec 32 := 0#32
  let c1_i32 : BitVec 32 := 1#32
  let arg6 : BitVec 32 := Scf.iv c0_i32 c1_i32 k0_t1
  let c128_i32 : BitVec 32 := 128#32
  let v3 : BitVec 32 := Scalar.muli arg6 c128_i32
  let v4 : BitVec 32 := v3
  let v8 : Index := Scalar.indexCast v4
  ![256, v8.toNat]
def k0_off3 (k0_t1 : Fin k0_t1_loop.trips) : Fin 2 → Nat :=
  let c2 : Index := 2#32
  let c0_i32 : BitVec 32 := 0#32
  let c1_i32 : BitVec 32 := 1#32
  let arg6 : BitVec 32 := Scf.iv c0_i32 c1_i32 k0_t1
  let c128_i32 : BitVec 32 := 128#32
  let v3 : BitVec 32 := Scalar.muli arg6 c128_i32
  let v4 : BitVec 32 := v3
  let v38 : Index := Scalar.indexCast v4
  ![2, v38.toNat]
def k0_off4 (k0_t1 : Fin k0_t1_loop.trips) : Fin 2 → Nat :=
  let c1 : Index := 1#32
  let c0_i32 : BitVec 32 := 0#32
  let c1_i32 : BitVec 32 := 1#32
  let arg6 : BitVec 32 := Scf.iv c0_i32 c1_i32 k0_t1
  let c128_i32 : BitVec 32 := 128#32
  let v3 : BitVec 32 := Scalar.muli arg6 c128_i32
  let v4 : BitVec 32 := v3
  let v42 : Index := Scalar.indexCast v4
  ![1, v42.toNat]
def k0_off5 (k0_t1 : Fin k0_t1_loop.trips) : Fin 2 → Nat :=
  let c0_4 : Index := 0#32
  let c0_i32 : BitVec 32 := 0#32
  let c1_i32 : BitVec 32 := 1#32
  let arg6 : BitVec 32 := Scf.iv c0_i32 c1_i32 k0_t1
  let c128_i32 : BitVec 32 := 128#32
  let v3 : BitVec 32 := Scalar.muli arg6 c128_i32
  let v4 : BitVec 32 := v3
  let v47 : Index := Scalar.indexCast v4
  ![0, v47.toNat]
def k0_off6 (k0_t1 : Fin k0_t1_loop.trips) : Fin 2 → Nat :=
  let c256_6 : Index := 256#32
  let c0_i32 : BitVec 32 := 0#32
  let c1_i32 : BitVec 32 := 1#32
  let arg6 : BitVec 32 := Scf.iv c0_i32 c1_i32 k0_t1
  let c128_i32 : BitVec 32 := 128#32
  let v3 : BitVec 32 := Scalar.muli arg6 c128_i32
  let v4 : BitVec 32 := v3
  let v55 : Index := Scalar.indexCast v4
  ![256, v55.toNat]
def k0_off7 (k0_t1 : Fin k0_t1_loop.trips) : Fin 2 → Nat :=
  let c512 : Index := 512#32
  let c0_i32 : BitVec 32 := 0#32
  let c1_i32 : BitVec 32 := 1#32
  let arg6 : BitVec 32 := Scf.iv c0_i32 c1_i32 k0_t1
  let c128_i32 : BitVec 32 := 128#32
  let v3 : BitVec 32 := Scalar.muli arg6 c128_i32
  let v4 : BitVec 32 := v3
  let v58 : Index := Scalar.indexCast v4
  ![512, v58.toNat]
def k0_off8 (k0_t1 : Fin k0_t1_loop.trips) : Fin 2 → Nat :=
  let c512_16 : Index := 512#32
  let c0_i32 : BitVec 32 := 0#32
  let c1_i32 : BitVec 32 := 1#32
  let arg6 : BitVec 32 := Scf.iv c0_i32 c1_i32 k0_t1
  let c128_i32 : BitVec 32 := 128#32
  let v3 : BitVec 32 := Scalar.muli arg6 c128_i32
  let v4 : BitVec 32 := v3
  let v105 : Index := Scalar.indexCast v4
  ![512, v105.toNat]
def k0_off9 (k0_t1 : Fin k0_t1_loop.trips) : Fin 2 → Nat :=
  let c768 : Index := 768#32
  let c0_i32 : BitVec 32 := 0#32
  let c1_i32 : BitVec 32 := 1#32
  let arg6 : BitVec 32 := Scf.iv c0_i32 c1_i32 k0_t1
  let c128_i32 : BitVec 32 := 128#32
  let v3 : BitVec 32 := Scalar.muli arg6 c128_i32
  let v4 : BitVec 32 := v3
  let v108 : Index := Scalar.indexCast v4
  ![768, v108.toNat]
def k0_off10 (k0_t1 : Fin k0_t1_loop.trips) : Fin 2 → Nat :=
  let c768_26 : Index := 768#32
  let c0_i32 : BitVec 32 := 0#32
  let c1_i32 : BitVec 32 := 1#32
  let arg6 : BitVec 32 := Scf.iv c0_i32 c1_i32 k0_t1
  let c128_i32 : BitVec 32 := 128#32
  let v3 : BitVec 32 := Scalar.muli arg6 c128_i32
  let v4 : BitVec 32 := v3
  let v155 : Index := Scalar.indexCast v4
  ![768, v155.toNat]
def k0_off11 (k0_t1 : Fin k0_t1_loop.trips) : Fin 2 → Nat :=
  let c0_27 : Index := 0#32
  let c0_i32 : BitVec 32 := 0#32
  let c1_i32 : BitVec 32 := 1#32
  let arg6 : BitVec 32 := Scf.iv c0_i32 c1_i32 k0_t1
  let c128_i32 : BitVec 32 := 128#32
  let v3 : BitVec 32 := Scalar.muli arg6 c128_i32
  let v4 : BitVec 32 := v3
  let v158 : Index := Scalar.indexCast v4
  ![0, v158.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c128_i32 : BitVec 32 := 128#32
  let v1 : BitVec 32 := Scalar.muli v0 c128_i32
  let c1023_i32 : BitVec 32 := 1023#32
  let v2 : BitVec 32 := Scalar.minsi v1 c1023_i32
  let c0_i32 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ConvRefIdeal.lean ====
abbrev S8192x2816 : Shape := ⟨2, ![8192, 2816]⟩
abbrev S3x5632 : Shape := ⟨2, ![3, 5632]⟩
abbrev S_ : Shape := ⟨0, ![]⟩
abbrev S3x2816 : Shape := ⟨2, ![3, 2816]⟩
abbrev S2x2816 : Shape := ⟨2, ![2, 2816]⟩
abbrev S8194x2816 : Shape := ⟨2, ![8194, 2816]⟩
abbrev S1x2816 : Shape := ⟨2, ![1, 2816]⟩
abbrev S2816 : Shape := ⟨1, ![2816]⟩

abbrev nBuf : Space → Nat
  | .hbm => 51
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S3x5632, .f32⟩
  | .hbm, ⟨2, _⟩ => ⟨S8192x2816, .f32⟩
  | .hbm, ⟨3, _⟩ => ⟨S_, .f32⟩
  | .hbm, ⟨4, _⟩ => ⟨S8192x2816, .f32⟩
  | .hbm, ⟨5, _⟩ => ⟨S3x2816, .f32⟩
  | .hbm, ⟨6, _⟩ => ⟨S_, .f32⟩
  | .hbm, ⟨7, _⟩ => ⟨S2x2816, .f32⟩
  | .hbm, ⟨8, _⟩ => ⟨S8194x2816, .f32⟩
  | .hbm, ⟨9, _⟩ => ⟨S_, .f32⟩
  | .hbm, ⟨10, _⟩ => ⟨S2x2816, .f32⟩
  | .hbm, ⟨11, _⟩ => ⟨S1x2816, .f32⟩
  | .hbm, ⟨12, _⟩ => ⟨S2816, .f32⟩
  | .hbm, ⟨13, _⟩ => ⟨S8192x2816, .f32⟩
  | .hbm, ⟨14, _⟩ => ⟨S1x2816, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S1x2816, .f32⟩
  | .hbm, ⟨21, _⟩ => ⟨S2816, .f32⟩
  | .hbm, ⟨22, _⟩ => ⟨S8192x2816, .f32⟩
  | .hbm, ⟨23, _⟩ => ⟨S1x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S1x2816, .f32⟩
  | .hbm, ⟨28, _⟩ => ⟨S2816, .f32⟩
  | .hbm, ⟨29, _⟩ => ⟨S8192x2816, .f32⟩
  | .hbm, ⟨30, _⟩ => ⟨S1x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8194x2816, .f32⟩
  | .hbm, ⟨38, _⟩ => ⟨S8192x2816, .f32⟩
  | .hbm, ⟨39, _⟩ => ⟨S8192x2816, .f32⟩
  | .hbm, ⟨40, _⟩ => ⟨S_, .f32⟩
  | .hbm, ⟨41, _⟩ => ⟨S8194x2816, .f32⟩
  | .hbm, ⟨42, _⟩ => ⟨S8194x2816, .f32⟩
  | .hbm, ⟨43, _⟩ => ⟨S8192x2816, .f32⟩
  | .hbm, ⟨44, _⟩ => ⟨S8192x2816, .f32⟩
  | .hbm, ⟨45, _⟩ => ⟨S_, .f32⟩
  | .hbm, ⟨46, _⟩ => ⟨S8194x2816, .f32⟩
  | .hbm, ⟨47, _⟩ => ⟨S8194x2816, .f32⟩
  | .hbm, ⟨48, _⟩ => ⟨S2x2816, .f32⟩
  | .hbm, ⟨49, _⟩ => ⟨S8192x2816, .f32⟩
  | .hbm, ⟨50, _⟩ => ⟨S8192x2816, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_3 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_4 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_5 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩

abbrev nD : Nat := 1
abbrev τ : Topo := Topo.v7x

variable {F : FTy → Type} [FloatOps F]
-- ==== Up.lean ====
abbrev S8192x2816 : Shape := ⟨2, ![8192, 2816]⟩
abbrev S5632x1024 : Shape := ⟨2, ![5632, 1024]⟩
abbrev S8192x1024 : Shape := ⟨2, ![8192, 1024]⟩
abbrev S1x1024 : Shape := ⟨2, ![1, 1024]⟩
abbrev S256x2816 : Shape := ⟨2, ![256, 2816]⟩
abbrev S2816x1024 : Shape := ⟨2, ![2816, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 8
  | .vmem => 14
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S5632x1024, .bf16⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S2816x1024, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== UpRefIdeal.lean ====
abbrev S8192x2816 : Shape := ⟨2, ![8192, 2816]⟩
abbrev S5632x1024 : Shape := ⟨2, ![5632, 1024]⟩
abbrev S8192x1024 : Shape := ⟨2, ![8192, 1024]⟩
abbrev S1x1024 : Shape := ⟨2, ![1, 1024]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1024x5632 : Shape := ⟨2, ![1024, 5632]⟩
abbrev S1024 : Shape := ⟨1, ![1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S5632x1024, .bf16⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x2816, .f32⟩
  | .hbm, ⟨7, _⟩ => ⟨S8192x2816, .f32⟩
  | .hbm, ⟨8, _⟩ => ⟨S8192x5632, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S5632x1024, .f32⟩
  | .hbm, ⟨29, _⟩ => ⟨S1024x5632, .f32⟩
  | .hbm, ⟨30, _⟩ => ⟨S8192x5632, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Down.lean ====
abbrev S8192x2816 : Shape := ⟨2, ![8192, 2816]⟩
abbrev S8192x1024 : Shape := ⟨2, ![8192, 1024]⟩
abbrev S1x2816x1024 : Shape := ⟨3, ![1, 2816, 1024]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S1x2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DownRefIdeal.lean ====
abbrev S8192x2816 : Shape := ⟨2, ![8192, 2816]⟩
abbrev S8192x1024 : Shape := ⟨2, ![8192, 1024]⟩
abbrev S_ : Shape := ⟨0, ![]⟩
abbrev S1x2816x1024 : Shape := ⟨3, ![1, 2816, 1024]⟩
abbrev S2816x1024 : Shape := ⟨2, ![2816, 1024]⟩
abbrev S1024x2816 : Shape := ⟨2, ![1024, 2816]⟩

abbrev nBuf : Space → Nat
  | .hbm => 12
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S1x2816x1024, .f32⟩
  | .hbm, ⟨4, _⟩ => ⟨S8192x2816, .f32⟩
  | .hbm, ⟨5, _⟩ => ⟨S2816x1024, .f32⟩
  | .hbm, ⟨6, _⟩ => ⟨S8192x1024, .f32⟩
  | .hbm, ⟨7, _⟩ => ⟨S8192x1024, .f32⟩
  | .hbm, ⟨8, _⟩ => ⟨S1024x2816, .f32⟩
  | .hbm, ⟨9, _⟩ => ⟨S2816x1024, .f32⟩
  | .hbm, ⟨10, _⟩ => ⟨S1x2816x1024, .f32⟩
  | .hbm, ⟨11, _⟩ => ⟨S1x2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Gate.lean ====
abbrev S8192x5632 : Shape := ⟨2, ![8192, 5632]⟩
abbrev S8192x2816 : Shape := ⟨2, ![8192, 2816]⟩
abbrev S3x5632 : Shape := ⟨2, ![3, 5632]⟩
abbrev S1x5632 : Shape := ⟨2, ![1, 5632]⟩
abbrev S1x2816 : Shape := ⟨2, ![1, 2816]⟩
abbrev S3x2816 : Shape := ⟨2, ![3, 2816]⟩
abbrev S512x1408 : Shape := ⟨2, ![512, 1408]⟩
abbrev S8x1408 : Shape := ⟨2, ![8, 1408]⟩
abbrev S3x1408 : Shape := ⟨2, ![3, 1408]⟩
abbrev S1x1408 : Shape := ⟨2, ![1, 1408]⟩
abbrev S128x128 : Shape := ⟨2, ![128, 128]⟩
abbrev S8x128 : Shape := ⟨2, ![8, 128]⟩
abbrev S1x128 : Shape := ⟨2, ![1, 128]⟩
abbrev S120x128 : Shape := ⟨2, ![120, 128]⟩
abbrev S128 : Shape := ⟨1, ![128]⟩
abbrev S16x128 : Shape := ⟨2, ![16, 128]⟩

abbrev nBuf : Space → Nat
  | .hbm => 10
  | .vmem => 30
  | .smem => 0
  | _ => 0

abbrev bufTy : (tb : Table) → Fin (tcTables nBuf tb) → BufTy
  | .hbm, ⟨0, _⟩ => ⟨S8192x5632, .bf16⟩
  | .hbm, ⟨1, _⟩ => ⟨S8192x2816, .bf16⟩
  | .hbm, ⟨2, _⟩ => ⟨S3x5632, .f32⟩
  | .hbm, ⟨3, _⟩ => ⟨S1x5632, .f32⟩
  | .hbm, ⟨4, _⟩ => ⟨S8192x2816, .bf16⟩
  | .hbm, ⟨5, _⟩ => ⟨S8192x2816, .bf16⟩
  | .hbm, ⟨6, _⟩ => ⟨S1x2816, .f32⟩
  | .hbm, ⟨7, _⟩ => ⟨S1x2816, .f32⟩
  | .hbm, ⟨8, _⟩ => ⟨S3x2816, .f32⟩
  | .hbm, ⟨9, _⟩ => ⟨S3x2816, .f32⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S8x1408, .bf16⟩
  | .local _ .vmem, ⟨5, _⟩ => ⟨S8x1408, .bf16⟩
  | .local _ .vmem, ⟨6, _⟩ => ⟨S8x1408, .bf16⟩
  | .local _ .vmem, ⟨7, _⟩ => ⟨S8x1408, .bf16⟩
  | .local _ .vmem, ⟨8, _⟩ => ⟨S3x1408, .f32⟩
  | .local _ .vmem, ⟨9, _⟩ => ⟨S3x1408, .f32⟩
  | .local _ .vmem, ⟨10, _⟩ => ⟨S3x1408, .f32⟩
  | .local _ .vmem, ⟨11, _⟩ => ⟨S3x1408, .f32⟩
  | .local _ .vmem, ⟨12, _⟩ => ⟨S1x1408, .f32⟩
  | .local _ .vmem, ⟨13, _⟩ => ⟨S1x1408, .f32⟩
  | .local _ .vmem, ⟨14, _⟩ => ⟨S1x1408, .f32⟩
  | .local _ .vmem, ⟨15, _⟩ => ⟨S1x1408, .f32⟩
  | .local _ .vmem, ⟨16, _⟩ => ⟨S512x1408, .bf16⟩
  | .local _ .vmem, ⟨17, _⟩ => ⟨S512x1408, .bf16⟩
  | .local _ .vmem, ⟨18, _⟩ => ⟨S512x1408, .bf16⟩
  | .local _ .vmem, ⟨19, _⟩ => ⟨S512x1408, .bf16⟩
  | .local _ .vmem, ⟨20, _⟩ => ⟨S512x1408, .bf16⟩
  | .local _ .vmem, ⟨21, _⟩ => ⟨S512x1408, .bf16⟩
  | .local _ .vmem, ⟨22, _⟩ => ⟨S1x1408, .f32⟩
  | .local _ .vmem, ⟨23, _⟩ => ⟨S1x1408, .f32⟩
  | .local _ .vmem, ⟨24, _⟩ => ⟨S1x1408, .f32⟩
  | .local _ .vmem, ⟨25, _⟩ => ⟨S1x1408, .f32⟩
  | .local _ .vmem, ⟨26, _⟩ => ⟨S3x1408, .f32⟩
  | .local _ .vmem, ⟨27, _⟩ => ⟨S3x1408, .f32⟩
  | .local _ .vmem, ⟨28, _⟩ => ⟨S3x1408, .f32⟩
  | .local _ .vmem, ⟨29, _⟩ => ⟨S3x1408, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c11_i32 : BitVec 32 := 11#32
  let v3 : BitVec 32 := Scalar.addi c0_i32_1 c11_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg17 : BitVec 32 := Scf.iv c0_i32_1 c1_i32 k0_t1
  let c128_i32 : BitVec 32 := 128#32
  let v4 : BitVec 32 := Scalar.muli arg17 c128_i32
  v4
def k0_off1 (k0_t1 : Fin k0_t1_loop.trips) : Fin 2 → Nat :=
  let c0 : Index := 0#32
  let c0_i32_1 : BitVec 32 := 0#32
  let c1_i32 : BitVec 32 := 1#32
  let arg17 : BitVec 32 := Scf.iv c0_i32_1 c1_i32 k0_t1
  let c128_i32 : BitVec 32 := 128#32
  let v4 : BitVec 32 := Scalar.muli arg17 c128_i32
  let v5 : BitVec 32 := v4
  let v7 : Index := Scalar.indexCast v5
  ![0, v7.toNat]
def k0_off2 (k0_t1 : Fin k0_t1_loop.trips) : Fin 2 → Nat :=
  let c0_4 : Index := 0#32
  let c0_i32_1 : BitVec 32 := 0#32
  let c1_i32 : BitVec 32 := 1#32
  let arg17 : BitVec 32 := Scf.iv c0_i32_1 c1_i32 k0_t1
  let c128_i32 : BitVec 32 := 128#32
  let v4 : BitVec 32 := Scalar.muli arg17 c128_i32
  let v5 : BitVec 32 := v4
  let v10 : Index := Scalar.indexCast v5
  ![0, v10.toNat]
def k0_off3 (k0_t1 : Fin k0_t1_loop.trips) : Fin 2 → Nat :=
  let c0_10 : Index := 0#32
  let c0_i32_1 : BitVec 32 := 0#32
  let c1_i32 : BitVec 32 := 1#32
  let arg17 : BitVec 32 := Scf.iv c0_i32_1 c1_i32 k0_t1
  let c128_i32 : BitVec 32 := 128#32
  let v4 : BitVec 32 := Scalar.muli arg17 c128_i32
  let v5 : BitVec 32 := v4
  let v42 : Index := Scalar.indexCast v5
  ![0, v42.toNat]
def k0_off4 (k0_t1 : Fin k0_t1_loop.trips) : Fin 2 → Nat :=
  let c1 : Index := 1#32
  let c0_i32_1 : BitVec 32 := 0#32
  let c1_i32 : BitVec 32 := 1#32
  let arg17 : BitVec 32 := Scf.iv c0_i32_1 c1_i32 k0_t1
  let c128_i32 : BitVec 32 := 128#32
  let v4 : BitVec 32 := Scalar.muli arg17 c128_i32
  let v5 : BitVec 32 := v4
  let v46 : Index := Scalar.indexCast v5
  ![1, v46.toNat]
def k0_off5 (k0_t1 : Fin k0_t1_loop.trips) : Fin 2 → Nat :=
  let c2 : Index := 2#32
  let c0_i32_1 : BitVec 32 := 0#32
  let c1_i32 : BitVec 32 := 1#32
  let arg17 : BitVec 32 := Scf.iv c0_i32_1 c1_i32 k0_t1
  let c128_i32 : BitVec 32 := 128#32
  let v4 : BitVec 32 := Scalar.muli arg17 c128_i32
  let v5 : BitVec 32 := v4
  let v51 : Index := Scalar.indexCast v5
  ![2, v51.toNat]
def k0_off6 (k0_t1 : Fin k0_t1_loop.trips) : Fin 2 → Nat :=
  let c0_11 : Index := 0#32
  let c0_i32_1 : BitVec 32 := 0#32
  let c1_i32 : BitVec 32 := 1#32
  let arg17 : BitVec 32 := Scf.iv c0_i32_1 c1_i32 k0_t1
  let c128_i32 : BitVec 32 := 128#32
  let v4 : BitVec 32 := Scalar.muli arg17 c128_i32
  let v5 : BitVec 32 := v4
  let v56 : Index := Scalar.indexCast v5
  ![0, v56.toNat]
def k0_off7 (k0_t1 : Fin k0_t1_loop.trips) : Fin 2 → Nat :=
  let c128 : Index := 128#32
  let c0_i32_1 : BitVec 32 := 0#32
  let c1_i32 : BitVec 32 := 1#32
  let arg17 : BitVec 32 := Scf.iv c0_i32_1 c1_i32 k0_t1
  let c128_i32 : BitVec 32 := 128#32
  let v4 : BitVec 32 := Scalar.muli arg17 c128_i32
  let v5 : BitVec 32 := v4
  let v209 : Index := Scalar.indexCast v5
  ![128, v209.toNat]
def k0_off8 (k0_t1 : Fin k0_t1_loop.trips) : Fin 2 → Nat :=
  let c112 : Index := 112#32
  let c0_i32_1 : BitVec 32 := 0#32
  let c1_i32 : BitVec 32 := 1#32
  let arg17 : BitVec 32 := Scf.iv c0_i32_1 c1_i32 k0_t1
  let c128_i32 : BitVec 32 := 128#32
  let v4 : BitVec 32 := Scalar.muli arg17 c128_i32
  let v5 : BitVec 32 := v4
  let v212 : Index := Scalar.indexCast v5
  ![112, v212.toNat]
def k0_off9 (k0_t1 : Fin k0_t1_loop.trips) : Fin 2 → Nat :=
  let c256 : Index := 256#32
  let c0_i32_1 : BitVec 32 := 0#32
  let c1_i32 : BitVec 32 := 1#32
  let arg17 : BitVec 32 := Scf.iv c0_i32_1 c1_i32 k0_t1
  let c128_i32 : BitVec 32 := 128#32
  let v4 : BitVec 32 := Scalar.muli arg17 c128_i32
  let v5 : BitVec 32 := v4
  let v406 : Index := Scalar.indexCast v5
  ![256, v406.toNat]
def k0_off10 (k0_t1 : Fin k0_t1_loop.trips) : Fin 2 → Nat :=
  let c240 : Index := 240#32
  let c0_i32_1 : BitVec 32 := 0#32
  let c1_i32 : BitVec 32 := 1#32
  let arg17 : BitVec 32 := Scf.iv c0_i32_1 c1_i32 k0_t1
  let c128_i32 : BitVec 32 := 128#32
  let v4 : BitVec 32 := Scalar.muli arg17 c128_i32
  let v5 : BitVec 32 := v4
  let v409 : Index := Scalar.indexCast v5
  ![240, v409.toNat]
def k0_off11 (k0_t1 : Fin k0_t1_loop.trips) : Fin 2 → Nat :=
  let c384 : Index := 384#32
  let c0_i32_1 : BitVec 32 := 0#32
  let c1_i32 : BitVec 32 := 1#32
  let arg17 : BitVec 32 := Scf.iv c0_i32_1 c1_i32 k0_t1
  let c128_i32 : BitVec 32 := 128#32
  let v4 : BitVec 32 := Scalar.muli arg17 c128_i32
  let v5 : BitVec 32 := v4
  let v603 : Index := Scalar.indexCast v5
  ![384, v603.toNat]
def k0_off12 (k0_t1 : Fin k0_t1_loop.trips) : Fin 2 → Nat :=
  let c368 : Index := 368#32
  let c0_i32_1 : BitVec 32 := 0#32
  let c1_i32 : BitVec 32 := 1#32
  let arg17 : BitVec 32 := Scf.iv c0_i32_1 c1_i32 k0_t1
  let c128_i32 : BitVec 32 := 128#32
  let v4 : BitVec 32 := Scalar.muli arg17 c128_i32
  let v5 : BitVec 32 := v4
  let v606 : Index := Scalar.indexCast v5
  ![368, v606.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg0
  let c0_i32_1 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi c2_i32 arg0
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1408 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1408 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S3x1408 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S3x1408 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== GateRefIdeal.lean ====
abbrev S8192x5632 : Shape := ⟨2, ![8192, 5632]⟩
abbrev S8192x2816 : Shape := ⟨2, ![8192, 2816]⟩
abbrev S3x5632 : Shape := ⟨2, ![3, 5632]⟩
abbrev S1x5632 : Shape := ⟨2, ![1, 5632]⟩
abbrev S_ : Shape := ⟨0, ![]⟩
abbrev S2x5632 : Shape := ⟨2, ![2, 5632]⟩
abbrev S8194x5632 : Shape := ⟨2, ![8194, 5632]⟩
abbrev S5632 : Shape := ⟨1, ![5632]⟩
abbrev S1x2816 : Shape := ⟨2, ![1, 2816]⟩
abbrev S3x2816 : Shape := ⟨2, ![3, 2816]⟩

abbrev nBuf : Space → Nat
  | .hbm => 96
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2816, .bf16⟩
  | .hbm, ⟨2, _⟩ => ⟨S3x5632, .f32⟩
  | .hbm, ⟨3, _⟩ => ⟨S1x5632, .f32⟩
  | .hbm, ⟨4, _⟩ => ⟨S8192x5632, .f32⟩
  | .hbm, ⟨5, _⟩ => ⟨S_, .f32⟩
  | .hbm, ⟨6, _⟩ => ⟨S2x5632, .f32⟩
  | .hbm, ⟨7, _⟩ => ⟨S8194x5632, .f32⟩
  | .hbm, ⟨8, _⟩ => ⟨S1x5632, .f32⟩
  | .hbm, ⟨9, _⟩ => ⟨S5632, .f32⟩
  | .hbm, ⟨10, _⟩ => ⟨S8192x5632, .f32⟩
  | .hbm, ⟨11, _⟩ => ⟨S1x5632, .f32⟩
  | .hbm, ⟨12, _⟩ => ⟨S8192x5632, .f32⟩
  | .hbm, ⟨13, _⟩ => ⟨S8192x5632, .f32⟩
  | .hbm, ⟨14, _⟩ => ⟨S_, .f32⟩
  | .hbm, ⟨15, _⟩ => ⟨S8192x5632, .f32⟩
  | .hbm, ⟨16, _⟩ => ⟨S8192x5632, .f32⟩
  | .hbm, ⟨17, _⟩ => ⟨S1x5632, .f32⟩
  | .hbm, ⟨18, _⟩ => ⟨S5632, .f32⟩
  | .hbm, ⟨19, _⟩ => ⟨S8192x5632, .f32⟩
  | .hbm, ⟨20, _⟩ => ⟨S1x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S1x5632, .f32⟩
  | .hbm, ⟨25, _⟩ => ⟨S5632, .f32⟩
  | .hbm, ⟨26, _⟩ => ⟨S8192x5632, .f32⟩
  | .hbm, ⟨27, _⟩ => ⟨S1x5632, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S_, .f32⟩
  | .hbm, ⟨41, _⟩ => ⟨S8192x2816, .f32⟩
  | .hbm, ⟨42, _⟩ => ⟨S8192x2816, .f32⟩
  | .hbm, ⟨43, _⟩ => ⟨S_, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S8192x2816, .f32⟩
  | .hbm, ⟨56, _⟩ => ⟨S8192x5632, .f32⟩
  | .hbm, ⟨57, _⟩ => ⟨S_, .f32⟩
  | .hbm, ⟨58, _⟩ => ⟨S5632, .f32⟩
  | .hbm, ⟨59, _⟩ => ⟨S1x5632, .f32⟩
  | .hbm, ⟨60, _⟩ => ⟨S8192x5632, .f32⟩
  | .hbm, ⟨61, _⟩ => ⟨S_, .f32⟩
  | .hbm, ⟨62, _⟩ => ⟨S5632, .f32⟩
  | .hbm, ⟨63, _⟩ => ⟨S1x5632, .f32⟩
  | .hbm, ⟨64, _⟩ => ⟨S_, .f32⟩
  | .hbm, ⟨65, _⟩ => ⟨S5632, .f32⟩
  | .hbm, ⟨66, _⟩ => ⟨S1x5632, .f32⟩
  | .hbm, ⟨67, _⟩ => ⟨S_, .f32⟩
  | .hbm, ⟨68, _⟩ => ⟨S3x5632, .f32⟩
  | .hbm, ⟨69, _⟩ => ⟨S8192x5632, .f32⟩
  | .hbm, ⟨70, _⟩ => ⟨S_, .f32⟩
  | .hbm, ⟨71, _⟩ => ⟨S5632, .f32⟩
  | .hbm, ⟨72, _⟩ => ⟨S1x5632, .f32⟩
  | .hbm, ⟨73, _⟩ => ⟨S_, .f32⟩
  | .hbm, ⟨74, _⟩ => ⟨S5632, .f32⟩
  | .hbm, ⟨75, _⟩ => ⟨S1x5632, .f32⟩
  | .hbm, ⟨76, _⟩ => ⟨S_, .f32⟩
  | .hbm, ⟨77, _⟩ => ⟨S3x5632, .f32⟩
  | .hbm, ⟨78, _⟩ => ⟨S3x5632, .f32⟩
  | .hbm, ⟨79, _⟩ => ⟨S8192x5632, .f32⟩
  | .hbm, ⟨80, _⟩ => ⟨S_, .f32⟩
  | .hbm, ⟨81, _⟩ => ⟨S5632, .f32⟩
  | .hbm, ⟨82, _⟩ => ⟨S1x5632, .f32⟩
  | .hbm, ⟨83, _⟩ => ⟨S_, .f32⟩
  | .hbm, ⟨84, _⟩ => ⟨S5632, .f32⟩
  | .hbm, ⟨85, _⟩ => ⟨S1x5632, .f32⟩
  | .hbm, ⟨86, _⟩ => ⟨S_, .f32⟩
  | .hbm, ⟨87, _⟩ => ⟨S3x5632, .f32⟩
  | .hbm, ⟨88, _⟩ => ⟨S3x5632, .f32⟩
  | .hbm, ⟨89, _⟩ => ⟨S8192x5632, .bf16⟩
  | .hbm, ⟨90, _⟩ => ⟨S8192x2816, .bf16⟩
  | .hbm, ⟨91, _⟩ => ⟨S8192x2816, .bf16⟩
  | .hbm, ⟨92, _⟩ => ⟨S1x2816, .f32⟩
  | .hbm, ⟨93, _⟩ => ⟨S1x2816, .f32⟩
  | .hbm, ⟨94, _⟩ => ⟨S3x2816, .f32⟩
  | .hbm, ⟨95, _⟩ => ⟨S3x2816, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v29_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v29_1 : Ref sig .tc := ⟨.hbm, 46, rfl⟩
abbrev main_v29_0 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v34 : Ref sig .tc := ⟨.hbm, 55, rfl⟩
abbrev main_v35 : Ref sig .tc := ⟨.hbm, 56, rfl⟩
abbrev main_cst_1 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_2 : Ref sig .tc := ⟨.hbm, 61, rfl⟩
abbrev main_v39 : Ref sig .tc := ⟨.hbm, 62, rfl⟩
abbrev main_v40 : Ref sig .tc := ⟨.hbm, 63, rfl⟩
abbrev main_cst_3 : Ref sig .tc := ⟨.hbm, 64, rfl⟩
abbrev main_v41 : Ref sig .tc := ⟨.hbm, 65, rfl⟩
abbrev main_v42 : Ref sig .tc := ⟨.hbm, 66, rfl⟩
abbrev main_cst_4 : Ref sig .tc := ⟨.hbm, 67, rfl⟩
abbrev main_v43 : Ref sig .tc := ⟨.hbm, 68, rfl⟩
abbrev main_v44 : Ref sig .tc := ⟨.hbm, 69, rfl⟩
abbrev main_cst_5 : Ref sig .tc := ⟨.hbm, 70, rfl⟩
abbrev main_v45 : Ref sig .tc := ⟨.hbm, 71, rfl⟩
abbrev main_v46 : Ref sig .tc := ⟨.hbm, 72, rfl⟩
abbrev main_cst_6 : Ref sig .tc := ⟨.hbm, 73, rfl⟩
abbrev main_v47 : Ref sig .tc := ⟨.hbm, 74, rfl⟩
abbrev main_v48 : Ref sig .tc := ⟨.hbm, 75, rfl⟩
abbrev main_cst_7 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_8 : Ref sig .tc := ⟨.hbm, 80, rfl⟩
abbrev main_v52 : Ref sig .tc := ⟨.hbm, 81, rfl⟩
abbrev main_v53 : Ref sig .tc := ⟨.hbm, 82, rfl⟩
abbrev main_cst_9 : Ref sig .tc := ⟨.hbm, 83, rfl⟩
abbrev main_v54 : Ref sig .tc := ⟨.hbm, 84, rfl⟩
abbrev main_v55 : Ref sig .tc := ⟨.hbm, 85, rfl⟩
abbrev main_cst_10 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩

abbrev nD : Nat := 1
abbrev τ : Topo := Topo.v7x

variable {F : FTy → Type} [FloatOps F]
-- ==== DwUp.lean ====
abbrev S8192x2816 : Shape := ⟨2, ![8192, 2816]⟩
abbrev S8192x1024 : Shape := ⟨2, ![8192, 1024]⟩
abbrev S1x5632x1024 : Shape := ⟨3, ![1, 5632, 1024]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S1x5632x1024, .bf16⟩
  | .hbm, ⟨3, _⟩ => ⟨S1x5632x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  let c0_i32_1 : BitVec 32 := 0#32
  ![c0_i32.toNat, v0.toNat, c0_i32_0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwUpRefIdeal.lean ====
abbrev S8192x2816 : Shape := ⟨2, ![8192, 2816]⟩
abbrev S8192x1024 : Shape := ⟨2, ![8192, 1024]⟩
abbrev S1x5632x1024 : Shape := ⟨3, ![1, 5632, 1024]⟩
abbrev S_ : Shape := ⟨0, ![]⟩
abbrev S1x2816x1024 : Shape := ⟨3, ![1, 2816, 1024]⟩
abbrev S2816x1024 : Shape := ⟨2, ![2816, 1024]⟩
abbrev S1024x2816 : Shape := ⟨2, ![1024, 2816]⟩

abbrev nBuf : Space → Nat
  | .hbm => 17
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S1x5632x1024, .bf16⟩
  | .hbm, ⟨3, _⟩ => ⟨S_, .f32⟩
  | .hbm, ⟨4, _⟩ => ⟨S1x2816x1024, .f32⟩
  | .hbm, ⟨5, _⟩ => ⟨S8192x1024, .f32⟩
  | .hbm, ⟨6, _⟩ => ⟨S2816x1024, .f32⟩
  | .hbm, ⟨7, _⟩ => ⟨S1024x2816, .f32⟩
  | .hbm, ⟨8, _⟩ => ⟨S8192x2816, .f32⟩
  | .hbm, ⟨9, _⟩ => ⟨S8192x2816, .f32⟩
  | .hbm, ⟨10, _⟩ => ⟨S2816x1024, .f32⟩
  | .hbm, ⟨11, _⟩ => ⟨S1024x2816, .f32⟩
  | .hbm, ⟨12, _⟩ => ⟨S2816x1024, .f32⟩
  | .hbm, ⟨13, _⟩ => ⟨S1x2816x1024, .f32⟩
  | .hbm, ⟨14, _⟩ => ⟨S1x2816x1024, .bf16⟩
  | .hbm, ⟨15, _⟩ => ⟨S1x2816x1024, .bf16⟩
  | .hbm, ⟨16, _⟩ => ⟨S1x5632x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Dact.lean ====
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S512x2816 : Shape := ⟨2, ![512, 2816]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DactRefIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S_, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S8192x2816, .f32⟩
  | .hbm, ⟨8, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Post.lean ====
abbrev S8192x1024 : Shape := ⟨2, ![8192, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .bf16⟩
  | .hbm, ⟨4, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== PostRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 46
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== UpFwd.lean ====
abbrev S8192x1024 : Shape := ⟨2, ![8192, 1024]⟩
abbrev S1x1024 : Shape := ⟨2, ![1, 1024]⟩
abbrev S5632x1024 : Shape := ⟨2, ![5632, 1024]⟩
abbrev S8192x5632 : Shape := ⟨2, ![8192, 5632]⟩
abbrev S1024x1024 : Shape := ⟨2, ![1024, 1024]⟩
abbrev S1408x1024 : Shape := ⟨2, ![1408, 1024]⟩
abbrev S1024x1408 : Shape := ⟨2, ![1024, 1408]⟩
abbrev S1024 : Shape := ⟨1, ![1024]⟩
abbrev S1024x1 : Shape := ⟨2, ![1024, 1]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S5632x1024, .bf16⟩
  | .hbm, ⟨3, _⟩ => ⟨S8192x1024, .bf16⟩
  | .hbm, ⟨4, _⟩ => ⟨S8192x5632, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1408x1024, .bf16⟩
  | .local _ .vmem, ⟨4, _⟩ => ⟨S1408x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1408, .bf16⟩
  | .local _ .vmem, ⟨8, _⟩ => ⟨S1024x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== UpFwdRefIdeal.lean ====
abbrev S8192x1024 : Shape := ⟨2, ![8192, 1024]⟩
abbrev S1x1024 : Shape := ⟨2, ![1, 1024]⟩
abbrev S5632x1024 : Shape := ⟨2, ![5632, 1024]⟩
abbrev S_ : Shape := ⟨0, ![]⟩
abbrev S8192 : Shape := ⟨1, ![8192]⟩
abbrev S8192x1 : Shape := ⟨2, ![8192, 1]⟩
abbrev S1024x5632 : Shape := ⟨2, ![1024, 5632]⟩
abbrev S8192x5632 : Shape := ⟨2, ![8192, 5632]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S5632x1024, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S8192x1024, .f32⟩
  | .hbm, ⟨20, _⟩ => ⟨S5632x1024, .f32⟩
  | .hbm, ⟨21, _⟩ => ⟨S1024x5632, .f32⟩
  | .hbm, ⟨22, _⟩ => ⟨S8192x5632, .f32⟩
  | .hbm, ⟨23, _⟩ => ⟨S8192x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== DownFwd.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownFwdRefIdeal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 23
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x2816, .f32⟩
  | .hbm, ⟨5, _⟩ => ⟨S2816x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== AttnDx.lean ====
abbrev S8192x512 : Shape := ⟨2, ![8192, 512]⟩
abbrev S8192x1024 : Shape := ⟨2, ![8192, 1024]⟩
abbrev S4608x1024 : Shape := ⟨2, ![4608, 1024]⟩
abbrev S1x1024 : Shape := ⟨2, ![1, 1024]⟩
abbrev S256x512 : Shape := ⟨2, ![256, 512]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 12
  | .vmem => 35
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x512, .bf16⟩
  | .hbm, ⟨3, _⟩ => ⟨S8192x1024, .bf16⟩
  | .hbm, ⟨4, _⟩ => ⟨S8192x512, .bf16⟩
  | .hbm, ⟨5, _⟩ => ⟨S8192x1024, .bf16⟩
  | .hbm, ⟨6, _⟩ => ⟨S4608x1024, .bf16⟩
  | .hbm, ⟨7, _⟩ => ⟨S8192x1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S1x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S256x1024, .f32⟩
  | .local _ .vmem, ⟨28, _⟩ => ⟨S256x1024, .f32⟩
  | .local _ .vmem, ⟨29, _⟩ => ⟨S1x1024, .f32⟩
  | .local _ .vmem, ⟨30, _⟩ => ⟨S256x1024, .f32⟩
  | .local _ .vmem, ⟨31, _⟩ => ⟨S256x1024, .f32⟩
  | .local _ .vmem, ⟨32, _⟩ => ⟨S256x1024, .f32⟩
  | .local _ .vmem, ⟨33, _⟩ => ⟨S256x1024, .f32⟩
  | .local _ .vmem, ⟨34, _⟩ => ⟨S1x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem18_1 : DmaSem sig := 28
abbrev cc0_sem19_0 : DmaSem sig := 29
abbrev cc0_sem20_0 : DmaSem sig := 30
abbrev cc0_sem20_1 : DmaSem sig := 31
abbrev cc0_sem21_0 : DmaSem sig := 32
abbrev cc0_sem21_1 : DmaSem sig := 33
abbrev cc0_sem22_0 : DmaSem sig := 34

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat]

def cc0_transform_11 (i : grid0.Coords) : Fin 2 → Nat :=
  let arg0 : BitVec 32 := BitVec.ofNat 32 (i 0).val
  let c6_i32 : BitVec 32 := 6#32
  let c0_i32 : BitVec 32 := 0#32
  let c0_i32_0 : BitVec 32 := 0#32
  ![c6_i32.toNat, c0_i32.toNat]

def cc0_transform_12 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_13 (i : grid0.Coords) : Fin 2 → Nat :=
  let arg0 : BitVec 32 := BitVec.ofNat 32 (i 0).val
  let c4_i32 : BitVec 32 := 4#32
  let c0_i32 : BitVec 32 := 0#32
  let c0_i32_0 : BitVec 32 := 0#32
  ![c4_i32.toNat, c0_i32.toNat]

def cc0_transform_14 (i : grid0.Coords) : Fin 2 → Nat :=
  let arg0 : BitVec 32 := BitVec.ofNat 32 (i 0).val
  let c7_i32 : BitVec 32 := 7#32
  let c0_i32 : BitVec 32 := 0#32
  let c0_i32_0 : BitVec 32 := 0#32
  ![c7_i32.toNat, c0_i32.toNat]

def cc0_transform_15 (i : grid0.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc0_transform_16 (i : grid0.Coords) : Fin 2 → Nat :=
  let arg0 : BitVec 32 := BitVec.ofNat 32 (i 0).val
  let c5_i32 : BitVec 32 := 5#32
  let c0_i32 : BitVec 32 := 0#32
  let c0_i32_0 : BitVec 32 := 0#32
  ![c5_i32.toNat, c0_i32.toNat]

def cc0_transform_17 (i : grid0.Coords) : Fin 2 → Nat :=
  let arg0 : BitVec 32 := BitVec.ofNat 32 (i 0).val
  let c8_i32 : BitVec 32 := 8#32
  let c0_i32 : BitVec 32 := 0#32
  let c0_i32_0 : BitVec 32 := 0#32
  ![c8_i32.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== AttnDxRefIdeal.lean ====
abbrev S8192x512 : Shape := ⟨2, ![8192, 512]⟩
abbrev S8192x1024 : Shape := ⟨2, ![8192, 1024]⟩
abbrev S4608x1024 : Shape := ⟨2, ![4608, 1024]⟩
abbrev S1x1024 : Shape := ⟨2, ![1, 1024]⟩
abbrev S8192x4608 : Shape := ⟨2, ![8192, 4608]⟩
abbrev S_ : Shape := ⟨0, ![]⟩
abbrev S8192 : Shape := ⟨1, ![8192]⟩
abbrev S8192x1 : Shape := ⟨2, ![8192, 1]⟩
abbrev S1024x4608 : Shape := ⟨2, ![1024, 4608]⟩
abbrev S1024 : Shape := ⟨1, ![1024]⟩

abbrev nBuf : Space → Nat
  | .hbm => 65
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x512, .bf16⟩
  | .hbm, ⟨3, _⟩ => ⟨S8192x1024, .bf16⟩
  | .hbm, ⟨4, _⟩ => ⟨S8192x512, .bf16⟩
  | .hbm, ⟨5, _⟩ => ⟨S8192x1024, .bf16⟩
  | .hbm, ⟨6, _⟩ => ⟨S4608x1024, .bf16⟩
  | .hbm, ⟨7, _⟩ => ⟨S8192x1024, .f32⟩
  | .hbm, ⟨8, _⟩ => ⟨S1x1024, .f32⟩
  | .hbm, ⟨9, _⟩ => ⟨S8192x1024, .f32⟩
  | .hbm, ⟨10, _⟩ => ⟨S8192x512, .bf16⟩
  | .hbm, ⟨11, _⟩ => ⟨S8192x512, .bf16⟩
  | .hbm, ⟨12, _⟩ => ⟨S8192x512, .bf16⟩
  | .hbm, ⟨13, _⟩ => ⟨S8192x512, .bf16⟩
  | .hbm, ⟨14, _⟩ => ⟨S8192x512, .bf16⟩
  | .hbm, ⟨15, _⟩ => ⟨S8192x512, .bf16⟩
  | .hbm, ⟨16, _⟩ => ⟨S8192x4608, .bf16⟩
  | .hbm, ⟨17, _⟩ => ⟨S8192x4608, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S4608x1024, .f32⟩
  | .hbm, ⟨38, _⟩ => ⟨S1024x4608, .f32⟩
  | .hbm, ⟨39, _⟩ => ⟨S8192x4608, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S_, .f32⟩
  | .hbm, ⟨59, _⟩ => ⟨S8192, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩

abbrev nD : Nat := 1
abbrev τ : Topo := Topo.v7x

variable {F : FTy → Type} [FloatOps F]
-- ==== ConvDx.lean ====
abbrev S8192x2048 : Shape := ⟨2, ![8192, 2048]⟩
abbrev S2048x1024 : Shape := ⟨2, ![2048, 1024]⟩
abbrev S8192x1024 : Shape := ⟨2, ![8192, 1024]⟩
abbrev S1x1024 : Shape := ⟨2, ![1, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S256x2048, .bf16⟩
  | .local _ .vmem, ⟨1, _⟩ => ⟨S256x2048, .bf16⟩
  | .local _ .vmem, ⟨2, _⟩ => ⟨S2048x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ConvDxRefIdeal.lean ====
abbrev S8192x2048 : Shape := ⟨2, ![8192, 2048]⟩
abbrev S2048x1024 : Shape := ⟨2, ![2048, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024x2048 : Shape := ⟨2, ![1024, 2048]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S2048x1024, .f32⟩
  | .hbm, ⟨25, _⟩ => ⟨S1024x2048, .f32⟩
  | .hbm, ⟨26, _⟩ => ⟨S8192x2048, .f32⟩
  | .hbm, ⟨27, _⟩ => ⟨S8192x2048, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== DwUpU.lean ====
abbrev S8192x2816 : Shape := ⟨2, ![8192, 2816]⟩
abbrev S8192x1024 : Shape := ⟨2, ![8192, 1024]⟩
abbrev S1x5632x1024 : Shape := ⟨3, ![1, 5632, 1024]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩
abbrev S1x2816x1024 : Shape := ⟨3, ![1, 2816, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S1x5632x1024, .bf16⟩
  | .hbm, ⟨3, _⟩ => ⟨S1x2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwUpURefIdeal.lean ====
abbrev S8192x2816 : Shape := ⟨2, ![8192, 2816]⟩
abbrev S8192x1024 : Shape := ⟨2, ![8192, 1024]⟩
abbrev S_ : Shape := ⟨0, ![]⟩
abbrev S1x2816x1024 : Shape := ⟨3, ![1, 2816, 1024]⟩
abbrev S2816x1024 : Shape := ⟨2, ![2816, 1024]⟩
abbrev S1024x2816 : Shape := ⟨2, ![1024, 2816]⟩

abbrev nBuf : Space → Nat
  | .hbm => 14
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S1x2816x1024, .f32⟩
  | .hbm, ⟨4, _⟩ => ⟨S8192x1024, .f32⟩
  | .hbm, ⟨5, _⟩ => ⟨S2816x1024, .f32⟩
  | .hbm, ⟨6, _⟩ => ⟨S1024x2816, .f32⟩
  | .hbm, ⟨7, _⟩ => ⟨S8192x2816, .f32⟩
  | .hbm, ⟨8, _⟩ => ⟨S8192x2816, .f32⟩
  | .hbm, ⟨9, _⟩ => ⟨S2816x1024, .f32⟩
  | .hbm, ⟨10, _⟩ => ⟨S1024x2816, .f32⟩
  | .hbm, ⟨11, _⟩ => ⟨S2816x1024, .f32⟩
  | .hbm, ⟨12, _⟩ => ⟨S1x2816x1024, .f32⟩
  | .hbm, ⟨13, _⟩ => ⟨S1x2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== PwW.lean ====
abbrev S8192x2048 : Shape := ⟨2, ![8192, 2048]⟩
abbrev S8192x1024 : Shape := ⟨2, ![8192, 1024]⟩
abbrev S1x2048x1024 : Shape := ⟨3, ![1, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S1x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== PwWRefIdeal.lean ====
abbrev S8192x2048 : Shape := ⟨2, ![8192, 2048]⟩
abbrev S8192x1024 : Shape := ⟨2, ![8192, 1024]⟩
abbrev S_ : Shape := ⟨0, ![]⟩
abbrev S1x2048x1024 : Shape := ⟨3, ![1, 2048, 1024]⟩
abbrev S2048x1024 : Shape := ⟨2, ![2048, 1024]⟩
abbrev S1024x2048 : Shape := ⟨2, ![1024, 2048]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S_, .f32⟩
  | .hbm, ⟨3, _⟩ => ⟨S1x2048x1024, .f32⟩
  | .hbm, ⟨4, _⟩ => ⟨S8192x1024, .f32⟩
  | .hbm, ⟨5, _⟩ => ⟨S2048x1024, .f32⟩
  | .hbm, ⟨6, _⟩ => ⟨S1024x2048, .f32⟩
  | .hbm, ⟨7, _⟩ => ⟨S8192x2048, .f32⟩
  | .hbm, ⟨8, _⟩ => ⟨S8192x2048, .f32⟩
  | .hbm, ⟨9, _⟩ => ⟨S2048x1024, .f32⟩
  | .hbm, ⟨10, _⟩ => ⟨S1024x2048, .f32⟩
  | .hbm, ⟨11, _⟩ => ⟨S2048x1024, .f32⟩
  | .hbm, ⟨12, _⟩ => ⟨S1x2048x1024, .f32⟩
  | .hbm, ⟨13, _⟩ => ⟨S1x2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Proof.Common.lean ====
module

public import Idealize.ShloMosaic.Lib.ValueIdx
public import Idealize.ShloMosaic.PureOps.Ideal.Laws

@[expose] public section

namespace Cert.Common

open Idealize.ShloMosaic

/-- The zero offsets of a two-axis access. -/
theorem hz2 : (![0, 0] : Fin 2 → Nat) = fun _ => 0 := funext fun a => by fin_cases a <;> rfl

/-- The zero offsets of a three-axis access. -/
theorem hz3 : (![0, 0, 0] : Fin 3 → Nat) = fun _ => 0 := funext fun a => by fin_cases a <;> rfl

/-- A sum over the first `n + 1` blocks of `B` terms is the sum over the first `n` blocks plus the last block's. -/
theorem sum_block {M : Type} [AddCommMonoid M] (f : ℕ → M) (B n : ℕ) :
    ∑ k ∈ Finset.range (B * (n + 1)), f k = ∑ k ∈ Finset.range (B * n), f k + ∑ k : Fin B, f (B * n + k.val) := by
  rw [Nat.mul_succ, Finset.sum_range_add]
  congr 1
  exact Finset.sum_range _

/-- An index of a two-axis shape is fixed by the values of its coordinates. -/
theorem idx2_ext {n : Fin 2 → ℕ} (i j : (a : Fin 2) → Fin (n a)) (h0 : (i 0).val = (j 0).val) (h1 : (i 1).val = (j 1).val) :
    i = j := by
  funext a
  apply Fin.ext
  match a with
  | ⟨0, _⟩ => exact h0
  | ⟨1, _⟩ => exact h1

end Cert.Common
-- ==== Proof.ConvVal.lean ====
module

public import proofs.«01_k».proof.Proof.Common
public import proofs.«01_k».proof.Proof.Gen.ConvIdeal.Value
public import proofs.«01_k».proof.Proof.Gen.ConvRefIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ConvIdeal.Val

open Cert.ConvIdeal Cert.ConvIdeal.Gen Cert.Common

/-- The row after `p`: of the chunk, or the next chunk's first at the end. -/
def nxt1 (x : Fin 256 → EReal) (n0 : EReal) (p : Fin 256) : EReal := if h : p.val + 1 < 256 then x ⟨p.val + 1, h⟩ else n0

/-- The second row after `p`. -/
def nxt2 (x : Fin 256 → EReal) (n0 n1 : EReal) (p : Fin 256) : EReal :=
  if h : p.val + 2 < 256 then x ⟨p.val + 2, h⟩ else if p.val = 254 then n0 else n1

/-- A widened block is itself. -/
theorem pay3_apply (x : Vec Ideal S256x128 .bf16) (p : Fin 256) (l : Fin 128) : k0_pay3 (F := Ideal) x (ix2 p l) = x (ix2 p l) := by
  unfold k0_pay3
  pointwise

/-- The first row of the next rows. -/
theorem pay5_apply (n : Vec Ideal S16x128 .bf16) (z : Fin 1) (l : Fin 128) : k0_pay5 (F := Ideal) n (ix2 z l) = n (ix2 0 l) := by
  unfold k0_pay5 k0_pay4
  pointwise

/-- A widened block is itself. -/
theorem pay9_apply (x : Vec Ideal S256x128 .bf16) (p : Fin 256) (l : Fin 128) : k0_pay9 (F := Ideal) x (ix2 p l) = x (ix2 p l) := by
  unfold k0_pay9
  pointwise

/-- The first row of the next rows. -/
theorem pay11_apply (n : Vec Ideal S16x128 .bf16) (z : Fin 1) (l : Fin 128) : k0_pay11 (F := Ideal) n (ix2 z l) = n (ix2 0 l) := by
  unfold k0_pay11 k0_pay10
  pointwise

/-- A widened block is itself. -/
theorem pay15_apply (x : Vec Ideal S256x128 .bf16) (p : Fin 256) (l : Fin 128) : k0_pay15 (F := Ideal) x (ix2 p l) = x (ix2 p l) := by
  unfold k0_pay15
  pointwise

/-- The first row of the next rows. -/
theorem pay17_apply (n : Vec Ideal S16x128 .bf16) (z : Fin 1) (l : Fin 128) : k0_pay17 (F := Ideal) n (ix2 z l) = n (ix2 0 l) := by
  unfold k0_pay17 k0_pay16
  pointwise

/-- A widened block is itself. -/
theorem pay21_apply (x : Vec Ideal S256x128 .bf16) (p : Fin 256) (l : Fin 128) : k0_pay21 (F := Ideal) x (ix2 p l) = x (ix2 p l) := by
  unfold k0_pay21
  pointwise

/-- The next block's rows, scaled. -/
theorem pay22_apply (v : EReal) (n : Vec Ideal S8x128 .bf16) (z : Fin 8) (l : Fin 128) :
    k0_pay22 (F := Ideal) v n (ix2 z l) = (n (ix2 z l) * v : EReal) := by
  unfold k0_pay22
  pointwise

/-- Their first row, scaled. -/
theorem pay23_apply (v : EReal) (n : Vec Ideal S8x128 .bf16) (z : Fin 1) (l : Fin 128) :
    k0_pay23 (F := Ideal) v n (ix2 z l) = (n (ix2 0 l) * v : EReal) := by
  unfold k0_pay23
  pointwise [pay22_apply]

/-- The last of eight rows is picked out by its number. -/
theorem sel7 (q : Fin 8) (a b : EReal) :
    Scalar.select (IntOp.cmpi CmpIPredicate.eq (BitVec.ofNat 32 q.val) 7#32) a b = if q.val = 7 then a else b := by
  have h : ∀ q : Fin 8, IntOp.cmpi CmpIPredicate.eq (BitVec.ofNat 32 q.val) 7#32 = if q.val = 7 then 1#1 else 0#1 := by decide
  rw [h q]
  split <;> rfl

/-- … and the one before it. -/
theorem sel6 (q : Fin 8) (a b : EReal) :
    Scalar.select (IntOp.cmpi CmpIPredicate.eq (BitVec.ofNat 32 q.val) 6#32) a b = if q.val = 6 then a else b := by
  have h : ∀ q : Fin 8, IntOp.cmpi CmpIPredicate.eq (BitVec.ofNat 32 q.val) 6#32 = if q.val = 6 then 1#1 else 0#1 := by decide
  rw [h q]
  split <;> rfl

/-- A rotation by one row with the last row replaced, as the kernel spells it, is the row after. -/
theorem nxt1_eq (x : Fin 256 → EReal) (n0 : EReal) (p : Fin 256) (h1 : (p.val + 256 - 255) % 256 < 256)
    (h2 : (248 + (p.val - 248) + 256 - 255) % 256 < 256) :
    (if h : p.val < 248 then x ⟨(p.val + 256 - 255) % 256, h1⟩
      else Scalar.select (IntOp.cmpi CmpIPredicate.eq (BitVec.ofNat 32 (p.val - 248)) 7#32) n0
        (x ⟨(248 + (p.val - 248) + 256 - 255) % 256, h2⟩)) = nxt1 x n0 p := by
  have hp := p.isLt
  unfold nxt1
  by_cases h : p.val < 248
  · rw [dif_pos h, dif_pos (by omega)]
    exact congrArg x (Fin.ext (by dsimp only; omega))
  · rw [dif_neg h, sel7 ⟨p.val - 248, by omega⟩]
    dsimp only
    by_cases h' : p.val - 248 = 7
    · rw [if_pos h', dif_neg (by omega)]
    · rw [if_neg h', dif_pos (by omega)]
      exact congrArg x (Fin.ext (by dsimp only; omega))

/-- A rotation by two rows with the last two rows replaced is the second row after. -/
theorem nxt2_eq (x : Fin 256 → EReal) (n0 n1 : EReal) (p : Fin 256) (h1 : (p.val + 256 - 254) % 256 < 256)
    (h2 : (248 + (p.val - 248) + 256 - 254) % 256 < 256) :
    (if h : p.val < 248 then x ⟨(p.val + 256 - 254) % 256, h1⟩
      else Scalar.select (IntOp.cmpi CmpIPredicate.eq (BitVec.ofNat 32 (p.val - 248)) 7#32) n1
        (Scalar.select (IntOp.cmpi CmpIPredicate.eq (BitVec.ofNat 32 (p.val - 248)) 6#32) n0
          (x ⟨(248 + (p.val - 248) + 256 - 254) % 256, h2⟩))) = nxt2 x n0 n1 p := by
  have hp := p.isLt
  unfold nxt2
  by_cases h : p.val < 248
  · rw [dif_pos h, dif_pos (by omega)]
    exact congrArg x (Fin.ext (by dsimp only; omega))
  · rw [dif_neg h, sel7 ⟨p.val - 248, by omega⟩, sel6 ⟨p.val - 248, by omega⟩]
    dsimp only
    by_cases h' : p.val - 248 = 7
    · rw [if_pos h', dif_neg (by omega), if_neg (by omega)]
    · rw [if_neg h']
      by_cases h'' : p.val - 248 = 6
      · rw [if_pos h'', dif_neg (by omega), if_pos (by omega)]
      · rw [if_neg h'', dif_pos (by omega)]
        exact congrArg x (Fin.ext (by dsimp only; omega))

/-- The three taps at a row of a chunk, the rows past its end given. -/
def chunk (x : Fin 256 → EReal) (n0 n1 w2 w1 w0 : EReal) (p : Fin 256) : EReal :=
  w2 * x p + w1 * nxt1 x n0 p + w0 * nxt2 x n0 n1 p

/-- The first chunk's store. -/
theorem chunk1 (x : Vec Ideal S256x128 .bf16) (n : Vec Ideal S16x128 .bf16) (w2 w1 w0 : Vec Ideal S1x128 .f32) (p : Fin 256) (l : Fin 128) :
    k0_pay8 (F := Ideal) (k0_pay6 x n w2 w1) (k0_pay7 x n w0) (ix2 p l)
      = chunk (fun p => x (ix2 p l)) (n (ix2 0 l)) (n (ix2 1 l)) (w2 (ix2 0 l)) (w1 (ix2 0 l)) (w0 (ix2 0 l)) p := by
  unfold k0_pay8 k0_pay6 k0_pay7 k0_pay4 chunk
  pointwise [pay3_apply, pay5_apply]
  rw [← nxt1_eq _ _ _ (by omega) (by omega), ← nxt2_eq _ _ _ _ (by omega) (by omega)]

/-- The second chunk's store. -/
theorem chunk2 (x : Vec Ideal S256x128 .bf16) (n : Vec Ideal S16x128 .bf16) (w2 w1 w0 : Vec Ideal S1x128 .f32) (p : Fin 256) (l : Fin 128) :
    k0_pay14 (F := Ideal) (k0_pay12 x n) (k0_pay13 x n w2 w1) w0 (ix2 p l)
      = chunk (fun p => x (ix2 p l)) (n (ix2 0 l)) (n (ix2 1 l)) (w2 (ix2 0 l)) (w1 (ix2 0 l)) (w0 (ix2 0 l)) p := by
  unfold k0_pay14 k0_pay12 k0_pay13 k0_pay10 chunk
  pointwise [pay9_apply, pay11_apply]
  rw [← nxt1_eq _ _ _ (by omega) (by omega), ← nxt2_eq _ _ _ _ (by omega) (by omega)]

/-- The third chunk's store. -/
theorem chunk3 (x : Vec Ideal S256x128 .bf16) (n : Vec Ideal S16x128 .bf16) (w2 w1 w0 : Vec Ideal S1x128 .f32) (p : Fin 256) (l : Fin 128) :
    k0_pay20 (F := Ideal) (k0_pay18 x n) (k0_pay19 x n w2 w1) w0 (ix2 p l)
      = chunk (fun p => x (ix2 p l)) (n (ix2 0 l)) (n (ix2 1 l)) (w2 (ix2 0 l)) (w1 (ix2 0 l)) (w0 (ix2 0 l)) p := by
  unfold k0_pay20 k0_pay18 k0_pay19 k0_pay16 chunk
  pointwise [pay15_apply, pay17_apply]
  rw [← nxt1_eq _ _ _ (by omega) (by omega), ← nxt2_eq _ _ _ _ (by omega) (by omega)]

/-- The last chunk's store: the rows past its end come from the halo, scaled by `v`. -/
theorem chunk4 (v : EReal) (x : Vec Ideal S256x128 .bf16) (n : Vec Ideal S8x128 .bf16) (w2 w1 w0 : Vec Ideal S1x128 .f32) (p : Fin 256) (l : Fin 128) :
    k0_pay2 (F := Ideal) (k0_pay24 v x n) (k0_pay25 v x n) (k0_pay26 x w2) (k0_pay27 w1) w0 (ix2 p l)
      = chunk (fun p => x (ix2 p l)) (n (ix2 0 l) * v : EReal) (n (ix2 1 l) * v : EReal) (w2 (ix2 0 l)) (w1 (ix2 0 l)) (w0 (ix2 0 l)) p := by
  unfold k0_pay2 k0_pay24 k0_pay25 k0_pay26 k0_pay27 chunk
  pointwise [pay21_apply, pay22_apply, pay23_apply]
  rw [← nxt1_eq _ _ _ (by omega) (by omega), ← nxt2_eq _ _ _ _ (by omega) (by omega)]

/-- A matrix read at numbers, zero past its end. -/
def rd {a b : ℕ} (X : Fin a → Fin b → EReal) (r l : ℕ) : EReal := if h : r < a ∧ l < b then X ⟨r, h.1⟩ ⟨l, h.2⟩ else 0

/-- The block's rows followed by the halo's scaled rows. -/
def col (x0 : Vec Ideal S1024x1408 .bf16) (x1 : Vec Ideal S8x1408 .bf16) (v : EReal) (l r : ℕ) : EReal :=
  if r < 1024 then rd (fun r l => x0 (ix2 r l)) r l else rd (fun r l => x1 (ix2 r l)) (r - 1024) l * v

/-- The three taps over a column. -/
def taps (f w : ℕ → EReal) (r : ℕ) : EReal := w 2 * f r + w 1 * f (r + 1) + w 0 * f (r + 2)

/-- The block of the result: the three taps along the rows. -/
def blk (x0 : Vec Ideal S1024x1408 .bf16) (x1 : Vec Ideal S8x1408 .bf16) (x2 : Vec Ideal S3x1408 .f32) (v : EReal) : Vec Ideal S1024x1408 .bf16 :=
  fun i => taps (col x0 x1 v (i 1).val) (fun k => rd (fun r l => x2 (ix2 r l)) k (i 1).val) (i 0).val

/-- A chunk starting at row `a` of a column holds the column's taps. -/
theorem chunk_taps (f w : ℕ → EReal) (a : ℕ) (p : Fin 256) :
    chunk (fun p => f (a + p.val)) (f (a + 256)) (f (a + 257)) (w 2) (w 1) (w 0) p = taps f w (a + p.val) := by
  have hp := p.isLt
  have e1 : nxt1 (fun p : Fin 256 => f (a + p.val)) (f (a + 256)) p = f (a + p.val + 1) := by
    unfold nxt1
    split
    · rfl
    · exact congrArg f (by omega)
  have e2 : nxt2 (fun p : Fin 256 => f (a + p.val)) (f (a + 256)) (f (a + 257)) p = f (a + p.val + 2) := by
    unfold nxt2
    split
    · rfl
    · split
      · exact congrArg f (by omega)
      · exact congrArg f (by omega)
  unfold chunk taps
  rw [e1, e2]

/-- A load of a rectangle of a matrix reads it at the rectangle's place. -/
theorem ld_at {e : EltTy} {M N m n : ℕ} (X : (⟨2, ![M, N]⟩ : Shape).Idx → Elt Ideal e) (off : Fin 2 → ℕ) (a b : ℕ) (h : off = ![a, b]) (inb)
    (p : Fin m) (l : Fin n) (h0 : a + p.val < M) (h1 : b + l.val < N) :
    View.ld X (Rect.unit (s := ⟨2, ![M, N]⟩) off ![m, n] inb) (ix2 p l) = X (ix2 ⟨a + p.val, h0⟩ ⟨b + l.val, h1⟩) := by
  subst h
  refine View.ld_unit_apply_of X _ _ inb _ _ fun x => ?_
  match x with
  | ⟨0, _⟩ => rfl
  | ⟨1, _⟩ => rfl

/-- The same for a block of the gradient. -/
theorem ld_rdb {M N m n : ℕ} (X : Vec Ideal ⟨2, ![M, N]⟩ .bf16) (off : Fin 2 → ℕ) (a b : ℕ) (h : off = ![a, b]) (inb)
    (p : Fin m) (l : Fin n) :
    @Eq EReal (View.ld X (Rect.unit (s := ⟨2, ![M, N]⟩) off ![m, n] inb) (ix2 p l))
      (rd (fun r l => X (ix2 r l)) (a + p.val) (b + l.val)) := by
  have h0 : a + m ≤ M := by have := inb 0; subst h; exact this
  have h1 : b + n ≤ N := by have := inb 1; subst h; exact this
  have := p.isLt
  have := l.isLt
  rw [rd, dif_pos ⟨by omega, by omega⟩]
  exact ld_at X off a b h inb p l (by omega) (by omega)

/-- The same for the taps. -/
theorem ld_rdf {M N m n : ℕ} (X : Vec Ideal ⟨2, ![M, N]⟩ .f32) (off : Fin 2 → ℕ) (a b : ℕ) (h : off = ![a, b]) (inb)
    (p : Fin m) (l : Fin n) :
    @Eq EReal (View.ld X (Rect.unit (s := ⟨2, ![M, N]⟩) off ![m, n] inb) (ix2 p l))
      (rd (fun r l => X (ix2 r l)) (a + p.val) (b + l.val)) := by
  have h0 : a + m ≤ M := by have := inb 0; subst h; exact this
  have h1 : b + n ≤ N := by have := inb 1; subst h; exact this
  have := p.isLt
  have := l.isLt
  rw [rd, dif_pos ⟨by omega, by omega⟩]
  exact ld_at X off a b h inb p l (by omega) (by omega)

/-- An index of a chunk is a row and a lane. -/
theorem idx_cases (x : S256x128.Idx) : ∃ (p : Fin 256) (l : Fin 128), x = ix2 p l :=
  ⟨x 0, x 1, by
    funext a
    match a with
    | ⟨0, _⟩ => rfl
    | ⟨1, _⟩ => rfl⟩

/-- A chunk's taps are the block's at the chunk's place. -/
theorem chunk_blk (x0 : Vec Ideal S1024x1408 .bf16) (x1 : Vec Ideal S8x1408 .bf16) (x2 : Vec Ideal S3x1408 .f32) (v : EReal)
    (off : Fin 2 → ℕ) (a b : ℕ) (h : off = ![a, b]) (inb) (p : Fin 256) (l : Fin 128) (x : Fin 256 → EReal) (n0 n1 w2 w1 w0 : EReal)
    (hx : ∀ q : Fin 256, x q = rd (fun r l => x0 (ix2 r l)) (a + q.val) (b + l.val))
    (hn0 : n0 = col x0 x1 v (b + l.val) (a + 256)) (hn1 : n1 = col x0 x1 v (b + l.val) (a + 257))
    (hw2 : w2 = rd (fun r l => x2 (ix2 r l)) 2 (b + l.val)) (hw1 : w1 = rd (fun r l => x2 (ix2 r l)) 1 (b + l.val))
    (hw0 : w0 = rd (fun r l => x2 (ix2 r l)) 0 (b + l.val)) :
    chunk x n0 n1 w2 w1 w0 p = blk x0 x1 x2 v ((Rect.unit (s := S1024x1408) off ![256, 128] inb).emb (ix2 p l)) := by
  subst h
  have ha : a + 256 ≤ 1024 := inb 0
  have hx' : x = fun q : Fin 256 => col x0 x1 v (b + l.val) (a + q.val) := by
    funext q
    rw [hx q, col, if_pos (by have := q.isLt; omega)]
  rw [hx', hn0, hn1, hw2, hw1, hw0]
  refine (chunk_taps (col x0 x1 v (b + l.val)) (fun k => rd (fun r l => x2 (ix2 r l)) k (b + l.val)) a p).trans ?_
  unfold blk
  have e0 : ((Rect.unit (s := S1024x1408) ![a, b] ![256, 128] inb).emb (ix2 p l) 0).val = a + p.val := by
    show a + 1 * p.val = _; omega
  have e1 : ((Rect.unit (s := S1024x1408) ![a, b] ![256, 128] inb).emb (ix2 p l) 1).val = b + l.val := by
    show b + 1 * l.val = _; omega
  rw [e0, e1]

variable (𝒱 : Variants) (c : Dev nD) (bd : Option 𝒱.V) (i : grid0.Coords) (arg2 : Memref sig .tc .vmem S1024x1408 .bf16) (harg2 : arg2.IsWhole) (arg3 : Memref sig .tc .vmem S8x1408 .bf16) (harg3 : arg3.IsWhole) (arg4 : Memref sig .tc .vmem S3x1408 .f32) (harg4 : arg4.IsWhole) (arg5 : Memref sig .tc .vmem S1024x1408 .bf16) (harg5 : arg5.IsWhole)
    (x0 : Vec Ideal S1024x1408 .bf16) (x1 : Vec Ideal S8x1408 .bf16) (x2 : Vec Ideal S3x1408 .f32)

/-- Every store of a trip agrees with the block. -/
theorem trip_good (k : Fin k0_t1_loop.trips) : ∀ p ∈ tripL_k0_t1 (F := Ideal) 𝒱 c bd i arg2 harg2 arg3 harg3 arg4 harg4 arg5 harg5
      (harg2.unread x0) (harg3.unread x1) (harg4.unread x2) k, ∀ x : p.1.shape.Idx, p.2 x = blk x0 x1 x2 (k0_pay1 (F := Ideal) i) (p.1.emb x) := by
  unfold tripL_k0_t1 trip_k0_t1
  dsimp only
  sl_unfold_words
  simp only [View.readAt_eq_ld, harg2.read_unread, harg3.read_unread, harg4.read_unread]
  intro p hp
  simp only [List.mem_cons, List.not_mem_nil, or_false] at hp
  rcases hp with rfl | rfl | rfl | rfl
  · intro x
    obtain ⟨p, l, rfl⟩ := idx_cases x
    refine (chunk4 ..).trans (chunk_blk x0 x1 x2 _ _ 768 (128 * k.val) (k0_off10_eq k) (k0_off10_inb k) p l _ _ _ _ _ _
      (fun q => ld_rdb x0 _ _ _ (k0_off10_eq k) _ q l) ?_ ?_ (ld_rdf x2 _ 2 _ (k0_off3_eq k) _ 0 l) (ld_rdf x2 _ 1 _ (k0_off4_eq k) _ 0 l)
      (ld_rdf x2 _ 0 _ (k0_off5_eq k) _ 0 l))
    · rw [col, if_neg (by norm_num)]
      exact congrArg (· * k0_pay1 (F := Ideal) i) (ld_rdb x1 _ 0 (128 * k.val) (k0_off11_eq k) (k0_off11_inb k) 0 l)
    · rw [col, if_neg (by norm_num)]
      exact congrArg (· * k0_pay1 (F := Ideal) i) (ld_rdb x1 _ 0 (128 * k.val) (k0_off11_eq k) (k0_off11_inb k) 1 l)
  · intro x
    obtain ⟨p, l, rfl⟩ := idx_cases x
    refine (chunk3 ..).trans (chunk_blk x0 x1 x2 _ _ 512 (128 * k.val) (k0_off8_eq k) (k0_off8_inb k) p l _ _ _ _ _ _
      (fun q => ld_rdb x0 _ _ _ (k0_off8_eq k) _ q l) ?_ ?_ (ld_rdf x2 _ 2 _ (k0_off3_eq k) _ 0 l) (ld_rdf x2 _ 1 _ (k0_off4_eq k) _ 0 l)
      (ld_rdf x2 _ 0 _ (k0_off5_eq k) _ 0 l))
    · refine (ld_rdb x0 _ 768 (128 * k.val) (k0_off9_eq k) (k0_off9_inb k) 0 l).trans ?_
      rw [col, if_pos (by norm_num)]
      rfl
    · refine (ld_rdb x0 _ 768 (128 * k.val) (k0_off9_eq k) (k0_off9_inb k) 1 l).trans ?_
      rw [col, if_pos (by norm_num)]
      rfl
  · intro x
    obtain ⟨p, l, rfl⟩ := idx_cases x
    refine (chunk2 ..).trans (chunk_blk x0 x1 x2 _ _ 256 (128 * k.val) (k0_off6_eq k) (k0_off6_inb k) p l _ _ _ _ _ _
      (fun q => ld_rdb x0 _ _ _ (k0_off6_eq k) _ q l) ?_ ?_ (ld_rdf x2 _ 2 _ (k0_off3_eq k) _ 0 l) (ld_rdf x2 _ 1 _ (k0_off4_eq k) _ 0 l)
      (ld_rdf x2 _ 0 _ (k0_off5_eq k) _ 0 l))
    · refine (ld_rdb x0 _ 512 (128 * k.val) (k0_off7_eq k) (k0_off7_inb k) 0 l).trans ?_
      rw [col, if_pos (by norm_num)]
      rfl
    · refine (ld_rdb x0 _ 512 (128 * k.val) (k0_off7_eq k) (k0_off7_inb k) 1 l).trans ?_
      rw [col, if_pos (by norm_num)]
      rfl
  · intro x
    obtain ⟨p, l, rfl⟩ := idx_cases x
    refine (chunk1 ..).trans (chunk_blk x0 x1 x2 _ _ 0 (128 * k.val) (k0_off1_eq k) (k0_off1_inb k) p l _ _ _ _ _ _
      (fun q => ld_rdb x0 _ _ _ (k0_off1_eq k) _ q l) ?_ ?_ (ld_rdf x2 _ 2 _ (k0_off3_eq k) _ 0 l) (ld_rdf x2 _ 1 _ (k0_off4_eq k) _ 0 l)
      (ld_rdf x2 _ 0 _ (k0_off5_eq k) _ 0 l))
    · refine (ld_rdb x0 _ 256 (128 * k.val) (k0_off2_eq k) (k0_off2_inb k) 0 l).trans ?_
      rw [col, if_pos (by norm_num)]
      rfl
    · refine (ld_rdb x0 _ 256 (128 * k.val) (k0_off2_eq k) (k0_off2_inb k) 1 l).trans ?_
      rw [col, if_pos (by norm_num)]
      rfl

/-- Every store of the loop's trips agrees with the block. -/
theorem loop_good : ∀ n : ℕ, ∀ p ∈ pb_k0_t1 (F := Ideal) 𝒱 c bd i arg2 harg2 arg3 harg3 arg4 harg4 arg5 harg5
      (harg2.unread x0) (harg3.unread x1) (harg4.unread x2) n, ∀ x : p.1.shape.Idx, p.2 x = blk x0 x1 x2 (k0_pay1 (F := Ideal) i) (p.1.emb x)
  | 0 => fun p hp => absurd hp List.not_mem_nil
  | n + 1 => by
    intro p hp
    rw [pb_k0_t1.eq_2] at hp
    unfold pb_k0_t1Step at hp
    split at hp
    · rcases List.mem_append.mp hp with h | h
      · exact trip_good 𝒱 c bd i arg2 harg2 arg3 harg3 arg4 harg4 arg5 harg5 x0 x1 x2 _ p h
      · exact loop_good n p h
    · exact loop_good n p hp

/-- What a point leaves in the result's block. -/
theorem out_eq : out0_A_3 (F := Ideal) c i arg2 harg2 arg3 harg3 arg4 harg4 arg5 harg5 x0 x1 x2 = blk x0 x1 x2 (k0_pay1 (F := Ideal) i) := by
  funext y
  unfold out0_A_3
  refine View.read_writes_apply_of_pieces _ _ (blk x0 x1 x2 (k0_pay1 (F := Ideal) i)) _ ?_ y
    (cover0_A_3 c i arg2 harg2 arg3 harg3 arg4 harg4 arg5 harg5 x0 x1 x2 y)
  unfold kernelRun0_A
  exact loop_good _ c _ i arg2 harg2 arg3 harg3 arg4 harg4 arg5 harg5 x0 x1 x2 _

/-- A column of the gradient's array; zero past its end. -/
def acol (x0 : Vec Ideal S8192x2816 .bf16) (q : Fin 2816) (r : ℕ) : EReal := if h : r < 8192 then x0 (ix2 ⟨r, h⟩ q) else 0

open Cert.ConvRefIdeal Cert.ConvRefIdeal.Gen Cert.ConvRefIdeal.Read in
/-- The reference's result: the three taps along the rows. -/
theorem ref_apply (x0 : Vec Ideal S8192x2816 .bf16) (x1 : Vec Ideal S3x5632 .f32) (r : Fin 8192) (q : Fin 2816) :
    @Eq EReal (val_main_v41 (F := Ideal) x0 x1 (ix2 r q))
      (x1 (ix2 2 ⟨2816 + q.val, by omega⟩) * acol x0 q r.val + x1 (ix2 1 ⟨2816 + q.val, by omega⟩) * acol x0 q (r.val + 1)
        + x1 (ix2 0 ⟨2816 + q.val, by omega⟩) * acol x0 q (r.val + 2)) := by
  have hr := r.isLt
  unfold val_main_v41 val_main_v40 val_main_v38 val_main_v37 val_main_v36 val_main_v35 val_main_v34 val_main_v33 val_main_v32 val_main_v31 val_main_v30
    val_main_v29 val_main_v28 val_main_v24 val_main_v22 val_main_v21 val_main_v17 val_main_v15 val_main_v14 val_main_v9 val_main_v7 val_main_v6 val_main_v2 val_main_v0 val_main_cst_4 val_main_cst_5
  pointwise
  have e0 : acol x0 q r.val = x0 (ix2 r q) := dif_pos hr
  rw [e0]
  congr 1
  · congr 1
    by_cases h : r.val + 1 < 8192
    · rw [dif_pos (by omega), acol, dif_pos h]
      exact congrArg (fun z => x1 (ix2 1 ⟨2816 + q.val, _⟩) * x0 (ix2 z q)) (Fin.ext (by dsimp only; omega))
    · rw [dif_neg (by omega), acol, dif_neg h, mul_zero]
  · by_cases h : r.val + 2 < 8192
    · rw [dif_pos (by omega), acol, dif_pos h]
      exact congrArg (fun z => x1 (ix2 0 ⟨2816 + q.val, _⟩) * x0 (ix2 z q)) (Fin.ext (by dsimp only; omega))
    · rw [dif_neg (by omega), acol, dif_neg h, mul_zero]

/-- The blocks a point reads and writes. -/
theorem idx_in : ∀ t : Fin cfg0.N, win0_0.index t 0 = t.val / 2 ∧ win0_0.index t 1 = t.val % 2
    ∧ win0_1.index t 0 = min (128 * (t.val / 2 + 1)) 1023 ∧ win0_1.index t 1 = t.val % 2
    ∧ win0_2.index t 0 = 0 ∧ win0_2.index t 1 = 2 + t.val % 2
    ∧ win0_3.index t 0 = t.val / 2 ∧ win0_3.index t 1 = t.val % 2 :=
  (by decide +kernel : ∀ t : Fin grid0.N, _)

/-- The halo's factor: zero at the last row block, where no row follows, and one elsewhere. -/
theorem keep_eq (t : Fin cfg0.N) : @Eq EReal (k0_pay1 (F := Ideal) (grid0.coords t)) (if t.val / 2 = 7 then 0 else 1) := by
  have h : ∀ t : Fin grid0.N, Scalar.cmpi .eq (BitVec.ofNat 32 (grid0.coords t 0).val) 7#32 = if t.val / 2 = 7 then 1#1 else 0#1 := by
    decide +kernel
  unfold k0_pay1
  dsimp only
  rw [h t]
  split
  · exact Ideal.ofBits_zero_f32
  · exact Ideal.ofBits_one_f32

variable (m : (ℓ : Loc nD τ sig) → Buf (Elt Ideal) ℓ)

/-- The gradient's array and the taps' as launched. -/
abbrev arr (c : Dev nD) : Vec Ideal S8192x2816 .bf16 := m ((c : Thread nD τ).loc main_arg0)
/-- The taps as launched. -/
abbrev wts (c : Dev nD) : Vec Ideal S3x5632 .f32 := m ((c : Thread nD τ).loc main_arg1)

/-- A point's column of the array. -/
def lane (t : Fin cfg0.N) (q : Fin 1408) : Fin 2816 := ⟨1408 * (t.val % 2) + q.val, by have := q.isLt; omega⟩

/-- A point's row of the array. -/
def row (t : Fin cfg0.N) (p : Fin 1024) : Fin 8192 :=
  ⟨1024 * (t.val / 2) + p.val, by have := p.isLt; have : t.val < 16 := lt_of_lt_of_eq t.isLt N_0; omega⟩

/-- A block of the gradient is the array's there. -/
theorem iblk0 (c : Dev nD) (t : Fin cfg0.N) (p : Fin 1024) (q : Fin 1408) :
    iblk m c 0 t (ix2 p q) = arr m c (ix2 (row t p) (lane t q)) := by
  obtain ⟨h0, h1, -⟩ := idx_in t
  unfold iblk
  rw [View.read_apply]
  show V m c main_arg0 _ = m ((c : Thread nD τ).loc main_arg0) _
  rw [V_main_arg0]
  congr 1
  funext a
  apply Fin.ext
  match a with
  | ⟨0, _⟩ => show win0_0.index t 0 * 1024 + 1 * p.val = 1024 * (t.val / 2) + p.val; rw [h0]; omega
  | ⟨1, _⟩ => show win0_0.index t 1 * 1408 + 1 * q.val = 1408 * (t.val % 2) + q.val; rw [h1]; omega

/-- The rows after it are the array's next. -/
theorem iblk1 (c : Dev nD) (t : Fin cfg0.N) (hb : t.val / 2 < 7) (p : Fin 8) (q : Fin 1408) :
    iblk m c 1 t (ix2 p q) = arr m c (ix2 ⟨1024 * (t.val / 2) + 1024 + p.val, by omega⟩ (lane t q)) := by
  obtain ⟨-, -, h0, h1, -⟩ := idx_in t
  unfold iblk
  rw [View.read_apply]
  show V m c main_arg0 _ = m ((c : Thread nD τ).loc main_arg0) _
  rw [V_main_arg0]
  congr 1
  funext a
  apply Fin.ext
  match a with
  | ⟨0, _⟩ => show win0_1.index t 0 * 8 + 1 * p.val = 1024 * (t.val / 2) + 1024 + p.val; rw [h0]; omega
  | ⟨1, _⟩ => show win0_1.index t 1 * 1408 + 1 * q.val = 1408 * (t.val % 2) + q.val; rw [h1]; omega

/-- A block of the taps is the array's there. -/
theorem iblk2 (c : Dev nD) (t : Fin cfg0.N) (p : Fin 3) (q : Fin 1408) :
    iblk m c 2 t (ix2 p q) = wts m c (ix2 p ⟨2816 + (lane t q).val, by omega⟩) := by
  obtain ⟨-, -, -, -, h0, h1, -⟩ := idx_in t
  unfold iblk
  rw [View.read_apply]
  show V m c main_arg1 _ = m ((c : Thread nD τ).loc main_arg1) _
  rw [V_main_arg1]
  congr 1
  funext a
  apply Fin.ext
  match a with
  | ⟨0, _⟩ => show win0_2.index t 0 * 3 + 1 * p.val = p.val; rw [h0]; omega
  | ⟨1, _⟩ => show win0_2.index t 1 * 1408 + 1 * q.val = 2816 + (1408 * (t.val % 2) + q.val); rw [h1]; omega

/-- A point's column with its halo is the array's column, zero past its end. -/
theorem col_eq (c : Dev nD) (t : Fin cfg0.N) (q : Fin 1408) (r : ℕ) (hr : r < 1026) :
    col (iblk m c 0 t) (iblk m c 1 t) (k0_pay1 (F := Ideal) (grid0.coords t)) q.val r
      = acol (arr m c) (lane t q) (1024 * (t.val / 2) + r) := by
  have ht : t.val < 16 := lt_of_lt_of_eq t.isLt N_0
  unfold col
  by_cases h : r < 1024
  · rw [if_pos h, rd, dif_pos ⟨h, q.isLt⟩, acol, dif_pos (by omega)]
    exact iblk0 m c t ⟨r, h⟩ q
  · rw [if_neg h, keep_eq, rd, dif_pos ⟨by omega, q.isLt⟩]
    by_cases hb : t.val / 2 = 7
    · rw [if_pos hb, mul_zero, acol, dif_neg (by omega)]
    · rw [if_neg hb, mul_one, acol, dif_pos (by omega)]
      refine (iblk1 m c t (by omega) ⟨r - 1024, by omega⟩ q).trans ?_
      exact congrArg (fun z => arr m c (ix2 z (lane t q))) (Fin.ext (by dsimp only; omega))

/-- The result array is the reference's. -/
theorem res (c : Dev nD) : (dats m 0 c).arrAt 3 cfg0.N
      = Cert.ConvRefIdeal.Read.val_main_v41 (F := Ideal) (m ((c : Thread nD τ).loc main_arg0)) (m ((c : Thread nD τ).loc main_arg1)) := by
  refine (dats m 0 c).arrAt_eq_of_covers 3 _ (by decide +kernel) fun t hf y => ?_
  obtain ⟨-, -, -, -, -, -, h0, h1⟩ := idx_in t
  blk_simp
  rw [after0_3]
  have e : (win0_3.blk t).view.emb y = ix2 (row t (y 0)) (lane t (y 1)) := by
    funext a
    apply Fin.ext
    match a with
    | ⟨0, _⟩ => show win0_3.index t 0 * 1024 + 1 * (y 0).val = 1024 * (t.val / 2) + (y 0).val; rw [h0]; omega
    | ⟨1, _⟩ => show win0_3.index t 1 * 1408 + 1 * (y 1).val = 1408 * (t.val % 2) + (y 1).val; rw [h1]; omega
  have hp : (y 0).val < 1024 := (y 0).isLt
  rw [e]
  refine Eq.trans ?_ (ref_apply (arr m c) (wts m c) (row t (y 0)) (lane t (y 1))).symm
  unfold outsAt0
  rw [out_eq]
  unfold blk taps
  rw [col_eq m c t (y 1) _ (by omega), col_eq m c t (y 1) _ (by omega), col_eq m c t (y 1) _ (by omega)]
  have hw : ∀ k : Fin 3, rd (fun r l => iblk m c 2 t (ix2 r l)) k.val (y 1).val = wts m c (ix2 k ⟨2816 + (lane t (y 1)).val, by omega⟩) := by
    intro k
    rw [rd, dif_pos ⟨k.isLt, (y 1).isLt⟩]
    exact iblk2 m c t k (y 1)
  have ht (k : Fin 3) (n : ℕ) : (rd (fun r l => iblk m c 2 t (ix2 r l)) k.val (y 1).val * acol (arr m c) (lane t (y 1)) n : EReal)
      = wts m c (ix2 k ⟨2816 + (lane t (y 1)).val, by omega⟩) * acol (arr m c) (lane t (y 1)) n := congrArg (· * _) (hw k)
  exact congrArg₂ (· + ·) (congrArg₂ (· + ·) (ht 2 _) (ht 1 _)) (ht 0 _)

end Cert.ConvIdeal.Val
-- ==== Proof.NormAlg.lean ====
module

public import Idealize.ShloMosaic.Lib.Pointwise
public import Idealize.ShloMosaic.PureOps.Ideal.Laws

@[expose] public section

noncomputable section

open Idealize.ShloMosaic

namespace Cert.NormAlg

/-- Twice an extended real. -/
theorem add_self (w : EReal) : w + w = w * ((2 : ℝ) : EReal) := by
  induction w with
  | bot => simp [EReal.bot_mul_coe_of_pos]
  | top => simp [EReal.top_mul_coe_of_pos]
  | coe r => norm_cast; ring

/-- A nonnegative real factor comes out of a sum. -/
theorem sum_mul_coe {ι : Type*} (s : Finset ι) (f : ι → EReal) (r : ℝ) (hr : 0 ≤ r) :
    ∑ j ∈ s, f j * (r : EReal) = (∑ j ∈ s, f j) * (r : EReal) := by
  classical
  induction s using Finset.induction_on with
  | empty => simp
  | insert a s ha ih =>
    rw [Finset.sum_insert ha, Finset.sum_insert ha, ih,
      EReal.right_distrib_of_nonneg_of_ne_top (by exact_mod_cast hr) (EReal.coe_ne_top _)]

/-- The word of 1024. -/
theorem bits_1024 : Ideal.ofBits .f32 0x44800000#32 = ((1024 : ℝ) : EReal) := by
  simp [Ideal.ofBits, Ideal.ieee]
  norm_cast
  norm_num

/-- The word of minus a half. -/
theorem bits_half : Ideal.ofBits .f32 0xBF000000#32 = ((-(1/2) : ℝ) : EReal) := by
  simp [Ideal.ofBits, Ideal.ieee]
  norm_cast
  norm_num

/-- The word of the norm's epsilon is a positive real's. -/
theorem bits_eps : ∃ e : ℝ, 0 < e ∧ Ideal.ofBits .f32 0x358637BD#32 = ((e : ℝ) : EReal) := by
  refine ⟨8796093 / 8796093022208, by norm_num, ?_⟩
  simp [Ideal.ofBits, Ideal.ieee]
  norm_cast

/-- The sum of a row's squares is nonnegative. -/
theorem sum_sq_nonneg (x : Fin 1024 → EReal) : 0 ≤ ∑ j : Fin 1024, x j * x j :=
  Finset.sum_nonneg fun j _ => by
    rcases le_total 0 (x j) with h | h
    · exact mul_nonneg h h
    · rw [← neg_mul_neg]
      have h' : 0 ≤ -x j := by rwa [EReal.le_neg, neg_zero]
      exact mul_nonneg h' h'

/-- The mean square of a row plus the norm's epsilon. -/
def ms (x : Fin 1024 → EReal) : EReal :=
  Ideal.div (∑ j : Fin 1024, x j * x j) (Ideal.ofBits .f32 0x44800000#32) + Ideal.ofBits .f32 0x358637BD#32

/-- It is a positive real, or infinite when an entry of the row is. -/
theorem ms_cases (x : Fin 1024 → EReal) : ms x = ⊤ ∨ ∃ v : ℝ, 0 < v ∧ ms x = (v : EReal) := by
  obtain ⟨e, he, hb⟩ := bits_eps
  have h := sum_sq_nonneg x
  unfold ms
  rw [hb, bits_1024]
  generalize ∑ j : Fin 1024, x j * x j = s at h
  have h2 : Ideal.div s ((1024 : ℝ) : EReal) = s * (((1024 : ℝ)⁻¹ : ℝ) : EReal) := by
    unfold Ideal.div
    rw [if_neg (by norm_num), EReal.coe_inv]
  rw [h2]
  induction s with
  | bot => simp at h
  | top => left; rw [EReal.top_mul_coe_of_pos (by norm_num)]; rfl
  | coe r =>
    right
    refine ⟨r * (1024 : ℝ)⁻¹ + e, ?_, by norm_cast⟩
    have hr : 0 ≤ r := by exact_mod_cast h
    positivity

/-- The gradient of a root mean square norm at one entry: the kernel's form, with the normed row inside the mean, is
    the derivative taken factor by factor. -/
theorem grad_eq (y x : Fin 1024 → EReal) (res a b : EReal) :
    res + Ideal.rsqrt (ms x) * (a - b * Ideal.rsqrt (ms x) *
        Ideal.div (∑ j : Fin 1024, y j * (x j * Ideal.rsqrt (ms x))) (Ideal.ofBits .f32 0x44800000#32))
      = res + a * Ideal.rsqrt (ms x)
        + b * Ideal.div ((∑ j : Fin 1024, x j * y j) * (Ideal.ofBits .f32 0xBF000000#32 * Ideal.div (Ideal.rsqrt (ms x)) (ms x)))
            (Ideal.ofBits .f32 0x44800000#32)
        + Ideal.div ((∑ j : Fin 1024, x j * y j) * (Ideal.ofBits .f32 0xBF000000#32 * Ideal.div (Ideal.rsqrt (ms x)) (ms x)))
            (Ideal.ofBits .f32 0x44800000#32) * b := by
  have hd : ∀ s : EReal, Ideal.div s (Ideal.ofBits .f32 0x44800000#32) = s * (((1024 : ℝ)⁻¹ : ℝ) : EReal) := fun s => by
    rw [bits_1024]
    unfold Ideal.div
    rw [if_neg (by norm_num), EReal.coe_inv]
  rw [hd, hd, bits_half]
  rcases ms_cases x with h | ⟨v, hv, h⟩
  · rw [h]
    have h1 : Ideal.rsqrt (⊤ : EReal) = 0 := rfl
    have h2 : Ideal.div (0 : EReal) ⊤ = 0 := by simp [Ideal.div]
    rw [h1, h2]
    simp
  · rw [h]
    have h1 : Ideal.rsqrt ((v : ℝ) : EReal) = (((√v)⁻¹ : ℝ) : EReal) := by
      rw [Ideal.rsqrt_coe]
      simp [not_lt.mpr hv.le, hv.ne']
    have h2 : Ideal.div (((√v)⁻¹ : ℝ) : EReal) (v : EReal) = (((√v)⁻¹ * v⁻¹ : ℝ) : EReal) := by
      unfold Ideal.div
      rw [if_neg (by exact_mod_cast hv.ne'), ← EReal.coe_inv, ← EReal.coe_mul]
    rw [h1, h2]
    have hp : 0 ≤ (√v)⁻¹ := by positivity
    have hq : (√v)⁻¹ * (√v)⁻¹ = v⁻¹ := by
      rw [← mul_inv, Real.mul_self_sqrt hv.le]
    generalize (√v)⁻¹ = ρ at hp hq ⊢
    have h3 : ∑ j : Fin 1024, y j * (x j * (ρ : EReal)) = (∑ j : Fin 1024, x j * y j) * (ρ : EReal) := by
      rw [← sum_mul_coe _ _ _ hp]
      exact Finset.sum_congr rfl fun j _ => by rw [mul_comm (x j) (y j), mul_assoc]
    rw [h3]
    generalize ∑ j : Fin 1024, x j * y j = T
    rw [sub_eq_add_neg, EReal.left_distrib_of_nonneg_of_ne_top (by exact_mod_cast hp) (EReal.coe_ne_top _), ← add_assoc,
      add_assoc (res + _), mul_comm (T * _ * _) b, add_self, mul_comm a]
    congr 1
    rw [mul_neg, ← neg_mul]
    have e1 : -(ρ : EReal) * (b * ρ * (T * ρ * (((1024 : ℝ)⁻¹ : ℝ) : EReal)))
        = (b * T) * ((-(ρ : EReal)) * ρ * ρ * (((1024 : ℝ)⁻¹ : ℝ) : EReal)) := by ac_rfl
    have e2 : b * (T * ((((-(1/2) : ℝ)) : EReal) * ((ρ * v⁻¹ : ℝ) : EReal)) * (((1024 : ℝ)⁻¹ : ℝ) : EReal)) * ((2 : ℝ) : EReal)
        = (b * T) * ((((-(1/2) : ℝ)) : EReal) * ((ρ * v⁻¹ : ℝ) : EReal) * (((1024 : ℝ)⁻¹ : ℝ) : EReal) * ((2 : ℝ) : EReal)) := by ac_rfl
    rw [e1, e2, ← hq]
    congr 1
    norm_cast
    ring

/-- The derivative of the mean square's reciprocal root against a row `y` of cotangents, spread over the row. -/
def spread (y x : Fin 1024 → EReal) : EReal :=
  Ideal.div ((∑ j : Fin 1024, x j * y j) * (Ideal.ofBits .f32 0xBF000000#32 * Ideal.div (Ideal.rsqrt (ms x)) (ms x)))
    (Ideal.ofBits .f32 0x44800000#32)

/-- The reciprocal root mean square of a row. -/
abbrev rstd (x : Fin 1024 → EReal) : EReal := Ideal.rsqrt (ms x)

/-- The norm's gradient at one entry of a row, as the kernel computes it. -/
def knorm (d g x : Fin 1024 → EReal) (q : Fin 1024) : EReal :=
  rstd x * (d q * g q - x q * rstd x *
    Ideal.div (∑ j : Fin 1024, d j * g j * (x j * rstd x)) (Ideal.ofBits .f32 0x44800000#32))

end Cert.NormAlg
-- ==== Proof.UpRef.lean ====
module

public import proofs.«01_k».proof.Proof.Common
public import proofs.«01_k».proof.Proof.Gen.UpRefIdeal.Read
public import proofs.«01_k».proof.Proof.NormAlg

@[expose] public section

set_option maxRecDepth 16384

noncomputable section

open Idealize.ShloMosaic Idealize.ShloMosaic.TcCoe Idealize.SL.Sem

namespace Cert.UpRefIdeal.Val

open Cert.UpRefIdeal Cert.UpRefIdeal.Gen Cert.UpRefIdeal.Read Cert.Common Cert.NormAlg

variable (x0 x1 : Vec Ideal S8192x2816 .bf16) (x2 : Vec Ideal S5632x1024 .bf16) (x3 : Vec Ideal S8192x1024 .f32)
  (x4 : Vec Ideal S1x1024 .f32) (x5 : Vec Ideal S8192x1024 .f32)

/-- The mean square of a row. -/
theorem v9_apply (r : Fin 8192) (z : Fin 1) : val_main_v9 (F := Ideal) x3 (ix2 r z) = ms fun j => x3 (ix2 r j) := by
  unfold val_main_v9 val_main_v8 val_main_v7 val_main_v6 val_main_v5 val_main_v4 val_main_v3 val_main_cst val_main_cst_0 val_main_cst_1 ms
  pointwise

/-- The reciprocal root of it. -/
theorem v10_apply (r : Fin 8192) (z : Fin 1) :
    val_main_v10 (F := Ideal) x3 (ix2 r z) = Ideal.rsqrt (ms fun j => x3 (ix2 r j)) := by
  unfold val_main_v10
  pointwise [v9_apply]

/-- The derivative of that root. -/
theorem v13_apply (r : Fin 8192) (z : Fin 1) :
    val_main_v13 (F := Ideal) x3 (ix2 r z) = (Ideal.ofBits .f32 0xBF000000#32 *
      Ideal.div (Ideal.rsqrt (ms fun j => x3 (ix2 r j))) (ms fun j => x3 (ix2 r j)) : EReal) := by
  unfold val_main_v13 val_main_v12 val_main_v11 val_main_cst_2
  pointwise [v9_apply, v10_apply]

/-- A normed row. -/
theorem v15_apply (r : Fin 8192) (q : Fin 1024) :
    val_main_v15 (F := Ideal) x3 (ix2 r q) = (x3 (ix2 r q) * Ideal.rsqrt (ms fun j => x3 (ix2 r j)) : EReal) := by
  unfold val_main_v15 val_main_v14
  pointwise [v10_apply]

/-- The weight turned over. -/
theorem v19_apply (k : Fin 5632) (q : Fin 1024) : val_main_v19 (F := Ideal) x2 (ix2 q k) = x2 (ix2 k q) := by
  unfold val_main_v19 val_main_v18
  pointwise

/-- The joined cotangents: the first half's columns come from the first operand. -/
theorem v2_lo (r : Fin 8192) (k : Fin 5632) (k' : Fin 2816) (h : k.val = k'.val) :
    val_main_v2 (F := Ideal) x0 x1 (ix2 r k) = x0 (ix2 r k') := by
  unfold val_main_v2 val_main_v0 val_main_v1
  pointwise
  rw [dif_pos (by omega)]
  exact congrArg x0 (congrArg (ix2 r) (Fin.ext h))

/-- … and the second half's from the second. -/
theorem v2_hi (r : Fin 8192) (k : Fin 5632) (k' : Fin 2816) (h : k.val = 2816 + k'.val) :
    val_main_v2 (F := Ideal) x0 x1 (ix2 r k) = x1 (ix2 r k') := by
  unfold val_main_v2 val_main_v0 val_main_v1
  pointwise
  rw [dif_neg (by omega)]
  exact congrArg x1 (congrArg (ix2 r) (Fin.ext (by show k.val - 2816 = k'.val; omega)))

/-- The cotangent of the normed row. -/
theorem v21_apply (r : Fin 8192) (q : Fin 1024) :
    val_main_v21 (F := Ideal) x0 x1 x2 (ix2 r q) = ((∑ k : Fin 2816, x0 (ix2 r k) * x2 (ix2 ⟨k.val, by omega⟩ q))
      + ∑ k : Fin 2816, x1 (ix2 r k) * x2 (ix2 ⟨2816 + k.val, by omega⟩ q) : EReal) := by
  unfold val_main_v21
  pointwise [v19_apply]
  refine (Fin.sum_univ_add (a := 2816) (b := 2816) (M := EReal) _).trans (congrArg₂ (· + ·) ?_ ?_)
  · exact Finset.sum_congr rfl fun k _ => by rw [v2_lo x0 x1 r _ k rfl]; rfl
  · exact Finset.sum_congr rfl fun k _ => by rw [v2_hi x0 x1 r _ k rfl]; rfl

/-- The gradient of the norm's weight. -/
theorem v24_apply (z : Fin 1) (q : Fin 1024) :
    val_main_v24 (F := Ideal) x0 x1 x2 x3 (ix2 z q) = (∑ r : Fin 8192,
      x3 (ix2 r q) * Ideal.rsqrt (ms fun j => x3 (ix2 r j)) * val_main_v21 (F := Ideal) x0 x1 x2 (ix2 r q) : EReal) := by
  unfold val_main_v24 val_main_v23 val_main_v22 val_main_cst_3
  pointwise [v15_apply]

/-- The product times the norm's weight. -/
theorem v26_apply (r : Fin 8192) (q : Fin 1024) :
    val_main_v26 (F := Ideal) x0 x1 x2 x4 (ix2 r q) = (val_main_v21 (F := Ideal) x0 x1 x2 (ix2 r q) * x4 (ix2 0 q) : EReal) := by
  unfold val_main_v26 val_main_v25
  pointwise

/-- A row's sum against its gradient. -/
theorem v29_apply (r : Fin 8192) (z : Fin 1) :
    val_main_v29 (F := Ideal) x0 x1 x2 x3 x4 (ix2 r z) = (∑ j : Fin 1024,
      x3 (ix2 r j) * (val_main_v21 (F := Ideal) x0 x1 x2 (ix2 r j) * x4 (ix2 0 j)) : EReal) := by
  unfold val_main_v29 val_main_v28 val_main_v27 val_main_cst_4
  pointwise [v26_apply]

/-- What the mean square's gradient spreads over a row. -/
theorem v37_apply (r : Fin 8192) (q : Fin 1024) :
    val_main_v37 (F := Ideal) x0 x1 x2 x3 x4 (ix2 r q) =
      spread (fun j => (val_main_v21 (F := Ideal) x0 x1 x2 (ix2 r j) * x4 (ix2 0 j) : EReal)) (fun j => x3 (ix2 r j)) := by
  unfold val_main_v37 val_main_v36 val_main_v35 val_main_v34 val_main_v33 val_main_cst_5 val_main_cst_6 spread
  pointwise [v29_apply, v13_apply]
  exact Fin.sum_univ_one (M := EReal) _

/-- The gradient of the layer's input. -/
theorem v41_apply (r : Fin 8192) (q : Fin 1024) :
    val_main_v41 (F := Ideal) x0 x1 x2 x3 x4 x5 (ix2 r q) =
      (x5 (ix2 r q) + val_main_v21 (F := Ideal) x0 x1 x2 (ix2 r q) * x4 (ix2 0 q) * Ideal.rsqrt (ms fun j => x3 (ix2 r j))
        + x3 (ix2 r q) * spread (fun j => (val_main_v21 (F := Ideal) x0 x1 x2 (ix2 r j) * x4 (ix2 0 j) : EReal)) (fun j => x3 (ix2 r j))
        + spread (fun j => (val_main_v21 (F := Ideal) x0 x1 x2 (ix2 r j) * x4 (ix2 0 j) : EReal)) (fun j => x3 (ix2 r j)) * x3 (ix2 r q) : EReal) := by
  unfold val_main_v41 val_main_v40 val_main_v39 val_main_v38 val_main_v32 val_main_v31 val_main_v30
  pointwise [v26_apply, v37_apply, v10_apply]

end Cert.UpRefIdeal.Val
-- ==== Proof.UpVal.lean ====
module

public import proofs.«01_k».proof.Proof.Common
public import proofs.«01_k».proof.Proof.Gen.UpIdeal.Value
public import proofs.«01_k».proof.Proof.UpRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.UpIdeal.Val

open Cert.UpIdeal Cert.UpIdeal.Gen Cert.Common Cert.NormAlg

/-- A block's product with both halves of the weight. -/
theorem pay4_apply (a : Vec Ideal S256x2816 .bf16) (w : Vec Ideal S2816x1024 .bf16) (b : Vec Ideal S256x2816 .bf16)
    (w' : Vec Ideal S2816x1024 .bf16) (p : Fin 256) (q : Fin 1024) :
    k0_pay4 (F := Ideal) a w b w' (ix2 p q)
      = ((∑ k : Fin 2816, a (ix2 p k) * w (ix2 k q)) + ∑ k : Fin 2816, b (ix2 p k) * w' (ix2 k q) : EReal) := by
  unfold k0_pay4
  pointwise

/-- A row's reciprocal root mean square. -/
theorem pay5_apply (x : Vec Ideal S256x1024 .f32) (p : Fin 256) (z : Fin 1) :
    k0_pay5 (F := Ideal) x (ix2 p z) = rstd fun j => x (ix2 p j) := by
  unfold k0_pay5 rstd ms
  pointwise

/-- A normed block. -/
theorem pay6_apply (x : Vec Ideal S256x1024 .f32) (p : Fin 256) (q : Fin 1024) :
    k0_pay6 (F := Ideal) x (ix2 p q) = (x (ix2 p q) * rstd (fun j => x (ix2 p j)) : EReal) := by
  unfold k0_pay6
  pointwise [pay5_apply]

/-- The product through the norm, before the residual. -/
theorem pay7_apply (a : Vec Ideal S256x2816 .bf16) (w : Vec Ideal S2816x1024 .bf16) (b : Vec Ideal S256x2816 .bf16)
    (w' : Vec Ideal S2816x1024 .bf16) (x : Vec Ideal S256x1024 .f32) (g : Vec Ideal S1x1024 .f32) (p : Fin 256) (q : Fin 1024) :
    k0_pay7 (F := Ideal) a w b w' x g (ix2 p q)
      = knorm (fun j => k0_pay4 (F := Ideal) a w b w' (ix2 p j)) (fun j => g (ix2 0 j)) (fun j => x (ix2 p j)) q := by
  unfold k0_pay7 knorm
  pointwise [pay5_apply, pay6_apply]

/-- The residual added. -/
theorem pay1_apply (r y : Vec Ideal S256x1024 .f32) (p : Fin 256) (q : Fin 1024) :
    k0_pay1 (F := Ideal) r y (ix2 p q) = (r (ix2 p q) + y (ix2 p q) : EReal) := by
  unfold k0_pay1
  pointwise

/-- A block's part of the norm's weight's gradient, added. -/
theorem pay2_apply (d x : Vec Ideal S256x1024 .f32) (v : Vec Ideal S1x1024 .f32) (z : Fin 1) (q : Fin 1024) :
    k0_pay2 (F := Ideal) d x v (ix2 z q) = (v (ix2 z q) + ∑ k : Fin 256, d (ix2 k q) * x (ix2 k q) : EReal) := by
  unfold k0_pay2
  pointwise

/-- The sum begins at nought. -/
theorem pay3_apply (z : Fin 1) (q : Fin 1024) : k0_pay3 (F := Ideal) (ix2 z q) = (0 : EReal) := by
  unfold k0_pay3
  pointwise

section Cases

variable {F : FTy → Type} [FloatOps F] (m : (ℓ : Loc nD τ sig) → Buf (Elt F) ℓ)

/-- What the first point of the run leaves: its rows' block, and the norm weight's gradient started from zero. -/
theorem outs_A (c : Dev nD) (t : Fin cfg0.N) (h0 : t.val % 32 = 0) :
    outsAt0 m c t.val t.isLt =
      (k0_pay1 (iblk m c 6 t) (k0_pay7 (iblk m c 0 t) (iblk m c 2 t) (iblk m c 1 t) (iblk m c 3 t) (iblk m c 4 t) (iblk m c 5 t)),
       k0_pay2 (k0_pay4 (iblk m c 0 t) (iblk m c 2 t) (iblk m c 1 t) (iblk m c 3 t)) (k0_pay6 (iblk m c 4 t)) k0_pay3) := by
  rw [outsAt0_A m c t h0]
  refine Prod.ext ?_ ?_
  · dsimp only
    frame_out
  · dsimp only
    frame_out

/-- What a later point leaves: its rows' block, and the gradient with the point's rows added. -/
theorem outs_B (c : Dev nD) (t : Fin cfg0.N) (h0 : ¬t.val % 32 = 0) :
    outsAt0 m c t.val t.isLt =
      (k0_pay1 (iblk m c 6 t) (k0_pay7 (iblk m c 0 t) (iblk m c 2 t) (iblk m c 1 t) (iblk m c 3 t) (iblk m c 4 t) (iblk m c 5 t)),
       k0_pay2 (k0_pay4 (iblk m c 0 t) (iblk m c 2 t) (iblk m c 1 t) (iblk m c 3 t)) (k0_pay6 (iblk m c 4 t))
         (outsAt0 m c (t.val - 1) (Nat.lt_of_le_of_lt (Nat.sub_le _ _) t.isLt)).2) := by
  rw [outsAt0_B m c t h0]
  refine Prod.ext ?_ ?_
  · dsimp only
    frame_out
  · dsimp only
    frame_out

end Cases

variable (m : (ℓ : Loc nD τ sig) → Buf (Elt Ideal) ℓ)

/-- The index maps: the row block is the point's for the blocks by rows, and the weights' two halves and the norm's
    weight stay where they are. -/
theorem idx_in : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 1 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = 0 ∧ win0_8.index t (1 : Fin 2) = 0 :=
  (by decide +kernel : ∀ t : Fin grid0.N, _)

/-- The array row of a point's block row. -/
def row (t : Fin cfg0.N) (p : Fin 256) : Fin 8192 :=
  ⟨256 * t.val + p.val, by have := lt_of_lt_of_eq t.isLt N_0; have := p.isLt; omega⟩

/-- A block of operand 0 is the array's there. -/
theorem iblk0 (c : Dev nD) (t : Fin cfg0.N) (p : Fin 256) (k : Fin 2816) :
    iblk m c 0 t (ix2 p k) = m ((c : Thread nD τ).loc main_arg0) (ix2 (row t p) k) := by
  obtain ⟨h0, h1, -⟩ := idx_in t
  unfold iblk
  rw [View.read_apply]
  show V m c main_arg0 _ = m ((c : Thread nD τ).loc main_arg0) _
  rw [V_main_arg0]
  congr 1
  funext a
  apply Fin.ext
  match a with
  | ⟨0, _⟩ => show win0_0.index t 0 * 256 + 1 * p.val = 256 * t.val + p.val; rw [h0]; omega
  | ⟨1, _⟩ => show win0_0.index t 1 * 2816 + 1 * k.val = k.val; rw [h1]; omega

/-- A block of operand 1 is the array's there. -/
theorem iblk1 (c : Dev nD) (t : Fin cfg0.N) (p : Fin 256) (k : Fin 2816) :
    iblk m c 1 t (ix2 p k) = m ((c : Thread nD τ).loc main_arg1) (ix2 (row t p) k) := by
  obtain ⟨-, -, h0, h1, -⟩ := idx_in t
  unfold iblk
  rw [View.read_apply]
  show V m c main_arg1 _ = m ((c : Thread nD τ).loc main_arg1) _
  rw [V_main_arg1]
  congr 1
  funext a
  apply Fin.ext
  match a with
  | ⟨0, _⟩ => show win0_1.index t 0 * 256 + 1 * p.val = 256 * t.val + p.val; rw [h0]; omega
  | ⟨1, _⟩ => show win0_1.index t 1 * 2816 + 1 * k.val = k.val; rw [h1]; omega

/-- A block of operand 2 is the array's there. -/
theorem iblk2 (c : Dev nD) (t : Fin cfg0.N) (k : Fin 2816) (q : Fin 1024) :
    iblk m c 2 t (ix2 k q) = m ((c : Thread nD τ).loc main_arg2) (ix2 ⟨k.val, by omega⟩ q) := by
  obtain ⟨-, -, -, -, h0, h1, -⟩ := idx_in t
  unfold iblk
  rw [View.read_apply]
  show V m c main_arg2 _ = m ((c : Thread nD τ).loc main_arg2) _
  rw [V_main_arg2]
  congr 1
  funext a
  apply Fin.ext
  match a with
  | ⟨0, _⟩ => show win0_2.index t 0 * 2816 + 1 * k.val = k.val; rw [h0]; omega
  | ⟨1, _⟩ => show win0_2.index t 1 * 1024 + 1 * q.val = q.val; rw [h1]; omega

/-- A block of operand 3 is the array's there. -/
theorem iblk3 (c : Dev nD) (t : Fin cfg0.N) (k : Fin 2816) (q : Fin 1024) :
    iblk m c 3 t (ix2 k q) = m ((c : Thread nD τ).loc main_arg2) (ix2 ⟨2816 + k.val, by omega⟩ q) := by
  obtain ⟨-, -, -, -, -, -, h0, h1, -⟩ := idx_in t
  unfold iblk
  rw [View.read_apply]
  show V m c main_arg2 _ = m ((c : Thread nD τ).loc main_arg2) _
  rw [V_main_arg2]
  congr 1
  funext a
  apply Fin.ext
  match a with
  | ⟨0, _⟩ => show win0_3.index t 0 * 2816 + 1 * k.val = 2816 + k.val; rw [h0]; omega
  | ⟨1, _⟩ => show win0_3.index t 1 * 1024 + 1 * q.val = q.val; rw [h1]; omega

/-- A block of operand 4 is the array's there. -/
theorem iblk4 (c : Dev nD) (t : Fin cfg0.N) (p : Fin 256) (q : Fin 1024) :
    iblk m c 4 t (ix2 p q) = m ((c : Thread nD τ).loc main_arg3) (ix2 (row t p) q) := by
  obtain ⟨-, -, -, -, -, -, -, -, h0, h1, -⟩ := idx_in t
  unfold iblk
  rw [View.read_apply]
  show V m c main_arg3 _ = m ((c : Thread nD τ).loc main_arg3) _
  rw [V_main_arg3]
  congr 1
  funext a
  apply Fin.ext
  match a with
  | ⟨0, _⟩ => show win0_4.index t 0 * 256 + 1 * p.val = 256 * t.val + p.val; rw [h0]; omega
  | ⟨1, _⟩ => show win0_4.index t 1 * 1024 + 1 * q.val = q.val; rw [h1]; omega

/-- A block of operand 5 is the array's there. -/
theorem iblk5 (c : Dev nD) (t : Fin cfg0.N) (z : Fin 1) (q : Fin 1024) :
    iblk m c 5 t (ix2 z q) = m ((c : Thread nD τ).loc main_arg4) (ix2 z q) := by
  obtain ⟨-, -, -, -, -, -, -, -, -, -, h0, h1, -⟩ := idx_in t
  unfold iblk
  rw [View.read_apply]
  show V m c main_arg4 _ = m ((c : Thread nD τ).loc main_arg4) _
  rw [V_main_arg4]
  congr 1
  funext a
  apply Fin.ext
  match a with
  | ⟨0, _⟩ => show win0_5.index t 0 * 1 + 1 * z.val = z.val; rw [h0]; omega
  | ⟨1, _⟩ => show win0_5.index t 1 * 1024 + 1 * q.val = q.val; rw [h1]; omega

/-- A block of operand 6 is the array's there. -/
theorem iblk6 (c : Dev nD) (t : Fin cfg0.N) (p : Fin 256) (q : Fin 1024) :
    iblk m c 6 t (ix2 p q) = m ((c : Thread nD τ).loc main_arg5) (ix2 (row t p) q) := by
  obtain ⟨-, -, -, -, -, -, -, -, -, -, -, -, h0, h1, -⟩ := idx_in t
  unfold iblk
  rw [View.read_apply]
  show V m c main_arg5 _ = m ((c : Thread nD τ).loc main_arg5) _
  rw [V_main_arg5]
  congr 1
  funext a
  apply Fin.ext
  match a with
  | ⟨0, _⟩ => show win0_6.index t 0 * 256 + 1 * p.val = 256 * t.val + p.val; rw [h0]; omega
  | ⟨1, _⟩ => show win0_6.index t 1 * 1024 + 1 * q.val = q.val; rw [h1]; omega

open Cert.UpRefIdeal.Read Cert.UpRefIdeal.Val

/-- The point's cotangents of the normed rows are the reference's. -/
theorem pay4_block (c : Dev nD) (t : Fin cfg0.N) (p : Fin 256) (q : Fin 1024) :
    k0_pay4 (F := Ideal) (iblk m c 0 t) (iblk m c 2 t) (iblk m c 1 t) (iblk m c 3 t) (ix2 p q)
      = val_main_v21 (F := Ideal) (m ((c : Thread nD τ).loc main_arg0)) (m ((c : Thread nD τ).loc main_arg1))
          (m ((c : Thread nD τ).loc main_arg2)) (ix2 (row t p) q) := by
  rw [pay4_apply, v21_apply]
  simp only [iblk0, iblk1, iblk2, iblk3]

/-- What a point leaves in the rows' block is the reference's first result there. -/
theorem out_dx (c : Dev nD) (t : Fin cfg0.N) (p : Fin 256) (q : Fin 1024) :
    (outsAt0 m c t.val t.isLt).1 (ix2 p q)
      = val_main_v41 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (ix2 (row t p) q) := by
  have h : (outsAt0 m c t.val t.isLt).1 = k0_pay1 (iblk m c 6 t) (k0_pay7 (iblk m c 0 t) (iblk m c 2 t) (iblk m c 1 t)
      (iblk m c 3 t) (iblk m c 4 t) (iblk m c 5 t)) := by
    by_cases h0 : t.val % 32 = 0
    · rw [outs_A m c t h0]
    · rw [outs_B m c t h0]
  rw [h, pay1_apply, pay7_apply, v41_apply]
  unfold knorm spread
  simp only [pay4_block, iblk4, iblk5, iblk6]
  exact grad_eq _ _ _ _ _

/-- One row's part of the norm weight's gradient; zero past the array. -/
def term (x d : S8192x1024.Idx → EReal) (q : Fin 1024) (k : ℕ) : EReal :=
  if h : k < 8192 then x (ix2 ⟨k, h⟩ q) * Ideal.rsqrt (ms fun j => x (ix2 ⟨k, h⟩ j)) * d (ix2 ⟨k, h⟩ q) else 0

/-- The parts at the arrays the kernel is launched on. -/
abbrev termAt (c : Dev nD) (q : Fin 1024) (k : ℕ) : EReal :=
  term (m ((c : Thread nD τ).loc main_arg3)) (val_main_v21 (F := Ideal) (m ((c : Thread nD τ).loc main_arg0))
    (m ((c : Thread nD τ).loc main_arg1)) (m ((c : Thread nD τ).loc main_arg2))) q k

/-- What a point adds to the norm weight's gradient is its rows' parts. -/
theorem pay2_block (c : Dev nD) (t : Fin cfg0.N) (v : Vec Ideal S1x1024 .f32) (z : Fin 1) (q : Fin 1024) :
    k0_pay2 (F := Ideal) (k0_pay4 (iblk m c 0 t) (iblk m c 2 t) (iblk m c 1 t) (iblk m c 3 t)) (k0_pay6 (iblk m c 4 t)) v (ix2 z q)
      = (v (ix2 z q) + ∑ k : Fin 256, termAt m c q (256 * t.val + k.val) : EReal) := by
  have ht : t.val < 32 := lt_of_lt_of_eq t.isLt N_0
  rw [pay2_apply]
  congr 1
  refine Finset.sum_congr rfl fun k _ => ?_
  rw [termAt, term, dif_pos (by have := k.isLt; omega), pay6_apply, pay4_block]
  simp only [iblk4]
  exact mul_comm _ _

/-- After point `n` the norm weight's gradient holds the parts of the rows up to its block's end. -/
theorem acc_eq (c : Dev nD) : ∀ (n : ℕ) (hn : n < cfg0.N) (z : Fin 1) (q : Fin 1024),
    (outsAt0 m c n hn).2 (ix2 z q) = (∑ k ∈ Finset.range (256 * (n + 1)), termAt m c q k : EReal)
  | 0, hn, z, q => by
    rw [outs_A m c ⟨0, hn⟩ rfl]
    dsimp only
    rw [pay2_block, pay3_apply, sum_block]
    simp only [Nat.mul_zero, Finset.range_zero, Finset.sum_empty]
  | n + 1, hn, z, q => by
    have hN : n + 1 < 32 := lt_of_lt_of_eq hn N_0
    rw [outs_B m c ⟨n + 1, hn⟩ (by dsimp only; omega)]
    dsimp only
    rw [pay2_block, sum_block]
    show (outsAt0 m c n _).2 (ix2 z q) + _ = _
    rw [acc_eq c n (Nat.lt_of_succ_lt hn) z q]

/-- The first result array is the reference's. -/
theorem res_dx (c : Dev nD) : (dats m 0 c).arrAt 7 cfg0.N
      = val_main_v41 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  refine (dats m 0 c).arrAt_eq_of_covers 7 _ (by decide +kernel) fun t hf y => ?_
  obtain ⟨-, -, -, -, -, -, -, -, -, -, -, -, -, -, h0, h1, -⟩ := idx_in t
  blk_simp
  rw [after0_7]
  have e : (win0_7.blk t).view.emb y = ix2 (row t (y 0)) (y 1) := by
    funext a
    apply Fin.ext
    match a with
    | ⟨0, _⟩ => show win0_7.index t 0 * 256 + 1 * (y 0).val = 256 * t.val + (y 0).val; rw [h0]; omega
    | ⟨1, _⟩ => show win0_7.index t 1 * 1024 + 1 * (y 1).val = (y 1).val; rw [h1]; omega
  have hy : y = ix2 (y 0) (y 1) := by
    funext a
    match a with
    | ⟨0, _⟩ => rfl
    | ⟨1, _⟩ => rfl
  rw [e]
  exact (congrArg _ hy).trans (out_dx m c t (y 0) (y 1))

/-- The second result array is the reference's. -/
theorem res_dg (c : Dev nD) : (dats m 0 c).arrAt 8 cfg0.N
      = val_main_v24 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 8 _ (by decide +kernel) fun t hf y => ?_
  obtain ⟨-, -, -, -, -, -, -, -, -, -, -, -, -, -, -, -, h0, h1⟩ := idx_in t
  have ht : t.val = 31 := by
    have := (flush0_8 t).mp hf
    have := lt_of_lt_of_eq t.isLt N_0
    omega
  blk_simp
  rw [after0_8]
  have e : (win0_8.blk t).view.emb y = ix2 (y 0) (y 1) := by
    funext a
    apply Fin.ext
    match a with
    | ⟨0, _⟩ => show win0_8.index t 0 * 1 + 1 * (y 0).val = (y 0).val; rw [h0]; omega
    | ⟨1, _⟩ => show win0_8.index t 1 * 1024 + 1 * (y 1).val = (y 1).val; rw [h1]; omega
  have hy : y = ix2 (y 0) (y 1) := by
    funext a
    match a with
    | ⟨0, _⟩ => rfl
    | ⟨1, _⟩ => rfl
  rw [e]
  refine (congrArg _ hy).trans ((acc_eq m c t.val t.isLt (y 0) (y 1)).trans ?_)
  refine Eq.trans ?_ (v24_apply _ _ _ _ (y 0) (y 1)).symm
  rw [ht, Finset.sum_range]
  exact Finset.sum_congr rfl fun k _ => dif_pos k.isLt

end Cert.UpIdeal.Val
-- ==== Proof.DownCases.lean ====
module

public import proofs.«01_k».proof.Proof.Common
public import proofs.«01_k».proof.Proof.Gen.DownIdeal.Value

@[expose] public section

set_option maxRecDepth 16384

noncomputable section

open Idealize.ShloMosaic Idealize.ShloMosaic.TcCoe Idealize.SL.Sem
open Idealize.ShloMosaic.Pipeline (Dat)

namespace Cert.DownIdeal.Val

open Cert.DownIdeal Cert.DownIdeal.Gen Cert.Common

section Cases
variable {F : FTy → Type} [FloatOps F]

/-- The first point of a sweep leaves, in the accumulator, the point's product added to zero. -/
theorem sout_A (c : Dev nD) (i : grid0.Coords) (a2 : Memref sig .tc .vmem S2048x1408 .bf16) (h2 : a2.IsWhole)
    (a3 : Memref sig .tc .vmem S2048x1024 .bf16) (h3 : a3.IsWhole) (a4 : Memref sig .tc .vmem S1x1408x1024 .bf16) (h4 : a4.IsWhole)
    (a5 : Memref sig .tc .vmem S1408x1024 .f32) (h5 : a5.IsWhole) (hc0 : cond0_0 i) (hc1 : ¬cond0_1 i)
    (x0 : Vec F S2048x1408 .bf16) (x1 : Vec F S2048x1024 .bf16) :
    sout0_A_0 c i a2 h2 a3 h3 a4 h4 a5 h5 hc0 hc1 x0 x1 = k0_pay2 k0_pay1 x0 x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1408x1024) hz2, View.readCov_unit_zero (S := S1408x1024) _ hz2]
  simp only [View.readAt_eq_ld, h2.read_unread, h3.read_unread, View.ld_unit_zero (S := S2048x1408) hz2, View.ld_unit_zero (S := S2048x1024) hz2]

/-- A middle point of a sweep adds its product to the accumulator. -/
theorem sout_B (c : Dev nD) (i : grid0.Coords) (a2 : Memref sig .tc .vmem S2048x1408 .bf16) (h2 : a2.IsWhole)
    (a3 : Memref sig .tc .vmem S2048x1024 .bf16) (h3 : a3.IsWhole) (a4 : Memref sig .tc .vmem S1x1408x1024 .bf16) (h4 : a4.IsWhole)
    (a5 : Memref sig .tc .vmem S1408x1024 .f32) (h5 : a5.IsWhole) (hc0 : ¬cond0_0 i) (hc1 : ¬cond0_1 i)
    (x0 : Vec F S2048x1408 .bf16) (x1 : Vec F S2048x1024 .bf16) (xs : Vec F S1408x1024 .f32) :
    sout0_B_0 c i a2 h2 a3 h3 a4 h4 a5 h5 hc0 hc1 x0 x1 xs = k0_pay2 xs x0 x1 := by
  unfold sout0_B_0
  rw [View.read_writes_eq_canon _ _ _ (scover0_B_0 c i a2 h2 a3 h3 a4 h4 a5 h5 hc0 hc1 x0 x1 xs)]
  unfold kernelRun0_B
  dsimp only
  rw [View.canon_unit_zero (S := S1408x1024) hz2]
  simp only [View.readAt_eq_ld, h2.read_unread, h3.read_unread, h5.read_unread, View.ld_unit_zero (S := S2048x1408) hz2,
    View.ld_unit_zero (S := S2048x1024) hz2, View.ld_unit_zero (S := S1408x1024) hz2]

/-- So does the last point of a sweep. -/
theorem sout_C (c : Dev nD) (i : grid0.Coords) (a2 : Memref sig .tc .vmem S2048x1408 .bf16) (h2 : a2.IsWhole)
    (a3 : Memref sig .tc .vmem S2048x1024 .bf16) (h3 : a3.IsWhole) (a4 : Memref sig .tc .vmem S1x1408x1024 .bf16) (h4 : a4.IsWhole)
    (a5 : Memref sig .tc .vmem S1408x1024 .f32) (h5 : a5.IsWhole) (hc0 : ¬cond0_0 i) (hc1 : cond0_1 i)
    (x0 : Vec F S2048x1408 .bf16) (x1 : Vec F S2048x1024 .bf16) (xs : Vec F S1408x1024 .f32) :
    sout0_C_0 c i a2 h2 a3 h3 a4 h4 a5 h5 hc0 hc1 x0 x1 xs = k0_pay2 xs x0 x1 := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero (S := S1408x1024) hz2]
  simp only [View.readAt_eq_ld, h2.read_unread, h3.read_unread, h5.read_unread, View.ld_unit_zero (S := S2048x1408) hz2,
    View.ld_unit_zero (S := S2048x1024) hz2, View.ld_unit_zero (S := S1408x1024) hz2]

/-- The last point of a sweep stores the finished accumulator into the result's block. -/
theorem out_C (c : Dev nD) (i : grid0.Coords) (a2 : Memref sig .tc .vmem S2048x1408 .bf16) (h2 : a2.IsWhole)
    (a3 : Memref sig .tc .vmem S2048x1024 .bf16) (h3 : a3.IsWhole) (a4 : Memref sig .tc .vmem S1x1408x1024 .bf16) (h4 : a4.IsWhole)
    (a5 : Memref sig .tc .vmem S1408x1024 .f32) (h5 : a5.IsWhole) (hc0 : ¬cond0_0 i) (hc1 : cond0_1 i)
    (x0 : Vec F S2048x1408 .bf16) (x1 : Vec F S2048x1024 .bf16) (xs : Vec F S1408x1024 .f32) :
    out0_C_2 c i a2 h2 a3 h3 a4 h4 a5 h5 hc0 hc1 x0 x1 xs = k0_pay3 (k0_pay2 xs x0 x1) := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero (S := S1x1408x1024) hz3, View.readCov_unit_zero (S := S1408x1024) _ hz2]
  simp only [View.readAt_eq_ld, h2.read_unread, h3.read_unread, h5.read_unread, View.ld_unit_zero (S := S2048x1408) hz2,
    View.ld_unit_zero (S := S2048x1024) hz2, View.ld_unit_zero (S := S1408x1024) hz2]

end Cases

end Cert.DownIdeal.Val
-- ==== Proof.DownVal.lean ====
module

public import proofs.«01_k».proof.Proof.DownCases
public import proofs.«01_k».proof.Proof.Gen.DownRefIdeal.Read
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DownIdeal.Val

open Cert.DownIdeal Cert.DownIdeal.Gen Cert.Common

/-- The cleared accumulator is zero. -/
theorem pay1_apply (p : Fin 1408) (q : Fin 1024) : (k0_pay1 (F := Ideal)) (ix2 p q) = (0 : EReal) := by
  unfold k0_pay1
  pointwise

/-- One point's update at an entry: the sum over the point's rows is added. -/
theorem pay2_apply (v : Vec Ideal S1408x1024 .f32) (x : Vec Ideal S2048x1408 .bf16) (y : Vec Ideal S2048x1024 .bf16)
    (p : Fin 1408) (q : Fin 1024) :
    k0_pay2 (F := Ideal) v x y (ix2 p q) = (v (ix2 p q) + ∑ k : Fin 2048, x (ix2 k p) * y (ix2 k q) : EReal) := by
  unfold k0_pay2
  pointwise

/-- The stored block holds the accumulator's entries. -/
theorem pay3_apply (v : Vec Ideal S1408x1024 .f32) (z : Fin 1) (p : Fin 1408) (q : Fin 1024) :
    k0_pay3 (F := Ideal) v (ix3 z p q) = v (ix2 p q) := by
  unfold k0_pay3
  pointwise

variable (m : (ℓ : Loc nD τ sig) → Buf (Elt Ideal) ℓ)

/-- The index maps of the two operands: row block `t % 4`, column block `t / 4` of the left one. -/
theorem idx_in : ∀ t : Fin cfg0.N, win0_0.index t (0 : Fin 2) = t.val % 4 ∧ win0_0.index t (1 : Fin 2) = t.val / 4
    ∧ win0_1.index t (0 : Fin 2) = t.val % 4 ∧ win0_1.index t (1 : Fin 2) = 0 :=
  (by decide +kernel : ∀ t : Fin grid0.N, _)

/-- The left operand's block at a point, read off the array. -/
theorem iblk0 (c : Dev nD) (t : Fin cfg0.N) (k : Fin 2048) (p : Fin 1408) (K : Fin 8192) (P : Fin 2816)
    (hK : K.val = 2048 * (t.val % 4) + k.val) (hP : P.val = 1408 * (t.val / 4) + p.val) :
    iblk m c 0 t (ix2 k p) = m ((c : Thread nD τ).loc main_arg0) (ix2 K P) := by
  obtain ⟨h0, h1, -, -⟩ := idx_in t
  unfold iblk
  rw [View.read_apply]
  show V m c main_arg0 _ = m ((c : Thread nD τ).loc main_arg0) _
  rw [V_main_arg0]
  congr 1
  funext a
  apply Fin.ext
  match a with
  | ⟨0, _⟩ => show win0_0.index t 0 * 2048 + 1 * k.val = K.val; rw [h0]; omega
  | ⟨1, _⟩ => show win0_0.index t 1 * 1408 + 1 * p.val = P.val; rw [h1]; omega

/-- The right operand's block at a point, read off the array. -/
theorem iblk1 (c : Dev nD) (t : Fin cfg0.N) (k : Fin 2048) (q : Fin 1024) (K : Fin 8192)
    (hK : K.val = 2048 * (t.val % 4) + k.val) :
    iblk m c 1 t (ix2 k q) = m ((c : Thread nD τ).loc main_arg1) (ix2 K q) := by
  obtain ⟨-, -, h0, h1⟩ := idx_in t
  unfold iblk
  rw [View.read_apply]
  show V m c main_arg1 _ = m ((c : Thread nD τ).loc main_arg1) _
  rw [V_main_arg1]
  congr 1
  funext a
  apply Fin.ext
  match a with
  | ⟨0, _⟩ => show win0_1.index t 0 * 2048 + 1 * k.val = K.val; rw [h0]; omega
  | ⟨1, _⟩ => show win0_1.index t 1 * 1024 + 1 * q.val = q.val; rw [h1]; omega

/-- One term of the result's sum: row `k` of the operands, at output row `p` and column `q`; zero past the arrays. -/
def term (A : S8192x2816.Idx → EReal) (B : S8192x1024.Idx → EReal) (p q k : ℕ) : EReal :=
  if h : p < 2816 ∧ q < 1024 ∧ k < 8192 then A (ix2 ⟨k, h.2.2⟩ ⟨p, h.1⟩) * B (ix2 ⟨k, h.2.2⟩ ⟨q, h.2.1⟩) else 0

/-- The terms at the arrays the kernel is launched on. -/
abbrev termAt (c : Dev nD) (p q k : ℕ) : EReal :=
  term (m ((c : Thread nD τ).loc main_arg0)) (m ((c : Thread nD τ).loc main_arg1)) p q k

/-- What a point adds to the accumulator is its rows' terms. -/
theorem pay2_block (c : Dev nD) (t : Fin cfg0.N) (v : Vec Ideal S1408x1024 .f32) (p : Fin 1408) (q : Fin 1024) :
    k0_pay2 (F := Ideal) v (iblk m c 0 t) (iblk m c 1 t) (ix2 p q)
      = (v (ix2 p q) + ∑ k : Fin 2048, termAt m c (1408 * (t.val / 4) + p.val) q.val (2048 * (t.val % 4) + k.val) : EReal) := by
  have ht : t.val < 8 := lt_of_lt_of_eq t.isLt N_0
  rw [pay2_apply]
  congr 1
  refine Finset.sum_congr rfl fun k _ => ?_
  have hb : 1408 * (t.val / 4) + p.val < 2816 ∧ q.val < 1024 ∧ 2048 * (t.val % 4) + k.val < 8192 := by
    have := p.isLt; have := k.isLt; exact ⟨by omega, q.isLt, by omega⟩
  rw [termAt, term, dif_pos hb, iblk0 m c t k p ⟨_, hb.2.2⟩ ⟨_, hb.1⟩ rfl rfl, iblk1 m c t k q ⟨_, hb.2.2⟩ rfl]

/-- After point `n` the accumulator holds the terms of the rows its sweep has reached. -/
theorem acc_eq (c : Dev nD) : ∀ (n : ℕ) (hn : n < cfg0.N) (p : Fin 1408) (q : Fin 1024),
    (outsAt0 m c n hn).2 (ix2 p q)
      = (∑ k ∈ Finset.range (2048 * (n % 4 + 1)), termAt m c (1408 * (n / 4) + p.val) q.val k : EReal)
  | n, hn, p, q => by
    by_cases h0 : n % 4 = 0
    · rw [outsAt0_A m c ⟨n, hn⟩ h0 (by dsimp only; omega)]
      dsimp only
      rw [sout_A, pay2_block, pay1_apply, sum_block]
      dsimp only
      rw [h0]
      simp only [Nat.mul_zero, Finset.range_zero, Finset.sum_empty]
    · obtain ⟨n, rfl⟩ : ∃ n', n = n' + 1 := ⟨n - 1, by omega⟩
      have ih := acc_eq c n (Nat.lt_of_succ_lt hn) p q
      have hm : (n + 1) % 4 = n % 4 + 1 := by omega
      have hd : (n + 1) / 4 = n / 4 := by omega
      by_cases h1 : (n + 1) % 4 = 3
      · rw [outsAt0_C m c ⟨n + 1, hn⟩ h0 h1]
        dsimp only
        rw [sout_C, pay2_block, sum_block]
        show (outsAt0 m c n _).2 (ix2 p q) + _ = _
        rw [ih, hm, hd]
      · rw [outsAt0_B m c ⟨n + 1, hn⟩ h0 h1]
        dsimp only
        rw [sout_B, pay2_block, sum_block]
        show (outsAt0 m c n _).2 (ix2 p q) + _ = _
        rw [ih, hm, hd]

/-- The result's block at a sweep's last point holds the accumulator's entries. -/
theorem out_eq (c : Dev nD) (n : ℕ) (hn : n < cfg0.N) (h3 : n % 4 = 3) (z : Fin 1) (p : Fin 1408) (q : Fin 1024) :
    (outsAt0 m c n hn).1 (ix3 z p q) = (outsAt0 m c n hn).2 (ix2 p q) := by
  rw [outsAt0_C m c ⟨n, hn⟩ (by dsimp only; omega) h3]
  dsimp only
  rw [out_C, sout_C, pay3_apply]

/-- The kernel's result array: at row `p` and column `q`, the sum over all the rows of the operands. -/
theorem G2_apply (c : Dev nD) (i : S1x2816x1024.Idx) :
    @Eq EReal (Value.G2 m c i) (∑ k : Fin 8192, termAt m c (i 1).val (i 2).val k.val) := by
  have h1 : (i 1).val < 2816 := (i 1).isLt
  have h2 : (i 2).val < 1024 := (i 2).isLt
  have h0 : (i 0).val < 1 := (i 0).isLt
  have hp : Value.pt2Of i = 4 * ((i 1).val / 1408) + 3 := by
    show 4 * (2 * ((i 0).val / 1 - 0) + 1 * ((i 1).val / 1408 - 0) + 1 * ((i 2).val / 1024 - 0)) + 3 = _
    omega
  have hN : Value.pt2Of i < cfg0.N := by rw [show cfg0.N = 8 from N_0, hp]; omega
  have hl : Value.loc2Of i = ix3 ⟨(i 0).val % 1, Nat.mod_lt _ (by decide)⟩ ⟨(i 1).val % 1408, Nat.mod_lt _ (by decide)⟩ ⟨(i 2).val % 1024, Nat.mod_lt _ (by decide)⟩ := by
    funext a
    match a with
    | ⟨0, _⟩ => rfl
    | ⟨1, _⟩ => rfl
    | ⟨2, _⟩ => rfl
  unfold Value.G2
  rw [dif_pos hN, ← Value.outsAt0_sweep m c _ hN, hl, out_eq m c _ hN (by rw [hp]; omega), acc_eq]
  rw [hp, show 2048 * ((4 * ((i 1).val / 1408) + 3) % 4 + 1) = 8192 by omega,
    show (4 * ((i 1).val / 1408) + 3) / 4 = (i 1).val / 1408 by omega]
  rw [Finset.sum_range]
  refine Finset.sum_congr rfl fun k _ => ?_
  dsimp only
  rw [show 1408 * ((i 1).val / 1408) + (i 1).val % 1408 = (i 1).val by omega, show (i 2).val % 1024 = (i 2).val by omega]

end Cert.DownIdeal.Val

namespace Cert.DownIdeal.Val

open Cert.DownRefIdeal Cert.DownRefIdeal.Read

/-- The reference's result: the same sum, its factors in the other order. -/
theorem ref_apply (A : S8192x2816.Idx → EReal) (B : S8192x1024.Idx → EReal) (i : S1x2816x1024.Idx) :
    val_main_v8 (F := Ideal) A B i = (∑ k : Fin 8192, term A B (i 1).val (i 2).val k.val : EReal) := by
  have h1 : (i 1).val < 2816 := (i 1).isLt
  have h2 : (i 2).val < 1024 := (i 2).isLt
  rw [val_main_v8_apply, val_main_v7_apply, val_main_v6_apply]
  show val_main_v5 (F := Ideal) A B _ = _
  rw [val_main_v5_apply]
  refine Finset.sum_congr rfl fun k _ => ?_
  rw [val_main_v4_apply, val_main_v1_apply, term, dif_pos ⟨h1, h2, k.isLt⟩]
  refine (mul_comm _ _).trans ?_
  congr 1
  · show A _ = A _
    congr 1
    funext a
    match a with
    | ⟨0, _⟩ => rfl
    | ⟨1, _⟩ => rfl
  · show B _ = B _
    congr 1
    funext a
    match a with
    | ⟨0, _⟩ => rfl
    | ⟨1, _⟩ => rfl

end Cert.DownIdeal.Val
-- ==== Proof.DwUpCases.lean ====
module

public import proofs.«01_k».proof.Proof.Common
public import proofs.«01_k».proof.Proof.Gen.DwUpIdeal.Value

@[expose] public section

set_option maxRecDepth 16384

noncomputable section

open Idealize.ShloMosaic Idealize.ShloMosaic.TcCoe Idealize.SL.Sem
open Idealize.ShloMosaic.Pipeline (Dat)

namespace Cert.DwUpIdeal.Val

open Cert.DwUpIdeal Cert.DwUpIdeal.Gen Cert.Common

section Cases
variable {F : FTy → Type} [FloatOps F]

/-- The first point of a sweep leaves, in the accumulator, the point's product added to zero. -/
theorem sout_A (c : Dev nD) (i : grid0.Coords) (a2 : Memref sig .tc .vmem S2048x1408 .bf16) (h2 : a2.IsWhole)
    (a3 : Memref sig .tc .vmem S2048x1024 .bf16) (h3 : a3.IsWhole) (a4 : Memref sig .tc .vmem S1x1408x1024 .bf16) (h4 : a4.IsWhole)
    (a5 : Memref sig .tc .vmem S1408x1024 .f32) (h5 : a5.IsWhole) (hc0 : cond0_0 i) (hc1 : ¬cond0_1 i)
    (x0 : Vec F S2048x1408 .bf16) (x1 : Vec F S2048x1024 .bf16) :
    sout0_A_0 c i a2 h2 a3 h3 a4 h4 a5 h5 hc0 hc1 x0 x1 = k0_pay2 k0_pay1 x0 x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1408x1024) hz2, View.readCov_unit_zero (S := S1408x1024) _ hz2]
  simp only [View.readAt_eq_ld, h2.read_unread, h3.read_unread, View.ld_unit_zero (S := S2048x1408) hz2, View.ld_unit_zero (S := S2048x1024) hz2]

/-- A middle point of a sweep adds its product to the accumulator. -/
theorem sout_B (c : Dev nD) (i : grid0.Coords) (a2 : Memref sig .tc .vmem S2048x1408 .bf16) (h2 : a2.IsWhole)
    (a3 : Memref sig .tc .vmem S2048x1024 .bf16) (h3 : a3.IsWhole) (a4 : Memref sig .tc .vmem S1x1408x1024 .bf16) (h4 : a4.IsWhole)
    (a5 : Memref sig .tc .vmem S1408x1024 .f32) (h5 : a5.IsWhole) (hc0 : ¬cond0_0 i) (hc1 : ¬cond0_1 i)
    (x0 : Vec F S2048x1408 .bf16) (x1 : Vec F S2048x1024 .bf16) (xs : Vec F S1408x1024 .f32) :
    sout0_B_0 c i a2 h2 a3 h3 a4 h4 a5 h5 hc0 hc1 x0 x1 xs = k0_pay2 xs x0 x1 := by
  unfold sout0_B_0
  rw [View.read_writes_eq_canon _ _ _ (scover0_B_0 c i a2 h2 a3 h3 a4 h4 a5 h5 hc0 hc1 x0 x1 xs)]
  unfold kernelRun0_B
  dsimp only
  rw [View.canon_unit_zero (S := S1408x1024) hz2]
  simp only [View.readAt_eq_ld, h2.read_unread, h3.read_unread, h5.read_unread, View.ld_unit_zero (S := S2048x1408) hz2,
    View.ld_unit_zero (S := S2048x1024) hz2, View.ld_unit_zero (S := S1408x1024) hz2]

/-- So does the last point of a sweep. -/
theorem sout_C (c : Dev nD) (i : grid0.Coords) (a2 : Memref sig .tc .vmem S2048x1408 .bf16) (h2 : a2.IsWhole)
    (a3 : Memref sig .tc .vmem S2048x1024 .bf16) (h3 : a3.IsWhole) (a4 : Memref sig .tc .vmem S1x1408x1024 .bf16) (h4 : a4.IsWhole)
    (a5 : Memref sig .tc .vmem S1408x1024 .f32) (h5 : a5.IsWhole) (hc0 : ¬cond0_0 i) (hc1 : cond0_1 i)
    (x0 : Vec F S2048x1408 .bf16) (x1 : Vec F S2048x1024 .bf16) (xs : Vec F S1408x1024 .f32) :
    sout0_C_0 c i a2 h2 a3 h3 a4 h4 a5 h5 hc0 hc1 x0 x1 xs = k0_pay2 xs x0 x1 := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero (S := S1408x1024) hz2]
  simp only [View.readAt_eq_ld, h2.read_unread, h3.read_unread, h5.read_unread, View.ld_unit_zero (S := S2048x1408) hz2,
    View.ld_unit_zero (S := S2048x1024) hz2, View.ld_unit_zero (S := S1408x1024) hz2]

/-- The last point of a sweep stores the finished accumulator into the result's block. -/
theorem out_C (c : Dev nD) (i : grid0.Coords) (a2 : Memref sig .tc .vmem S2048x1408 .bf16) (h2 : a2.IsWhole)
    (a3 : Memref sig .tc .vmem S2048x1024 .bf16) (h3 : a3.IsWhole) (a4 : Memref sig .tc .vmem S1x1408x1024 .bf16) (h4 : a4.IsWhole)
    (a5 : Memref sig .tc .vmem S1408x1024 .f32) (h5 : a5.IsWhole) (hc0 : ¬cond0_0 i) (hc1 : cond0_1 i)
    (x0 : Vec F S2048x1408 .bf16) (x1 : Vec F S2048x1024 .bf16) (xs : Vec F S1408x1024 .f32) :
    out0_C_2 c i a2 h2 a3 h3 a4 h4 a5 h5 hc0 hc1 x0 x1 xs = k0_pay3 (k0_pay2 xs x0 x1) := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero (S := S1x1408x1024) hz3, View.readCov_unit_zero (S := S1408x1024) _ hz2]
  simp only [View.readAt_eq_ld, h2.read_unread, h3.read_unread, h5.read_unread, View.ld_unit_zero (S := S2048x1408) hz2,
    View.ld_unit_zero (S := S2048x1024) hz2, View.ld_unit_zero (S := S1408x1024) hz2]

end Cases

end Cert.DwUpIdeal.Val
-- ==== Proof.DwUpVal.lean ====
module

public import proofs.«01_k».proof.Proof.DwUpCases
public import proofs.«01_k».proof.Proof.Gen.DwUpRefIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DwUpIdeal.Val

open Cert.DwUpIdeal Cert.DwUpIdeal.Gen Cert.Common

/-- The cleared accumulator is zero. -/
theorem pay1_apply (p : Fin 1408) (q : Fin 1024) : (k0_pay1 (F := Ideal)) (ix2 p q) = (0 : EReal) := by
  unfold k0_pay1
  pointwise

/-- One point's update at an entry: the sum over the point's rows is added. -/
theorem pay2_apply (v : Vec Ideal S1408x1024 .f32) (x : Vec Ideal S2048x1408 .bf16) (y : Vec Ideal S2048x1024 .bf16)
    (p : Fin 1408) (q : Fin 1024) :
    k0_pay2 (F := Ideal) v x y (ix2 p q) = (v (ix2 p q) + ∑ k : Fin 2048, x (ix2 k p) * y (ix2 k q) : EReal) := by
  unfold k0_pay2
  pointwise

/-- The stored block holds the accumulator's entries. -/
theorem pay3_apply (v : Vec Ideal S1408x1024 .f32) (z : Fin 1) (p : Fin 1408) (q : Fin 1024) :
    k0_pay3 (F := Ideal) v (ix3 z p q) = v (ix2 p q) := by
  unfold k0_pay3
  pointwise

variable (m : (ℓ : Loc nD τ sig) → Buf (Elt Ideal) ℓ)

/-- The index maps of the two operands: row block `t % 4`, column block `t / 4` of the left one. -/
theorem idx_in : ∀ t : Fin cfg0.N, win0_0.index t (0 : Fin 2) = t.val % 4 ∧ win0_0.index t (1 : Fin 2) = t.val / 4
    ∧ win0_1.index t (0 : Fin 2) = t.val % 4 ∧ win0_1.index t (1 : Fin 2) = 0 :=
  (by decide +kernel : ∀ t : Fin grid0.N, _)

/-- The left operand's block at a point, read off the array. -/
theorem iblk0 (c : Dev nD) (t : Fin cfg0.N) (k : Fin 2048) (p : Fin 1408) (K : Fin 8192) (P : Fin 2816)
    (hK : K.val = 2048 * (t.val % 4) + k.val) (hP : P.val = 1408 * (t.val / 4) + p.val) :
    iblk m c 0 t (ix2 k p) = m ((c : Thread nD τ).loc main_arg0) (ix2 K P) := by
  obtain ⟨h0, h1, -, -⟩ := idx_in t
  unfold iblk
  rw [View.read_apply]
  show V m c main_arg0 _ = m ((c : Thread nD τ).loc main_arg0) _
  rw [V_main_arg0]
  congr 1
  funext a
  apply Fin.ext
  match a with
  | ⟨0, _⟩ => show win0_0.index t 0 * 2048 + 1 * k.val = K.val; rw [h0]; omega
  | ⟨1, _⟩ => show win0_0.index t 1 * 1408 + 1 * p.val = P.val; rw [h1]; omega

/-- The right operand's block at a point, read off the array. -/
theorem iblk1 (c : Dev nD) (t : Fin cfg0.N) (k : Fin 2048) (q : Fin 1024) (K : Fin 8192)
    (hK : K.val = 2048 * (t.val % 4) + k.val) :
    iblk m c 1 t (ix2 k q) = m ((c : Thread nD τ).loc main_arg1) (ix2 K q) := by
  obtain ⟨-, -, h0, h1⟩ := idx_in t
  unfold iblk
  rw [View.read_apply]
  show V m c main_arg1 _ = m ((c : Thread nD τ).loc main_arg1) _
  rw [V_main_arg1]
  congr 1
  funext a
  apply Fin.ext
  match a with
  | ⟨0, _⟩ => show win0_1.index t 0 * 2048 + 1 * k.val = K.val; rw [h0]; omega
  | ⟨1, _⟩ => show win0_1.index t 1 * 1024 + 1 * q.val = q.val; rw [h1]; omega

/-- One term of the result's sum: row `k` of the operands, at output row `p` and column `q`; zero past the arrays. -/
def term (A : S8192x2816.Idx → EReal) (B : S8192x1024.Idx → EReal) (p q k : ℕ) : EReal :=
  if h : p < 2816 ∧ q < 1024 ∧ k < 8192 then A (ix2 ⟨k, h.2.2⟩ ⟨p, h.1⟩) * B (ix2 ⟨k, h.2.2⟩ ⟨q, h.2.1⟩) else 0

/-- The terms at the arrays the kernel is launched on. -/
abbrev termAt (c : Dev nD) (p q k : ℕ) : EReal :=
  term (m ((c : Thread nD τ).loc main_arg0)) (m ((c : Thread nD τ).loc main_arg1)) p q k

/-- What a point adds to the accumulator is its rows' terms. -/
theorem pay2_block (c : Dev nD) (t : Fin cfg0.N) (v : Vec Ideal S1408x1024 .f32) (p : Fin 1408) (q : Fin 1024) :
    k0_pay2 (F := Ideal) v (iblk m c 0 t) (iblk m c 1 t) (ix2 p q)
      = (v (ix2 p q) + ∑ k : Fin 2048, termAt m c (1408 * (t.val / 4) + p.val) q.val (2048 * (t.val % 4) + k.val) : EReal) := by
  have ht : t.val < 8 := lt_of_lt_of_eq t.isLt N_0
  rw [pay2_apply]
  congr 1
  refine Finset.sum_congr rfl fun k _ => ?_
  have hb : 1408 * (t.val / 4) + p.val < 2816 ∧ q.val < 1024 ∧ 2048 * (t.val % 4) + k.val < 8192 := by
    have := p.isLt; have := k.isLt; exact ⟨by omega, q.isLt, by omega⟩
  rw [termAt, term, dif_pos hb, iblk0 m c t k p ⟨_, hb.2.2⟩ ⟨_, hb.1⟩ rfl rfl, iblk1 m c t k q ⟨_, hb.2.2⟩ rfl]

/-- After point `n` the accumulator holds the terms of the rows its sweep has reached. -/
theorem acc_eq (c : Dev nD) : ∀ (n : ℕ) (hn : n < cfg0.N) (p : Fin 1408) (q : Fin 1024),
    (outsAt0 m c n hn).2 (ix2 p q)
      = (∑ k ∈ Finset.range (2048 * (n % 4 + 1)), termAt m c (1408 * (n / 4) + p.val) q.val k : EReal)
  | n, hn, p, q => by
    by_cases h0 : n % 4 = 0
    · rw [outsAt0_A m c ⟨n, hn⟩ h0 (by dsimp only; omega)]
      dsimp only
      rw [sout_A, pay2_block, pay1_apply, sum_block]
      dsimp only
      rw [h0]
      simp only [Nat.mul_zero, Finset.range_zero, Finset.sum_empty]
    · obtain ⟨n, rfl⟩ : ∃ n', n = n' + 1 := ⟨n - 1, by omega⟩
      have ih := acc_eq c n (Nat.lt_of_succ_lt hn) p q
      have hm : (n + 1) % 4 = n % 4 + 1 := by omega
      have hd : (n + 1) / 4 = n / 4 := by omega
      by_cases h1 : (n + 1) % 4 = 3
      · rw [outsAt0_C m c ⟨n + 1, hn⟩ h0 h1]
        dsimp only
        rw [sout_C, pay2_block, sum_block]
        show (outsAt0 m c n _).2 (ix2 p q) + _ = _
        rw [ih, hm, hd]
      · rw [outsAt0_B m c ⟨n + 1, hn⟩ h0 h1]
        dsimp only
        rw [sout_B, pay2_block, sum_block]
        show (outsAt0 m c n _).2 (ix2 p q) + _ = _
        rw [ih, hm, hd]

/-- The result's block at a sweep's last point holds the accumulator's entries. -/
theorem out_eq (c : Dev nD) (n : ℕ) (hn : n < cfg0.N) (h3 : n % 4 = 3) (z : Fin 1) (p : Fin 1408) (q : Fin 1024) :
    (outsAt0 m c n hn).1 (ix3 z p q) = (outsAt0 m c n hn).2 (ix2 p q) := by
  rw [outsAt0_C m c ⟨n, hn⟩ (by dsimp only; omega) h3]
  dsimp only
  rw [out_C, sout_C, pay3_apply]

/-- The result's rows a point writes: those of the lower half, from row 2816 on. -/
theorem idx_out : ∀ t : Fin cfg0.N, win0_2.index t (0 : Fin 3) = 0 ∧ win0_2.index t (1 : Fin 3) = 2 + t.val / 4 ∧ win0_2.index t (2 : Fin 3) = 0 :=
  (by decide +kernel : ∀ t : Fin grid0.N, _)

/-- The result is written back at a sweep's last point only. -/
theorem flush_out : ∀ t : Fin cfg0.N, (cfg0.win 2).flush t = true → t.val % 4 = 3 :=
  (by decide +kernel : ∀ t : Fin grid0.N, _)

/-- Before the call its result buffer holds the gradient it is given. -/
theorem V_out (c : Dev nD) : V m c main_v0 = m ((c : Thread nD τ).loc main_arg2) := by
  unfold V
  after_results
  rfl

open Cert.DwUpRefIdeal Cert.DwUpRefIdeal.Gen Cert.DwUpRefIdeal.Read in
/-- The reference's result in the lower half: the sum over all the rows. -/
theorem ref_low (A : Vec Ideal S8192x2816 .bf16) (B : Vec Ideal S8192x1024 .bf16) (D : Vec Ideal S1x5632x1024 .bf16)
    (z : Fin 1) (p : Fin 5632) (q : Fin 1024) (hp : 2816 ≤ p.val) :
    @Eq EReal (val_main_v12 (F := Ideal) A B D (ix3 z p q)) (∑ k : Fin 8192, term A B (p.val - 2816) q.val k.val) := by
  have hp' := p.isLt
  unfold val_main_v12 val_main_v11 val_main_v10 val_main_v9 val_main_v8 val_main_v7 val_main_v6 val_main_v5 val_main_v1
  pointwise
  rw [dif_neg (by omega)]
  refine Finset.sum_congr rfl fun k _ => ?_
  rw [term, dif_pos ⟨by omega, q.isLt, k.isLt⟩]

open Cert.DwUpRefIdeal Cert.DwUpRefIdeal.Gen Cert.DwUpRefIdeal.Read in
/-- The reference's result in the upper half: the gradient given. -/
theorem ref_up (A : Vec Ideal S8192x2816 .bf16) (B : Vec Ideal S8192x1024 .bf16) (D : Vec Ideal S1x5632x1024 .bf16)
    (z : Fin 1) (p : Fin 5632) (q : Fin 1024) (hp : p.val < 2816) :
    @Eq EReal (val_main_v12 (F := Ideal) A B D (ix3 z p q)) (D (ix3 z p q)) := by
  unfold val_main_v12 val_main_v11
  pointwise
  rw [dif_pos hp]
  exact congrArg (fun a => D (ix3 a p q)) (Subsingleton.elim (α := Fin 1) _ _)

/-- The result array is the reference's. -/
theorem res (c : Dev nD) : (dats m 0 c).arrAt 2 cfg0.N
      = Cert.DwUpRefIdeal.Read.val_main_v12 (F := Ideal) (m ((c : Thread nD τ).loc main_arg0)) (m ((c : Thread nD τ).loc main_arg1))
          (m ((c : Thread nD τ).loc main_arg2)) := by
  refine (dats m 0 c).arrAt_eq_of_coversWhere_of_agree 2 _ (fun β => 2 ≤ β (1 : Fin _)) (by decide +kernel) (fun t hf y => ?_) (fun j hj => ?_)
  · obtain ⟨h0, h1, h2⟩ := idx_out t
    have h3 := flush_out t hf
    have ht : t.val < 8 := lt_of_lt_of_eq t.isLt N_0
    have hy1 : (y 1).val < 1408 := (y 1).isLt
    have hy0 : (y 0).val < 1 := (y 0).isLt
    blk_simp
    rw [after0_2]
    have e : (win0_2.blk t).view.emb y = ix3 (y 0) (⟨2816 + 1408 * (t.val / 4) + (y 1).val, by omega⟩ : Fin 5632) (y 2) := by
      funext a
      apply Fin.ext
      match a with
      | ⟨0, _⟩ => show win0_2.index t 0 * 1 + 1 * (y 0).val = (y 0).val; rw [h0]; omega
      | ⟨1, _⟩ => show win0_2.index t 1 * 1408 + 1 * (y 1).val = 2816 + 1408 * (t.val / 4) + (y 1).val; rw [h1]; omega
      | ⟨2, _⟩ => show win0_2.index t 2 * 1024 + 1 * (y 2).val = (y 2).val; rw [h2]; omega
    have hy : y = ix3 (y 0) (y 1) (y 2) := by
      funext a
      match a with
      | ⟨0, _⟩ => rfl
      | ⟨1, _⟩ => rfl
      | ⟨2, _⟩ => rfl
    rw [e]
    refine (congrArg _ hy).trans ((out_eq m c t.val t.isLt h3 (y 0) (y 1) (y 2)).trans ((acc_eq m c t.val t.isLt (y 1) (y 2)).trans ?_))
    refine Eq.trans ?_ (ref_low _ _ _ (y 0) ⟨2816 + 1408 * (t.val / 4) + (y 1).val, _⟩ (y 2) (by dsimp only; omega)).symm
    rw [h3, Finset.sum_range]
    refine Finset.sum_congr rfl fun k _ => ?_
    dsimp only
    exact congrArg (fun n => termAt m c n (y 2).val k.val) (by omega)
  · blk_simp [Pipeline.Window.cell_apply] at hj
    have hj1 : (j 1).val < 5632 := (j 1).isLt
    have hj' : j = ix3 (j 0) (j 1) (j 2) := by
      funext a
      match a with
      | ⟨0, _⟩ => rfl
      | ⟨1, _⟩ => rfl
      | ⟨2, _⟩ => rfl
    refine (congrFun (A_eq m c 2) _).trans ?_
    show V m c main_v0 j = Cert.DwUpRefIdeal.Read.val_main_v12 (F := Ideal) _ _ _ j
    rw [V_out, hj']
    exact (ref_up _ _ _ (j 0) (j 1) (j 2) (by omega)).symm

end Cert.DwUpIdeal.Val
-- ==== Proof.DactVal.lean ====
module

public import proofs.«01_k».proof.Proof.Common
public import proofs.«01_k».proof.Proof.Gen.DactIdeal.Value
public import proofs.«01_k».proof.Proof.Gen.DactRefIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DactIdeal.Val

open Cert.DactIdeal Cert.DactIdeal.Gen Cert.Common

/-- An entry of a point's product: a row of the cotangent against a row of the weight. -/
theorem pay1_apply (x : Vec Ideal S512x1024 .bf16) (w : Vec Ideal S2816x1024 .bf16) (p : Fin 512) (q : Fin 2816) :
    k0_pay1 (F := Ideal) x w (ix2 p q) = (∑ k : Fin 1024, x (ix2 p k) * w (ix2 q k) : EReal) := by
  unfold k0_pay1
  pointwise

/-- The block a point stores. -/
theorem out_eq (x : Vec Ideal S512x1024 .bf16) (w : Vec Ideal S2816x1024 .bf16) : out0_2 (F := Ideal) x w = k0_pay1 (F := Ideal) x w := by
  unfold out0_2
  rw [View.canon_unit_zero (S := S512x2816) hz2, View.ld_unit_zero (S := S512x1024) hz2, View.ld_unit_zero (S := S2816x1024) hz2]

variable (m : (ℓ : Loc nD τ sig) → Buf (Elt Ideal) ℓ)

/-- The blocks a point reads and writes: its own rows of the cotangent and of the result, the whole weight. -/
theorem idx_in : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A point's row of the arrays. -/
def row (t : Fin cfg0.N) (p : Fin 512) : Fin 8192 :=
  ⟨512 * t.val + p.val, by have := p.isLt; have : t.val < 16 := lt_of_lt_of_eq t.isLt N_0; omega⟩

/-- The cotangent's block at a point, read off the array. -/
theorem iblk0 (c : Dev nD) (t : Fin cfg0.N) (p : Fin 512) (k : Fin 1024) :
    iblk m c 0 t (ix2 p k) = m ((c : Thread nD τ).loc main_arg0) (ix2 (row t p) k) := by
  obtain ⟨h0, h1, -⟩ := idx_in t
  unfold iblk
  rw [View.read_apply]
  show V m c main_arg0 _ = m ((c : Thread nD τ).loc main_arg0) _
  rw [V_main_arg0]
  congr 1
  funext a
  apply Fin.ext
  match a with
  | ⟨0, _⟩ => show win0_0.index t 0 * 512 + 1 * p.val = 512 * t.val + p.val; rw [h0]; omega
  | ⟨1, _⟩ => show win0_0.index t 1 * 1024 + 1 * k.val = k.val; rw [h1]; omega

/-- The weight's block at a point is the whole weight. -/
theorem iblk1 (c : Dev nD) (t : Fin cfg0.N) (q : Fin 2816) (k : Fin 1024) :
    iblk m c 1 t (ix2 q k) = m ((c : Thread nD τ).loc main_arg1) (ix2 q k) := by
  obtain ⟨-, -, h0, h1, -⟩ := idx_in t
  unfold iblk
  rw [View.read_apply]
  show V m c main_arg1 _ = m ((c : Thread nD τ).loc main_arg1) _
  rw [V_main_arg1]
  congr 1
  funext a
  apply Fin.ext
  match a with
  | ⟨0, _⟩ => show win0_1.index t 0 * 2816 + 1 * q.val = q.val; rw [h0]; omega
  | ⟨1, _⟩ => show win0_1.index t 1 * 1024 + 1 * k.val = k.val; rw [h1]; omega

open Cert.DactRefIdeal Cert.DactRefIdeal.Gen Cert.DactRefIdeal.Read in
/-- The reference's result at an entry: the same sum. -/
theorem ref_apply (x : Vec Ideal S8192x1024 .bf16) (w : Vec Ideal S2816x1024 .bf16) (r : Fin 8192) (q : Fin 2816) :
    @Eq EReal (val_main_v5 (F := Ideal) x w (ix2 r q)) (∑ k : Fin 1024, x (ix2 r k) * w (ix2 q k) : EReal) := by
  unfold val_main_v5 val_main_v4 val_main_v3 val_main_v1
  pointwise

/-- The result array is the reference's. -/
theorem res (c : Dev nD) : (dats m 0 c).arrAt 2 cfg0.N
      = Cert.DactRefIdeal.Read.val_main_v5 (F := Ideal) (m ((c : Thread nD τ).loc main_arg0)) (m ((c : Thread nD τ).loc main_arg1)) := by
  refine (dats m 0 c).arrAt_eq_of_covers 2 _ (by decide +kernel) fun t hf y => ?_
  obtain ⟨-, -, -, -, h0, h1⟩ := idx_in t
  blk_simp
  rw [after0_2, out_eq]
  have e : (win0_2.blk t).view.emb y = ix2 (row t (y 0)) (y 1) := by
    funext a
    apply Fin.ext
    match a with
    | ⟨0, _⟩ => show win0_2.index t 0 * 512 + 1 * (y 0).val = 512 * t.val + (y 0).val; rw [h0]; omega
    | ⟨1, _⟩ => show win0_2.index t 1 * 2816 + 1 * (y 1).val = (y 1).val; rw [h1]; omega
  have hy : y = ix2 (y 0) (y 1) := by
    funext a
    match a with
    | ⟨0, _⟩ => rfl
    | ⟨1, _⟩ => rfl
  rw [e]
  refine (congrArg _ hy).trans ((pay1_apply _ _ (y 0) (y 1)).trans ?_)
  refine Eq.trans (Finset.sum_congr rfl fun k _ => ?_) (ref_apply _ _ (row t (y 0)) (y 1)).symm
  exact congrArg₂ (fun a b : EReal => a * b) (iblk0 m c t (y 0) k) (iblk1 m c t (y 1) k)

end Cert.DactIdeal.Val
-- ==== Proof.GateLoop.lean ====
module

public import proofs.«01_k».proof.Proof.Gen.GateIdeal.Skeleton
public import proofs.«01_k».proof.Proof.Gen.GateIdeal.Loops
public import proofs.«01_k».proof.Proof.Gen.GateIdeal.Frame
public import Idealize.ShloMosaic.Lib.Exec
public import Idealize.ShloMosaic.Lib.Tactic
public import Idealize.ShloMosaic.Lib.Pipeline.Kit

@[expose] public section

set_option maxRecDepth 16384
set_option maxHeartbeats 8000000

noncomputable section

namespace Cert.GateIdeal.Loop

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.GateIdeal Cert.GateIdeal.Gen

variable {F : FTy → Type} [FloatOps F]

local notation "𝕄" => MT nD τ sig Unit (Elt F) ℕ (UR sig nD τ) ℕ

/-- A memref's buffer at given contents. -/
abbrev own {s : Shape} {e : EltTy} (c : Dev nD) (r : Memref sig .tc .vmem s e) (f : BufTy.Contents (Elt F) r.view.ty) : sProp 𝕄 :=
  iprop(r.view.loc (c : Thread nD τ) ↦[r.view.set]{fullShare} f)

variable (c : Dev nD) (i : grid0.Coords)
  (arg2 : Memref sig .tc .vmem S512x1408 .bf16) (harg2 : arg2.IsWhole) (arg3 : Memref sig .tc .vmem S512x1408 .bf16) (harg3 : arg3.IsWhole)
  (arg4 : Memref sig .tc .vmem S8x1408 .bf16) (harg4 : arg4.IsWhole) (arg5 : Memref sig .tc .vmem S8x1408 .bf16) (harg5 : arg5.IsWhole)
  (arg6 : Memref sig .tc .vmem S3x1408 .f32) (harg6 : arg6.IsWhole) (arg7 : Memref sig .tc .vmem S3x1408 .f32) (harg7 : arg7.IsWhole)
  (arg8 : Memref sig .tc .vmem S1x1408 .f32) (harg8 : arg8.IsWhole) (arg9 : Memref sig .tc .vmem S1x1408 .f32) (harg9 : arg9.IsWhole)
  (arg10 : Memref sig .tc .vmem S512x1408 .bf16) (harg10 : arg10.IsWhole)
  (arg11 : Memref sig .tc .vmem S512x1408 .bf16) (harg11 : arg11.IsWhole) (arg12 : Memref sig .tc .vmem S512x1408 .bf16) (harg12 : arg12.IsWhole)
  (arg13 : Memref sig .tc .vmem S1x1408 .f32) (harg13 : arg13.IsWhole) (arg14 : Memref sig .tc .vmem S1x1408 .f32) (harg14 : arg14.IsWhole)
  (arg15 : Memref sig .tc .vmem S3x1408 .f32) (harg15 : arg15.IsWhole) (arg16 : Memref sig .tc .vmem S3x1408 .f32) (harg16 : arg16.IsWhole)
  (arg1 : BitVec 32)
  (X2 : BufTy.Contents (Elt F) arg2.view.ty) (X3 : BufTy.Contents (Elt F) arg3.view.ty) (X4 : BufTy.Contents (Elt F) arg4.view.ty)
  (X5 : BufTy.Contents (Elt F) arg5.view.ty) (X6 : BufTy.Contents (Elt F) arg6.view.ty) (X7 : BufTy.Contents (Elt F) arg7.view.ty)
  (X8 : BufTy.Contents (Elt F) arg8.view.ty) (X9 : BufTy.Contents (Elt F) arg9.view.ty) (X10 : BufTy.Contents (Elt F) arg10.view.ty)

/-- The buffers of a trip: what it reads, and what it writes. -/
abbrev Trip (f11 : BufTy.Contents (Elt F) arg11.view.ty) (f12 : BufTy.Contents (Elt F) arg12.view.ty) (f13 : BufTy.Contents (Elt F) arg13.view.ty)
    (f14 : BufTy.Contents (Elt F) arg14.view.ty) (f15 : BufTy.Contents (Elt F) arg15.view.ty) (f16 : BufTy.Contents (Elt F) arg16.view.ty) : sProp 𝕄 :=
  iprop(own c arg2 X2 ∗ own c arg3 X3 ∗ own c arg4 X4 ∗ own c arg5 X5 ∗ own c arg6 X6 ∗ own c arg7 X7 ∗ own c arg8 X8 ∗ own c arg9 X9 ∗ own c arg10 X10
    ∗ own c arg11 f11 ∗ own c arg12 f12 ∗ own c arg13 f13 ∗ own c arg14 f14 ∗ own c arg15 f15 ∗ own c arg16 f16)

/-- One trip of the lanes' loop, and the pieces that it writes into each result. -/
@[irreducible] def trip (𝒱 : Variants) (bd : Option 𝒱.V) (k : Fin k0_t1_loop.trips) :
    Σ' (L11 : List (View.Piece (Elt F) S512x1408 .bf16)) (L12 : List (View.Piece (Elt F) S512x1408 .bf16))
      (L13 : BufTy.Contents (Elt F) arg13.view.ty → List (View.Piece (Elt F) S1x1408 .f32))
      (L14 : BufTy.Contents (Elt F) arg14.view.ty → List (View.Piece (Elt F) S1x1408 .f32))
      (L15 : BufTy.Contents (Elt F) arg15.view.ty → List (View.Piece (Elt F) S3x1408 .f32)),
      { L16 : BufTy.Contents (Elt F) arg16.view.ty → List (View.Piece (Elt F) S3x1408 .f32) // ∀ (E : Set ℕ) f11 f12 f13 f14 f15 f16,
      Trip (F := F) c arg2 arg3 arg4 arg5 arg6 arg7 arg8 arg9 arg10 arg11 arg12 arg13 arg14 arg15 arg16 X2 X3 X4 X5 X6 X7 X8 X9 X10 f11 f12 f13 f14 f15 f16
      ⊢ wp frame (wpE (defs₀ (F := F)) 𝒱 (c : Thread nD τ) bd) E (k0_t1_body (F := F) i arg2 harg2 arg3 harg3 arg4 harg4 arg5 harg5 arg6 harg6 arg7 harg7
            arg8 harg8 arg9 harg9 arg10 harg10 arg11 harg11 arg12 harg12 arg13 harg13 arg14 harg14 arg15 harg15 arg16 harg16 arg1 k PUnit.unit)
          (fun _ => Trip (F := F) c arg2 arg3 arg4 arg5 arg6 arg7 arg8 arg9 arg10 arg11 arg12 arg13 arg14 arg15 arg16 X2 X3 X4 X5 X6 X7 X8 X9 X10
            (arg11.view.writes (Elt F) f11 L11) (arg12.view.writes (Elt F) f12 L12) (arg13.view.writes (Elt F) f13 (L13 f13))
            (arg14.view.writes (Elt F) f14 (L14 f14)) (arg15.view.writes (Elt F) f15 (L15 f15)) (arg16.view.writes (Elt F) f16 (L16 f16))) } := by
  have hk : k.val < 11 := Nat.lt_of_lt_of_le k.isLt k0_t1_abs.2.1
  refine ⟨?_, ?_, ?_, ?_, ?_, ?_, fun E f11 f12 f13 f14 f15 f16 => ?run⟩
  case run =>
    unfold k0_t1_body
    iintro ⟨H2, H3, H4, H5, H6, H7, H8, H9, H10, H11, H12, H13, H14, H15, H16⟩
    sl_exec
    sl_step
    sl_close

/-- The lists of the trips before the `n`-th, the last trip's first. -/
def lists {β : Type} {N : ℕ} (f : Fin N → List β) : ℕ → List β
  | 0 => []
  | n + 1 => if h : n < N then f ⟨n, h⟩ ++ lists f n else lists f n

/-- A state after the trips before the `n`-th. -/
def states {α : Type} {N : ℕ} (f : Fin N → α → α) (a : α) : ℕ → α
  | 0 => a
  | n + 1 => if h : n < N then f ⟨n, h⟩ (states f a n) else states f a n

/-- One trip more puts its list in front. -/
theorem lists_succ {β : Type} {N : ℕ} (f : Fin N → List β) (k : Fin N) : lists f (k.val + 1) = f k ++ lists f k.val := by
  rw [lists]
  exact dif_pos k.isLt

/-- One trip more takes one step more. -/
theorem states_succ {α : Type} {N : ℕ} (f : Fin N → α → α) (a : α) (k : Fin N) : states f a (k.val + 1) = f k (states f a k.val) := by
  rw [states]
  exact dif_pos k.isLt

variable (𝒱 : Variants) (bd : Option 𝒱.V)

/-- What a trip stores of the gradient of the up half. -/
abbrev L11 (k : Fin k0_t1_loop.trips) := (trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X2 X3 X4 X5 X6 X7 X8 X9 X10 𝒱 bd k).1
/-- What a trip stores of the gradient of the gate half. -/
abbrev L12 (k : Fin k0_t1_loop.trips) := (trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X2 X3 X4 X5 X6 X7 X8 X9 X10 𝒱 bd k).2.1
/-- What a trip leaves of the up half's bias gradient. -/
abbrev S13 (k : Fin k0_t1_loop.trips) (f : BufTy.Contents (Elt F) arg13.view.ty) := arg13.view.writes (Elt F) f ((trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X2 X3 X4 X5 X6 X7 X8 X9 X10 𝒱 bd k).2.2.1 f)
/-- What a trip leaves of the gate half's bias gradient. -/
abbrev S14 (k : Fin k0_t1_loop.trips) (f : BufTy.Contents (Elt F) arg14.view.ty) := arg14.view.writes (Elt F) f ((trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X2 X3 X4 X5 X6 X7 X8 X9 X10 𝒱 bd k).2.2.2.1 f)
/-- What a trip leaves of the up half's taps' gradient. -/
abbrev S15 (k : Fin k0_t1_loop.trips) (f : BufTy.Contents (Elt F) arg15.view.ty) := arg15.view.writes (Elt F) f ((trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X2 X3 X4 X5 X6 X7 X8 X9 X10 𝒱 bd k).2.2.2.2.1 f)
/-- What a trip leaves of the gate half's taps' gradient. -/
abbrev S16 (k : Fin k0_t1_loop.trips) (f : BufTy.Contents (Elt F) arg16.view.ty) := arg16.view.writes (Elt F) f ((trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X2 X3 X4 X5 X6 X7 X8 X9 X10 𝒱 bd k).2.2.2.2.2.1 f)

variable (G11 : BufTy.Contents (Elt F) arg11.view.ty) (G12 : BufTy.Contents (Elt F) arg12.view.ty) (G13 : BufTy.Contents (Elt F) arg13.view.ty)
    (G14 : BufTy.Contents (Elt F) arg14.view.ty) (G15 : BufTy.Contents (Elt F) arg15.view.ty) (G16 : BufTy.Contents (Elt F) arg16.view.ty)

/-- What holds before a trip: the operands as they were, and each result as the trips before left it. -/
abbrev inv (k : ℕ) (_u : PUnit) : sProp 𝕄 :=
  iprop(own c arg2 X2 ∗ own c arg3 X3 ∗ own c arg4 X4 ∗ own c arg5 X5 ∗ own c arg6 X6 ∗ own c arg7 X7 ∗ own c arg8 X8 ∗ own c arg9 X9 ∗ own c arg10 X10
    ∗ (∃ f, own c arg11 f ∗ ⌜f = arg11.view.writes (Elt F) G11 (lists (L11 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X2 X3 X4 X5 X6 X7 X8 X9 X10 𝒱 bd) k)⌝)
    ∗ (∃ f, own c arg12 f ∗ ⌜f = arg12.view.writes (Elt F) G12 (lists (L12 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X2 X3 X4 X5 X6 X7 X8 X9 X10 𝒱 bd) k)⌝)
    ∗ (∃ f, own c arg13 f ∗ ⌜f = states (S13 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X2 X3 X4 X5 X6 X7 X8 X9 X10 𝒱 bd) G13 k⌝)
    ∗ (∃ f, own c arg14 f ∗ ⌜f = states (S14 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X2 X3 X4 X5 X6 X7 X8 X9 X10 𝒱 bd) G14 k⌝)
    ∗ (∃ f, own c arg15 f ∗ ⌜f = states (S15 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X2 X3 X4 X5 X6 X7 X8 X9 X10 𝒱 bd) G15 k⌝)
    ∗ (∃ f, own c arg16 f ∗ ⌜f = states (S16 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X2 X3 X4 X5 X6 X7 X8 X9 X10 𝒱 bd) G16 k⌝))

set_option warn.classDefReducibility false in
/-- The loop by what holds before each trip. -/
@[sl_loop] def loopInv (E : Set ℕ) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 where
  inv := inv (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X2 X3 X4 X5 X6 X7 X8 X9 X10 𝒱 bd G11 G12 G13 G14 G15 G16
  step k acc := by
    iintro ⟨H2, H3, H4, H5, H6, H7, H8, H9, H10, ⟨%f11, H11, %h11⟩, ⟨%f12, H12, %h12⟩, ⟨%f13, H13, %h13⟩, ⟨%f14, H14, %h14⟩, ⟨%f15, H15, %h15⟩, ⟨%f16, H16, %h16⟩⟩
    iapply (wp_wand_r Idealize.ShloMosaic.frame (wpE (defs₀ (F := F)) 𝒱 (c : Thread nD τ) bd) E)
    isplitl [H2 H3 H4 H5 H6 H7 H8 H9 H10 H11 H12 H13 H14 H15 H16]
    · iapply ((trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X2 X3 X4 X5 X6 X7 X8 X9 X10 𝒱 bd k).2.2.2.2.2.2 E f11 f12 f13 f14 f15 f16)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    · iintro %_ ⟨H2, H3, H4, H5, H6, H7, H8, H9, H10, H11, H12, H13, H14, H15, H16⟩
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]
      · iexists _; isplitl [H11]; · iexact H11
        ipureintro; rw [lists_succ, h11, ← View.writes_append]
      isplitl [H12]
      · iexists _; isplitl [H12]; · iexact H12
        ipureintro; rw [lists_succ, h12, ← View.writes_append]
      isplitl [H13]
      · iexists _; isplitl [H13]; · iexact H13
        ipureintro; rw [states_succ, h13]
      isplitl [H14]
      · iexists _; isplitl [H14]; · iexact H14
        ipureintro; rw [states_succ, h14]
      isplitl [H15]
      · iexists _; isplitl [H15]; · iexact H15
        ipureintro; rw [states_succ, h15]
      iexists _; isplitl [H16]; · iexact H16
      ipureintro; rw [states_succ, h16]

end Cert.GateIdeal.Loop
-- ==== Proof.GateWords.lean ====
module

public import proofs.«01_k».proof.Proof.GateLoop

@[expose] public section

set_option maxRecDepth 16384
set_option maxHeartbeats 1000000

noncomputable section

namespace Cert.GateIdeal.Loop

open Idealize.ShloMosaic Idealize.ShloMosaic.TcCoe Idealize.ShloMosaic.Tactic
open Idealize.SL.Sem
open Cert.GateIdeal Cert.GateIdeal.Gen

variable {F : FTy → Type} [FloatOps F]

/-- A block of rows as the kernel computes with it. -/
def wide (x : Vec F S128x128 .bf16) : FVec F S128x128 .f32 := extf .f32 x bitsLt_bf16_f32

/-- A block moved down by one row, the row before it put first. -/
def tap1 (x : FVec F S128x128 .f32) (h7 : FVec F S1x128 .f32) : FVec F S128x128 .f32 :=
  concatenate S128x128 0
    [⟨S8x128, select (cmpi .eq (iota .tc S8x128 32 [0] iota_S8x128_d0_w32) (broadcast S8x128 0#32))
        (broadcastTo S8x128 (shapeCast S1x128 h7 shapeCasts_S1x128_S1x128) broadcasts_S1x128_S8x128)
        (extractStridedSlice S8x128 ![0, 0] (dynamicRotate 0 1#32 none x rotates_S128x128_d0) slices_S128x128_o0_0_S8x128)⟩,
     ⟨S120x128, extractStridedSlice S120x128 ![8, 0] (dynamicRotate 0 1#32 none x rotates_S128x128_d0) slices_S128x128_o8_0_S120x128⟩]
    concatenates_S8x128_S120x128_S128x128_d0

/-- A block moved down by two rows, the two rows before it put first. -/
def tap0 (x : FVec F S128x128 .f32) (h6 h7 : FVec F S1x128 .f32) : FVec F S128x128 .f32 :=
  concatenate S128x128 0
    [⟨S8x128, select (cmpi .eq (iota .tc S8x128 32 [0] iota_S8x128_d0_w32) (broadcast S8x128 0#32))
        (broadcastTo S8x128 (shapeCast S1x128 h6 shapeCasts_S1x128_S1x128) broadcasts_S1x128_S8x128)
        (select (cmpi .eq (iota .tc S8x128 32 [0] iota_S8x128_d0_w32) (broadcast S8x128 1#32))
          (broadcastTo S8x128 (shapeCast S1x128 h7 shapeCasts_S1x128_S1x128) broadcasts_S1x128_S8x128)
          (extractStridedSlice S8x128 ![0, 0] (dynamicRotate 0 2#32 none x rotates_S128x128_d0) slices_S128x128_o0_0_S8x128))⟩,
     ⟨S120x128, extractStridedSlice S120x128 ![8, 0] (dynamicRotate 0 2#32 none x rotates_S128x128_d0) slices_S128x128_o8_0_S120x128⟩]
    concatenates_S8x128_S120x128_S128x128_d0

/-- The three taps and the bias over a block. -/
def conv (t0 t1 t2 : FVec F S128x128 .f32) (w0 w1 w2 b : Vec F S1x128 .f32) : FVec F S128x128 .f32 :=
  addf (addf (addf (mulf (broadcastTo S128x128 w0 broadcasts_S1x128_S128x128) t0) (mulf (broadcastTo S128x128 w1 broadcasts_S1x128_S128x128) t1))
    (mulf (broadcastTo S128x128 w2 broadcasts_S1x128_S128x128) t2)) (broadcastTo S128x128 b broadcasts_S1x128_S128x128)

/-- The logistic function of a block. -/
def logis (g : FVec F S128x128 .f32) : FVec F S128x128 .f32 :=
  reciprocal true (addf (broadcast S128x128 (Scalar.ofBits .f32 0x3F800000#32)) (exp (subf (broadcast S128x128 (Scalar.ofBits .f32 0x00000000#32)) g)))

/-- The gradient of the up half. -/
def gradUp (d g : FVec F S128x128 .f32) : FVec F S128x128 .f32 := mulf d (mulf g (logis g))

/-- The gradient of the gate half. -/
def gradGate (d u g : FVec F S128x128 .f32) : FVec F S128x128 .f32 :=
  mulf (mulf d u) (mulf (logis g) (addf (broadcast S128x128 (Scalar.ofBits .f32 0x3F800000#32))
    (mulf g (subf (broadcast S128x128 (Scalar.ofBits .f32 0x3F800000#32)) (logis g)))))

/-- The sum of a block's rows. -/
def total (x : FVec F S128x128 .f32) : FVec F S1x128 .f32 :=
  shapeCast S1x128 (multiReduction .add [0] S128 x 0x00000000#32 reduces_S128x128_S128 (.inl rfl) rfl) shapeCasts_S128_S1x128

/-- A block as it is stored. -/
def narrow (x : FVec F S128x128 .f32) : Vec F S128x128 .bf16 := truncf .bf16 x bitsLt_bf16_f32

/-- What a trip reads for 128 rows: the two halves and the rows before them, and the gradient. -/
structure Rows (F : FTy → Type) where
  zu : Vec F S128x128 .bf16
  zg : Vec F S128x128 .bf16
  da : Vec F S128x128 .bf16
  u6 : FVec F S1x128 .f32
  u7 : FVec F S1x128 .f32
  g6 : FVec F S1x128 .f32
  g7 : FVec F S1x128 .f32

/-- What a trip reads of the taps and the biases. -/
structure Wts (F : FTy → Type) where
  u0 : Vec F S1x128 .f32
  u1 : Vec F S1x128 .f32
  u2 : Vec F S1x128 .f32
  ub : Vec F S1x128 .f32
  g0 : Vec F S1x128 .f32
  g1 : Vec F S1x128 .f32
  g2 : Vec F S1x128 .f32
  gb : Vec F S1x128 .f32

/-- The three taps of the up half, and of the gate half. -/
def Rows.ut0 (p : Rows F) : FVec F S128x128 .f32 := tap0 (wide p.zu) p.u6 p.u7
/-- The up half moved down by one row. -/
def Rows.ut1 (p : Rows F) : FVec F S128x128 .f32 := tap1 (wide p.zu) p.u7
/-- The up half in place. -/
def Rows.ut2 (p : Rows F) : FVec F S128x128 .f32 := wide p.zu
/-- The gate half moved down by two rows, -/
def Rows.gt0 (p : Rows F) : FVec F S128x128 .f32 := tap0 (wide p.zg) p.g6 p.g7
/-- … by one -/
def Rows.gt1 (p : Rows F) : FVec F S128x128 .f32 := tap1 (wide p.zg) p.g7
/-- … and in place. -/
def Rows.gt2 (p : Rows F) : FVec F S128x128 .f32 := wide p.zg

/-- The two halves after the taps, and their gradients. -/
def Rows.up (p : Rows F) (w : Wts F) : FVec F S128x128 .f32 := conv p.ut0 p.ut1 p.ut2 w.u0 w.u1 w.u2 w.ub
/-- The gate half after the taps. -/
def Rows.gate (p : Rows F) (w : Wts F) : FVec F S128x128 .f32 := conv p.gt0 p.gt1 p.gt2 w.g0 w.g1 w.g2 w.gb
/-- The up half's gradient. -/
def Rows.du (p : Rows F) (w : Wts F) : FVec F S128x128 .f32 := gradUp (wide p.da) (p.gate w)
/-- The gate half's gradient. -/
def Rows.dg (p : Rows F) (w : Wts F) : FVec F S128x128 .f32 := gradGate (wide p.da) (p.up w) (p.gate w)

/-- The stores of a row's running sum: each adds to what the stores before it left. -/
def push1 (v : View sig .tc .vmem S1x1408 .f32) (off : Fin 2 → ℕ) (inb : ∀ a, off a + S1x128.size a ≤ S1x1408.size a)
    (f : v.ty.Contents (Elt F)) (old : List (View.Piece (Elt F) S1x1408 .f32)) (d : FVec F S1x128 .f32)
    (L : List (View.Piece (Elt F) S1x1408 .f32)) : List (View.Piece (Elt F) S1x1408 .f32) :=
  ⟨Rect.unit (s := S1x1408) off S1x128.size inb,
    addf (shapeCast S1x128 (v.readAt (Elt F) (Rect.unit (s := S1x1408) off S1x128.size inb).toLoadRect (v.writes (Elt F) f old)) shapeCasts_S1x128_S1x128) d⟩ :: L

/-- The same for a row of three. -/
def push3 (v : View sig .tc .vmem S3x1408 .f32) (off : Fin 2 → ℕ) (inb : ∀ a, off a + S1x128.size a ≤ S3x1408.size a)
    (f : v.ty.Contents (Elt F)) (old : List (View.Piece (Elt F) S3x1408 .f32)) (d : FVec F S1x128 .f32)
    (L : List (View.Piece (Elt F) S3x1408 .f32)) : List (View.Piece (Elt F) S3x1408 .f32) :=
  ⟨Rect.unit (s := S3x1408) off S1x128.size inb,
    addf (shapeCast S1x128 (v.readAt (Elt F) (Rect.unit (s := S3x1408) off S1x128.size inb).toLoadRect (v.writes (Elt F) f old)) shapeCasts_S1x128_S1x128) d⟩ :: L

/-- The stores of a trip into a bias gradient: one per 128 rows. -/
def pile1 (v : View sig .tc .vmem S1x1408 .f32) (off : Fin 2 → ℕ) (inb : ∀ a, off a + S1x128.size a ≤ S1x1408.size a)
    (f : v.ty.Contents (Elt F)) (d : ℕ → FVec F S1x128 .f32) : ℕ → List (View.Piece (Elt F) S1x1408 .f32)
  | 0 => []
  | 1 => push1 v off inb f [] (d 0) []
  | n + 1 => push1 v off inb v.junk (pile1 v off inb f d n) (d n) (pile1 v off inb f d n)

/-- One round of the stores of a trip into a taps' gradient: its three rows in turn. -/
def round3 (v : View sig .tc .vmem S3x1408 .f32) (o0 o1 o2 : Fin 2 → ℕ) (i0 : ∀ a, o0 a + S1x128.size a ≤ S3x1408.size a)
    (i1 : ∀ a, o1 a + S1x128.size a ≤ S3x1408.size a) (i2 : ∀ a, o2 a + S1x128.size a ≤ S3x1408.size a)
    (d0 d1 d2 : FVec F S1x128 .f32) (L : List (View.Piece (Elt F) S3x1408 .f32)) : List (View.Piece (Elt F) S3x1408 .f32) :=
  push3 v o2 i2 v.junk (push3 v o1 i1 v.junk (push3 v o0 i0 v.junk L d0 L) d1 (push3 v o0 i0 v.junk L d0 L)) d2
    (push3 v o1 i1 v.junk (push3 v o0 i0 v.junk L d0 L) d1 (push3 v o0 i0 v.junk L d0 L))

/-- The stores of a trip into a taps' gradient: three per 128 rows. -/
def pile3 (v : View sig .tc .vmem S3x1408 .f32) (o0 o1 o2 : Fin 2 → ℕ) (i0 : ∀ a, o0 a + S1x128.size a ≤ S3x1408.size a)
    (i1 : ∀ a, o1 a + S1x128.size a ≤ S3x1408.size a) (i2 : ∀ a, o2 a + S1x128.size a ≤ S3x1408.size a)
    (f : v.ty.Contents (Elt F)) (d0 d1 d2 : ℕ → FVec F S1x128 .f32) : ℕ → List (View.Piece (Elt F) S3x1408 .f32)
  | 0 => []
  | 1 => push3 v o2 i2 f [] (d2 0) (push3 v o1 i1 f [] (d1 0) (push3 v o0 i0 f [] (d0 0) []))
  | n + 1 => round3 v o0 o1 o2 i0 i1 i2 (d0 n) (d1 n) (d2 n) (pile3 v o0 o1 o2 i0 i1 i2 f d0 d1 d2 n)

variable (c : Dev nD) (i : grid0.Coords)
  (arg2 : Memref sig .tc .vmem S512x1408 .bf16) (harg2 : arg2.IsWhole) (arg3 : Memref sig .tc .vmem S512x1408 .bf16) (harg3 : arg3.IsWhole)
  (arg4 : Memref sig .tc .vmem S8x1408 .bf16) (harg4 : arg4.IsWhole) (arg5 : Memref sig .tc .vmem S8x1408 .bf16) (harg5 : arg5.IsWhole)
  (arg6 : Memref sig .tc .vmem S3x1408 .f32) (harg6 : arg6.IsWhole) (arg7 : Memref sig .tc .vmem S3x1408 .f32) (harg7 : arg7.IsWhole)
  (arg8 : Memref sig .tc .vmem S1x1408 .f32) (harg8 : arg8.IsWhole) (arg9 : Memref sig .tc .vmem S1x1408 .f32) (harg9 : arg9.IsWhole)
  (arg10 : Memref sig .tc .vmem S512x1408 .bf16) (harg10 : arg10.IsWhole)
  (arg11 : Memref sig .tc .vmem S512x1408 .bf16) (harg11 : arg11.IsWhole) (arg12 : Memref sig .tc .vmem S512x1408 .bf16) (harg12 : arg12.IsWhole)
  (arg13 : Memref sig .tc .vmem S1x1408 .f32) (harg13 : arg13.IsWhole) (arg14 : Memref sig .tc .vmem S1x1408 .f32) (harg14 : arg14.IsWhole)
  (arg15 : Memref sig .tc .vmem S3x1408 .f32) (harg15 : arg15.IsWhole) (arg16 : Memref sig .tc .vmem S3x1408 .f32) (harg16 : arg16.IsWhole)
  (arg1 : BitVec 32)
  (X2 : BufTy.Contents (Elt F) arg2.view.ty) (X3 : BufTy.Contents (Elt F) arg3.view.ty) (X4 : BufTy.Contents (Elt F) arg4.view.ty)
  (X5 : BufTy.Contents (Elt F) arg5.view.ty) (X6 : BufTy.Contents (Elt F) arg6.view.ty) (X7 : BufTy.Contents (Elt F) arg7.view.ty)
  (X8 : BufTy.Contents (Elt F) arg8.view.ty) (X9 : BufTy.Contents (Elt F) arg9.view.ty) (X10 : BufTy.Contents (Elt F) arg10.view.ty)
  (𝒱 : Variants) (bd : Option 𝒱.V) (k : Fin k0_t1_loop.trips)

/-- The taps and biases that a trip reads. -/
def wts : Wts F :=
  ⟨(View.readAt (Elt F) arg6.view (Rect.unit (s := S3x1408) (k0_off3 k) S1x128.size (k0_off3_inb k)).toLoadRect X6), (View.readAt (Elt F) arg6.view (Rect.unit (s := S3x1408) (k0_off4 k) S1x128.size (k0_off4_inb k)).toLoadRect X6),
   (View.readAt (Elt F) arg6.view (Rect.unit (s := S3x1408) (k0_off5 k) S1x128.size (k0_off5_inb k)).toLoadRect X6), (View.readAt (Elt F) arg8.view (Rect.unit (s := S1x1408) (k0_off6 k) S1x128.size (k0_off6_inb k)).toLoadRect X8),
   (View.readAt (Elt F) arg7.view (Rect.unit (s := S3x1408) (k0_off3 k) S1x128.size (k0_off3_inb k)).toLoadRect X7), (View.readAt (Elt F) arg7.view (Rect.unit (s := S3x1408) (k0_off4 k) S1x128.size (k0_off4_inb k)).toLoadRect X7),
   (View.readAt (Elt F) arg7.view (Rect.unit (s := S3x1408) (k0_off5 k) S1x128.size (k0_off5_inb k)).toLoadRect X7), (View.readAt (Elt F) arg9.view (Rect.unit (s := S1x1408) (k0_off6 k) S1x128.size (k0_off6_inb k)).toLoadRect X9)⟩

/-- The rows before the block: the halo's, scaled by nought at the first block. -/
def halo (x : Vec F S8x128 .bf16) : FVec F S8x128 .f32 :=
  mulf (extf .f32 x bitsLt_bf16_f32) (broadcast S8x128 (Scalar.select (Scalar.cmpi .eq arg1 0#32) (Scalar.ofBits .f32 0x00000000#32) (Scalar.ofBits .f32 0x3F800000#32)))

/-- The rows before a later part of the block: the block's own. -/
def tail8 (x : Vec F S16x128 .bf16) : FVec F S8x128 .f32 := extractStridedSlice S8x128 ![8, 0] (extf .f32 x bitsLt_bf16_f32) slices_S16x128_o8_0_S8x128

/-- The last two of eight rows. -/
def row6 (x : FVec F S8x128 .f32) : FVec F S1x128 .f32 := extractStridedSlice S1x128 ![6, 0] x slices_S8x128_o6_0_S1x128
/-- The last row of eight. -/
def row7 (x : FVec F S8x128 .f32) : FVec F S1x128 .f32 := extractStridedSlice S1x128 ![7, 0] x slices_S8x128_o7_0_S1x128

/-- The first 128 rows that a trip reads. -/
def rows0 : Rows F :=
  ⟨(View.readAt (Elt F) arg2.view (Rect.unit (s := S512x1408) (k0_off1 k) S128x128.size (k0_off1_inb k)).toLoadRect X2), (View.readAt (Elt F) arg3.view (Rect.unit (s := S512x1408) (k0_off1 k) S128x128.size (k0_off1_inb k)).toLoadRect X3),
   (View.readAt (Elt F) arg10.view (Rect.unit (s := S512x1408) (k0_off1 k) S128x128.size (k0_off1_inb k)).toLoadRect X10),
   row6 (halo arg1 (View.readAt (Elt F) arg4.view (Rect.unit (s := S8x1408) (k0_off2 k) S8x128.size (k0_off2_inb k)).toLoadRect X4)), row7 (halo arg1 (View.readAt (Elt F) arg4.view (Rect.unit (s := S8x1408) (k0_off2 k) S8x128.size (k0_off2_inb k)).toLoadRect X4)),
   row6 (halo arg1 (View.readAt (Elt F) arg5.view (Rect.unit (s := S8x1408) (k0_off2 k) S8x128.size (k0_off2_inb k)).toLoadRect X5)), row7 (halo arg1 (View.readAt (Elt F) arg5.view (Rect.unit (s := S8x1408) (k0_off2 k) S8x128.size (k0_off2_inb k)).toLoadRect X5))⟩

/-- The second 128 rows that a trip reads. -/
def rows1 : Rows F :=
  ⟨(View.readAt (Elt F) arg2.view (Rect.unit (s := S512x1408) (k0_off7 k) S128x128.size (k0_off7_inb k)).toLoadRect X2), (View.readAt (Elt F) arg3.view (Rect.unit (s := S512x1408) (k0_off7 k) S128x128.size (k0_off7_inb k)).toLoadRect X3),
   (View.readAt (Elt F) arg10.view (Rect.unit (s := S512x1408) (k0_off7 k) S128x128.size (k0_off7_inb k)).toLoadRect X10),
   row6 (tail8 (View.readAt (Elt F) arg2.view (Rect.unit (s := S512x1408) (k0_off8 k) S16x128.size (k0_off8_inb k)).toLoadRect X2)), row7 (tail8 (View.readAt (Elt F) arg2.view (Rect.unit (s := S512x1408) (k0_off8 k) S16x128.size (k0_off8_inb k)).toLoadRect X2)),
   row6 (tail8 (View.readAt (Elt F) arg3.view (Rect.unit (s := S512x1408) (k0_off8 k) S16x128.size (k0_off8_inb k)).toLoadRect X3)), row7 (tail8 (View.readAt (Elt F) arg3.view (Rect.unit (s := S512x1408) (k0_off8 k) S16x128.size (k0_off8_inb k)).toLoadRect X3))⟩

/-- The third 128 rows that a trip reads. -/
def rows2 : Rows F :=
  ⟨(View.readAt (Elt F) arg2.view (Rect.unit (s := S512x1408) (k0_off9 k) S128x128.size (k0_off9_inb k)).toLoadRect X2), (View.readAt (Elt F) arg3.view (Rect.unit (s := S512x1408) (k0_off9 k) S128x128.size (k0_off9_inb k)).toLoadRect X3),
   (View.readAt (Elt F) arg10.view (Rect.unit (s := S512x1408) (k0_off9 k) S128x128.size (k0_off9_inb k)).toLoadRect X10),
   row6 (tail8 (View.readAt (Elt F) arg2.view (Rect.unit (s := S512x1408) (k0_off10 k) S16x128.size (k0_off10_inb k)).toLoadRect X2)), row7 (tail8 (View.readAt (Elt F) arg2.view (Rect.unit (s := S512x1408) (k0_off10 k) S16x128.size (k0_off10_inb k)).toLoadRect X2)),
   row6 (tail8 (View.readAt (Elt F) arg3.view (Rect.unit (s := S512x1408) (k0_off10 k) S16x128.size (k0_off10_inb k)).toLoadRect X3)), row7 (tail8 (View.readAt (Elt F) arg3.view (Rect.unit (s := S512x1408) (k0_off10 k) S16x128.size (k0_off10_inb k)).toLoadRect X3))⟩

/-- The last 128 rows that a trip reads. -/
def rows3 : Rows F :=
  ⟨(View.readAt (Elt F) arg2.view (Rect.unit (s := S512x1408) (k0_off11 k) S128x128.size (k0_off11_inb k)).toLoadRect X2), (View.readAt (Elt F) arg3.view (Rect.unit (s := S512x1408) (k0_off11 k) S128x128.size (k0_off11_inb k)).toLoadRect X3),
   (View.readAt (Elt F) arg10.view (Rect.unit (s := S512x1408) (k0_off11 k) S128x128.size (k0_off11_inb k)).toLoadRect X10),
   row6 (tail8 (View.readAt (Elt F) arg2.view (Rect.unit (s := S512x1408) (k0_off12 k) S16x128.size (k0_off12_inb k)).toLoadRect X2)), row7 (tail8 (View.readAt (Elt F) arg2.view (Rect.unit (s := S512x1408) (k0_off12 k) S16x128.size (k0_off12_inb k)).toLoadRect X2)),
   row6 (tail8 (View.readAt (Elt F) arg3.view (Rect.unit (s := S512x1408) (k0_off12 k) S16x128.size (k0_off12_inb k)).toLoadRect X3)), row7 (tail8 (View.readAt (Elt F) arg3.view (Rect.unit (s := S512x1408) (k0_off12 k) S16x128.size (k0_off12_inb k)).toLoadRect X3))⟩

/-- The four parts of a trip's rows, in order. -/
def parts : ℕ → Rows F
  | 0 => rows0 arg2 arg3 arg4 arg5 arg10 arg1 X2 X3 X4 X5 X10 k
  | 1 => rows1 arg2 arg3 arg10 X2 X3 X10 k
  | 2 => rows2 arg2 arg3 arg10 X2 X3 X10 k
  | _ => rows3 arg2 arg3 arg10 X2 X3 X10 k

end Cert.GateIdeal.Loop
-- ==== Proof.GateTrips.lean ====
module

public import proofs.«01_k».proof.Proof.GateWords

@[expose] public section

set_option maxRecDepth 16384
set_option maxHeartbeats 400000

noncomputable section

namespace Cert.GateIdeal.Loop

open Idealize.ShloMosaic Idealize.ShloMosaic.TcCoe Idealize.ShloMosaic.Tactic
open Idealize.SL.Sem
open Cert.GateIdeal Cert.GateIdeal.Gen

variable {F : FTy → Type} [FloatOps F]

variable (c : Dev nD) (i : grid0.Coords)
  (arg2 : Memref sig .tc .vmem S512x1408 .bf16) (harg2 : arg2.IsWhole) (arg3 : Memref sig .tc .vmem S512x1408 .bf16) (harg3 : arg3.IsWhole)
  (arg4 : Memref sig .tc .vmem S8x1408 .bf16) (harg4 : arg4.IsWhole) (arg5 : Memref sig .tc .vmem S8x1408 .bf16) (harg5 : arg5.IsWhole)
  (arg6 : Memref sig .tc .vmem S3x1408 .f32) (harg6 : arg6.IsWhole) (arg7 : Memref sig .tc .vmem S3x1408 .f32) (harg7 : arg7.IsWhole)
  (arg8 : Memref sig .tc .vmem S1x1408 .f32) (harg8 : arg8.IsWhole) (arg9 : Memref sig .tc .vmem S1x1408 .f32) (harg9 : arg9.IsWhole)
  (arg10 : Memref sig .tc .vmem S512x1408 .bf16) (harg10 : arg10.IsWhole)
  (arg11 : Memref sig .tc .vmem S512x1408 .bf16) (harg11 : arg11.IsWhole) (arg12 : Memref sig .tc .vmem S512x1408 .bf16) (harg12 : arg12.IsWhole)
  (arg13 : Memref sig .tc .vmem S1x1408 .f32) (harg13 : arg13.IsWhole) (arg14 : Memref sig .tc .vmem S1x1408 .f32) (harg14 : arg14.IsWhole)
  (arg15 : Memref sig .tc .vmem S3x1408 .f32) (harg15 : arg15.IsWhole) (arg16 : Memref sig .tc .vmem S3x1408 .f32) (harg16 : arg16.IsWhole)
  (arg1 : BitVec 32)
  (X2 : BufTy.Contents (Elt F) arg2.view.ty) (X3 : BufTy.Contents (Elt F) arg3.view.ty) (X4 : BufTy.Contents (Elt F) arg4.view.ty)
  (X5 : BufTy.Contents (Elt F) arg5.view.ty) (X6 : BufTy.Contents (Elt F) arg6.view.ty) (X7 : BufTy.Contents (Elt F) arg7.view.ty)
  (X8 : BufTy.Contents (Elt F) arg8.view.ty) (X9 : BufTy.Contents (Elt F) arg9.view.ty) (X10 : BufTy.Contents (Elt F) arg10.view.ty)
  (𝒱 : Variants) (bd : Option 𝒱.V) (k : Fin k0_t1_loop.trips)

/-- What a trip stores of the up half's gradient. -/
theorem trip11 : (trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X2 X3 X4 X5 X6 X7 X8 X9 X10 𝒱 bd k).1 =
    [⟨Rect.unit (s := S512x1408) (k0_off11 k) S128x128.size (k0_off11_inb k), narrow ((rows3 arg2 arg3 arg10 X2 X3 X10 k).du (wts arg6 arg7 arg8 arg9 X6 X7 X8 X9 k))⟩,
     ⟨Rect.unit (s := S512x1408) (k0_off9 k) S128x128.size (k0_off9_inb k), narrow ((rows2 arg2 arg3 arg10 X2 X3 X10 k).du (wts arg6 arg7 arg8 arg9 X6 X7 X8 X9 k))⟩,
     ⟨Rect.unit (s := S512x1408) (k0_off7 k) S128x128.size (k0_off7_inb k), narrow ((rows1 arg2 arg3 arg10 X2 X3 X10 k).du (wts arg6 arg7 arg8 arg9 X6 X7 X8 X9 k))⟩,
     ⟨Rect.unit (s := S512x1408) (k0_off1 k) S128x128.size (k0_off1_inb k), narrow ((rows0 arg2 arg3 arg4 arg5 arg10 arg1 X2 X3 X4 X5 X10 k).du (wts arg6 arg7 arg8 arg9 X6 X7 X8 X9 k))⟩] := by
  unfold trip
  rfl

/-- What a trip stores of the gate half's gradient. -/
theorem trip12 : (trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X2 X3 X4 X5 X6 X7 X8 X9 X10 𝒱 bd k).2.1 =
    [⟨Rect.unit (s := S512x1408) (k0_off11 k) S128x128.size (k0_off11_inb k), narrow ((rows3 arg2 arg3 arg10 X2 X3 X10 k).dg (wts arg6 arg7 arg8 arg9 X6 X7 X8 X9 k))⟩,
     ⟨Rect.unit (s := S512x1408) (k0_off9 k) S128x128.size (k0_off9_inb k), narrow ((rows2 arg2 arg3 arg10 X2 X3 X10 k).dg (wts arg6 arg7 arg8 arg9 X6 X7 X8 X9 k))⟩,
     ⟨Rect.unit (s := S512x1408) (k0_off7 k) S128x128.size (k0_off7_inb k), narrow ((rows1 arg2 arg3 arg10 X2 X3 X10 k).dg (wts arg6 arg7 arg8 arg9 X6 X7 X8 X9 k))⟩,
     ⟨Rect.unit (s := S512x1408) (k0_off1 k) S128x128.size (k0_off1_inb k), narrow ((rows0 arg2 arg3 arg4 arg5 arg10 arg1 X2 X3 X4 X5 X10 k).dg (wts arg6 arg7 arg8 arg9 X6 X7 X8 X9 k))⟩] := by
  unfold trip
  rfl

/-- A trip's stores into the up half's bias gradient: the first, and each later one from those before it. -/
theorem h13_1 (f : BufTy.Contents (Elt F) arg13.view.ty) : (trip.sl.H13_1 arg3 arg5 arg7 arg9 arg10 arg13 arg1 X3 X5 X7 X9 X10 k f) = push1 arg13.view (k0_off6 k) (k0_off6_inb k) f [] (total ((rows0 arg2 arg3 arg4 arg5 arg10 arg1 X2 X3 X4 X5 X10 k).du (wts arg6 arg7 arg8 arg9 X6 X7 X8 X9 k))) [] := rfl

/-- The up half's bias after part 2. -/
theorem h13_2 (f : BufTy.Contents (Elt F) arg13.view.ty) : (trip.sl.H13_2 arg3 arg5 arg7 arg9 arg10 arg13 arg1 X3 X5 X7 X9 X10 k f) = push1 arg13.view (k0_off6 k) (k0_off6_inb k) arg13.view.junk (trip.sl.H13_1 arg3 arg5 arg7 arg9 arg10 arg13 arg1 X3 X5 X7 X9 X10 k f) (total ((rows1 arg2 arg3 arg10 X2 X3 X10 k).du (wts arg6 arg7 arg8 arg9 X6 X7 X8 X9 k))) (trip.sl.H13_1 arg3 arg5 arg7 arg9 arg10 arg13 arg1 X3 X5 X7 X9 X10 k f) := by
  unfold trip.sl.H13_2
  rfl

/-- The up half's bias after part 3. -/
theorem h13_3 (f : BufTy.Contents (Elt F) arg13.view.ty) : (trip.sl.H13_3 arg3 arg5 arg7 arg9 arg10 arg13 arg1 X3 X5 X7 X9 X10 k f) = push1 arg13.view (k0_off6 k) (k0_off6_inb k) arg13.view.junk (trip.sl.H13_2 arg3 arg5 arg7 arg9 arg10 arg13 arg1 X3 X5 X7 X9 X10 k f) (total ((rows2 arg2 arg3 arg10 X2 X3 X10 k).du (wts arg6 arg7 arg8 arg9 X6 X7 X8 X9 k))) (trip.sl.H13_2 arg3 arg5 arg7 arg9 arg10 arg13 arg1 X3 X5 X7 X9 X10 k f) := by
  unfold trip.sl.H13_3
  rfl

/-- The up half's bias after part 4. -/
theorem h13_4 (f : BufTy.Contents (Elt F) arg13.view.ty) : (trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X2 X3 X4 X5 X6 X7 X8 X9 X10 𝒱 bd k).2.2.1 f = push1 arg13.view (k0_off6 k) (k0_off6_inb k) arg13.view.junk (trip.sl.H13_3 arg3 arg5 arg7 arg9 arg10 arg13 arg1 X3 X5 X7 X9 X10 k f) (total ((rows3 arg2 arg3 arg10 X2 X3 X10 k).du (wts arg6 arg7 arg8 arg9 X6 X7 X8 X9 k))) (trip.sl.H13_3 arg3 arg5 arg7 arg9 arg10 arg13 arg1 X3 X5 X7 X9 X10 k f) := by
  unfold trip
  rfl

/-- What a trip stores of the up half's bias gradient. -/
theorem trip13 (f : BufTy.Contents (Elt F) arg13.view.ty) : (trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X2 X3 X4 X5 X6 X7 X8 X9 X10 𝒱 bd k).2.2.1 f =
    pile1 arg13.view (k0_off6 k) (k0_off6_inb k) f (fun n => total ((parts arg2 arg3 arg4 arg5 arg10 arg1 X2 X3 X4 X5 X10 k n).du (wts arg6 arg7 arg8 arg9 X6 X7 X8 X9 k))) 4 := by
  rw [h13_4, h13_3, h13_2, h13_1]
  rfl

/-- A trip's stores into the gate half's bias gradient: the first, and each later one from those before it. -/
theorem h14_1 (f : BufTy.Contents (Elt F) arg14.view.ty) : (trip.sl.H14_1 arg2 arg3 arg4 arg5 arg6 arg7 arg8 arg9 arg10 arg14 arg1 X2 X3 X4 X5 X6 X7 X8 X9 X10 k f) = push1 arg14.view (k0_off6 k) (k0_off6_inb k) f [] (total ((rows0 arg2 arg3 arg4 arg5 arg10 arg1 X2 X3 X4 X5 X10 k).dg (wts arg6 arg7 arg8 arg9 X6 X7 X8 X9 k))) [] := rfl

/-- The gate half's bias after part 2. -/
theorem h14_2 (f : BufTy.Contents (Elt F) arg14.view.ty) : (trip.sl.H14_2 arg2 arg3 arg4 arg5 arg6 arg7 arg8 arg9 arg10 arg14 arg1 X2 X3 X4 X5 X6 X7 X8 X9 X10 k f) = push1 arg14.view (k0_off6 k) (k0_off6_inb k) arg14.view.junk (trip.sl.H14_1 arg2 arg3 arg4 arg5 arg6 arg7 arg8 arg9 arg10 arg14 arg1 X2 X3 X4 X5 X6 X7 X8 X9 X10 k f) (total ((rows1 arg2 arg3 arg10 X2 X3 X10 k).dg (wts arg6 arg7 arg8 arg9 X6 X7 X8 X9 k))) (trip.sl.H14_1 arg2 arg3 arg4 arg5 arg6 arg7 arg8 arg9 arg10 arg14 arg1 X2 X3 X4 X5 X6 X7 X8 X9 X10 k f) := by
  unfold trip.sl.H14_2
  rfl

/-- The gate half's bias after part 3. -/
theorem h14_3 (f : BufTy.Contents (Elt F) arg14.view.ty) : (trip.sl.H14_3 arg2 arg3 arg4 arg5 arg6 arg7 arg8 arg9 arg10 arg14 arg1 X2 X3 X4 X5 X6 X7 X8 X9 X10 k f) = push1 arg14.view (k0_off6 k) (k0_off6_inb k) arg14.view.junk (trip.sl.H14_2 arg2 arg3 arg4 arg5 arg6 arg7 arg8 arg9 arg10 arg14 arg1 X2 X3 X4 X5 X6 X7 X8 X9 X10 k f) (total ((rows2 arg2 arg3 arg10 X2 X3 X10 k).dg (wts arg6 arg7 arg8 arg9 X6 X7 X8 X9 k))) (trip.sl.H14_2 arg2 arg3 arg4 arg5 arg6 arg7 arg8 arg9 arg10 arg14 arg1 X2 X3 X4 X5 X6 X7 X8 X9 X10 k f) := by
  unfold trip.sl.H14_3
  rfl

/-- The gate half's bias after part 4. -/
theorem h14_4 (f : BufTy.Contents (Elt F) arg14.view.ty) : (trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X2 X3 X4 X5 X6 X7 X8 X9 X10 𝒱 bd k).2.2.2.1 f = push1 arg14.view (k0_off6 k) (k0_off6_inb k) arg14.view.junk (trip.sl.H14_3 arg2 arg3 arg4 arg5 arg6 arg7 arg8 arg9 arg10 arg14 arg1 X2 X3 X4 X5 X6 X7 X8 X9 X10 k f) (total ((rows3 arg2 arg3 arg10 X2 X3 X10 k).dg (wts arg6 arg7 arg8 arg9 X6 X7 X8 X9 k))) (trip.sl.H14_3 arg2 arg3 arg4 arg5 arg6 arg7 arg8 arg9 arg10 arg14 arg1 X2 X3 X4 X5 X6 X7 X8 X9 X10 k f) := by
  unfold trip
  rfl

/-- What a trip stores of the gate half's bias gradient. -/
theorem trip14 (f : BufTy.Contents (Elt F) arg14.view.ty) : (trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X2 X3 X4 X5 X6 X7 X8 X9 X10 𝒱 bd k).2.2.2.1 f =
    pile1 arg14.view (k0_off6 k) (k0_off6_inb k) f (fun n => total ((parts arg2 arg3 arg4 arg5 arg10 arg1 X2 X3 X4 X5 X10 k n).dg (wts arg6 arg7 arg8 arg9 X6 X7 X8 X9 k))) 4 := by
  rw [h14_4, h14_3, h14_2, h14_1]
  rfl

/-- A trip's stores into the up half's taps gradient: the first three, and each later three from those before them. -/
theorem h15_3 (f : BufTy.Contents (Elt F) arg15.view.ty) : (trip.sl.H15_3 arg2 arg3 arg4 arg5 arg7 arg9 arg10 arg15 arg1 X2 X3 X4 X5 X7 X9 X10 k f) =
    push3 arg15.view (k0_off5 k) (k0_off5_inb k) f [] (total (mulf ((rows0 arg2 arg3 arg4 arg5 arg10 arg1 X2 X3 X4 X5 X10 k).du (wts arg6 arg7 arg8 arg9 X6 X7 X8 X9 k)) (rows0 arg2 arg3 arg4 arg5 arg10 arg1 X2 X3 X4 X5 X10 k).ut2))
      (push3 arg15.view (k0_off4 k) (k0_off4_inb k) f [] (total (mulf ((rows0 arg2 arg3 arg4 arg5 arg10 arg1 X2 X3 X4 X5 X10 k).du (wts arg6 arg7 arg8 arg9 X6 X7 X8 X9 k)) (rows0 arg2 arg3 arg4 arg5 arg10 arg1 X2 X3 X4 X5 X10 k).ut1))
        (push3 arg15.view (k0_off3 k) (k0_off3_inb k) f [] (total (mulf ((rows0 arg2 arg3 arg4 arg5 arg10 arg1 X2 X3 X4 X5 X10 k).du (wts arg6 arg7 arg8 arg9 X6 X7 X8 X9 k)) (rows0 arg2 arg3 arg4 arg5 arg10 arg1 X2 X3 X4 X5 X10 k).ut0)) [])) := rfl

/-- The up half's tap 0 after part 2. -/
theorem h15_4 (f : BufTy.Contents (Elt F) arg15.view.ty) : (trip.sl.H15_4 arg2 arg3 arg4 arg5 arg7 arg9 arg10 arg15 arg1 X2 X3 X4 X5 X7 X9 X10 k f) =
    push3 arg15.view (k0_off3 k) (k0_off3_inb k) arg15.view.junk (trip.sl.H15_3 arg2 arg3 arg4 arg5 arg7 arg9 arg10 arg15 arg1 X2 X3 X4 X5 X7 X9 X10 k f) (total (mulf ((rows1 arg2 arg3 arg10 X2 X3 X10 k).du (wts arg6 arg7 arg8 arg9 X6 X7 X8 X9 k)) (rows1 arg2 arg3 arg10 X2 X3 X10 k).ut0)) (trip.sl.H15_3 arg2 arg3 arg4 arg5 arg7 arg9 arg10 arg15 arg1 X2 X3 X4 X5 X7 X9 X10 k f) := by
  unfold trip.sl.H15_4
  rfl

/-- The up half's tap 1 after part 2. -/
theorem h15_5 (f : BufTy.Contents (Elt F) arg15.view.ty) : (trip.sl.H15_5 arg2 arg3 arg4 arg5 arg7 arg9 arg10 arg15 arg1 X2 X3 X4 X5 X7 X9 X10 k f) =
    push3 arg15.view (k0_off4 k) (k0_off4_inb k) arg15.view.junk (trip.sl.H15_4 arg2 arg3 arg4 arg5 arg7 arg9 arg10 arg15 arg1 X2 X3 X4 X5 X7 X9 X10 k f) (total (mulf ((rows1 arg2 arg3 arg10 X2 X3 X10 k).du (wts arg6 arg7 arg8 arg9 X6 X7 X8 X9 k)) (rows1 arg2 arg3 arg10 X2 X3 X10 k).ut1)) (trip.sl.H15_4 arg2 arg3 arg4 arg5 arg7 arg9 arg10 arg15 arg1 X2 X3 X4 X5 X7 X9 X10 k f) := by
  unfold trip.sl.H15_5
  rfl

/-- The up half's tap 2 after part 2. -/
theorem h15_6 (f : BufTy.Contents (Elt F) arg15.view.ty) : (trip.sl.H15_6 arg2 arg3 arg4 arg5 arg7 arg9 arg10 arg15 arg1 X2 X3 X4 X5 X7 X9 X10 k f) =
    push3 arg15.view (k0_off5 k) (k0_off5_inb k) arg15.view.junk (trip.sl.H15_5 arg2 arg3 arg4 arg5 arg7 arg9 arg10 arg15 arg1 X2 X3 X4 X5 X7 X9 X10 k f) (total (mulf ((rows1 arg2 arg3 arg10 X2 X3 X10 k).du (wts arg6 arg7 arg8 arg9 X6 X7 X8 X9 k)) (rows1 arg2 arg3 arg10 X2 X3 X10 k).ut2)) (trip.sl.H15_5 arg2 arg3 arg4 arg5 arg7 arg9 arg10 arg15 arg1 X2 X3 X4 X5 X7 X9 X10 k f) := by
  unfold trip.sl.H15_6
  rfl

/-- The up half's tap 0 after part 3. -/
theorem h15_7 (f : BufTy.Contents (Elt F) arg15.view.ty) : (trip.sl.H15_7 arg2 arg3 arg4 arg5 arg7 arg9 arg10 arg15 arg1 X2 X3 X4 X5 X7 X9 X10 k f) =
    push3 arg15.view (k0_off3 k) (k0_off3_inb k) arg15.view.junk (trip.sl.H15_6 arg2 arg3 arg4 arg5 arg7 arg9 arg10 arg15 arg1 X2 X3 X4 X5 X7 X9 X10 k f) (total (mulf ((rows2 arg2 arg3 arg10 X2 X3 X10 k).du (wts arg6 arg7 arg8 arg9 X6 X7 X8 X9 k)) (rows2 arg2 arg3 arg10 X2 X3 X10 k).ut0)) (trip.sl.H15_6 arg2 arg3 arg4 arg5 arg7 arg9 arg10 arg15 arg1 X2 X3 X4 X5 X7 X9 X10 k f) := by
  unfold trip.sl.H15_7
  rfl

/-- The up half's tap 1 after part 3. -/
theorem h15_8 (f : BufTy.Contents (Elt F) arg15.view.ty) : (trip.sl.H15_8 arg2 arg3 arg4 arg5 arg7 arg9 arg10 arg15 arg1 X2 X3 X4 X5 X7 X9 X10 k f) =
    push3 arg15.view (k0_off4 k) (k0_off4_inb k) arg15.view.junk (trip.sl.H15_7 arg2 arg3 arg4 arg5 arg7 arg9 arg10 arg15 arg1 X2 X3 X4 X5 X7 X9 X10 k f) (total (mulf ((rows2 arg2 arg3 arg10 X2 X3 X10 k).du (wts arg6 arg7 arg8 arg9 X6 X7 X8 X9 k)) (rows2 arg2 arg3 arg10 X2 X3 X10 k).ut1)) (trip.sl.H15_7 arg2 arg3 arg4 arg5 arg7 arg9 arg10 arg15 arg1 X2 X3 X4 X5 X7 X9 X10 k f) := by
  unfold trip.sl.H15_8
  rfl

/-- The up half's tap 2 after part 3. -/
theorem h15_9 (f : BufTy.Contents (Elt F) arg15.view.ty) : (trip.sl.H15_9 arg2 arg3 arg4 arg5 arg7 arg9 arg10 arg15 arg1 X2 X3 X4 X5 X7 X9 X10 k f) =
    push3 arg15.view (k0_off5 k) (k0_off5_inb k) arg15.view.junk (trip.sl.H15_8 arg2 arg3 arg4 arg5 arg7 arg9 arg10 arg15 arg1 X2 X3 X4 X5 X7 X9 X10 k f) (total (mulf ((rows2 arg2 arg3 arg10 X2 X3 X10 k).du (wts arg6 arg7 arg8 arg9 X6 X7 X8 X9 k)) (rows2 arg2 arg3 arg10 X2 X3 X10 k).ut2)) (trip.sl.H15_8 arg2 arg3 arg4 arg5 arg7 arg9 arg10 arg15 arg1 X2 X3 X4 X5 X7 X9 X10 k f) := by
  unfold trip.sl.H15_9
  rfl

/-- The up half's tap 0 after part 4. -/
theorem h15_10 (f : BufTy.Contents (Elt F) arg15.view.ty) : (trip.sl.H15_10 arg2 arg3 arg4 arg5 arg7 arg9 arg10 arg15 arg1 X2 X3 X4 X5 X7 X9 X10 k f) =
    push3 arg15.view (k0_off3 k) (k0_off3_inb k) arg15.view.junk (trip.sl.H15_9 arg2 arg3 arg4 arg5 arg7 arg9 arg10 arg15 arg1 X2 X3 X4 X5 X7 X9 X10 k f) (total (mulf ((rows3 arg2 arg3 arg10 X2 X3 X10 k).du (wts arg6 arg7 arg8 arg9 X6 X7 X8 X9 k)) (rows3 arg2 arg3 arg10 X2 X3 X10 k).ut0)) (trip.sl.H15_9 arg2 arg3 arg4 arg5 arg7 arg9 arg10 arg15 arg1 X2 X3 X4 X5 X7 X9 X10 k f) := by
  unfold trip.sl.H15_10
  rfl

/-- The up half's tap 1 after part 4. -/
theorem h15_11 (f : BufTy.Contents (Elt F) arg15.view.ty) : (trip.sl.H15_11 arg2 arg3 arg4 arg5 arg7 arg9 arg10 arg15 arg1 X2 X3 X4 X5 X7 X9 X10 k f) =
    push3 arg15.view (k0_off4 k) (k0_off4_inb k) arg15.view.junk (trip.sl.H15_10 arg2 arg3 arg4 arg5 arg7 arg9 arg10 arg15 arg1 X2 X3 X4 X5 X7 X9 X10 k f) (total (mulf ((rows3 arg2 arg3 arg10 X2 X3 X10 k).du (wts arg6 arg7 arg8 arg9 X6 X7 X8 X9 k)) (rows3 arg2 arg3 arg10 X2 X3 X10 k).ut1)) (trip.sl.H15_10 arg2 arg3 arg4 arg5 arg7 arg9 arg10 arg15 arg1 X2 X3 X4 X5 X7 X9 X10 k f) := by
  unfold trip.sl.H15_11
  rfl

/-- The up half's tap 2 after part 4. -/
theorem h15_12 (f : BufTy.Contents (Elt F) arg15.view.ty) : (trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X2 X3 X4 X5 X6 X7 X8 X9 X10 𝒱 bd k).2.2.2.2.1 f =
    push3 arg15.view (k0_off5 k) (k0_off5_inb k) arg15.view.junk (trip.sl.H15_11 arg2 arg3 arg4 arg5 arg7 arg9 arg10 arg15 arg1 X2 X3 X4 X5 X7 X9 X10 k f) (total (mulf ((rows3 arg2 arg3 arg10 X2 X3 X10 k).du (wts arg6 arg7 arg8 arg9 X6 X7 X8 X9 k)) (rows3 arg2 arg3 arg10 X2 X3 X10 k).ut2)) (trip.sl.H15_11 arg2 arg3 arg4 arg5 arg7 arg9 arg10 arg15 arg1 X2 X3 X4 X5 X7 X9 X10 k f) := by
  unfold trip
  rfl

/-- What a trip stores of the up half's taps gradient. -/
theorem trip15 (f : BufTy.Contents (Elt F) arg15.view.ty) : (trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X2 X3 X4 X5 X6 X7 X8 X9 X10 𝒱 bd k).2.2.2.2.1 f =
    pile3 arg15.view (k0_off3 k) (k0_off4 k) (k0_off5 k) (k0_off3_inb k) (k0_off4_inb k) (k0_off5_inb k) f
      (fun n => total (mulf ((parts arg2 arg3 arg4 arg5 arg10 arg1 X2 X3 X4 X5 X10 k n).du (wts arg6 arg7 arg8 arg9 X6 X7 X8 X9 k)) (parts arg2 arg3 arg4 arg5 arg10 arg1 X2 X3 X4 X5 X10 k n).ut0))
      (fun n => total (mulf ((parts arg2 arg3 arg4 arg5 arg10 arg1 X2 X3 X4 X5 X10 k n).du (wts arg6 arg7 arg8 arg9 X6 X7 X8 X9 k)) (parts arg2 arg3 arg4 arg5 arg10 arg1 X2 X3 X4 X5 X10 k n).ut1))
      (fun n => total (mulf ((parts arg2 arg3 arg4 arg5 arg10 arg1 X2 X3 X4 X5 X10 k n).du (wts arg6 arg7 arg8 arg9 X6 X7 X8 X9 k)) (parts arg2 arg3 arg4 arg5 arg10 arg1 X2 X3 X4 X5 X10 k n).ut2)) 4 := by
  rw [h15_12, h15_11, h15_10, h15_9, h15_8, h15_7, h15_6, h15_5, h15_4, h15_3]
  rfl

/-- A trip's stores into the gate half's taps gradient: the first three, and each later three from those before them. -/
theorem h16_3 (f : BufTy.Contents (Elt F) arg16.view.ty) : (trip.sl.H16_3 arg2 arg3 arg4 arg5 arg6 arg7 arg8 arg9 arg10 arg16 arg1 X2 X3 X4 X5 X6 X7 X8 X9 X10 k f) =
    push3 arg16.view (k0_off5 k) (k0_off5_inb k) f [] (total (mulf ((rows0 arg2 arg3 arg4 arg5 arg10 arg1 X2 X3 X4 X5 X10 k).dg (wts arg6 arg7 arg8 arg9 X6 X7 X8 X9 k)) (rows0 arg2 arg3 arg4 arg5 arg10 arg1 X2 X3 X4 X5 X10 k).gt2))
      (push3 arg16.view (k0_off4 k) (k0_off4_inb k) f [] (total (mulf ((rows0 arg2 arg3 arg4 arg5 arg10 arg1 X2 X3 X4 X5 X10 k).dg (wts arg6 arg7 arg8 arg9 X6 X7 X8 X9 k)) (rows0 arg2 arg3 arg4 arg5 arg10 arg1 X2 X3 X4 X5 X10 k).gt1))
        (push3 arg16.view (k0_off3 k) (k0_off3_inb k) f [] (total (mulf ((rows0 arg2 arg3 arg4 arg5 arg10 arg1 X2 X3 X4 X5 X10 k).dg (wts arg6 arg7 arg8 arg9 X6 X7 X8 X9 k)) (rows0 arg2 arg3 arg4 arg5 arg10 arg1 X2 X3 X4 X5 X10 k).gt0)) [])) := rfl

/-- The gate half's tap 0 after part 2. -/
theorem h16_4 (f : BufTy.Contents (Elt F) arg16.view.ty) : (trip.sl.H16_4 arg2 arg3 arg4 arg5 arg6 arg7 arg8 arg9 arg10 arg16 arg1 X2 X3 X4 X5 X6 X7 X8 X9 X10 k f) =
    push3 arg16.view (k0_off3 k) (k0_off3_inb k) arg16.view.junk (trip.sl.H16_3 arg2 arg3 arg4 arg5 arg6 arg7 arg8 arg9 arg10 arg16 arg1 X2 X3 X4 X5 X6 X7 X8 X9 X10 k f) (total (mulf ((rows1 arg2 arg3 arg10 X2 X3 X10 k).dg (wts arg6 arg7 arg8 arg9 X6 X7 X8 X9 k)) (rows1 arg2 arg3 arg10 X2 X3 X10 k).gt0)) (trip.sl.H16_3 arg2 arg3 arg4 arg5 arg6 arg7 arg8 arg9 arg10 arg16 arg1 X2 X3 X4 X5 X6 X7 X8 X9 X10 k f) := by
  unfold trip.sl.H16_4
  rfl

/-- The gate half's tap 1 after part 2. -/
theorem h16_5 (f : BufTy.Contents (Elt F) arg16.view.ty) : (trip.sl.H16_5 arg2 arg3 arg4 arg5 arg6 arg7 arg8 arg9 arg10 arg16 arg1 X2 X3 X4 X5 X6 X7 X8 X9 X10 k f) =
    push3 arg16.view (k0_off4 k) (k0_off4_inb k) arg16.view.junk (trip.sl.H16_4 arg2 arg3 arg4 arg5 arg6 arg7 arg8 arg9 arg10 arg16 arg1 X2 X3 X4 X5 X6 X7 X8 X9 X10 k f) (total (mulf ((rows1 arg2 arg3 arg10 X2 X3 X10 k).dg (wts arg6 arg7 arg8 arg9 X6 X7 X8 X9 k)) (rows1 arg2 arg3 arg10 X2 X3 X10 k).gt1)) (trip.sl.H16_4 arg2 arg3 arg4 arg5 arg6 arg7 arg8 arg9 arg10 arg16 arg1 X2 X3 X4 X5 X6 X7 X8 X9 X10 k f) := by
  unfold trip.sl.H16_5
  rfl

/-- The gate half's tap 2 after part 2. -/
theorem h16_6 (f : BufTy.Contents (Elt F) arg16.view.ty) : (trip.sl.H16_6 arg2 arg3 arg4 arg5 arg6 arg7 arg8 arg9 arg10 arg16 arg1 X2 X3 X4 X5 X6 X7 X8 X9 X10 k f) =
    push3 arg16.view (k0_off5 k) (k0_off5_inb k) arg16.view.junk (trip.sl.H16_5 arg2 arg3 arg4 arg5 arg6 arg7 arg8 arg9 arg10 arg16 arg1 X2 X3 X4 X5 X6 X7 X8 X9 X10 k f) (total (mulf ((rows1 arg2 arg3 arg10 X2 X3 X10 k).dg (wts arg6 arg7 arg8 arg9 X6 X7 X8 X9 k)) (rows1 arg2 arg3 arg10 X2 X3 X10 k).gt2)) (trip.sl.H16_5 arg2 arg3 arg4 arg5 arg6 arg7 arg8 arg9 arg10 arg16 arg1 X2 X3 X4 X5 X6 X7 X8 X9 X10 k f) := by
  unfold trip.sl.H16_6
  rfl

/-- The gate half's tap 0 after part 3. -/
theorem h16_7 (f : BufTy.Contents (Elt F) arg16.view.ty) : (trip.sl.H16_7 arg2 arg3 arg4 arg5 arg6 arg7 arg8 arg9 arg10 arg16 arg1 X2 X3 X4 X5 X6 X7 X8 X9 X10 k f) =
    push3 arg16.view (k0_off3 k) (k0_off3_inb k) arg16.view.junk (trip.sl.H16_6 arg2 arg3 arg4 arg5 arg6 arg7 arg8 arg9 arg10 arg16 arg1 X2 X3 X4 X5 X6 X7 X8 X9 X10 k f) (total (mulf ((rows2 arg2 arg3 arg10 X2 X3 X10 k).dg (wts arg6 arg7 arg8 arg9 X6 X7 X8 X9 k)) (rows2 arg2 arg3 arg10 X2 X3 X10 k).gt0)) (trip.sl.H16_6 arg2 arg3 arg4 arg5 arg6 arg7 arg8 arg9 arg10 arg16 arg1 X2 X3 X4 X5 X6 X7 X8 X9 X10 k f) := by
  unfold trip.sl.H16_7
  rfl

/-- The gate half's tap 1 after part 3. -/
theorem h16_8 (f : BufTy.Contents (Elt F) arg16.view.ty) : (trip.sl.H16_8 arg2 arg3 arg4 arg5 arg6 arg7 arg8 arg9 arg10 arg16 arg1 X2 X3 X4 X5 X6 X7 X8 X9 X10 k f) =
    push3 arg16.view (k0_off4 k) (k0_off4_inb k) arg16.view.junk (trip.sl.H16_7 arg2 arg3 arg4 arg5 arg6 arg7 arg8 arg9 arg10 arg16 arg1 X2 X3 X4 X5 X6 X7 X8 X9 X10 k f) (total (mulf ((rows2 arg2 arg3 arg10 X2 X3 X10 k).dg (wts arg6 arg7 arg8 arg9 X6 X7 X8 X9 k)) (rows2 arg2 arg3 arg10 X2 X3 X10 k).gt1)) (trip.sl.H16_7 arg2 arg3 arg4 arg5 arg6 arg7 arg8 arg9 arg10 arg16 arg1 X2 X3 X4 X5 X6 X7 X8 X9 X10 k f) := by
  unfold trip.sl.H16_8
  rfl

/-- The gate half's tap 2 after part 3. -/
theorem h16_9 (f : BufTy.Contents (Elt F) arg16.view.ty) : (trip.sl.H16_9 arg2 arg3 arg4 arg5 arg6 arg7 arg8 arg9 arg10 arg16 arg1 X2 X3 X4 X5 X6 X7 X8 X9 X10 k f) =
    push3 arg16.view (k0_off5 k) (k0_off5_inb k) arg16.view.junk (trip.sl.H16_8 arg2 arg3 arg4 arg5 arg6 arg7 arg8 arg9 arg10 arg16 arg1 X2 X3 X4 X5 X6 X7 X8 X9 X10 k f) (total (mulf ((rows2 arg2 arg3 arg10 X2 X3 X10 k).dg (wts arg6 arg7 arg8 arg9 X6 X7 X8 X9 k)) (rows2 arg2 arg3 arg10 X2 X3 X10 k).gt2)) (trip.sl.H16_8 arg2 arg3 arg4 arg5 arg6 arg7 arg8 arg9 arg10 arg16 arg1 X2 X3 X4 X5 X6 X7 X8 X9 X10 k f) := by
  unfold trip.sl.H16_9
  rfl

/-- The gate half's tap 0 after part 4. -/
theorem h16_10 (f : BufTy.Contents (Elt F) arg16.view.ty) : (trip.sl.H16_10 arg2 arg3 arg4 arg5 arg6 arg7 arg8 arg9 arg10 arg16 arg1 X2 X3 X4 X5 X6 X7 X8 X9 X10 k f) =
    push3 arg16.view (k0_off3 k) (k0_off3_inb k) arg16.view.junk (trip.sl.H16_9 arg2 arg3 arg4 arg5 arg6 arg7 arg8 arg9 arg10 arg16 arg1 X2 X3 X4 X5 X6 X7 X8 X9 X10 k f) (total (mulf ((rows3 arg2 arg3 arg10 X2 X3 X10 k).dg (wts arg6 arg7 arg8 arg9 X6 X7 X8 X9 k)) (rows3 arg2 arg3 arg10 X2 X3 X10 k).gt0)) (trip.sl.H16_9 arg2 arg3 arg4 arg5 arg6 arg7 arg8 arg9 arg10 arg16 arg1 X2 X3 X4 X5 X6 X7 X8 X9 X10 k f) := by
  unfold trip.sl.H16_10
  rfl

/-- The gate half's tap 1 after part 4. -/
theorem h16_11 (f : BufTy.Contents (Elt F) arg16.view.ty) : (trip.sl.H16_11 arg2 arg3 arg4 arg5 arg6 arg7 arg8 arg9 arg10 arg16 arg1 X2 X3 X4 X5 X6 X7 X8 X9 X10 k f) =
    push3 arg16.view (k0_off4 k) (k0_off4_inb k) arg16.view.junk (trip.sl.H16_10 arg2 arg3 arg4 arg5 arg6 arg7 arg8 arg9 arg10 arg16 arg1 X2 X3 X4 X5 X6 X7 X8 X9 X10 k f) (total (mulf ((rows3 arg2 arg3 arg10 X2 X3 X10 k).dg (wts arg6 arg7 arg8 arg9 X6 X7 X8 X9 k)) (rows3 arg2 arg3 arg10 X2 X3 X10 k).gt1)) (trip.sl.H16_10 arg2 arg3 arg4 arg5 arg6 arg7 arg8 arg9 arg10 arg16 arg1 X2 X3 X4 X5 X6 X7 X8 X9 X10 k f) := by
  unfold trip.sl.H16_11
  rfl

/-- The gate half's tap 2 after part 4. -/
theorem h16_12 (f : BufTy.Contents (Elt F) arg16.view.ty) : (trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X2 X3 X4 X5 X6 X7 X8 X9 X10 𝒱 bd k).2.2.2.2.2.1 f =
    push3 arg16.view (k0_off5 k) (k0_off5_inb k) arg16.view.junk (trip.sl.H16_11 arg2 arg3 arg4 arg5 arg6 arg7 arg8 arg9 arg10 arg16 arg1 X2 X3 X4 X5 X6 X7 X8 X9 X10 k f) (total (mulf ((rows3 arg2 arg3 arg10 X2 X3 X10 k).dg (wts arg6 arg7 arg8 arg9 X6 X7 X8 X9 k)) (rows3 arg2 arg3 arg10 X2 X3 X10 k).gt2)) (trip.sl.H16_11 arg2 arg3 arg4 arg5 arg6 arg7 arg8 arg9 arg10 arg16 arg1 X2 X3 X4 X5 X6 X7 X8 X9 X10 k f) := by
  unfold trip
  rfl

/-- What a trip stores of the gate half's taps gradient. -/
theorem trip16 (f : BufTy.Contents (Elt F) arg16.view.ty) : (trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X2 X3 X4 X5 X6 X7 X8 X9 X10 𝒱 bd k).2.2.2.2.2.1 f =
    pile3 arg16.view (k0_off3 k) (k0_off4 k) (k0_off5 k) (k0_off3_inb k) (k0_off4_inb k) (k0_off5_inb k) f
      (fun n => total (mulf ((parts arg2 arg3 arg4 arg5 arg10 arg1 X2 X3 X4 X5 X10 k n).dg (wts arg6 arg7 arg8 arg9 X6 X7 X8 X9 k)) (parts arg2 arg3 arg4 arg5 arg10 arg1 X2 X3 X4 X5 X10 k n).gt0))
      (fun n => total (mulf ((parts arg2 arg3 arg4 arg5 arg10 arg1 X2 X3 X4 X5 X10 k n).dg (wts arg6 arg7 arg8 arg9 X6 X7 X8 X9 k)) (parts arg2 arg3 arg4 arg5 arg10 arg1 X2 X3 X4 X5 X10 k n).gt1))
      (fun n => total (mulf ((parts arg2 arg3 arg4 arg5 arg10 arg1 X2 X3 X4 X5 X10 k n).dg (wts arg6 arg7 arg8 arg9 X6 X7 X8 X9 k)) (parts arg2 arg3 arg4 arg5 arg10 arg1 X2 X3 X4 X5 X10 k n).gt2)) 4 := by
  rw [h16_12, h16_11, h16_10, h16_9, h16_8, h16_7, h16_6, h16_5, h16_4, h16_3]
  rfl

end Cert.GateIdeal.Loop
-- ==== Proof.GateVec.lean ====
module

public import proofs.«01_k».proof.Proof.Common
public import proofs.«01_k».proof.Proof.GateTrips
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.GateIdeal.Val

open Cert.GateIdeal Cert.GateIdeal.Gen Cert.GateIdeal.Loop Cert.Common

/-- The logistic function as the kernel spells it. -/
def lg (g : EReal) : EReal := Ideal.div 1 (1 + Ideal.exp (0 - g))

/-- The first of eight rows is picked out by its number. -/
theorem pick0 (q : Fin 8) (a b : EReal) :
    Scalar.select (IntOp.cmpi CmpIPredicate.eq (BitVec.ofNat 32 q.val) 0#32) a b = if q.val = 0 then a else b := by
  have h : ∀ q : Fin 8, IntOp.cmpi CmpIPredicate.eq (BitVec.ofNat 32 q.val) 0#32 = if q.val = 0 then 1#1 else 0#1 := by decide
  rw [h q]
  split <;> rfl

/-- … and the second. -/
theorem pick1 (q : Fin 8) (a b : EReal) :
    Scalar.select (IntOp.cmpi CmpIPredicate.eq (BitVec.ofNat 32 q.val) 1#32) a b = if q.val = 1 then a else b := by
  have h : ∀ q : Fin 8, IntOp.cmpi CmpIPredicate.eq (BitVec.ofNat 32 q.val) 1#32 = if q.val = 1 then 1#1 else 0#1 := by decide
  rw [h q]
  split <;> rfl

/-- A block whose rows are a column's from its second on, moved down by one row, is the column from its first on. -/
theorem tap1_apply (x : FVec Ideal S128x128 .f32) (h7 : FVec Ideal S1x128 .f32) (p : Fin 128) (l : Fin 128) (e : ℕ → EReal) (a : ℕ)
    (hx : ∀ q : Fin 128, x (ix2 q l) = e (a + q.val + 2)) (h1 : h7 (ix2 0 l) = e (a + 1)) :
    @Eq EReal (tap1 (F := Ideal) x h7 (ix2 p l)) (e (a + p.val + 1)) := by
  have hp := p.isLt
  unfold tap1
  pointwise
  by_cases h : p.val < 8
  · rw [dif_pos h, pick0 ⟨p.val, h⟩, h1, hx]
    dsimp only
    by_cases h' : p.val = 0
    · rw [if_pos h', h']
    · rw [if_neg h']
      exact congrArg e (by omega)
  · rw [dif_neg h, hx]
    exact congrArg e (by dsimp only; omega)

/-- … and moved down by two rows, it is the column from its start on. -/
theorem tap0_apply (x : FVec Ideal S128x128 .f32) (h6 h7 : FVec Ideal S1x128 .f32) (p : Fin 128) (l : Fin 128) (e : ℕ → EReal) (a : ℕ)
    (hx : ∀ q : Fin 128, x (ix2 q l) = e (a + q.val + 2)) (h0 : h6 (ix2 0 l) = e a) (h1 : h7 (ix2 0 l) = e (a + 1)) :
    @Eq EReal (tap0 (F := Ideal) x h6 h7 (ix2 p l)) (e (a + p.val)) := by
  have hp := p.isLt
  unfold tap0
  pointwise
  by_cases h : p.val < 8
  · rw [dif_pos h, pick0 ⟨p.val, h⟩, pick1 ⟨p.val, h⟩, h0, h1, hx]
    dsimp only
    by_cases h' : p.val = 0
    · rw [if_pos h', h']; rfl
    · rw [if_neg h']
      by_cases h'' : p.val = 1
      · rw [if_pos h'', h'']
      · rw [if_neg h'']
        exact congrArg e (by omega)
  · rw [dif_neg h, hx]
    exact congrArg e (by dsimp only; omega)

/-- The logistic function at an element. -/
theorem logis_apply (g : FVec Ideal S128x128 .f32) (p : Fin 128) (l : Fin 128) :
    logis (F := Ideal) g (ix2 p l) = lg (g (ix2 p l)) := by
  unfold logis lg
  pointwise

/-- A part's sum over its rows. -/
theorem total_apply (x : FVec Ideal S128x128 .f32) (z : Fin 1) (l : Fin 128) :
    @Eq EReal (total (F := Ideal) x (ix2 z l)) (∑ p : Fin 128, x (ix2 p l)) := by
  unfold total
  pointwise

/-- The three taps and the bias at an element. -/
theorem conv_apply (t0 t1 t2 : FVec Ideal S128x128 .f32) (w0 w1 w2 b : Vec Ideal S1x128 .f32) (p : Fin 128) (l : Fin 128) :
    @Eq EReal (conv (F := Ideal) t0 t1 t2 w0 w1 w2 b (ix2 p l))
      (w0 (ix2 0 l) * t0 (ix2 p l) + w1 (ix2 0 l) * t1 (ix2 p l) + w2 (ix2 0 l) * t2 (ix2 p l) + b (ix2 0 l)) := by
  unfold conv
  pointwise

/-- The up half's gradient at an element. -/
theorem gradUp_apply (d g : FVec Ideal S128x128 .f32) (p : Fin 128) (l : Fin 128) :
    @Eq EReal (gradUp (F := Ideal) d g (ix2 p l)) (d (ix2 p l) * (g (ix2 p l) * lg (g (ix2 p l)))) := by
  unfold gradUp
  pointwise [logis_apply]

/-- The gate half's gradient at an element. -/
theorem gradGate_apply (d u g : FVec Ideal S128x128 .f32) (p : Fin 128) (l : Fin 128) :
    @Eq EReal (gradGate (F := Ideal) d u g (ix2 p l))
      ((d (ix2 p l) * u (ix2 p l)) * (lg (g (ix2 p l)) * (1 + g (ix2 p l) * (1 - lg (g (ix2 p l)))))) := by
  unfold gradGate
  pointwise [logis_apply]

/-- A widened number is itself. -/
theorem wide_apply (x : Vec Ideal S128x128 .bf16) (p l : Fin 128) : wide (F := Ideal) x (ix2 p l) = x (ix2 p l) := by
  unfold wide
  pointwise

/-- A narrowed number is itself. -/
theorem narrow_apply (x : FVec Ideal S128x128 .f32) (p l : Fin 128) : narrow (F := Ideal) x (ix2 p l) = x (ix2 p l) := by
  unfold narrow
  pointwise

/-- The last two rows of a part before are its rows 14 -/
theorem row6_tail (x : Vec Ideal S16x128 .bf16) (z : Fin 1) (l : Fin 128) : row6 (F := Ideal) (tail8 x) (ix2 z l) = x (ix2 14 l) := by
  unfold row6 tail8
  pointwise

/-- … and 15. -/
theorem row7_tail (x : Vec Ideal S16x128 .bf16) (z : Fin 1) (l : Fin 128) : row7 (F := Ideal) (tail8 x) (ix2 z l) = x (ix2 15 l) := by
  unfold row7 tail8
  pointwise

/-- The last two rows of the halo are its rows 6 -/
theorem row6_halo (b : BitVec 32) (x : Vec Ideal S8x128 .bf16) (z : Fin 1) (l : Fin 128) :
    @Eq EReal (row6 (F := Ideal) (halo b x) (ix2 z l)) (x (ix2 6 l) * Scalar.select (Scalar.cmpi .eq b 0#32) (0 : EReal) 1) := by
  unfold row6 halo
  pointwise

/-- … and 7, nought at the first row block. -/
theorem row7_halo (b : BitVec 32) (x : Vec Ideal S8x128 .bf16) (z : Fin 1) (l : Fin 128) :
    @Eq EReal (row7 (F := Ideal) (halo b x) (ix2 z l)) (x (ix2 7 l) * Scalar.select (Scalar.cmpi .eq b 0#32) (0 : EReal) 1) := by
  unfold row7 halo
  pointwise

end Cert.GateIdeal.Val
-- ==== Proof.GatePart.lean ====
module

public import proofs.«01_k».proof.Proof.ConvVal
public import proofs.«01_k».proof.Proof.GateVec

@[expose] public section

set_option maxRecDepth 16384

noncomputable section

open Idealize.ShloMosaic Idealize.ShloMosaic.TcCoe Idealize.SL.Sem

namespace Cert.GateIdeal.Val

open Cert.GateIdeal Cert.GateIdeal.Gen Cert.GateIdeal.Loop Cert.Common
open Cert.ConvIdeal.Val (rd ld_rdb ld_rdf)

/-- A column of a block with the two rows before it put first: the halo's last two, scaled by `v`. -/
def ext (x : Vec Ideal S512x1408 .bf16) (h : Vec Ideal S8x1408 .bf16) (v : EReal) (q r : ℕ) : EReal :=
  if r < 2 then rd (fun r l => h (ix2 r l)) (6 + r) q * v else rd (fun r l => x (ix2 r l)) (r - 2) q

/-- The three taps and the bias over a column. -/
def cv (e w : ℕ → EReal) (b : EReal) (r : ℕ) : EReal := w 0 * e r + w 1 * e (r + 1) + w 2 * e (r + 2) + b

/-- The two gradients at an element. -/
def gU (d g : EReal) : EReal := d * (g * lg g)
/-- The gradient of the gate half at an element. -/
def gG (d u g : EReal) : EReal := (d * u) * (lg g * (1 + g * (1 - lg g)))

/-- A part of the rows that holds a column's from row `a` on, at the lanes from `b` on. -/
structure Good (P : Rows Ideal) (eu eg d : ℕ → ℕ → EReal) (a b : ℕ) : Prop where
  zu : ∀ p l : Fin 128, @Eq EReal (P.zu (ix2 p l)) (eu (b + l.val) (a + p.val + 2))
  zg : ∀ p l : Fin 128, @Eq EReal (P.zg (ix2 p l)) (eg (b + l.val) (a + p.val + 2))
  da : ∀ p l : Fin 128, @Eq EReal (P.da (ix2 p l)) (d (b + l.val) (a + p.val))
  u6 : ∀ l : Fin 128, @Eq EReal (P.u6 (ix2 0 l)) (eu (b + l.val) a)
  u7 : ∀ l : Fin 128, @Eq EReal (P.u7 (ix2 0 l)) (eu (b + l.val) (a + 1))
  g6 : ∀ l : Fin 128, @Eq EReal (P.g6 (ix2 0 l)) (eg (b + l.val) a)
  g7 : ∀ l : Fin 128, @Eq EReal (P.g7 (ix2 0 l)) (eg (b + l.val) (a + 1))

/-- Taps and biases that are a column's at the lanes from `b` on. -/
structure GoodW (W : Wts Ideal) (wu wg : ℕ → ℕ → EReal) (bu bg : ℕ → EReal) (b : ℕ) : Prop where
  u0 : ∀ l : Fin 128, @Eq EReal (W.u0 (ix2 0 l)) (wu (b + l.val) 0)
  u1 : ∀ l : Fin 128, @Eq EReal (W.u1 (ix2 0 l)) (wu (b + l.val) 1)
  u2 : ∀ l : Fin 128, @Eq EReal (W.u2 (ix2 0 l)) (wu (b + l.val) 2)
  ub : ∀ l : Fin 128, @Eq EReal (W.ub (ix2 0 l)) (bu (b + l.val))
  g0 : ∀ l : Fin 128, @Eq EReal (W.g0 (ix2 0 l)) (wg (b + l.val) 0)
  g1 : ∀ l : Fin 128, @Eq EReal (W.g1 (ix2 0 l)) (wg (b + l.val) 1)
  g2 : ∀ l : Fin 128, @Eq EReal (W.g2 (ix2 0 l)) (wg (b + l.val) 2)
  gb : ∀ l : Fin 128, @Eq EReal (W.gb (ix2 0 l)) (bg (b + l.val))

section parts

variable {P : Rows Ideal} {W : Wts Ideal} {eu eg d wu wg : ℕ → ℕ → EReal} {bu bg : ℕ → EReal} {a b : ℕ}
  (h : Good P eu eg d a b) (hw : GoodW W wu wg bu bg b) (p l : Fin 128)
include h

/-- The taps of a part are the column's rows at, one past and two past the part's. -/
theorem Good.ut0 : @Eq EReal (P.ut0 (ix2 p l)) (eu (b + l.val) (a + p.val)) :=
  tap0_apply _ _ _ p l (eu (b + l.val)) a (fun q => (wide_apply _ q l).trans (h.zu q l)) (h.u6 l) (h.u7 l)

/-- The middle tap reads the column one row on, -/
theorem Good.ut1 : @Eq EReal (P.ut1 (ix2 p l)) (eu (b + l.val) (a + p.val + 1)) :=
  tap1_apply _ _ p l (eu (b + l.val)) a (fun q => (wide_apply _ q l).trans (h.zu q l)) (h.u7 l)

/-- … and the last tap two rows on. -/
theorem Good.ut2 : @Eq EReal (P.ut2 (ix2 p l)) (eu (b + l.val) (a + p.val + 2)) := (wide_apply _ p l).trans (h.zu p l)

/-- The same of the gate half's first tap, -/
theorem Good.gt0 : @Eq EReal (P.gt0 (ix2 p l)) (eg (b + l.val) (a + p.val)) :=
  tap0_apply _ _ _ p l (eg (b + l.val)) a (fun q => (wide_apply _ q l).trans (h.zg q l)) (h.g6 l) (h.g7 l)

/-- … its middle tap -/
theorem Good.gt1 : @Eq EReal (P.gt1 (ix2 p l)) (eg (b + l.val) (a + p.val + 1)) :=
  tap1_apply _ _ p l (eg (b + l.val)) a (fun q => (wide_apply _ q l).trans (h.zg q l)) (h.g7 l)

/-- … and its last. -/
theorem Good.gt2 : @Eq EReal (P.gt2 (ix2 p l)) (eg (b + l.val) (a + p.val + 2)) := (wide_apply _ p l).trans (h.zg p l)

include hw

/-- The two halves of a part after the taps. -/
theorem Good.up : @Eq EReal (P.up W (ix2 p l)) (cv (eu (b + l.val)) (wu (b + l.val)) (bu (b + l.val)) (a + p.val)) := by
  refine (conv_apply ..).trans ?_
  rw [h.ut0 p l, h.ut1 p l, h.ut2 p l, hw.u0 l, hw.u1 l, hw.u2 l, hw.ub l]
  rfl

/-- The gate half after the taps is the column's. -/
theorem Good.gate : @Eq EReal (P.gate W (ix2 p l)) (cv (eg (b + l.val)) (wg (b + l.val)) (bg (b + l.val)) (a + p.val)) := by
  refine (conv_apply ..).trans ?_
  rw [h.gt0 p l, h.gt1 p l, h.gt2 p l, hw.g0 l, hw.g1 l, hw.g2 l, hw.gb l]
  rfl

/-- The gradients of the two halves of a part. -/
theorem Good.du : @Eq EReal (P.du W (ix2 p l))
    (gU (d (b + l.val) (a + p.val)) (cv (eg (b + l.val)) (wg (b + l.val)) (bg (b + l.val)) (a + p.val))) := by
  refine (gradUp_apply ..).trans ?_
  rw [h.gate hw p l, wide_apply]
  exact congrArg (· * _) (h.da p l)

/-- The gate half's gradient is the columns'. -/
theorem Good.dg : @Eq EReal (P.dg W (ix2 p l))
    (gG (d (b + l.val) (a + p.val)) (cv (eu (b + l.val)) (wu (b + l.val)) (bu (b + l.val)) (a + p.val))
      (cv (eg (b + l.val)) (wg (b + l.val)) (bg (b + l.val)) (a + p.val))) := by
  refine (gradGate_apply ..).trans ?_
  rw [h.gate hw p l, h.up hw p l, wide_apply]
  exact congrArg (fun z : EReal => (z * _) * _) (h.da p l)

end parts

/-! ## The stores into the running sums -/

/-- What a store into a running sum adds. -/
theorem addcast_apply (o d : FVec Ideal S1x128 .f32) (x : S1x128.Idx) :
    @Eq EReal (addf (shapeCast S1x128 o shapeCasts_S1x128_S1x128) d x) (o x + d x) := by
  rw [shapeCast_self]
  rfl

/-- A store into a row's running sum leaves there what its buffer held and the part that it adds, -/
theorem push1_hit (v : View sig .tc .vmem S1x1408 .f32) (off : Fin 2 → ℕ) (inb) (f g : v.ty.Contents (Elt Ideal)) (old L) (d) (x : S1x128.Idx)
    (y : S1x1408.Idx) (hy : (Rect.unit (s := S1x1408) off S1x128.size inb).emb x = y) :
    @Eq EReal (v.read (Elt Ideal) (v.writes (Elt Ideal) g (push1 v off inb f old d L)) y)
      (v.read (Elt Ideal) (v.writes (Elt Ideal) f old) y + d x) := by
  subst hy
  unfold push1
  have e := View.read_writes_cons_emb (Val := Elt Ideal) v g (Rect.unit (s := S1x1408) off S1x128.size inb)
    (addf (shapeCast S1x128 (v.readAt (Elt Ideal) (Rect.unit (s := S1x1408) off S1x128.size inb).toLoadRect (v.writes (Elt Ideal) f old)) shapeCasts_S1x128_S1x128) d) L x
  exact e.trans (addcast_apply (v.readAt (Elt Ideal) (Rect.unit (s := S1x1408) off S1x128.size inb).toLoadRect (v.writes (Elt Ideal) f old)) d x)

/-- … and elsewhere what was there. -/
theorem push1_miss (v : View sig .tc .vmem S1x1408 .f32) (off : Fin 2 → ℕ) (inb) (f g : v.ty.Contents (Elt Ideal)) (old L) (d)
    (y : S1x1408.Idx) (hy : y ∉ (Rect.unit (s := S1x1408) off S1x128.size inb).set) :
    v.read (Elt Ideal) (v.writes (Elt Ideal) g (push1 v off inb f old d L)) y = v.read (Elt Ideal) (v.writes (Elt Ideal) g L) y := by
  unfold push1
  exact View.read_writes_cons_miss v g _ L y hy

/-- The same for a row of three. -/
theorem push3_hit (v : View sig .tc .vmem S3x1408 .f32) (off : Fin 2 → ℕ) (inb) (f g : v.ty.Contents (Elt Ideal)) (old L) (d) (x : S1x128.Idx)
    (y : S3x1408.Idx) (hy : (Rect.unit (s := S3x1408) off S1x128.size inb).emb x = y) :
    @Eq EReal (v.read (Elt Ideal) (v.writes (Elt Ideal) g (push3 v off inb f old d L)) y)
      (v.read (Elt Ideal) (v.writes (Elt Ideal) f old) y + d x) := by
  subst hy
  unfold push3
  have e := View.read_writes_cons_emb (Val := Elt Ideal) v g (Rect.unit (s := S3x1408) off S1x128.size inb)
    (addf (shapeCast S1x128 (v.readAt (Elt Ideal) (Rect.unit (s := S3x1408) off S1x128.size inb).toLoadRect (v.writes (Elt Ideal) f old)) shapeCasts_S1x128_S1x128) d) L x
  exact e.trans (addcast_apply (v.readAt (Elt Ideal) (Rect.unit (s := S3x1408) off S1x128.size inb).toLoadRect (v.writes (Elt Ideal) f old)) d x)

/-- … and elsewhere what was there. -/
theorem push3_miss (v : View sig .tc .vmem S3x1408 .f32) (off : Fin 2 → ℕ) (inb) (f g : v.ty.Contents (Elt Ideal)) (old L) (d)
    (y : S3x1408.Idx) (hy : y ∉ (Rect.unit (s := S3x1408) off S1x128.size inb).set) :
    v.read (Elt Ideal) (v.writes (Elt Ideal) g (push3 v off inb f old d L)) y = v.read (Elt Ideal) (v.writes (Elt Ideal) g L) y := by
  unfold push3
  exact View.read_writes_cons_miss v g _ L y hy

end Cert.GateIdeal.Val
-- ==== Proof.GateGlob.lean ====
module

public import proofs.«01_k».proof.Proof.GatePart

@[expose] public section

noncomputable section

open Idealize.ShloMosaic Idealize.ShloMosaic.TcCoe Idealize.SL.Sem

namespace Cert.GateIdeal.Val

open Cert.GateIdeal Cert.GateIdeal.Gen Cert.GateIdeal.Loop Cert.Common
open Cert.ConvIdeal.Val (rd)

variable (z : Vec Ideal S8192x5632 .bf16) (d : Vec Ideal S8192x2816 .bf16) (w : Vec Ideal S3x5632 .f32) (b : Vec Ideal S1x5632 .f32)

/-- A column of the array with two rows of noughts put first. -/
def zc (q r : ℕ) : EReal := if r < 2 then 0 else rd (fun r l => z (ix2 r l)) (r - 2) q

/-- A column after the taps and the bias. -/
def half (q r : ℕ) : EReal := cv (zc z q) (fun j => rd (fun r l => w (ix2 r l)) j q) (rd (fun r l => b (ix2 r l)) 0 q) r

/-- The gradients of the two halves over the array. -/
def GU (q r : ℕ) : EReal := gU (rd (fun r l => d (ix2 r l)) r q) (half z w b (2816 + q) r)
/-- The gradient of the gate half over the array. -/
def GG (q r : ℕ) : EReal := gG (rd (fun r l => d (ix2 r l)) r q) (half z w b q r) (half z w b (2816 + q) r)

end Cert.GateIdeal.Val
-- ==== Proof.GatePile.lean ====
module

public import proofs.«01_k».proof.Proof.GatePart

@[expose] public section

set_option maxRecDepth 16384

noncomputable section

open Idealize.ShloMosaic Idealize.ShloMosaic.TcCoe Idealize.SL.Sem

namespace Cert.GateIdeal.Val

open Cert.GateIdeal Cert.GateIdeal.Gen Cert.GateIdeal.Loop Cert.Common

/-- The piece of a row at lanes from `b` on, and of one of three rows. -/
abbrev seg1 (off : Fin 2 → ℕ) (inb : ∀ a, off a + S1x128.size a ≤ S1x1408.size a) : Rect S1x1408 := Rect.unit (s := S1x1408) off S1x128.size inb
/-- A trip's lanes of one row of the taps' block. -/
abbrev seg3 (off : Fin 2 → ℕ) (inb : ∀ a, off a + S1x128.size a ≤ S3x1408.size a) : Rect S3x1408 := Rect.unit (s := S3x1408) off S1x128.size inb

/-- Where a lane of a piece lies. -/
theorem seg1_emb (off : Fin 2 → ℕ) (inb) (b : ℕ) (h : off = ![0, b]) (q : Fin 1408) (l : Fin 128) (hq : q.val = b + l.val) :
    (seg1 off inb).emb (ix2 0 l) = ix2 0 q := by
  subst h
  refine Rect.emb_eq_of_coords _ _ _ fun a => ?_
  match a with
  | ⟨0, _⟩ => rfl
  | ⟨1, _⟩ => show q.val = b + 1 * l.val; omega

/-- A lane of the trip's is the block's at the trip's place. -/
theorem seg3_emb (off : Fin 2 → ℕ) (inb) (j : Fin 3) (b : ℕ) (h : off = ![j.val, b]) (q : Fin 1408) (l : Fin 128) (hq : q.val = b + l.val) :
    (seg3 off inb).emb (ix2 0 l) = ix2 j q := by
  subst h
  refine Rect.emb_eq_of_coords _ _ _ fun a => ?_
  match a with
  | ⟨0, _⟩ => show j.val = j.val + 1 * 0; omega
  | ⟨1, _⟩ => show q.val = b + 1 * l.val; omega

/-- A lane outside a piece is not in it, -/
theorem seg1_lane (off : Fin 2 → ℕ) (inb) (b : ℕ) (h : off = ![0, b]) (q : Fin 1408) (hq : q.val < b ∨ b + 128 ≤ q.val) :
    (ix2 0 q : S1x1408.Idx) ∉ (seg1 off inb).set := by
  subst h
  exact Rect.not_mem_set_of_axis _ _ 1 b 128 rfl rfl rfl hq

/-- A lane outside the trip's is not among them. -/
theorem seg3_lane (off : Fin 2 → ℕ) (inb) (j i : Fin 3) (b : ℕ) (h : off = ![j.val, b]) (q : Fin 1408) (hq : q.val < b ∨ b + 128 ≤ q.val) :
    (ix2 i q : S3x1408.Idx) ∉ (seg3 off inb).set := by
  subst h
  exact Rect.not_mem_set_of_axis _ _ 1 b 128 rfl rfl rfl hq

/-- … and neither is a lane of another row. -/
theorem seg3_row (off : Fin 2 → ℕ) (inb) (j i : Fin 3) (b : ℕ) (h : off = ![j.val, b]) (q : Fin 1408) (hq : i ≠ j) :
    (ix2 i q : S3x1408.Idx) ∉ (seg3 off inb).set := by
  subst h
  have := Fin.val_ne_of_ne hq
  exact Rect.not_mem_set_of_axis _ _ 0 j.val 1 rfl rfl rfl (by show i.val < _ ∨ _ ≤ i.val; omega)

section one

variable (v : View sig .tc .vmem S1x1408 .f32) (off : Fin 2 → ℕ) (inb : ∀ a, off a + S1x128.size a ≤ S1x1408.size a)
  (f : v.ty.Contents (Elt Ideal)) (d : ℕ → FVec Ideal S1x128 .f32) (b : ℕ) (h : off = ![0, b]) (q : Fin 1408)

/-- A pile's stores, the newest first. -/
theorem pile1_zero : pile1 v off inb f d 0 = [] := rfl
/-- The first part is stored over what was there before. -/
theorem pile1_one : pile1 v off inb f d 1 = push1 v off inb f [] (d 0) [] := rfl
/-- Each later part is stored over the parts before it. -/
theorem pile1_next (n : ℕ) : pile1 v off inb f d (n + 2) = push1 v off inb v.junk (pile1 v off inb f d (n + 1)) (d (n + 1)) (pile1 v off inb f d (n + 1)) := rfl

include h

/-- The stores of a trip into a row's running sum add their parts at the trip's lanes, -/
theorem pile1_in (l : Fin 128) (hq : q.val = b + l.val) : ∀ (n : ℕ) (g : v.ty.Contents (Elt Ideal)),
    @Eq EReal (v.read (Elt Ideal) (v.writes (Elt Ideal) g (pile1 v off inb f d (n + 1))) (ix2 0 q))
      (v.read (Elt Ideal) f (ix2 0 q) + ∑ m ∈ Finset.range (n + 1), (d m (ix2 0 l) : EReal))
  | 0, g => by
    rw [pile1_one, Finset.sum_range_one]
    exact push1_hit v off inb f g [] [] (d 0) (ix2 0 l) _ (seg1_emb off inb b h q l hq)
  | n + 1, g => by
    rw [pile1_next, Finset.sum_range_succ, ← add_assoc]
    exact (push1_hit v off inb v.junk g _ _ (d (n + 1)) (ix2 0 l) _ (seg1_emb off inb b h q l hq)).trans
      (congrArg (fun z : EReal => z + d (n + 1) (ix2 0 l)) (pile1_in l hq n v.junk))

/-- … and leave it elsewhere. -/
theorem pile1_out (hq : q.val < b ∨ b + 128 ≤ q.val) : ∀ (n : ℕ) (g : v.ty.Contents (Elt Ideal)),
    v.read (Elt Ideal) (v.writes (Elt Ideal) g (pile1 v off inb f d n)) (ix2 0 q) = v.read (Elt Ideal) g (ix2 0 q)
  | 0, g => rfl
  | 1, g => by
    rw [pile1_one]
    exact push1_miss v off inb f g [] [] _ _ (seg1_lane off inb b h q hq)
  | n + 2, g => by
    rw [pile1_next]
    exact (push1_miss v off inb v.junk g _ _ _ _ (seg1_lane off inb b h q hq)).trans (pile1_out hq (n + 1) g)

end one

section three

variable (v : View sig .tc .vmem S3x1408 .f32) (o0 o1 o2 : Fin 2 → ℕ) (i0 : ∀ a, o0 a + S1x128.size a ≤ S3x1408.size a)
  (i1 : ∀ a, o1 a + S1x128.size a ≤ S3x1408.size a) (i2 : ∀ a, o2 a + S1x128.size a ≤ S3x1408.size a)
  (f : v.ty.Contents (Elt Ideal)) (d0 d1 d2 : ℕ → FVec Ideal S1x128 .f32) (b : ℕ)
  (h0 : o0 = ![0, b]) (h1 : o1 = ![1, b]) (h2 : o2 = ![2, b]) (q : Fin 1408)

/-- A pile's stores in three rows, the newest first. -/
theorem pile3_one : pile3 v o0 o1 o2 i0 i1 i2 f d0 d1 d2 1
    = push3 v o2 i2 f [] (d2 0) (push3 v o1 i1 f [] (d1 0) (push3 v o0 i0 f [] (d0 0) [])) := rfl
/-- Each later round is stored over the rounds before it. -/
theorem pile3_next (n : ℕ) : pile3 v o0 o1 o2 i0 i1 i2 f d0 d1 d2 (n + 2)
    = round3 v o0 o1 o2 i0 i1 i2 (d0 (n + 1)) (d1 (n + 1)) (d2 (n + 1)) (pile3 v o0 o1 o2 i0 i1 i2 f d0 d1 d2 (n + 1)) := rfl

section round

variable (g : v.ty.Contents (Elt Ideal)) (e0 e1 e2 : FVec Ideal S1x128 .f32) (L : List (View.Piece (Elt Ideal) S3x1408 .f32))
include h0 h1 h2

/-- A round of stores adds its part to each of the three rows at the trip's lanes, -/
theorem round3_row0 (l : Fin 128) (hq : q.val = b + l.val) :
    @Eq EReal (v.read (Elt Ideal) (v.writes (Elt Ideal) g (round3 v o0 o1 o2 i0 i1 i2 e0 e1 e2 L)) (ix2 0 q))
      (v.read (Elt Ideal) (v.writes (Elt Ideal) v.junk L) (ix2 0 q) + e0 (ix2 0 l)) := by
  unfold round3
  exact (push3_miss v o2 i2 v.junk g _ _ _ _ (seg3_row o2 i2 2 0 b h2 q (by decide))).trans
    ((push3_miss v o1 i1 v.junk g _ _ _ _ (seg3_row o1 i1 1 0 b h1 q (by decide))).trans
      (push3_hit v o0 i0 v.junk g L L e0 (ix2 0 l) _ (seg3_emb o0 i0 0 b h0 q l hq)))

/-- … to the second row its own, -/
theorem round3_row1 (l : Fin 128) (hq : q.val = b + l.val) :
    @Eq EReal (v.read (Elt Ideal) (v.writes (Elt Ideal) g (round3 v o0 o1 o2 i0 i1 i2 e0 e1 e2 L)) (ix2 1 q))
      (v.read (Elt Ideal) (v.writes (Elt Ideal) v.junk L) (ix2 1 q) + e1 (ix2 0 l)) := by
  unfold round3
  refine (push3_miss v o2 i2 v.junk g _ _ _ _ (seg3_row o2 i2 2 1 b h2 q (by decide))).trans
    ((push3_hit v o1 i1 v.junk g _ _ e1 (ix2 0 l) _ (seg3_emb o1 i1 1 b h1 q l hq)).trans ?_)
  exact congrArg (fun z : EReal => z + e1 (ix2 0 l)) (push3_miss v o0 i0 v.junk v.junk L L _ _ (seg3_row o0 i0 0 1 b h0 q (by decide)))

/-- … and to the third. -/
theorem round3_row2 (l : Fin 128) (hq : q.val = b + l.val) :
    @Eq EReal (v.read (Elt Ideal) (v.writes (Elt Ideal) g (round3 v o0 o1 o2 i0 i1 i2 e0 e1 e2 L)) (ix2 2 q))
      (v.read (Elt Ideal) (v.writes (Elt Ideal) v.junk L) (ix2 2 q) + e2 (ix2 0 l)) := by
  unfold round3
  refine (push3_hit v o2 i2 v.junk g _ _ e2 (ix2 0 l) _ (seg3_emb o2 i2 2 b h2 q l hq)).trans ?_
  exact congrArg (fun z : EReal => z + e2 (ix2 0 l)) ((push3_miss v o1 i1 v.junk v.junk _ _ _ _ (seg3_row o1 i1 1 2 b h1 q (by decide))).trans
    (push3_miss v o0 i0 v.junk v.junk L L _ _ (seg3_row o0 i0 0 2 b h0 q (by decide))))

/-- … and leaves the other lanes. -/
theorem round3_out (j : Fin 3) (hq : q.val < b ∨ b + 128 ≤ q.val) :
    v.read (Elt Ideal) (v.writes (Elt Ideal) g (round3 v o0 o1 o2 i0 i1 i2 e0 e1 e2 L)) (ix2 j q) = v.read (Elt Ideal) (v.writes (Elt Ideal) g L) (ix2 j q) := by
  unfold round3
  exact (push3_miss v o2 i2 v.junk g _ _ _ _ (seg3_lane o2 i2 2 j b h2 q hq)).trans
    ((push3_miss v o1 i1 v.junk g _ _ _ _ (seg3_lane o1 i1 1 j b h1 q hq)).trans (push3_miss v o0 i0 v.junk g L L _ _ (seg3_lane o0 i0 0 j b h0 q hq)))

end round

include h0 h1 h2

/-- The stores of a trip into three rows' running sums add their parts at the trip's lanes: the first row's, -/
theorem pile3_row0 (l : Fin 128) (hq : q.val = b + l.val) : ∀ (n : ℕ) (g : v.ty.Contents (Elt Ideal)),
    @Eq EReal (v.read (Elt Ideal) (v.writes (Elt Ideal) g (pile3 v o0 o1 o2 i0 i1 i2 f d0 d1 d2 (n + 1))) (ix2 0 q))
      (v.read (Elt Ideal) f (ix2 0 q) + ∑ m ∈ Finset.range (n + 1), (d0 m (ix2 0 l) : EReal))
  | 0, g => by
    rw [pile3_one, Finset.sum_range_one]
    exact (push3_miss v o2 i2 f g _ _ _ _ (seg3_row o2 i2 2 0 b h2 q (by decide))).trans
      ((push3_miss v o1 i1 f g _ _ _ _ (seg3_row o1 i1 1 0 b h1 q (by decide))).trans
        (push3_hit v o0 i0 f g [] [] (d0 0) (ix2 0 l) _ (seg3_emb o0 i0 0 b h0 q l hq)))
  | n + 1, g => by
    rw [pile3_next, Finset.sum_range_succ, ← add_assoc]
    exact (round3_row0 v o0 o1 o2 i0 i1 i2 b h0 h1 h2 q g _ _ _ _ l hq).trans
      (congrArg (fun z : EReal => z + d0 (n + 1) (ix2 0 l)) (pile3_row0 l hq n v.junk))

/-- … the second row's, -/
theorem pile3_row1 (l : Fin 128) (hq : q.val = b + l.val) : ∀ (n : ℕ) (g : v.ty.Contents (Elt Ideal)),
    @Eq EReal (v.read (Elt Ideal) (v.writes (Elt Ideal) g (pile3 v o0 o1 o2 i0 i1 i2 f d0 d1 d2 (n + 1))) (ix2 1 q))
      (v.read (Elt Ideal) f (ix2 1 q) + ∑ m ∈ Finset.range (n + 1), (d1 m (ix2 0 l) : EReal))
  | 0, g => by
    rw [pile3_one, Finset.sum_range_one]
    exact (push3_miss v o2 i2 f g _ _ _ _ (seg3_row o2 i2 2 1 b h2 q (by decide))).trans
      (push3_hit v o1 i1 f g [] _ (d1 0) (ix2 0 l) _ (seg3_emb o1 i1 1 b h1 q l hq))
  | n + 1, g => by
    rw [pile3_next, Finset.sum_range_succ, ← add_assoc]
    exact (round3_row1 v o0 o1 o2 i0 i1 i2 b h0 h1 h2 q g _ _ _ _ l hq).trans
      (congrArg (fun z : EReal => z + d1 (n + 1) (ix2 0 l)) (pile3_row1 l hq n v.junk))

/-- … and the third row's, -/
theorem pile3_row2 (l : Fin 128) (hq : q.val = b + l.val) : ∀ (n : ℕ) (g : v.ty.Contents (Elt Ideal)),
    @Eq EReal (v.read (Elt Ideal) (v.writes (Elt Ideal) g (pile3 v o0 o1 o2 i0 i1 i2 f d0 d1 d2 (n + 1))) (ix2 2 q))
      (v.read (Elt Ideal) f (ix2 2 q) + ∑ m ∈ Finset.range (n + 1), (d2 m (ix2 0 l) : EReal))
  | 0, g => by
    rw [pile3_one, Finset.sum_range_one]
    exact push3_hit v o2 i2 f g [] _ (d2 0) (ix2 0 l) _ (seg3_emb o2 i2 2 b h2 q l hq)
  | n + 1, g => by
    rw [pile3_next, Finset.sum_range_succ, ← add_assoc]
    exact (round3_row2 v o0 o1 o2 i0 i1 i2 b h0 h1 h2 q g _ _ _ _ l hq).trans
      (congrArg (fun z : EReal => z + d2 (n + 1) (ix2 0 l)) (pile3_row2 l hq n v.junk))

/-- … and leave them elsewhere. -/
theorem pile3_out (j : Fin 3) (hq : q.val < b ∨ b + 128 ≤ q.val) : ∀ (n : ℕ) (g : v.ty.Contents (Elt Ideal)),
    v.read (Elt Ideal) (v.writes (Elt Ideal) g (pile3 v o0 o1 o2 i0 i1 i2 f d0 d1 d2 n)) (ix2 j q) = v.read (Elt Ideal) g (ix2 j q)
  | 0, g => rfl
  | 1, g => by
    rw [pile3_one]
    exact (push3_miss v o2 i2 f g _ _ _ _ (seg3_lane o2 i2 2 j b h2 q hq)).trans
      ((push3_miss v o1 i1 f g _ _ _ _ (seg3_lane o1 i1 1 j b h1 q hq)).trans (push3_miss v o0 i0 f g [] [] _ _ (seg3_lane o0 i0 0 j b h0 q hq)))
  | n + 2, g => by
    rw [pile3_next]
    exact (round3_out v o0 o1 o2 i0 i1 i2 b h0 h1 h2 q g _ _ _ _ j hq).trans (pile3_out j hq (n + 1) g)

end three

/-- A state that trip `k` changes at the lanes of chunk `k` alone, by adding to it, has after `n` trips what the chunks before `n` add. -/
theorem states_add {α : Type} {N : ℕ} (S : Fin N → α → α) (rdr : α → Fin 1408 → EReal) (T : ℕ → EReal)
    (hin : ∀ (k : Fin N) (f : α) (q : Fin 1408) (l : Fin 128), q.val = 128 * k.val + l.val → rdr (S k f) q = rdr f q + T q.val)
    (hout : ∀ (k : Fin N) (f : α) (q : Fin 1408), q.val < 128 * k.val ∨ 128 * k.val + 128 ≤ q.val → rdr (S k f) q = rdr f q) (f : α) (q : Fin 1408) :
    ∀ n : ℕ, n ≤ N → rdr (states S f n) q = if q.val < 128 * n then rdr f q + T q.val else rdr f q
  | 0, _ => by rw [if_neg (by omega)]; rfl
  | n + 1, hn => by
    have ih := states_add S rdr T hin hout f q n (by omega)
    refine (congrArg (fun z => rdr z q) (states_succ S f ⟨n, by omega⟩)).trans ?_
    dsimp only
    by_cases h : q.val < 128 * n
    · rw [hout _ _ _ (Or.inl h), ih, if_pos h, if_pos (by omega)]
    · by_cases h' : q.val < 128 * (n + 1)
      · rw [hin ⟨n, by omega⟩ _ q ⟨q.val - 128 * n, by omega⟩ (by dsimp only; omega), ih, if_neg h, if_pos h']
      · rw [hout _ _ _ (Or.inr (by dsimp only; omega)), ih, if_neg h, if_neg h']

/-- Four parts of 128 rows are the block's 512. -/
theorem sum_parts (D : ℕ → EReal) : ∑ m ∈ Finset.range 4, ∑ p : Fin 128, D (128 * m + p.val) = ∑ r ∈ Finset.range 512, D r := by
  rw [show (512 : ℕ) = 128 * (3 + 1) from rfl, sum_block, show 128 * 3 = 128 * (2 + 1) from rfl, sum_block, show 128 * 2 = 128 * (1 + 1) from rfl, sum_block,
    show 128 * 1 = 128 * (0 + 1) from rfl, sum_block]
  simp only [Finset.sum_range_succ, Finset.sum_range_zero, Nat.mul_zero, zero_add]

end Cert.GateIdeal.Val
-- ==== Proof.GateRun.lean ====
module

public import proofs.«01_k».proof.Proof.GateLoop
public import Idealize.ShloMosaic.Lib.Pipeline.FrameBody
public import Idealize.ShloMosaic.Lib.Ring
public import Idealize.ShloMosaic.Lib.WordCmp

@[expose] public section

set_option maxRecDepth 16384
set_option maxHeartbeats 8000000

noncomputable section

namespace Cert.GateIdeal.Loop

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.GateIdeal Cert.GateIdeal.Gen

variable {F : FTy → Type} [FloatOps F]

local notation "𝕄" => MT nD τ sig Unit (Elt F) ℕ (UR sig nD τ) ℕ

/-- The body's condition: the row block is the first. -/
abbrev first (i : grid0.Coords) : Prop := (Scalar.cmpi .ne (Scalar.extui (Scalar.cmpi .eq (BitVec.ofNat 32 (i 1).val) 0#32)) 0#32) = 1#1

/-- It is the first at the points divisible by sixteen. -/
theorem first_iff (t : Fin cfg0.N) : first (grid0.coords t) ↔ t.val % 16 = 0 := by
  have ht : t.val < 32 := Nat.lt_of_lt_of_eq t.isLt N_0
  have e0 : (grid0.coords t 1).val = t.val / 1 % 16 := Pipeline.Grid.coords_val t 1 (by decide) rfl
  simp only [first, e0]
  word_cmp

variable (c : Dev nD) (i : grid0.Coords)
  (arg2 : Memref sig .tc .vmem S512x1408 .bf16) (harg2 : arg2.IsWhole) (arg3 : Memref sig .tc .vmem S512x1408 .bf16) (harg3 : arg3.IsWhole)
  (arg4 : Memref sig .tc .vmem S8x1408 .bf16) (harg4 : arg4.IsWhole) (arg5 : Memref sig .tc .vmem S8x1408 .bf16) (harg5 : arg5.IsWhole)
  (arg6 : Memref sig .tc .vmem S3x1408 .f32) (harg6 : arg6.IsWhole) (arg7 : Memref sig .tc .vmem S3x1408 .f32) (harg7 : arg7.IsWhole)
  (arg8 : Memref sig .tc .vmem S1x1408 .f32) (harg8 : arg8.IsWhole) (arg9 : Memref sig .tc .vmem S1x1408 .f32) (harg9 : arg9.IsWhole)
  (arg10 : Memref sig .tc .vmem S512x1408 .bf16) (harg10 : arg10.IsWhole)
  (arg11 : Memref sig .tc .vmem S512x1408 .bf16) (harg11 : arg11.IsWhole) (arg12 : Memref sig .tc .vmem S512x1408 .bf16) (harg12 : arg12.IsWhole)
  (arg13 : Memref sig .tc .vmem S1x1408 .f32) (harg13 : arg13.IsWhole) (arg14 : Memref sig .tc .vmem S1x1408 .f32) (harg14 : arg14.IsWhole)
  (arg15 : Memref sig .tc .vmem S3x1408 .f32) (harg15 : arg15.IsWhole) (arg16 : Memref sig .tc .vmem S3x1408 .f32) (harg16 : arg16.IsWhole)
  (x2 : Vec F S512x1408 .bf16) (x3 : Vec F S512x1408 .bf16) (x4 : Vec F S8x1408 .bf16) (x5 : Vec F S8x1408 .bf16) (x6 : Vec F S3x1408 .f32) (x7 : Vec F S3x1408 .f32) (x8 : Vec F S1x1408 .f32) (x9 : Vec F S1x1408 .f32) (x10 : Vec F S512x1408 .bf16)

/-- What the body stores of the up half's gradient. -/
def stores11 : List (View.Piece (Elt F) S512x1408 .bf16) := lists (L11 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (harg2.unread x2) (harg3.unread x3) (harg4.unread x4) (harg5.unread x5) (harg6.unread x6) (harg7.unread x7) (harg8.unread x8) (harg9.unread x9) (harg10.unread x10) Variants.none none) k0_t1_loop.trips
/-- What the body stores of the gate half's gradient. -/
def stores12 : List (View.Piece (Elt F) S512x1408 .bf16) := lists (L12 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (harg2.unread x2) (harg3.unread x3) (harg4.unread x4) (harg5.unread x5) (harg6.unread x6) (harg7.unread x7) (harg8.unread x8) (harg9.unread x9) (harg10.unread x10) Variants.none none) k0_t1_loop.trips
/-- The up half's bias gradient that the body leaves, from the one that it starts at. -/
def left13 (a : Vec F S1x1408 .f32) : Vec F S1x1408 .f32 :=
  arg13.view.read (Elt F) (states (S13 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (harg2.unread x2) (harg3.unread x3) (harg4.unread x4) (harg5.unread x5) (harg6.unread x6) (harg7.unread x7) (harg8.unread x8) (harg9.unread x9) (harg10.unread x10) Variants.none none) (harg13.unread a) k0_t1_loop.trips)
/-- The gate half's bias gradient that the body leaves, from the one that it starts at. -/
def left14 (a : Vec F S1x1408 .f32) : Vec F S1x1408 .f32 :=
  arg14.view.read (Elt F) (states (S14 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (harg2.unread x2) (harg3.unread x3) (harg4.unread x4) (harg5.unread x5) (harg6.unread x6) (harg7.unread x7) (harg8.unread x8) (harg9.unread x9) (harg10.unread x10) Variants.none none) (harg14.unread a) k0_t1_loop.trips)
/-- The up half's taps' gradient that the body leaves, from the one that it starts at. -/
def left15 (a : Vec F S3x1408 .f32) : Vec F S3x1408 .f32 :=
  arg15.view.read (Elt F) (states (S15 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (harg2.unread x2) (harg3.unread x3) (harg4.unread x4) (harg5.unread x5) (harg6.unread x6) (harg7.unread x7) (harg8.unread x8) (harg9.unread x9) (harg10.unread x10) Variants.none none) (harg15.unread a) k0_t1_loop.trips)
/-- The gate half's taps' gradient that the body leaves, from the one that it starts at. -/
def left16 (a : Vec F S3x1408 .f32) : Vec F S3x1408 .f32 :=
  arg16.view.read (Elt F) (states (S16 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (harg2.unread x2) (harg3.unread x3) (harg4.unread x4) (harg5.unread x5) (harg6.unread x6) (harg7.unread x7) (harg8.unread x8) (harg9.unread x9) (harg10.unread x10) Variants.none none) (harg16.unread a) k0_t1_loop.trips)

/-- The body's stores of the up half's gradient cover its block. -/
theorem cover11 (y : S512x1408.Idx) : ∃ pc ∈ stores11 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x9 x10, y ∈ pc.1.set :=
  View.cover_of_tiledL (stores11 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x9 x10) S128x128.size (by sl_kernel_rfl) y

/-- The body's stores of the gate half's gradient cover its block. -/
theorem cover12 (y : S512x1408.Idx) : ∃ pc ∈ stores12 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x9 x10, y ∈ pc.1.set :=
  View.cover_of_tiledL (stores12 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x9 x10) S128x128.size (by sl_kernel_rfl) y

end Cert.GateIdeal.Loop
-- ==== Proof.GateVal.lean ====
module

public import proofs.«01_k».proof.Proof.GatePile
public import proofs.«01_k».proof.Proof.GateRun

@[expose] public section

set_option maxRecDepth 16384

noncomputable section

open Idealize.ShloMosaic Idealize.ShloMosaic.TcCoe Idealize.SL.Sem

namespace Cert.GateIdeal.Val

open Cert.GateIdeal Cert.GateIdeal.Gen Cert.GateIdeal.Loop Cert.Common
open Cert.ConvIdeal.Val (rd ld_rdb ld_rdf)

/-- The halo's factor: nought at the first row block. -/
def keep (i : grid0.Coords) : EReal := Scalar.select (Scalar.cmpi .eq (BitVec.ofNat 32 (i 1).val) 0#32) (0 : EReal) 1

/-- A read of a rectangle of a buffer is its matrix there. -/
theorem rdb {M N m n : ℕ} (v : Memref sig .tc .vmem ⟨2, ![M, N]⟩ .bf16) (hv : v.IsWhole) (X : Vec Ideal ⟨2, ![M, N]⟩ .bf16) (off : Fin 2 → ℕ) (a b : ℕ)
    (h : off = ![a, b]) (inb) (p : Fin m) (l : Fin n) :
    @Eq EReal (View.readAt (Elt Ideal) v.view (Rect.unit (s := ⟨2, ![M, N]⟩) off ![m, n] inb).toLoadRect (hv.unread X) (ix2 p l))
      (rd (fun r l => X (ix2 r l)) (a + p.val) (b + l.val)) := by
  rw [View.readAt_eq_ld, hv.read_unread]
  exact ld_rdb X off a b h inb p l

/-- The same for the taps and the biases. -/
theorem rdf {M N m n : ℕ} (v : Memref sig .tc .vmem ⟨2, ![M, N]⟩ .f32) (hv : v.IsWhole) (X : Vec Ideal ⟨2, ![M, N]⟩ .f32) (off : Fin 2 → ℕ) (a b : ℕ)
    (h : off = ![a, b]) (inb) (p : Fin m) (l : Fin n) :
    @Eq EReal (View.readAt (Elt Ideal) v.view (Rect.unit (s := ⟨2, ![M, N]⟩) off ![m, n] inb).toLoadRect (hv.unread X) (ix2 p l))
      (rd (fun r l => X (ix2 r l)) (a + p.val) (b + l.val)) := by
  rw [View.readAt_eq_ld, hv.read_unread]
  exact ld_rdf X off a b h inb p l

/-- A block's row is the column's row two on. -/
theorem ext_row (x : Vec Ideal S512x1408 .bf16) (h : Vec Ideal S8x1408 .bf16) (v : EReal) (q r : ℕ) :
    rd (fun r l => x (ix2 r l)) r q = ext x h v q (r + 2) := by
  rw [ext, if_neg (by omega)]
  rfl

/-- The gradients of the two halves over a block. -/
def dU (x3 : Vec Ideal S512x1408 .bf16) (x5 : Vec Ideal S8x1408 .bf16) (x7 : Vec Ideal S3x1408 .f32) (x9 : Vec Ideal S1x1408 .f32)
    (x10 : Vec Ideal S512x1408 .bf16) (v : EReal) (q r : ℕ) : EReal :=
  gU (rd (fun r l => x10 (ix2 r l)) r q) (cv (ext x3 x5 v q) (fun j => rd (fun r l => x7 (ix2 r l)) j q) (rd (fun r l => x9 (ix2 r l)) 0 q) r)
/-- The gradient of the gate half over a block. -/
def dG (x2 x3 : Vec Ideal S512x1408 .bf16) (x4 x5 : Vec Ideal S8x1408 .bf16) (x6 x7 : Vec Ideal S3x1408 .f32) (x8 x9 : Vec Ideal S1x1408 .f32)
    (x10 : Vec Ideal S512x1408 .bf16) (v : EReal) (q r : ℕ) : EReal :=
  gG (rd (fun r l => x10 (ix2 r l)) r q) (cv (ext x2 x4 v q) (fun j => rd (fun r l => x6 (ix2 r l)) j q) (rd (fun r l => x8 (ix2 r l)) 0 q) r)
    (cv (ext x3 x5 v q) (fun j => rd (fun r l => x7 (ix2 r l)) j q) (rd (fun r l => x9 (ix2 r l)) 0 q) r)

/-- A block of a gradient, from its columns. -/
def mat (f : ℕ → ℕ → EReal) : Vec Ideal S512x1408 .bf16 := fun y => f (y 1).val (y 0).val

variable (c : Dev nD) (i : grid0.Coords)
  (arg2 : Memref sig .tc .vmem S512x1408 .bf16) (harg2 : arg2.IsWhole) (arg3 : Memref sig .tc .vmem S512x1408 .bf16) (harg3 : arg3.IsWhole)
  (arg4 : Memref sig .tc .vmem S8x1408 .bf16) (harg4 : arg4.IsWhole) (arg5 : Memref sig .tc .vmem S8x1408 .bf16) (harg5 : arg5.IsWhole)
  (arg6 : Memref sig .tc .vmem S3x1408 .f32) (harg6 : arg6.IsWhole) (arg7 : Memref sig .tc .vmem S3x1408 .f32) (harg7 : arg7.IsWhole)
  (arg8 : Memref sig .tc .vmem S1x1408 .f32) (harg8 : arg8.IsWhole) (arg9 : Memref sig .tc .vmem S1x1408 .f32) (harg9 : arg9.IsWhole)
  (arg10 : Memref sig .tc .vmem S512x1408 .bf16) (harg10 : arg10.IsWhole)
  (arg11 : Memref sig .tc .vmem S512x1408 .bf16) (harg11 : arg11.IsWhole) (arg12 : Memref sig .tc .vmem S512x1408 .bf16) (harg12 : arg12.IsWhole)
  (arg13 : Memref sig .tc .vmem S1x1408 .f32) (harg13 : arg13.IsWhole) (arg14 : Memref sig .tc .vmem S1x1408 .f32) (harg14 : arg14.IsWhole)
  (arg15 : Memref sig .tc .vmem S3x1408 .f32) (harg15 : arg15.IsWhole) (arg16 : Memref sig .tc .vmem S3x1408 .f32) (harg16 : arg16.IsWhole)
  (x2 : Vec Ideal S512x1408 .bf16) (x3 : Vec Ideal S512x1408 .bf16) (x4 : Vec Ideal S8x1408 .bf16) (x5 : Vec Ideal S8x1408 .bf16) (x6 : Vec Ideal S3x1408 .f32) (x7 : Vec Ideal S3x1408 .f32) (x8 : Vec Ideal S1x1408 .f32) (x9 : Vec Ideal S1x1408 .f32) (x10 : Vec Ideal S512x1408 .bf16)

variable (k : Fin k0_t1_loop.trips)

/-- The first 128 rows hold the column's from its start on, -/
theorem good0 : Good (parts (F := Ideal) arg2 arg3 arg4 arg5 arg10 (BitVec.ofNat 32 (i 1).val) (harg2.unread x2) (harg3.unread x3) (harg4.unread x4) (harg5.unread x5) (harg10.unread x10) k 0) (ext x2 x4 (keep i)) (ext x3 x5 (keep i)) (fun q r => rd (fun r l => x10 (ix2 r l)) r q) (128 * 0) (128 * k.val) where
  zu p l := (rdb arg2 harg2 x2 _ 0 _ (k0_off1_eq k) _ p l).trans (ext_row x2 x4 (keep i) _ _)
  zg p l := (rdb arg3 harg3 x3 _ 0 _ (k0_off1_eq k) _ p l).trans (ext_row x3 x5 (keep i) _ _)
  da p l := rdb arg10 harg10 x10 _ 0 _ (k0_off1_eq k) _ p l
  u6 l := (row6_halo _ _ 0 l).trans (congrArg (fun z : EReal => z * keep i) (rdb arg4 harg4 x4 _ 0 _ (k0_off2_eq k) _ (6 : Fin 8) l))
  u7 l := (row7_halo _ _ 0 l).trans (congrArg (fun z : EReal => z * keep i) (rdb arg4 harg4 x4 _ 0 _ (k0_off2_eq k) _ (7 : Fin 8) l))
  g6 l := (row6_halo _ _ 0 l).trans (congrArg (fun z : EReal => z * keep i) (rdb arg5 harg5 x5 _ 0 _ (k0_off2_eq k) _ (6 : Fin 8) l))
  g7 l := (row7_halo _ _ 0 l).trans (congrArg (fun z : EReal => z * keep i) (rdb arg5 harg5 x5 _ 0 _ (k0_off2_eq k) _ (7 : Fin 8) l))

/-- … the second from row 128 on, -/
theorem good1 : Good (parts (F := Ideal) arg2 arg3 arg4 arg5 arg10 (BitVec.ofNat 32 (i 1).val) (harg2.unread x2) (harg3.unread x3) (harg4.unread x4) (harg5.unread x5) (harg10.unread x10) k 1) (ext x2 x4 (keep i)) (ext x3 x5 (keep i)) (fun q r => rd (fun r l => x10 (ix2 r l)) r q) (128 * 1) (128 * k.val) where
  zu p l := (rdb arg2 harg2 x2 _ 128 _ (k0_off7_eq k) _ p l).trans (ext_row x2 x4 (keep i) _ _)
  zg p l := (rdb arg3 harg3 x3 _ 128 _ (k0_off7_eq k) _ p l).trans (ext_row x3 x5 (keep i) _ _)
  da p l := rdb arg10 harg10 x10 _ 128 _ (k0_off7_eq k) _ p l
  u6 l := (row6_tail _ 0 l).trans ((rdb arg2 harg2 x2 _ 112 _ (k0_off8_eq k) _ (14 : Fin 16) l).trans (ext_row x2 x4 (keep i) _ _))
  u7 l := (row7_tail _ 0 l).trans ((rdb arg2 harg2 x2 _ 112 _ (k0_off8_eq k) _ (15 : Fin 16) l).trans (ext_row x2 x4 (keep i) _ _))
  g6 l := (row6_tail _ 0 l).trans ((rdb arg3 harg3 x3 _ 112 _ (k0_off8_eq k) _ (14 : Fin 16) l).trans (ext_row x3 x5 (keep i) _ _))
  g7 l := (row7_tail _ 0 l).trans ((rdb arg3 harg3 x3 _ 112 _ (k0_off8_eq k) _ (15 : Fin 16) l).trans (ext_row x3 x5 (keep i) _ _))

/-- … the third from row 256 on, -/
theorem good2 : Good (parts (F := Ideal) arg2 arg3 arg4 arg5 arg10 (BitVec.ofNat 32 (i 1).val) (harg2.unread x2) (harg3.unread x3) (harg4.unread x4) (harg5.unread x5) (harg10.unread x10) k 2) (ext x2 x4 (keep i)) (ext x3 x5 (keep i)) (fun q r => rd (fun r l => x10 (ix2 r l)) r q) (128 * 2) (128 * k.val) where
  zu p l := (rdb arg2 harg2 x2 _ 256 _ (k0_off9_eq k) _ p l).trans (ext_row x2 x4 (keep i) _ _)
  zg p l := (rdb arg3 harg3 x3 _ 256 _ (k0_off9_eq k) _ p l).trans (ext_row x3 x5 (keep i) _ _)
  da p l := rdb arg10 harg10 x10 _ 256 _ (k0_off9_eq k) _ p l
  u6 l := (row6_tail _ 0 l).trans ((rdb arg2 harg2 x2 _ 240 _ (k0_off10_eq k) _ (14 : Fin 16) l).trans (ext_row x2 x4 (keep i) _ _))
  u7 l := (row7_tail _ 0 l).trans ((rdb arg2 harg2 x2 _ 240 _ (k0_off10_eq k) _ (15 : Fin 16) l).trans (ext_row x2 x4 (keep i) _ _))
  g6 l := (row6_tail _ 0 l).trans ((rdb arg3 harg3 x3 _ 240 _ (k0_off10_eq k) _ (14 : Fin 16) l).trans (ext_row x3 x5 (keep i) _ _))
  g7 l := (row7_tail _ 0 l).trans ((rdb arg3 harg3 x3 _ 240 _ (k0_off10_eq k) _ (15 : Fin 16) l).trans (ext_row x3 x5 (keep i) _ _))

/-- … and the last from row 384 on. -/
theorem good3 : Good (parts (F := Ideal) arg2 arg3 arg4 arg5 arg10 (BitVec.ofNat 32 (i 1).val) (harg2.unread x2) (harg3.unread x3) (harg4.unread x4) (harg5.unread x5) (harg10.unread x10) k 3) (ext x2 x4 (keep i)) (ext x3 x5 (keep i)) (fun q r => rd (fun r l => x10 (ix2 r l)) r q) (128 * 3) (128 * k.val) where
  zu p l := (rdb arg2 harg2 x2 _ 384 _ (k0_off11_eq k) _ p l).trans (ext_row x2 x4 (keep i) _ _)
  zg p l := (rdb arg3 harg3 x3 _ 384 _ (k0_off11_eq k) _ p l).trans (ext_row x3 x5 (keep i) _ _)
  da p l := rdb arg10 harg10 x10 _ 384 _ (k0_off11_eq k) _ p l
  u6 l := (row6_tail _ 0 l).trans ((rdb arg2 harg2 x2 _ 368 _ (k0_off12_eq k) _ (14 : Fin 16) l).trans (ext_row x2 x4 (keep i) _ _))
  u7 l := (row7_tail _ 0 l).trans ((rdb arg2 harg2 x2 _ 368 _ (k0_off12_eq k) _ (15 : Fin 16) l).trans (ext_row x2 x4 (keep i) _ _))
  g6 l := (row6_tail _ 0 l).trans ((rdb arg3 harg3 x3 _ 368 _ (k0_off12_eq k) _ (14 : Fin 16) l).trans (ext_row x3 x5 (keep i) _ _))
  g7 l := (row7_tail _ 0 l).trans ((rdb arg3 harg3 x3 _ 368 _ (k0_off12_eq k) _ (15 : Fin 16) l).trans (ext_row x3 x5 (keep i) _ _))

/-- Each of the four parts of the rows. -/
theorem good : ∀ n < 4, Good (parts (F := Ideal) arg2 arg3 arg4 arg5 arg10 (BitVec.ofNat 32 (i 1).val) (harg2.unread x2) (harg3.unread x3) (harg4.unread x4) (harg5.unread x5) (harg10.unread x10) k n) (ext x2 x4 (keep i)) (ext x3 x5 (keep i)) (fun q r => rd (fun r l => x10 (ix2 r l)) r q) (128 * n) (128 * k.val)
  | 0, _ => good0 ..
  | 1, _ => good1 ..
  | 2, _ => good2 ..
  | 3, _ => good3 ..
  | _ + 4, h => absurd h (by omega)

/-- The taps and biases that a trip reads. -/
theorem goodW : GoodW (wts (F := Ideal) arg6 arg7 arg8 arg9 (harg6.unread x6) (harg7.unread x7) (harg8.unread x8) (harg9.unread x9) k) (fun q j => rd (fun r l => x6 (ix2 r l)) j q) (fun q j => rd (fun r l => x7 (ix2 r l)) j q) (fun q => rd (fun r l => x8 (ix2 r l)) 0 q) (fun q => rd (fun r l => x9 (ix2 r l)) 0 q) (128 * k.val) where
  u0 l := rdf arg6 harg6 x6 _ 0 _ (k0_off3_eq k) _ (0 : Fin 1) l
  u1 l := rdf arg6 harg6 x6 _ 1 _ (k0_off4_eq k) _ (0 : Fin 1) l
  u2 l := rdf arg6 harg6 x6 _ 2 _ (k0_off5_eq k) _ (0 : Fin 1) l
  ub l := rdf arg8 harg8 x8 _ 0 _ (k0_off6_eq k) _ (0 : Fin 1) l
  g0 l := rdf arg7 harg7 x7 _ 0 _ (k0_off3_eq k) _ (0 : Fin 1) l
  g1 l := rdf arg7 harg7 x7 _ 1 _ (k0_off4_eq k) _ (0 : Fin 1) l
  g2 l := rdf arg7 harg7 x7 _ 2 _ (k0_off5_eq k) _ (0 : Fin 1) l
  gb l := rdf arg9 harg9 x9 _ 0 _ (k0_off6_eq k) _ (0 : Fin 1) l

end Cert.GateIdeal.Val
-- ==== Proof.GateOut.lean ====
module

public import proofs.«01_k».proof.Proof.GateVal

@[expose] public section

set_option maxRecDepth 16384

noncomputable section

open Idealize.ShloMosaic Idealize.ShloMosaic.TcCoe Idealize.SL.Sem

namespace Cert.GateIdeal.Val

open Cert.GateIdeal Cert.GateIdeal.Gen Cert.GateIdeal.Loop Cert.Common
open Cert.ConvIdeal.Val (rd ld_rdb ld_rdf)

/-- A stored part agrees with the block at its place. -/
theorem mat_emb (f : ℕ → ℕ → EReal) (off : Fin 2 → ℕ) (a b : ℕ) (h : off = ![a, b]) (inb) (X : FVec Ideal S128x128 .f32)
    (hX : ∀ p l : Fin 128, @Eq EReal (X (ix2 p l)) (f (b + l.val) (a + p.val))) (x : S128x128.Idx) :
    narrow X x = mat f ((Rect.unit (s := S512x1408) off S128x128.size inb).emb x) := by
  subst h
  obtain ⟨p, l, rfl⟩ : ∃ p l : Fin 128, x = ix2 p l := ⟨x 0, x 1, idx2_ext _ _ rfl rfl⟩
  refine (narrow_apply X p l).trans ((hX p l).trans ?_)
  have e0 : ((Rect.unit (s := S512x1408) ![a, b] S128x128.size inb).emb (ix2 p l) 0).val = a + p.val := by
    show a + 1 * p.val = _; omega
  have e1 : ((Rect.unit (s := S512x1408) ![a, b] S128x128.size inb).emb (ix2 p l) 1).val = b + l.val := by
    show b + 1 * l.val = _; omega
  unfold mat
  rw [e0, e1]

/-- A list of trips' stores agrees with a block if each trip's does. -/
theorem lists_good {N : ℕ} (L : Fin N → List (View.Piece (Elt Ideal) S512x1408 .bf16)) (B : Vec Ideal S512x1408 .bf16)
    (hL : ∀ k, ∀ p ∈ L k, ∀ x : p.1.shape.Idx, p.2 x = B (p.1.emb x)) : ∀ n, ∀ p ∈ lists L n, ∀ x : p.1.shape.Idx, p.2 x = B (p.1.emb x)
  | 0 => fun p hp => absurd hp List.not_mem_nil
  | n + 1 => by
    intro p hp
    rw [lists] at hp
    split at hp
    · rcases List.mem_append.mp hp with h | h
      · exact hL _ p h
      · exact lists_good L B hL n p h
    · exact lists_good L B hL n p hp

variable (c : Dev nD) (i : grid0.Coords)
  (arg2 : Memref sig .tc .vmem S512x1408 .bf16) (harg2 : arg2.IsWhole) (arg3 : Memref sig .tc .vmem S512x1408 .bf16) (harg3 : arg3.IsWhole)
  (arg4 : Memref sig .tc .vmem S8x1408 .bf16) (harg4 : arg4.IsWhole) (arg5 : Memref sig .tc .vmem S8x1408 .bf16) (harg5 : arg5.IsWhole)
  (arg6 : Memref sig .tc .vmem S3x1408 .f32) (harg6 : arg6.IsWhole) (arg7 : Memref sig .tc .vmem S3x1408 .f32) (harg7 : arg7.IsWhole)
  (arg8 : Memref sig .tc .vmem S1x1408 .f32) (harg8 : arg8.IsWhole) (arg9 : Memref sig .tc .vmem S1x1408 .f32) (harg9 : arg9.IsWhole)
  (arg10 : Memref sig .tc .vmem S512x1408 .bf16) (harg10 : arg10.IsWhole)
  (arg11 : Memref sig .tc .vmem S512x1408 .bf16) (harg11 : arg11.IsWhole) (arg12 : Memref sig .tc .vmem S512x1408 .bf16) (harg12 : arg12.IsWhole)
  (arg13 : Memref sig .tc .vmem S1x1408 .f32) (harg13 : arg13.IsWhole) (arg14 : Memref sig .tc .vmem S1x1408 .f32) (harg14 : arg14.IsWhole)
  (arg15 : Memref sig .tc .vmem S3x1408 .f32) (harg15 : arg15.IsWhole) (arg16 : Memref sig .tc .vmem S3x1408 .f32) (harg16 : arg16.IsWhole)
  (x2 : Vec Ideal S512x1408 .bf16) (x3 : Vec Ideal S512x1408 .bf16) (x4 : Vec Ideal S8x1408 .bf16) (x5 : Vec Ideal S8x1408 .bf16) (x6 : Vec Ideal S3x1408 .f32) (x7 : Vec Ideal S3x1408 .f32) (x8 : Vec Ideal S1x1408 .f32) (x9 : Vec Ideal S1x1408 .f32) (x10 : Vec Ideal S512x1408 .bf16)

variable (k : Fin k0_t1_loop.trips)

/-- A trip's parts of the two gradients. -/
theorem part_du (n : ℕ) (hn : n < 4) (p l : Fin 128) : @Eq EReal ((parts (F := Ideal) arg2 arg3 arg4 arg5 arg10 (BitVec.ofNat 32 (i 1).val) (harg2.unread x2) (harg3.unread x3) (harg4.unread x4) (harg5.unread x5) (harg10.unread x10) k n).du (wts (F := Ideal) arg6 arg7 arg8 arg9 (harg6.unread x6) (harg7.unread x7) (harg8.unread x8) (harg9.unread x9) k) (ix2 p l)) ((dU x3 x5 x7 x9 x10 (keep i)) (128 * k.val + l.val) (128 * n + p.val)) :=
  (good i arg2 harg2 arg3 harg3 arg4 harg4 arg5 harg5 arg10 harg10 x2 x3 x4 x5 x10 k n hn).du
    (goodW arg6 harg6 arg7 harg7 arg8 harg8 arg9 harg9 x6 x7 x8 x9 k) p l

/-- The same of the gate half's gradient. -/
theorem part_dg (n : ℕ) (hn : n < 4) (p l : Fin 128) : @Eq EReal ((parts (F := Ideal) arg2 arg3 arg4 arg5 arg10 (BitVec.ofNat 32 (i 1).val) (harg2.unread x2) (harg3.unread x3) (harg4.unread x4) (harg5.unread x5) (harg10.unread x10) k n).dg (wts (F := Ideal) arg6 arg7 arg8 arg9 (harg6.unread x6) (harg7.unread x7) (harg8.unread x8) (harg9.unread x9) k) (ix2 p l)) ((dG x2 x3 x4 x5 x6 x7 x8 x9 x10 (keep i)) (128 * k.val + l.val) (128 * n + p.val)) :=
  (good i arg2 harg2 arg3 harg3 arg4 harg4 arg5 harg5 arg10 harg10 x2 x3 x4 x5 x10 k n hn).dg
    (goodW arg6 harg6 arg7 harg7 arg8 harg8 arg9 harg9 x6 x7 x8 x9 k) p l

/-- Every store of a trip into the up half's gradient agrees with the block, -/
theorem good11 : ∀ p ∈ (L11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (harg2.unread x2) (harg3.unread x3) (harg4.unread x4) (harg5.unread x5) (harg6.unread x6) (harg7.unread x7) (harg8.unread x8) (harg9.unread x9) (harg10.unread x10) Variants.none none) k, ∀ x : p.1.shape.Idx, p.2 x = mat (dU x3 x5 x7 x9 x10 (keep i)) (p.1.emb x) := by
  intro p hp
  rw [L11, trip11] at hp
  simp only [List.mem_cons, List.not_mem_nil, or_false] at hp
  rcases hp with rfl | rfl | rfl | rfl
  · exact fun x => mat_emb (dU x3 x5 x7 x9 x10 (keep i)) _ _ _ (k0_off11_eq k) (k0_off11_inb k) _ (part_du i arg2 harg2 arg3 harg3 arg4 harg4 arg5 harg5 arg6 harg6 arg7 harg7 arg8 harg8 arg9 harg9 arg10 harg10 x2 x3 x4 x5 x6 x7 x8 x9 x10 k 3 (by decide)) x
  · exact fun x => mat_emb (dU x3 x5 x7 x9 x10 (keep i)) _ _ _ (k0_off9_eq k) (k0_off9_inb k) _ (part_du i arg2 harg2 arg3 harg3 arg4 harg4 arg5 harg5 arg6 harg6 arg7 harg7 arg8 harg8 arg9 harg9 arg10 harg10 x2 x3 x4 x5 x6 x7 x8 x9 x10 k 2 (by decide)) x
  · exact fun x => mat_emb (dU x3 x5 x7 x9 x10 (keep i)) _ _ _ (k0_off7_eq k) (k0_off7_inb k) _ (part_du i arg2 harg2 arg3 harg3 arg4 harg4 arg5 harg5 arg6 harg6 arg7 harg7 arg8 harg8 arg9 harg9 arg10 harg10 x2 x3 x4 x5 x6 x7 x8 x9 x10 k 1 (by decide)) x
  · exact fun x => mat_emb (dU x3 x5 x7 x9 x10 (keep i)) _ _ _ (k0_off1_eq k) (k0_off1_inb k) _ (part_du i arg2 harg2 arg3 harg3 arg4 harg4 arg5 harg5 arg6 harg6 arg7 harg7 arg8 harg8 arg9 harg9 arg10 harg10 x2 x3 x4 x5 x6 x7 x8 x9 x10 k 0 (by decide)) x

/-- … so the body leaves the block there. -/
theorem left11 (g : BufTy.Contents (Elt Ideal) arg11.view.ty) :
    arg11.view.read (Elt Ideal) (arg11.view.writes (Elt Ideal) g (stores11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x9 x10)) = mat (dU x3 x5 x7 x9 x10 (keep i)) := by
  funext y
  refine View.read_writes_apply_of_pieces _ _ (mat (dU x3 x5 x7 x9 x10 (keep i))) _ ?_ y (cover11 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x9 x10 y)
  exact lists_good _ _ (good11 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x9 x10) _

/-- Every store of a trip into the gate half's gradient agrees with the block, -/
theorem good12 : ∀ p ∈ (L12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (harg2.unread x2) (harg3.unread x3) (harg4.unread x4) (harg5.unread x5) (harg6.unread x6) (harg7.unread x7) (harg8.unread x8) (harg9.unread x9) (harg10.unread x10) Variants.none none) k, ∀ x : p.1.shape.Idx, p.2 x = mat (dG x2 x3 x4 x5 x6 x7 x8 x9 x10 (keep i)) (p.1.emb x) := by
  intro p hp
  rw [L12, trip12] at hp
  simp only [List.mem_cons, List.not_mem_nil, or_false] at hp
  rcases hp with rfl | rfl | rfl | rfl
  · exact fun x => mat_emb (dG x2 x3 x4 x5 x6 x7 x8 x9 x10 (keep i)) _ _ _ (k0_off11_eq k) (k0_off11_inb k) _ (part_dg i arg2 harg2 arg3 harg3 arg4 harg4 arg5 harg5 arg6 harg6 arg7 harg7 arg8 harg8 arg9 harg9 arg10 harg10 x2 x3 x4 x5 x6 x7 x8 x9 x10 k 3 (by decide)) x
  · exact fun x => mat_emb (dG x2 x3 x4 x5 x6 x7 x8 x9 x10 (keep i)) _ _ _ (k0_off9_eq k) (k0_off9_inb k) _ (part_dg i arg2 harg2 arg3 harg3 arg4 harg4 arg5 harg5 arg6 harg6 arg7 harg7 arg8 harg8 arg9 harg9 arg10 harg10 x2 x3 x4 x5 x6 x7 x8 x9 x10 k 2 (by decide)) x
  · exact fun x => mat_emb (dG x2 x3 x4 x5 x6 x7 x8 x9 x10 (keep i)) _ _ _ (k0_off7_eq k) (k0_off7_inb k) _ (part_dg i arg2 harg2 arg3 harg3 arg4 harg4 arg5 harg5 arg6 harg6 arg7 harg7 arg8 harg8 arg9 harg9 arg10 harg10 x2 x3 x4 x5 x6 x7 x8 x9 x10 k 1 (by decide)) x
  · exact fun x => mat_emb (dG x2 x3 x4 x5 x6 x7 x8 x9 x10 (keep i)) _ _ _ (k0_off1_eq k) (k0_off1_inb k) _ (part_dg i arg2 harg2 arg3 harg3 arg4 harg4 arg5 harg5 arg6 harg6 arg7 harg7 arg8 harg8 arg9 harg9 arg10 harg10 x2 x3 x4 x5 x6 x7 x8 x9 x10 k 0 (by decide)) x

/-- … so the body leaves the block there. -/
theorem left12 (g : BufTy.Contents (Elt Ideal) arg12.view.ty) :
    arg12.view.read (Elt Ideal) (arg12.view.writes (Elt Ideal) g (stores12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x9 x10)) = mat (dG x2 x3 x4 x5 x6 x7 x8 x9 x10 (keep i)) := by
  funext y
  refine View.read_writes_apply_of_pieces _ _ (mat (dG x2 x3 x4 x5 x6 x7 x8 x9 x10 (keep i))) _ ?_ y (cover12 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x9 x10 y)
  exact lists_good _ _ (good12 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x9 x10) _

/-- The body adds its rows' sum to the up half's bias gradient. -/
theorem add13 (a : Vec Ideal S1x1408 .f32) (q : Fin 1408) :
    @Eq EReal (left13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x9 x10 a (ix2 0 q)) (a (ix2 0 q) + ∑ r ∈ Finset.range 512, (dU x3 x5 x7 x9 x10 (keep i)) q.val r) := by
  have e := states_add (S13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (harg2.unread x2) (harg3.unread x3) (harg4.unread x4) (harg5.unread x5) (harg6.unread x6) (harg7.unread x7) (harg8.unread x8) (harg9.unread x9) (harg10.unread x10) Variants.none none) (fun f q => (arg13.view.read (Elt Ideal) f (ix2 0 q) : EReal)) (fun q => ∑ r ∈ Finset.range 512, (dU x3 x5 x7 x9 x10 (keep i)) q r)
    (fun k f q l hq => by
      refine (congrArg (fun L => arg13.view.read (Elt Ideal) (arg13.view.writes (Elt Ideal) f L) (ix2 0 q)) (trip13 c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (harg2.unread x2) (harg3.unread x3) (harg4.unread x4) (harg5.unread x5) (harg6.unread x6) (harg7.unread x7) (harg8.unread x8) (harg9.unread x9) (harg10.unread x10) Variants.none none k f)).trans ?_
      refine (pile1_in arg13.view _ _ f _ _ (k0_off6_eq k) q l hq 3 f).trans (congrArg (fun z : EReal => _ + z) ?_)
      refine (Finset.sum_congr rfl fun m hm => (total_apply _ 0 l).trans (Finset.sum_congr rfl fun p _ => ?_)).trans (sum_parts ((dU x3 x5 x7 x9 x10 (keep i)) q.val))
      rw [hq]
      exact part_du i arg2 harg2 arg3 harg3 arg4 harg4 arg5 harg5 arg6 harg6 arg7 harg7 arg8 harg8 arg9 harg9 arg10 harg10 x2 x3 x4 x5 x6 x7 x8 x9 x10 k m (Finset.mem_range.mp hm) p l)
    (fun k f q hq => by
      refine (congrArg (fun L => arg13.view.read (Elt Ideal) (arg13.view.writes (Elt Ideal) f L) (ix2 0 q)) (trip13 c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (harg2.unread x2) (harg3.unread x3) (harg4.unread x4) (harg5.unread x5) (harg6.unread x6) (harg7.unread x7) (harg8.unread x8) (harg9.unread x9) (harg10.unread x10) Variants.none none k f)).trans ?_
      exact pile1_out arg13.view _ _ f _ _ (k0_off6_eq k) q hq 4 f)
    (harg13.unread a) q k0_t1_loop.trips le_rfl
  rw [if_pos (lt_of_lt_of_le q.isLt (by decide))] at e
  refine e.trans (congrArg (fun z : EReal => z + _) ?_)
  exact congrFun (harg13.read_unread a) _

/-- The body adds its rows' sum to the gate half's bias gradient. -/
theorem add14 (a : Vec Ideal S1x1408 .f32) (q : Fin 1408) :
    @Eq EReal (left14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x9 x10 a (ix2 0 q)) (a (ix2 0 q) + ∑ r ∈ Finset.range 512, (dG x2 x3 x4 x5 x6 x7 x8 x9 x10 (keep i)) q.val r) := by
  have e := states_add (S14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (harg2.unread x2) (harg3.unread x3) (harg4.unread x4) (harg5.unread x5) (harg6.unread x6) (harg7.unread x7) (harg8.unread x8) (harg9.unread x9) (harg10.unread x10) Variants.none none) (fun f q => (arg14.view.read (Elt Ideal) f (ix2 0 q) : EReal)) (fun q => ∑ r ∈ Finset.range 512, (dG x2 x3 x4 x5 x6 x7 x8 x9 x10 (keep i)) q r)
    (fun k f q l hq => by
      refine (congrArg (fun L => arg14.view.read (Elt Ideal) (arg14.view.writes (Elt Ideal) f L) (ix2 0 q)) (trip14 c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (harg2.unread x2) (harg3.unread x3) (harg4.unread x4) (harg5.unread x5) (harg6.unread x6) (harg7.unread x7) (harg8.unread x8) (harg9.unread x9) (harg10.unread x10) Variants.none none k f)).trans ?_
      refine (pile1_in arg14.view _ _ f _ _ (k0_off6_eq k) q l hq 3 f).trans (congrArg (fun z : EReal => _ + z) ?_)
      refine (Finset.sum_congr rfl fun m hm => (total_apply _ 0 l).trans (Finset.sum_congr rfl fun p _ => ?_)).trans (sum_parts ((dG x2 x3 x4 x5 x6 x7 x8 x9 x10 (keep i)) q.val))
      rw [hq]
      exact part_dg i arg2 harg2 arg3 harg3 arg4 harg4 arg5 harg5 arg6 harg6 arg7 harg7 arg8 harg8 arg9 harg9 arg10 harg10 x2 x3 x4 x5 x6 x7 x8 x9 x10 k m (Finset.mem_range.mp hm) p l)
    (fun k f q hq => by
      refine (congrArg (fun L => arg14.view.read (Elt Ideal) (arg14.view.writes (Elt Ideal) f L) (ix2 0 q)) (trip14 c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (harg2.unread x2) (harg3.unread x3) (harg4.unread x4) (harg5.unread x5) (harg6.unread x6) (harg7.unread x7) (harg8.unread x8) (harg9.unread x9) (harg10.unread x10) Variants.none none k f)).trans ?_
      exact pile1_out arg14.view _ _ f _ _ (k0_off6_eq k) q hq 4 f)
    (harg14.unread a) q k0_t1_loop.trips le_rfl
  rw [if_pos (lt_of_lt_of_le q.isLt (by decide))] at e
  refine e.trans (congrArg (fun z : EReal => z + _) ?_)
  exact congrFun (harg14.read_unread a) _

/-- A trip's part of a row of the up half's taps' gradient. -/
theorem prod15 (t : ℕ → FVec Ideal S128x128 .f32) (j : ℕ) (l : Fin 128)
    (ht : ∀ m < 4, ∀ p : Fin 128, @Eq EReal (t m (ix2 p l)) ((ext x2 x4 (keep i)) (128 * k.val + l.val) (128 * m + p.val + j))) :
    @Eq EReal (∑ m ∈ Finset.range 4, (total (mulf ((parts (F := Ideal) arg2 arg3 arg4 arg5 arg10 (BitVec.ofNat 32 (i 1).val) (harg2.unread x2) (harg3.unread x3) (harg4.unread x4) (harg5.unread x5) (harg10.unread x10) k m).du (wts (F := Ideal) arg6 arg7 arg8 arg9 (harg6.unread x6) (harg7.unread x7) (harg8.unread x8) (harg9.unread x9) k)) (t m)) (ix2 0 l) : EReal))
      (∑ r ∈ Finset.range 512, (dU x3 x5 x7 x9 x10 (keep i)) (128 * k.val + l.val) r * (ext x2 x4 (keep i)) (128 * k.val + l.val) (r + j)) := by
  refine (Finset.sum_congr rfl fun m hm => (total_apply _ 0 l).trans (Finset.sum_congr rfl fun p _ => ?_)).trans
    (sum_parts (fun r => (dU x3 x5 x7 x9 x10 (keep i)) (128 * k.val + l.val) r * (ext x2 x4 (keep i)) (128 * k.val + l.val) (r + j)))
  exact congrArg₂ (fun x y : EReal => x * y) (part_du i arg2 harg2 arg3 harg3 arg4 harg4 arg5 harg5 arg6 harg6 arg7 harg7 arg8 harg8 arg9 harg9 arg10 harg10 x2 x3 x4 x5 x6 x7 x8 x9 x10 k m (Finset.mem_range.mp hm) p l) (ht m (Finset.mem_range.mp hm) p)

/-- The body adds its rows' sum to each row of the up half's taps' gradient. -/
theorem add15 (a : Vec Ideal S3x1408 .f32) (j : Fin 3) (q : Fin 1408) :
    @Eq EReal (left15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x9 x10 a (ix2 j q)) (a (ix2 j q) + ∑ r ∈ Finset.range 512, (dU x3 x5 x7 x9 x10 (keep i)) q.val r * (ext x2 x4 (keep i)) q.val (r + j.val)) := by
  have e := states_add (S15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (harg2.unread x2) (harg3.unread x3) (harg4.unread x4) (harg5.unread x5) (harg6.unread x6) (harg7.unread x7) (harg8.unread x8) (harg9.unread x9) (harg10.unread x10) Variants.none none) (fun f q => (arg15.view.read (Elt Ideal) f (ix2 j q) : EReal)) (fun q => ∑ r ∈ Finset.range 512, (dU x3 x5 x7 x9 x10 (keep i)) q r * (ext x2 x4 (keep i)) q (r + j.val))
    (fun k f q l hq => by
      refine (congrArg (fun L => arg15.view.read (Elt Ideal) (arg15.view.writes (Elt Ideal) f L) (ix2 j q)) (trip15 c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (harg2.unread x2) (harg3.unread x3) (harg4.unread x4) (harg5.unread x5) (harg6.unread x6) (harg7.unread x7) (harg8.unread x8) (harg9.unread x9) (harg10.unread x10) Variants.none none k f)).trans ?_
      dsimp only
      rw [hq]
      match j with
      | 0 => exact (pile3_row0 arg15.view _ _ _ _ _ _ f _ _ _ _ (k0_off3_eq k) (k0_off4_eq k) (k0_off5_eq k) q l hq 3 f).trans (congrArg (fun z : EReal => _ + z)
          (prod15 i arg2 harg2 arg3 harg3 arg4 harg4 arg5 harg5 arg6 harg6 arg7 harg7 arg8 harg8 arg9 harg9 arg10 harg10 x2 x3 x4 x5 x6 x7 x8 x9 x10 k _ 0 l fun m hm p => (good i arg2 harg2 arg3 harg3 arg4 harg4 arg5 harg5 arg10 harg10 x2 x3 x4 x5 x10 k m hm).ut0 p l))
      | 1 => exact (pile3_row1 arg15.view _ _ _ _ _ _ f _ _ _ _ (k0_off3_eq k) (k0_off4_eq k) (k0_off5_eq k) q l hq 3 f).trans (congrArg (fun z : EReal => _ + z)
          (prod15 i arg2 harg2 arg3 harg3 arg4 harg4 arg5 harg5 arg6 harg6 arg7 harg7 arg8 harg8 arg9 harg9 arg10 harg10 x2 x3 x4 x5 x6 x7 x8 x9 x10 k _ 1 l fun m hm p => (good i arg2 harg2 arg3 harg3 arg4 harg4 arg5 harg5 arg10 harg10 x2 x3 x4 x5 x10 k m hm).ut1 p l))
      | 2 => exact (pile3_row2 arg15.view _ _ _ _ _ _ f _ _ _ _ (k0_off3_eq k) (k0_off4_eq k) (k0_off5_eq k) q l hq 3 f).trans (congrArg (fun z : EReal => _ + z)
          (prod15 i arg2 harg2 arg3 harg3 arg4 harg4 arg5 harg5 arg6 harg6 arg7 harg7 arg8 harg8 arg9 harg9 arg10 harg10 x2 x3 x4 x5 x6 x7 x8 x9 x10 k _ 2 l fun m hm p => (good i arg2 harg2 arg3 harg3 arg4 harg4 arg5 harg5 arg10 harg10 x2 x3 x4 x5 x10 k m hm).ut2 p l)))
    (fun k f q hq => by
      refine (congrArg (fun L => arg15.view.read (Elt Ideal) (arg15.view.writes (Elt Ideal) f L) (ix2 j q)) (trip15 c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (harg2.unread x2) (harg3.unread x3) (harg4.unread x4) (harg5.unread x5) (harg6.unread x6) (harg7.unread x7) (harg8.unread x8) (harg9.unread x9) (harg10.unread x10) Variants.none none k f)).trans ?_
      exact pile3_out arg15.view _ _ _ _ _ _ f _ _ _ _ (k0_off3_eq k) (k0_off4_eq k) (k0_off5_eq k) q j hq 4 f)
    (harg15.unread a) q k0_t1_loop.trips le_rfl
  rw [if_pos (lt_of_lt_of_le q.isLt (by decide))] at e
  refine e.trans (congrArg (fun z : EReal => z + _) ?_)
  exact congrFun (harg15.read_unread a) _

/-- A trip's part of a row of the gate half's taps' gradient. -/
theorem prod16 (t : ℕ → FVec Ideal S128x128 .f32) (j : ℕ) (l : Fin 128)
    (ht : ∀ m < 4, ∀ p : Fin 128, @Eq EReal (t m (ix2 p l)) ((ext x3 x5 (keep i)) (128 * k.val + l.val) (128 * m + p.val + j))) :
    @Eq EReal (∑ m ∈ Finset.range 4, (total (mulf ((parts (F := Ideal) arg2 arg3 arg4 arg5 arg10 (BitVec.ofNat 32 (i 1).val) (harg2.unread x2) (harg3.unread x3) (harg4.unread x4) (harg5.unread x5) (harg10.unread x10) k m).dg (wts (F := Ideal) arg6 arg7 arg8 arg9 (harg6.unread x6) (harg7.unread x7) (harg8.unread x8) (harg9.unread x9) k)) (t m)) (ix2 0 l) : EReal))
      (∑ r ∈ Finset.range 512, (dG x2 x3 x4 x5 x6 x7 x8 x9 x10 (keep i)) (128 * k.val + l.val) r * (ext x3 x5 (keep i)) (128 * k.val + l.val) (r + j)) := by
  refine (Finset.sum_congr rfl fun m hm => (total_apply _ 0 l).trans (Finset.sum_congr rfl fun p _ => ?_)).trans
    (sum_parts (fun r => (dG x2 x3 x4 x5 x6 x7 x8 x9 x10 (keep i)) (128 * k.val + l.val) r * (ext x3 x5 (keep i)) (128 * k.val + l.val) (r + j)))
  exact congrArg₂ (fun x y : EReal => x * y) (part_dg i arg2 harg2 arg3 harg3 arg4 harg4 arg5 harg5 arg6 harg6 arg7 harg7 arg8 harg8 arg9 harg9 arg10 harg10 x2 x3 x4 x5 x6 x7 x8 x9 x10 k m (Finset.mem_range.mp hm) p l) (ht m (Finset.mem_range.mp hm) p)

/-- The body adds its rows' sum to each row of the gate half's taps' gradient. -/
theorem add16 (a : Vec Ideal S3x1408 .f32) (j : Fin 3) (q : Fin 1408) :
    @Eq EReal (left16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x9 x10 a (ix2 j q)) (a (ix2 j q) + ∑ r ∈ Finset.range 512, (dG x2 x3 x4 x5 x6 x7 x8 x9 x10 (keep i)) q.val r * (ext x3 x5 (keep i)) q.val (r + j.val)) := by
  have e := states_add (S16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (harg2.unread x2) (harg3.unread x3) (harg4.unread x4) (harg5.unread x5) (harg6.unread x6) (harg7.unread x7) (harg8.unread x8) (harg9.unread x9) (harg10.unread x10) Variants.none none) (fun f q => (arg16.view.read (Elt Ideal) f (ix2 j q) : EReal)) (fun q => ∑ r ∈ Finset.range 512, (dG x2 x3 x4 x5 x6 x7 x8 x9 x10 (keep i)) q r * (ext x3 x5 (keep i)) q (r + j.val))
    (fun k f q l hq => by
      refine (congrArg (fun L => arg16.view.read (Elt Ideal) (arg16.view.writes (Elt Ideal) f L) (ix2 j q)) (trip16 c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (harg2.unread x2) (harg3.unread x3) (harg4.unread x4) (harg5.unread x5) (harg6.unread x6) (harg7.unread x7) (harg8.unread x8) (harg9.unread x9) (harg10.unread x10) Variants.none none k f)).trans ?_
      dsimp only
      rw [hq]
      match j with
      | 0 => exact (pile3_row0 arg16.view _ _ _ _ _ _ f _ _ _ _ (k0_off3_eq k) (k0_off4_eq k) (k0_off5_eq k) q l hq 3 f).trans (congrArg (fun z : EReal => _ + z)
          (prod16 i arg2 harg2 arg3 harg3 arg4 harg4 arg5 harg5 arg6 harg6 arg7 harg7 arg8 harg8 arg9 harg9 arg10 harg10 x2 x3 x4 x5 x6 x7 x8 x9 x10 k _ 0 l fun m hm p => (good i arg2 harg2 arg3 harg3 arg4 harg4 arg5 harg5 arg10 harg10 x2 x3 x4 x5 x10 k m hm).gt0 p l))
      | 1 => exact (pile3_row1 arg16.view _ _ _ _ _ _ f _ _ _ _ (k0_off3_eq k) (k0_off4_eq k) (k0_off5_eq k) q l hq 3 f).trans (congrArg (fun z : EReal => _ + z)
          (prod16 i arg2 harg2 arg3 harg3 arg4 harg4 arg5 harg5 arg6 harg6 arg7 harg7 arg8 harg8 arg9 harg9 arg10 harg10 x2 x3 x4 x5 x6 x7 x8 x9 x10 k _ 1 l fun m hm p => (good i arg2 harg2 arg3 harg3 arg4 harg4 arg5 harg5 arg10 harg10 x2 x3 x4 x5 x10 k m hm).gt1 p l))
      | 2 => exact (pile3_row2 arg16.view _ _ _ _ _ _ f _ _ _ _ (k0_off3_eq k) (k0_off4_eq k) (k0_off5_eq k) q l hq 3 f).trans (congrArg (fun z : EReal => _ + z)
          (prod16 i arg2 harg2 arg3 harg3 arg4 harg4 arg5 harg5 arg6 harg6 arg7 harg7 arg8 harg8 arg9 harg9 arg10 harg10 x2 x3 x4 x5 x6 x7 x8 x9 x10 k _ 2 l fun m hm p => (good i arg2 harg2 arg3 harg3 arg4 harg4 arg5 harg5 arg10 harg10 x2 x3 x4 x5 x10 k m hm).gt2 p l)))
    (fun k f q hq => by
      refine (congrArg (fun L => arg16.view.read (Elt Ideal) (arg16.view.writes (Elt Ideal) f L) (ix2 j q)) (trip16 c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (harg2.unread x2) (harg3.unread x3) (harg4.unread x4) (harg5.unread x5) (harg6.unread x6) (harg7.unread x7) (harg8.unread x8) (harg9.unread x9) (harg10.unread x10) Variants.none none k f)).trans ?_
      exact pile3_out arg16.view _ _ _ _ _ _ f _ _ _ _ (k0_off3_eq k) (k0_off4_eq k) (k0_off5_eq k) q j hq 4 f)
    (harg16.unread a) q k0_t1_loop.trips le_rfl
  rw [if_pos (lt_of_lt_of_le q.isLt (by decide))] at e
  refine e.trans (congrArg (fun z : EReal => z + _) ?_)
  exact congrFun (harg16.read_unread a) _

end Cert.GateIdeal.Val
-- ==== Proof.GateZero.lean ====
module

public import proofs.«01_k».proof.Proof.GateRun
public import Idealize.ShloMosaic.Lib.Pipeline.FrameBody
public import Idealize.ShloMosaic.Lib.Ring
public import Idealize.ShloMosaic.Lib.VecWindow
public import Idealize.ShloMosaic.Lib.WordCmp

@[expose] public section

set_option maxRecDepth 16384
set_option maxHeartbeats 8000000

noncomputable section

namespace Cert.GateIdeal.Loop

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.GateIdeal Cert.GateIdeal.Gen

variable {F : FTy → Type} [FloatOps F]

local notation "𝕄" => MT nD τ sig Unit (Elt F) ℕ (UR sig nD τ) ℕ

variable (c : Dev nD) (i : grid0.Coords)
  (arg2 : Memref sig .tc .vmem S512x1408 .bf16) (harg2 : arg2.IsWhole) (arg3 : Memref sig .tc .vmem S512x1408 .bf16) (harg3 : arg3.IsWhole)
  (arg4 : Memref sig .tc .vmem S8x1408 .bf16) (harg4 : arg4.IsWhole) (arg5 : Memref sig .tc .vmem S8x1408 .bf16) (harg5 : arg5.IsWhole)
  (arg6 : Memref sig .tc .vmem S3x1408 .f32) (harg6 : arg6.IsWhole) (arg7 : Memref sig .tc .vmem S3x1408 .f32) (harg7 : arg7.IsWhole)
  (arg8 : Memref sig .tc .vmem S1x1408 .f32) (harg8 : arg8.IsWhole) (arg9 : Memref sig .tc .vmem S1x1408 .f32) (harg9 : arg9.IsWhole)
  (arg10 : Memref sig .tc .vmem S512x1408 .bf16) (harg10 : arg10.IsWhole)
  (arg11 : Memref sig .tc .vmem S512x1408 .bf16) (harg11 : arg11.IsWhole) (arg12 : Memref sig .tc .vmem S512x1408 .bf16) (harg12 : arg12.IsWhole)
  (arg13 : Memref sig .tc .vmem S1x1408 .f32) (harg13 : arg13.IsWhole) (arg14 : Memref sig .tc .vmem S1x1408 .f32) (harg14 : arg14.IsWhole)
  (arg15 : Memref sig .tc .vmem S3x1408 .f32) (harg15 : arg15.IsWhole) (arg16 : Memref sig .tc .vmem S3x1408 .f32) (harg16 : arg16.IsWhole)
  (x2 : Vec F S512x1408 .bf16) (x3 : Vec F S512x1408 .bf16) (x4 : Vec F S8x1408 .bf16) (x5 : Vec F S8x1408 .bf16) (x6 : Vec F S3x1408 .f32) (x7 : Vec F S3x1408 .f32) (x8 : Vec F S1x1408 .f32) (x9 : Vec F S1x1408 .f32) (x10 : Vec F S512x1408 .bf16)

/-- The body at a column block's first row block: it clears the sums and runs the loop. -/
theorem run_zero (h0 : first i) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
        ∗ (∃ d, owns (c : Thread nD τ) arg11 fullShare d)
        ∗ (∃ d, owns (c : Thread nD τ) arg12 fullShare d)
        ∗ (∃ d, owns (c : Thread nD τ) arg13 fullShare d)
        ∗ (∃ d, owns (c : Thread nD τ) arg14 fullShare d)
        ∗ (∃ d, owns (c : Thread nD τ) arg15 fullShare d)
        ∗ (∃ d, owns (c : Thread nD τ) arg16 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
          ∗ (∃ f, own c arg11 (arg11.view.writes (Elt F) f (stores11 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x9 x10)))
          ∗ (∃ f, own c arg12 (arg12.view.writes (Elt F) f (stores12 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x9 x10)))
          ∗ owns (c : Thread nD τ) arg13 fullShare (left13 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x9 x10 k0_pay1)
          ∗ owns (c : Thread nD τ) arg14 fullShare (left14 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x9 x10 k0_pay2)
          ∗ owns (c : Thread nD τ) arg15 fullShare (left15 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x9 x10 k0_pay3)
          ∗ owns (c : Thread nD τ) arg16 fullShare (left16 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x9 x10 k0_pay4)) -∗ K ⟨⟩))
      ⊢ wp frame (wpE (defs₀ (F := F)) Variants.none c none) E (cc0_ffn_act_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ffn_act_bwd_eq_skeleton]
  unfold cc0_ffn_act_bwd_skel owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  sl_exec (disch := first | sl_exact h0)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; iexact H11
  isplitl [H12]
  · iexists _; iexact H12
  isplitl [H13]
  · iexists _; isplitr
    swap; · iexact H13
    ipureintro
    exact congrArg (fun f => arg13.view.read (Elt F) (states (S13 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (harg2.unread x2) (harg3.unread x3) (harg4.unread x4) (harg5.unread x5) (harg6.unread x6) (harg7.unread x7) (harg8.unread x8) (harg9.unread x9) (harg10.unread x10) Variants.none none) f k0_t1_loop.trips)) (harg13.eq_unread (View.read_writes_full _ _ _ _ _))
  isplitl [H14]
  · iexists _; isplitr
    swap; · iexact H14
    ipureintro
    exact congrArg (fun f => arg14.view.read (Elt F) (states (S14 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (harg2.unread x2) (harg3.unread x3) (harg4.unread x4) (harg5.unread x5) (harg6.unread x6) (harg7.unread x7) (harg8.unread x8) (harg9.unread x9) (harg10.unread x10) Variants.none none) f k0_t1_loop.trips)) (harg14.eq_unread (View.read_writes_full _ _ _ _ _))
  isplitl [H15]
  · iexists _; isplitr
    swap; · iexact H15
    ipureintro
    exact congrArg (fun f => arg15.view.read (Elt F) (states (S15 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (harg2.unread x2) (harg3.unread x3) (harg4.unread x4) (harg5.unread x5) (harg6.unread x6) (harg7.unread x7) (harg8.unread x8) (harg9.unread x9) (harg10.unread x10) Variants.none none) f k0_t1_loop.trips)) (harg15.eq_unread (View.read_writes_full _ _ _ _ _))
  iexists _; isplitr
  swap; · iexact H16
  ipureintro
  exact congrArg (fun f => arg16.view.read (Elt F) (states (S16 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (harg2.unread x2) (harg3.unread x3) (harg4.unread x4) (harg5.unread x5) (harg6.unread x6) (harg7.unread x7) (harg8.unread x8) (harg9.unread x9) (harg10.unread x10) Variants.none none) f k0_t1_loop.trips)) (harg16.eq_unread (View.read_writes_full _ _ _ _ _))

end Cert.GateIdeal.Loop
-- ==== Proof.GateNext.lean ====
module

public import proofs.«01_k».proof.Proof.GateRun
public import Idealize.ShloMosaic.Lib.Pipeline.FrameBody
public import Idealize.ShloMosaic.Lib.Ring
public import Idealize.ShloMosaic.Lib.VecWindow
public import Idealize.ShloMosaic.Lib.WordCmp

@[expose] public section

set_option maxRecDepth 16384
set_option maxHeartbeats 8000000

noncomputable section

namespace Cert.GateIdeal.Loop

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.GateIdeal Cert.GateIdeal.Gen

variable {F : FTy → Type} [FloatOps F]

local notation "𝕄" => MT nD τ sig Unit (Elt F) ℕ (UR sig nD τ) ℕ

variable (c : Dev nD) (i : grid0.Coords)
  (arg2 : Memref sig .tc .vmem S512x1408 .bf16) (harg2 : arg2.IsWhole) (arg3 : Memref sig .tc .vmem S512x1408 .bf16) (harg3 : arg3.IsWhole)
  (arg4 : Memref sig .tc .vmem S8x1408 .bf16) (harg4 : arg4.IsWhole) (arg5 : Memref sig .tc .vmem S8x1408 .bf16) (harg5 : arg5.IsWhole)
  (arg6 : Memref sig .tc .vmem S3x1408 .f32) (harg6 : arg6.IsWhole) (arg7 : Memref sig .tc .vmem S3x1408 .f32) (harg7 : arg7.IsWhole)
  (arg8 : Memref sig .tc .vmem S1x1408 .f32) (harg8 : arg8.IsWhole) (arg9 : Memref sig .tc .vmem S1x1408 .f32) (harg9 : arg9.IsWhole)
  (arg10 : Memref sig .tc .vmem S512x1408 .bf16) (harg10 : arg10.IsWhole)
  (arg11 : Memref sig .tc .vmem S512x1408 .bf16) (harg11 : arg11.IsWhole) (arg12 : Memref sig .tc .vmem S512x1408 .bf16) (harg12 : arg12.IsWhole)
  (arg13 : Memref sig .tc .vmem S1x1408 .f32) (harg13 : arg13.IsWhole) (arg14 : Memref sig .tc .vmem S1x1408 .f32) (harg14 : arg14.IsWhole)
  (arg15 : Memref sig .tc .vmem S3x1408 .f32) (harg15 : arg15.IsWhole) (arg16 : Memref sig .tc .vmem S3x1408 .f32) (harg16 : arg16.IsWhole)
  (x2 : Vec F S512x1408 .bf16) (x3 : Vec F S512x1408 .bf16) (x4 : Vec F S8x1408 .bf16) (x5 : Vec F S8x1408 .bf16) (x6 : Vec F S3x1408 .f32) (x7 : Vec F S3x1408 .f32) (x8 : Vec F S1x1408 .f32) (x9 : Vec F S1x1408 .f32) (x10 : Vec F S512x1408 .bf16)

/-- The body at a later row block: it runs the loop on the sums so far. -/
theorem run_next (h0 : ¬first i) (a13 : Vec F S1x1408 .f32) (a14 : Vec F S1x1408 .f32) (a15 : Vec F S3x1408 .f32) (a16 : Vec F S3x1408 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
        ∗ (∃ d, owns (c : Thread nD τ) arg11 fullShare d)
        ∗ (∃ d, owns (c : Thread nD τ) arg12 fullShare d)
        ∗ owns (c : Thread nD τ) arg13 fullShare a13
        ∗ owns (c : Thread nD τ) arg14 fullShare a14
        ∗ owns (c : Thread nD τ) arg15 fullShare a15
        ∗ owns (c : Thread nD τ) arg16 fullShare a16
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
          ∗ (∃ f, own c arg11 (arg11.view.writes (Elt F) f (stores11 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x9 x10)))
          ∗ (∃ f, own c arg12 (arg12.view.writes (Elt F) f (stores12 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x9 x10)))
          ∗ owns (c : Thread nD τ) arg13 fullShare (left13 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x9 x10 a13)
          ∗ owns (c : Thread nD τ) arg14 fullShare (left14 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x9 x10 a14)
          ∗ owns (c : Thread nD τ) arg15 fullShare (left15 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x9 x10 a15)
          ∗ owns (c : Thread nD τ) arg16 fullShare (left16 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x9 x10 a16)) -∗ K ⟨⟩))
      ⊢ wp frame (wpE (defs₀ (F := F)) Variants.none c none) E (cc0_ffn_act_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ffn_act_bwd_eq_skeleton]
  unfold cc0_ffn_act_bwd_skel owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%f14, %hf14, H14⟩, ⟨%f15, %hf15, H15⟩, ⟨%f16, %hf16, H16⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg13.eq_unread hf13
  obtain rfl := harg14.eq_unread hf14
  obtain rfl := harg15.eq_unread hf15
  obtain rfl := harg16.eq_unread hf16
  sl_exec (disch := first | sl_exact h0)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; iexact H11
  isplitl [H12]
  · iexists _; iexact H12
  isplitl [H13]
  · iexists _; isplitr; · ipureintro; exact rfl
    iexact H13
  isplitl [H14]
  · iexists _; isplitr; · ipureintro; exact rfl
    iexact H14
  isplitl [H15]
  · iexists _; isplitr; · ipureintro; exact rfl
    iexact H15
  iexists _; isplitr; · ipureintro; exact rfl
  iexact H16

end Cert.GateIdeal.Loop
-- ==== Proof.GateFrame.lean ====
module

public import proofs.«01_k».proof.Proof.GateZero
public import proofs.«01_k».proof.Proof.GateNext
public import Idealize.ShloMosaic.Lib.Claim

@[expose] public section

set_option maxRecDepth 16384

noncomputable section

namespace Cert.GateIdeal.Loop

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.GateIdeal Cert.GateIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffer of window 0 at a point, whole. -/
abbrev ms0 (t : Fin cfg0.N) : Memref sig .tc .vmem S512x1408 .bf16 := win0_0.stage (cfg0.slots t 0)
/-- Window 0's buffer is whole. -/
abbrev hs0 (t : Fin cfg0.N) : (ms0 t).IsWhole := hstage0_0 ((cfg0.slots t 0).cast nbuf0_0)
/-- The buffer of window 1 at a point, whole. -/
abbrev ms1 (t : Fin cfg0.N) : Memref sig .tc .vmem S512x1408 .bf16 := win0_1.stage (cfg0.slots t 1)
/-- Window 1's buffer is whole. -/
abbrev hs1 (t : Fin cfg0.N) : (ms1 t).IsWhole := hstage0_1 ((cfg0.slots t 1).cast nbuf0_1)
/-- The buffer of window 2 at a point, whole. -/
abbrev ms2 (t : Fin cfg0.N) : Memref sig .tc .vmem S8x1408 .bf16 := win0_2.stage (cfg0.slots t 2)
/-- Window 2's buffer is whole. -/
abbrev hs2 (t : Fin cfg0.N) : (ms2 t).IsWhole := hstage0_2 ((cfg0.slots t 2).cast nbuf0_2)
/-- The buffer of window 3 at a point, whole. -/
abbrev ms3 (t : Fin cfg0.N) : Memref sig .tc .vmem S8x1408 .bf16 := win0_3.stage (cfg0.slots t 3)
/-- Window 3's buffer is whole. -/
abbrev hs3 (t : Fin cfg0.N) : (ms3 t).IsWhole := hstage0_3 ((cfg0.slots t 3).cast nbuf0_3)
/-- The buffer of window 4 at a point, whole. -/
abbrev ms4 (t : Fin cfg0.N) : Memref sig .tc .vmem S3x1408 .f32 := win0_4.stage (cfg0.slots t 4)
/-- Window 4's buffer is whole. -/
abbrev hs4 (t : Fin cfg0.N) : (ms4 t).IsWhole := hstage0_4 ((cfg0.slots t 4).cast nbuf0_4)
/-- The buffer of window 5 at a point, whole. -/
abbrev ms5 (t : Fin cfg0.N) : Memref sig .tc .vmem S3x1408 .f32 := win0_5.stage (cfg0.slots t 5)
/-- Window 5's buffer is whole. -/
abbrev hs5 (t : Fin cfg0.N) : (ms5 t).IsWhole := hstage0_5 ((cfg0.slots t 5).cast nbuf0_5)
/-- The buffer of window 6 at a point, whole. -/
abbrev ms6 (t : Fin cfg0.N) : Memref sig .tc .vmem S1x1408 .f32 := win0_6.stage (cfg0.slots t 6)
/-- Window 6's buffer is whole. -/
abbrev hs6 (t : Fin cfg0.N) : (ms6 t).IsWhole := hstage0_6 ((cfg0.slots t 6).cast nbuf0_6)
/-- The buffer of window 7 at a point, whole. -/
abbrev ms7 (t : Fin cfg0.N) : Memref sig .tc .vmem S1x1408 .f32 := win0_7.stage (cfg0.slots t 7)
/-- Window 7's buffer is whole. -/
abbrev hs7 (t : Fin cfg0.N) : (ms7 t).IsWhole := hstage0_7 ((cfg0.slots t 7).cast nbuf0_7)
/-- The buffer of window 8 at a point, whole. -/
abbrev ms8 (t : Fin cfg0.N) : Memref sig .tc .vmem S512x1408 .bf16 := win0_8.stage (cfg0.slots t 8)
/-- Window 8's buffer is whole. -/
abbrev hs8 (t : Fin cfg0.N) : (ms8 t).IsWhole := hstage0_8 ((cfg0.slots t 8).cast nbuf0_8)
/-- The buffer of window 9 at a point, whole. -/
abbrev ms9 (t : Fin cfg0.N) : Memref sig .tc .vmem S512x1408 .bf16 := win0_9.stage (cfg0.slots t 9)
/-- Window 9's buffer is whole. -/
abbrev hs9 (t : Fin cfg0.N) : (ms9 t).IsWhole := hstage0_9 ((cfg0.slots t 9).cast nbuf0_9)
/-- The buffer of window 10 at a point, whole. -/
abbrev ms10 (t : Fin cfg0.N) : Memref sig .tc .vmem S512x1408 .bf16 := win0_10.stage (cfg0.slots t 10)
/-- Window 10's buffer is whole. -/
abbrev hs10 (t : Fin cfg0.N) : (ms10 t).IsWhole := hstage0_10 ((cfg0.slots t 10).cast nbuf0_10)
/-- The buffer of window 11 at a point, whole. -/
abbrev ms11 (t : Fin cfg0.N) : Memref sig .tc .vmem S1x1408 .f32 := win0_11.stage (cfg0.slots t 11)
/-- Window 11's buffer is whole. -/
abbrev hs11 (t : Fin cfg0.N) : (ms11 t).IsWhole := hstage0_11 ((cfg0.slots t 11).cast nbuf0_11)
/-- The buffer of window 12 at a point, whole. -/
abbrev ms12 (t : Fin cfg0.N) : Memref sig .tc .vmem S1x1408 .f32 := win0_12.stage (cfg0.slots t 12)
/-- Window 12's buffer is whole. -/
abbrev hs12 (t : Fin cfg0.N) : (ms12 t).IsWhole := hstage0_12 ((cfg0.slots t 12).cast nbuf0_12)
/-- The buffer of window 13 at a point, whole. -/
abbrev ms13 (t : Fin cfg0.N) : Memref sig .tc .vmem S3x1408 .f32 := win0_13.stage (cfg0.slots t 13)
/-- Window 13's buffer is whole. -/
abbrev hs13 (t : Fin cfg0.N) : (ms13 t).IsWhole := hstage0_13 ((cfg0.slots t 13).cast nbuf0_13)
/-- The buffer of window 14 at a point, whole. -/
abbrev ms14 (t : Fin cfg0.N) : Memref sig .tc .vmem S3x1408 .f32 := win0_14.stage (cfg0.slots t 14)
/-- Window 14's buffer is whole. -/
abbrev hs14 (t : Fin cfg0.N) : (ms14 t).IsWhole := hstage0_14 ((cfg0.slots t 14).cast nbuf0_14)

/-- What point `t` stores of the up half's gradient, -/
def pieces11 (c : Dev nD) (t : Fin cfg0.N) : List (View.Piece (Elt F) S512x1408 .bf16) := stores11 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (iblk m c 0 t) (iblk m c 1 t) (iblk m c 2 t) (iblk m c 3 t) (iblk m c 4 t) (iblk m c 5 t) (iblk m c 6 t) (iblk m c 7 t) (iblk m c 8 t)

/-- and of the gate half's. -/
def pieces12 (c : Dev nD) (t : Fin cfg0.N) : List (View.Piece (Elt F) S512x1408 .bf16) := stores12 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (iblk m c 0 t) (iblk m c 1 t) (iblk m c 2 t) (iblk m c 3 t) (iblk m c 4 t) (iblk m c 5 t) (iblk m c 6 t) (iblk m c 7 t) (iblk m c 8 t)

/-- The up half's gradient after point `t`. -/
def block11 (c : Dev nD) (t : Fin cfg0.N) : Vec F S512x1408 .bf16 := (ms9 t).view.read (Elt F) ((ms9 t).view.writes (Elt F) (ms9 t).view.junk (pieces11 m c t))

/-- The gate half's gradient after point `t`. -/
def block12 (c : Dev nD) (t : Fin cfg0.N) : Vec F S512x1408 .bf16 := (ms10 t).view.read (Elt F) ((ms10 t).view.writes (Elt F) (ms10 t).view.junk (pieces12 m c t))

/-- A sum kept along the row blocks of a column block: begun at its first, carried over at the others. -/
def sums {α : Type} (left : Fin cfg0.N → α → α) (z : α) : (n : ℕ) → n < cfg0.N → α
  | 0, h => left ⟨0, h⟩ z
  | n + 1, h => left ⟨n + 1, h⟩ (if (n + 1) % 16 = 0 then z else sums left z n (Nat.lt_of_succ_lt h))

/-- At a column block's first row block the sum is begun anew, -/
theorem sums_zero {α : Type} (left : Fin cfg0.N → α → α) (z : α) (t : Fin cfg0.N) (h : t.val % 16 = 0) : sums left z t.val t.isLt = left t z := by
  obtain ⟨n, hn⟩ := t
  cases n with
  | zero => rfl
  | succ n => exact congrArg (left _) (if_pos h)

/-- … and at the others it goes on from the point before. -/
theorem sums_next {α : Type} (left : Fin cfg0.N → α → α) (z : α) (t : Fin cfg0.N) (h : ¬t.val % 16 = 0) :
    sums left z t.val t.isLt = left t (sums left z (t.val - 1) (Nat.lt_of_le_of_lt (Nat.sub_le _ _) t.isLt)) := by
  obtain ⟨n, hn⟩ := t
  cases n with
  | zero => exact absurd (Nat.zero_mod _) h
  | succ n => exact congrArg (left _) (if_neg h)

/-- The up half's bias gradient after point `t`, from the one before it. -/
def point13 (c : Dev nD) (t : Fin cfg0.N) (a : Vec F S1x1408 .f32) : Vec F S1x1408 .f32 := left13 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (iblk m c 0 t) (iblk m c 1 t) (iblk m c 2 t) (iblk m c 3 t) (iblk m c 4 t) (iblk m c 5 t) (iblk m c 6 t) (iblk m c 7 t) (iblk m c 8 t) a

/-- The up half's bias gradient after the points up to `n`. -/
def sum13 (c : Dev nD) (n : ℕ) (h : n < cfg0.N) : Vec F S1x1408 .f32 := sums (point13 m c) (k0_pay1 (F := F)) n h

/-- The gate half's bias gradient after point `t`, from the one before it. -/
def point14 (c : Dev nD) (t : Fin cfg0.N) (a : Vec F S1x1408 .f32) : Vec F S1x1408 .f32 := left14 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (iblk m c 0 t) (iblk m c 1 t) (iblk m c 2 t) (iblk m c 3 t) (iblk m c 4 t) (iblk m c 5 t) (iblk m c 6 t) (iblk m c 7 t) (iblk m c 8 t) a

/-- The gate half's bias gradient after the points up to `n`. -/
def sum14 (c : Dev nD) (n : ℕ) (h : n < cfg0.N) : Vec F S1x1408 .f32 := sums (point14 m c) (k0_pay2 (F := F)) n h

/-- The up half's taps' gradient after point `t`, from the one before it. -/
def point15 (c : Dev nD) (t : Fin cfg0.N) (a : Vec F S3x1408 .f32) : Vec F S3x1408 .f32 := left15 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (iblk m c 0 t) (iblk m c 1 t) (iblk m c 2 t) (iblk m c 3 t) (iblk m c 4 t) (iblk m c 5 t) (iblk m c 6 t) (iblk m c 7 t) (iblk m c 8 t) a

/-- The up half's taps' gradient after the points up to `n`. -/
def sum15 (c : Dev nD) (n : ℕ) (h : n < cfg0.N) : Vec F S3x1408 .f32 := sums (point15 m c) (k0_pay3 (F := F)) n h

/-- The gate half's taps' gradient after point `t`, from the one before it. -/
def point16 (c : Dev nD) (t : Fin cfg0.N) (a : Vec F S3x1408 .f32) : Vec F S3x1408 .f32 := left16 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (iblk m c 0 t) (iblk m c 1 t) (iblk m c 2 t) (iblk m c 3 t) (iblk m c 4 t) (iblk m c 5 t) (iblk m c 6 t) (iblk m c 7 t) (iblk m c 8 t) a

/-- The gate half's taps' gradient after the points up to `n`. -/
def sum16 (c : Dev nD) (n : ℕ) (h : n < cfg0.N) : Vec F S3x1408 .f32 := sums (point16 m c) (k0_pay4 (F := F)) n h

/-- The data of the pipeline: what each window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => block11 m c t
    | ⟨10, _⟩ => block12 m c t
    | ⟨11, _⟩ => sum13 m c t.val t.isLt
    | ⟨12, _⟩ => sum14 m c t.val t.isLt
    | ⟨13, _⟩ => sum15 m c t.val t.isLt
    | ⟨14, _⟩ => sum16 m c t.val t.isLt
  Φ _ := Pipeline.ΦA spec0 c
  q w := Pipeline.shareOf spec0 w
  owed _ := 0

/-- The pipeline finds every array as launched. -/
theorem A_eq (c : Dev nD) (w : Fin cfg0.W) : (dats m 0 c).A w = V m c (Pipeline.arrRef spec0 w) := by
  dsimp only [dats]

/-- What window 0's buffer holds after a point. -/
theorem after0 (c : Dev nD) (t : Fin cfg0.N) : (dats m 0 c).after 0 t = iblk m c 0 t := by dsimp only [dats]
/-- What window 1's buffer holds after a point. -/
theorem after1 (c : Dev nD) (t : Fin cfg0.N) : (dats m 0 c).after 1 t = iblk m c 1 t := by dsimp only [dats]
/-- What window 2's buffer holds after a point. -/
theorem after2 (c : Dev nD) (t : Fin cfg0.N) : (dats m 0 c).after 2 t = iblk m c 2 t := by dsimp only [dats]
/-- What window 3's buffer holds after a point. -/
theorem after3 (c : Dev nD) (t : Fin cfg0.N) : (dats m 0 c).after 3 t = iblk m c 3 t := by dsimp only [dats]
/-- What window 4's buffer holds after a point. -/
theorem after4 (c : Dev nD) (t : Fin cfg0.N) : (dats m 0 c).after 4 t = iblk m c 4 t := by dsimp only [dats]
/-- What window 5's buffer holds after a point. -/
theorem after5 (c : Dev nD) (t : Fin cfg0.N) : (dats m 0 c).after 5 t = iblk m c 5 t := by dsimp only [dats]
/-- What window 6's buffer holds after a point. -/
theorem after6 (c : Dev nD) (t : Fin cfg0.N) : (dats m 0 c).after 6 t = iblk m c 6 t := by dsimp only [dats]
/-- What window 7's buffer holds after a point. -/
theorem after7 (c : Dev nD) (t : Fin cfg0.N) : (dats m 0 c).after 7 t = iblk m c 7 t := by dsimp only [dats]
/-- What window 8's buffer holds after a point. -/
theorem after8 (c : Dev nD) (t : Fin cfg0.N) : (dats m 0 c).after 8 t = iblk m c 8 t := by dsimp only [dats]
/-- What window 9's buffer holds after a point. -/
theorem after9 (c : Dev nD) (t : Fin cfg0.N) : (dats m 0 c).after 9 t = block11 m c t := by dsimp only [dats]
/-- What window 10's buffer holds after a point. -/
theorem after10 (c : Dev nD) (t : Fin cfg0.N) : (dats m 0 c).after 10 t = block12 m c t := by dsimp only [dats]
/-- What window 11's buffer holds after a point. -/
theorem after11 (c : Dev nD) (t : Fin cfg0.N) : (dats m 0 c).after 11 t = sum13 m c t.val t.isLt := by dsimp only [dats]
/-- What window 12's buffer holds after a point. -/
theorem after12 (c : Dev nD) (t : Fin cfg0.N) : (dats m 0 c).after 12 t = sum14 m c t.val t.isLt := by dsimp only [dats]
/-- What window 13's buffer holds after a point. -/
theorem after13 (c : Dev nD) (t : Fin cfg0.N) : (dats m 0 c).after 13 t = sum15 m c t.val t.isLt := by dsimp only [dats]
/-- What window 14's buffer holds after a point. -/
theorem after14 (c : Dev nD) (t : Fin cfg0.N) : (dats m 0 c).after 14 t = sum16 m c t.val t.isLt := by dsimp only [dats]
/-- What operand 0's buffer holds before a point: its block. -/
theorem before0 (c : Dev nD) (t : Fin cfg0.N) (d) : (dats m 0 c).before 0 t d = iblk m c 0 t :=
  before0_0_of m (dats m 0 c) (A_eq m c 0) (after0 m c) t d
/-- What operand 1's buffer holds before a point: its block. -/
theorem before1 (c : Dev nD) (t : Fin cfg0.N) (d) : (dats m 0 c).before 1 t d = iblk m c 1 t :=
  before0_1_of m (dats m 0 c) (A_eq m c 1) (after1 m c) t d
/-- What operand 2's buffer holds before a point: its block. -/
theorem before2 (c : Dev nD) (t : Fin cfg0.N) (d) : (dats m 0 c).before 2 t d = iblk m c 2 t :=
  before0_2_of m (dats m 0 c) (A_eq m c 2) (after2 m c) t d
/-- What operand 3's buffer holds before a point: its block. -/
theorem before3 (c : Dev nD) (t : Fin cfg0.N) (d) : (dats m 0 c).before 3 t d = iblk m c 3 t :=
  before0_3_of m (dats m 0 c) (A_eq m c 3) (after3 m c) t d
/-- What operand 4's buffer holds before a point: its block. -/
theorem before4 (c : Dev nD) (t : Fin cfg0.N) (d) : (dats m 0 c).before 4 t d = iblk m c 4 t :=
  before0_4_of m (dats m 0 c) (A_eq m c 4) (after4 m c) t d
/-- What operand 5's buffer holds before a point: its block. -/
theorem before5 (c : Dev nD) (t : Fin cfg0.N) (d) : (dats m 0 c).before 5 t d = iblk m c 5 t :=
  before0_5_of m (dats m 0 c) (A_eq m c 5) (after5 m c) t d
/-- What operand 6's buffer holds before a point: its block. -/
theorem before6 (c : Dev nD) (t : Fin cfg0.N) (d) : (dats m 0 c).before 6 t d = iblk m c 6 t :=
  before0_6_of m (dats m 0 c) (A_eq m c 6) (after6 m c) t d
/-- What operand 7's buffer holds before a point: its block. -/
theorem before7 (c : Dev nD) (t : Fin cfg0.N) (d) : (dats m 0 c).before 7 t d = iblk m c 7 t :=
  before0_7_of m (dats m 0 c) (A_eq m c 7) (after7 m c) t d
/-- What operand 8's buffer holds before a point: its block. -/
theorem before8 (c : Dev nD) (t : Fin cfg0.N) (d) : (dats m 0 c).before 8 t d = iblk m c 8 t :=
  before0_8_of m (dats m 0 c) (A_eq m c 8) (after8 m c) t d

/-- At a later row block the up half's bias gradient is what the point before left. -/
theorem before11 (c : Dev nD) (t : Fin cfg0.N) (h0 : ¬t.val % 16 = 0) (d) :
    (dats m 0 c).before 11 t d = sum13 m c (t.val - 1) (Nat.lt_of_le_of_lt (Nat.sub_le _ _) t.isLt) := by
  have hN : t.val < 32 := lt_of_lt_of_eq t.isLt (show cfg0.N = 32 from N_0)
  rw [Dat.before_out_kept _ 11 rfl t (by omega) (Bool.eq_false_iff.mpr fun h => by have := (flush0_11 _).mp h; dsimp only at this; omega)
    (fun _ => rfl) (fun _ _ => rfl)]
  dsimp only [dats]

/-- At a later row block the gate half's bias gradient is what the point before left. -/
theorem before12 (c : Dev nD) (t : Fin cfg0.N) (h0 : ¬t.val % 16 = 0) (d) :
    (dats m 0 c).before 12 t d = sum14 m c (t.val - 1) (Nat.lt_of_le_of_lt (Nat.sub_le _ _) t.isLt) := by
  have hN : t.val < 32 := lt_of_lt_of_eq t.isLt (show cfg0.N = 32 from N_0)
  rw [Dat.before_out_kept _ 12 rfl t (by omega) (Bool.eq_false_iff.mpr fun h => by have := (flush0_12 _).mp h; dsimp only at this; omega)
    (fun _ => rfl) (fun _ _ => rfl)]
  dsimp only [dats]

/-- At a later row block the up half's taps' gradient is what the point before left. -/
theorem before13 (c : Dev nD) (t : Fin cfg0.N) (h0 : ¬t.val % 16 = 0) (d) :
    (dats m 0 c).before 13 t d = sum15 m c (t.val - 1) (Nat.lt_of_le_of_lt (Nat.sub_le _ _) t.isLt) := by
  have hN : t.val < 32 := lt_of_lt_of_eq t.isLt (show cfg0.N = 32 from N_0)
  rw [Dat.before_out_kept _ 13 rfl t (by omega) (Bool.eq_false_iff.mpr fun h => by have := (flush0_13 _).mp h; dsimp only at this; omega)
    (fun _ => rfl) (fun _ _ => rfl)]
  dsimp only [dats]

/-- At a later row block the gate half's taps' gradient is what the point before left. -/
theorem before14 (c : Dev nD) (t : Fin cfg0.N) (h0 : ¬t.val % 16 = 0) (d) :
    (dats m 0 c).before 14 t d = sum16 m c (t.val - 1) (Nat.lt_of_le_of_lt (Nat.sub_le _ _) t.isLt) := by
  have hN : t.val < 32 := lt_of_lt_of_eq t.isLt (show cfg0.N = 32 from N_0)
  rw [Dat.before_out_kept _ 14 rfl t (by omega) (Bool.eq_false_iff.mpr fun h => by have := (flush0_14 _).mp h; dsimp only at this; omega)
    (fun _ => rfl) (fun _ _ => rfl)]
  dsimp only [dats]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ owns (c : Thread nD τ) (ms13 t) fullShare ((dats m 0 c).after 13 t)
    ∗ owns (c : Thread nD τ) (ms14 t) fullShare ((dats m 0 c).after 14 t))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14]
  have hN : t.val < 32 := lt_of_lt_of_eq t.isLt (show cfg0.N = 32 from N_0)
  by_cases h0 : t.val % 16 = 0
  · rw [sum13, sums_zero _ _ t h0, sum14, sums_zero _ _ t h0, sum15, sums_zero _ _ t h0, sum16, sums_zero _ _ t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (run_zero c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (iblk m c 0 t) (iblk m c 1 t) (iblk m c 2 t) (iblk m c 3 t) (iblk m c 4 t) (iblk m c 5 t) (iblk m c 6 t) (iblk m c 7 t) (iblk m c 8 t) ((first_iff t).mpr h0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    iintro ⟨H0, H1, H2, H3, H4, H5, H6, H7, H8, ⟨%e9, H9⟩, ⟨%e10, H10⟩, H11, H12, H13, H14⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover11 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (iblk m c 0 t) (iblk m c 1 t) (iblk m c 2 t) (iblk m c 3 t) (iblk m c 4 t) (iblk m c 5 t) (iblk m c 6 t) (iblk m c 7 t) (iblk m c 8 t))
    isplitl [H10]
    · unfold owns; iexists _; isplitr
      swap; · iexact H10
      ipureintro; exact View.read_writes_of_cover _ _ _ _ _ (cover12 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (iblk m c 0 t) (iblk m c 1 t) (iblk m c 2 t) (iblk m c 3 t) (iblk m c 4 t) (iblk m c 5 t) (iblk m c 6 t) (iblk m c 7 t) (iblk m c 8 t))
    isplitl [H11]; · iexact H11
    isplitl [H12]; · iexact H12
    isplitl [H13]; · iexact H13
    iexact H14
  · rw [sum13, sums_next _ _ t h0, sum14, sums_next _ _ t h0, sum15, sums_next _ _ t h0, sum16, sums_next _ _ t h0]
    simp only [before11 m c t h0, before12 m c t h0, before13 m c t h0, before14 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (run_next c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (iblk m c 0 t) (iblk m c 1 t) (iblk m c 2 t) (iblk m c 3 t) (iblk m c 4 t) (iblk m c 5 t) (iblk m c 6 t) (iblk m c 7 t) (iblk m c 8 t) (fun h => h0 ((first_iff t).mp h)) (sum13 m c (t.val - 1) (Nat.lt_of_le_of_lt (Nat.sub_le _ _) t.isLt)) (sum14 m c (t.val - 1) (Nat.lt_of_le_of_lt (Nat.sub_le _ _) t.isLt)) (sum15 m c (t.val - 1) (Nat.lt_of_le_of_lt (Nat.sub_le _ _) t.isLt)) (sum16 m c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexact H11
    isplitl [H12]; · iexact H12
    isplitl [H13]; · iexact H13
    isplitl [H14]; · iexact H14
    iintro ⟨H0, H1, H2, H3, H4, H5, H6, H7, H8, ⟨%e9, H9⟩, ⟨%e10, H10⟩, H11, H12, H13, H14⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover11 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (iblk m c 0 t) (iblk m c 1 t) (iblk m c 2 t) (iblk m c 3 t) (iblk m c 4 t) (iblk m c 5 t) (iblk m c 6 t) (iblk m c 7 t) (iblk m c 8 t))
    isplitl [H10]
    · unfold owns; iexists _; isplitr
      swap; · iexact H10
      ipureintro; exact View.read_writes_of_cover _ _ _ _ _ (cover12 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (iblk m c 0 t) (iblk m c 1 t) (iblk m c 2 t) (iblk m c 3 t) (iblk m c 4 t) (iblk m c 5 t) (iblk m c 6 t) (iblk m c 7 t) (iblk m c 8 t))
    isplitl [H11]; · iexact H11
    isplitl [H12]; · iexact H12
    isplitl [H13]; · iexact H13
    iexact H14

/-- The body table's row at point `t` is the body. -/
theorem row (t : Fin cfg0.N) : defs₀ (F := F) .tc cfg0.body (cfg0.bodyArgs t (cfg0.slots t)) = bodyAt0 t := by
  unfold defs₀; rw [Defs.onTc_tc]

/-- The body's obligation at every point. -/
theorem obligation (c : Dev nD) : BodyObligation (dats (F := F) m 0 c) (defs₀ (F := F)) Variants.none () Set.univ := fun t => by
  rw [bigSep_W0, bigSep_W0, row]
  exact triple_restated (sound_body m c t) rfl .rfl fun _ => .rfl

set_option backward.isDefEq.respectTransparency.types false in
/-- Every execution ends, with the arrays at what the data say and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_quiescent m ρ)

/-- The frame at any values: the operands end unchanged and the counters at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

end Cert.GateIdeal.Loop
-- ==== Proof.GateSum.lean ====
module

public import proofs.«01_k».proof.Proof.GateGlob
public import proofs.«01_k».proof.Proof.GateOut
public import proofs.«01_k».proof.Proof.GateFrame

@[expose] public section

set_option maxRecDepth 16384

noncomputable section

open Idealize.ShloMosaic Idealize.ShloMosaic.TcCoe Idealize.SL.Sem
open Idealize.ShloMosaic.Pipeline (Dat)

namespace Cert.GateIdeal.Val

open Cert.GateIdeal Cert.GateIdeal.Gen Cert.GateIdeal.Loop Cert.Common
open Cert.ConvIdeal.Val (rd)

/-- The blocks of the operands that a point reads. -/
theorem idx_in : ∀ t : Fin cfg0.N, win0_0.index t 0 = t.val % 16 ∧ win0_0.index t 1 = t.val / 16
    ∧ win0_1.index t 0 = t.val % 16 ∧ win0_1.index t 1 = 2 + t.val / 16
    ∧ win0_2.index t 0 = 64 * (t.val % 16) - 1 ∧ win0_2.index t 1 = t.val / 16
    ∧ win0_3.index t 0 = 64 * (t.val % 16) - 1 ∧ win0_3.index t 1 = 2 + t.val / 16
    ∧ win0_4.index t 0 = 0 ∧ win0_4.index t 1 = t.val / 16 ∧ win0_5.index t 0 = 0 ∧ win0_5.index t 1 = 2 + t.val / 16
    ∧ win0_6.index t 0 = 0 ∧ win0_6.index t 1 = t.val / 16 ∧ win0_7.index t 0 = 0 ∧ win0_7.index t 1 = 2 + t.val / 16
    ∧ win0_8.index t 0 = t.val % 16 ∧ win0_8.index t 1 = t.val / 16 :=
  (by decide +kernel : ∀ t : Fin grid0.N, _)

/-- The blocks of the results that it writes. -/
theorem idx_out : ∀ t : Fin cfg0.N, win0_9.index t 0 = t.val % 16 ∧ win0_9.index t 1 = t.val / 16
    ∧ win0_10.index t 0 = t.val % 16 ∧ win0_10.index t 1 = t.val / 16
    ∧ win0_11.index t 0 = 0 ∧ win0_11.index t 1 = t.val / 16 ∧ win0_12.index t 0 = 0 ∧ win0_12.index t 1 = t.val / 16
    ∧ win0_13.index t 0 = 0 ∧ win0_13.index t 1 = t.val / 16 ∧ win0_14.index t 0 = 0 ∧ win0_14.index t 1 = t.val / 16 :=
  (by decide +kernel : ∀ t : Fin grid0.N, _)

/-- The sums are written back at a column block's last row block only. -/
theorem flush11 : ∀ t : Fin cfg0.N, (cfg0.win 11).flush t = true → t.val % 16 = 15 := (by decide +kernel : ∀ t : Fin grid0.N, _)
/-- The same of the gate half's bias, -/
theorem flush12 : ∀ t : Fin cfg0.N, (cfg0.win 12).flush t = true → t.val % 16 = 15 := (by decide +kernel : ∀ t : Fin grid0.N, _)
/-- … of the up half's taps -/
theorem flush13 : ∀ t : Fin cfg0.N, (cfg0.win 13).flush t = true → t.val % 16 = 15 := (by decide +kernel : ∀ t : Fin grid0.N, _)
/-- … and of the gate half's. -/
theorem flush14 : ∀ t : Fin cfg0.N, (cfg0.win 14).flush t = true → t.val % 16 = 15 := (by decide +kernel : ∀ t : Fin grid0.N, _)

/-- The halo's factor: nought at the first row block, where no row comes before, and one elsewhere. -/
theorem keep_eq (t : Fin cfg0.N) : keep (grid0.coords t) = if t.val % 16 = 0 then 0 else 1 := by
  have h : ∀ t : Fin grid0.N, Scalar.cmpi .eq (BitVec.ofNat 32 (grid0.coords t 1).val) 0#32 = if t.val % 16 = 0 then 1#1 else 0#1 := by
    decide +kernel
  unfold keep
  rw [h t]
  split <;> rfl

/-- Two matrices agree at numbers where their entries do. -/
theorem rd_eq {a b a' b' : ℕ} (X : Fin a → Fin b → EReal) (Y : Fin a' → Fin b' → EReal) (r q R Q : ℕ) (hr : r < a) (hq : q < b) (hR : R < a') (hQ : Q < b')
    (h : X ⟨r, hr⟩ ⟨q, hq⟩ = Y ⟨R, hR⟩ ⟨Q, hQ⟩) : rd X r q = rd Y R Q := by
  rw [rd, dif_pos ⟨hr, hq⟩, rd, dif_pos ⟨hR, hQ⟩, h]

variable (m : (ℓ : Loc nD τ sig) → Buf (Elt Ideal) ℓ)

/-- The operands as launched. -/
abbrev az (c : Dev nD) : Vec Ideal S8192x5632 .bf16 := m ((c : Thread nD τ).loc main_arg0)
/-- The gradient that comes in, as launched. -/
abbrev ad (c : Dev nD) : Vec Ideal S8192x2816 .bf16 := m ((c : Thread nD τ).loc main_arg1)
/-- The taps as launched. -/
abbrev aw (c : Dev nD) : Vec Ideal S3x5632 .f32 := m ((c : Thread nD τ).loc main_arg2)
/-- The biases as launched. -/
abbrev ab (c : Dev nD) : Vec Ideal S1x5632 .f32 := m ((c : Thread nD τ).loc main_arg3)

/-- The rows of the operands' blocks are the arrays': the up half's, -/
theorem blk0 (c : Dev nD) (t : Fin cfg0.N) (r q : ℕ) (hr : r < 512) (hq : q < 1408) :
    rd (fun r l => iblk m c 0 t (ix2 r l)) r q = rd (fun r l => az m c (ix2 r l)) (512 * (t.val % 16) + r) (1408 * (t.val / 16) + q) := by
  obtain ⟨e0, e1, -, -, -, -, -, -, -, -, -, -, -, -, -, -, -, -⟩ := idx_in t
  have ht : t.val < 32 := lt_of_lt_of_eq t.isLt N_0
  refine rd_eq _ _ _ _ _ _ hr hq (by omega) (by omega) ?_
  unfold iblk
  rw [View.read_apply]
  show V m c main_arg0 _ = m ((c : Thread nD τ).loc main_arg0) _
  rw [V_main_arg0]
  congr 1
  funext a
  apply Fin.ext
  match a with
  | ⟨0, _⟩ => show win0_0.index t 0 * 512 + 1 * r = 512 * (t.val % 16) + r; rw [e0]; omega
  | ⟨1, _⟩ => show win0_0.index t 1 * 1408 + 1 * q = 1408 * (t.val / 16) + q; rw [e1]; omega

/-- … the gate half's, -/
theorem blk1 (c : Dev nD) (t : Fin cfg0.N) (r q : ℕ) (hr : r < 512) (hq : q < 1408) :
    rd (fun r l => iblk m c 1 t (ix2 r l)) r q = rd (fun r l => az m c (ix2 r l)) (512 * (t.val % 16) + r) (2816 + (1408 * (t.val / 16) + q)) := by
  obtain ⟨-, -, e0, e1, -, -, -, -, -, -, -, -, -, -, -, -, -, -⟩ := idx_in t
  have ht : t.val < 32 := lt_of_lt_of_eq t.isLt N_0
  refine rd_eq _ _ _ _ _ _ hr hq (by omega) (by omega) ?_
  unfold iblk
  rw [View.read_apply]
  show V m c main_arg0 _ = m ((c : Thread nD τ).loc main_arg0) _
  rw [V_main_arg0]
  congr 1
  funext a
  apply Fin.ext
  match a with
  | ⟨0, _⟩ => show win0_1.index t 0 * 512 + 1 * r = 512 * (t.val % 16) + r; rw [e0]; omega
  | ⟨1, _⟩ => show win0_1.index t 1 * 1408 + 1 * q = 2816 + (1408 * (t.val / 16) + q); rw [e1]; omega

/-- … the rows before the up half's, -/
theorem blk2 (c : Dev nD) (t : Fin cfg0.N) (r q : ℕ) (hr : r < 8) (hq : q < 1408) :
    rd (fun r l => iblk m c 2 t (ix2 r l)) r q = rd (fun r l => az m c (ix2 r l)) (512 * (t.val % 16) - 8 + r) (1408 * (t.val / 16) + q) := by
  obtain ⟨-, -, -, -, e0, e1, -, -, -, -, -, -, -, -, -, -, -, -⟩ := idx_in t
  have ht : t.val < 32 := lt_of_lt_of_eq t.isLt N_0
  refine rd_eq _ _ _ _ _ _ hr hq (by omega) (by omega) ?_
  unfold iblk
  rw [View.read_apply]
  show V m c main_arg0 _ = m ((c : Thread nD τ).loc main_arg0) _
  rw [V_main_arg0]
  congr 1
  funext a
  apply Fin.ext
  match a with
  | ⟨0, _⟩ => show win0_2.index t 0 * 8 + 1 * r = 512 * (t.val % 16) - 8 + r; rw [e0]; omega
  | ⟨1, _⟩ => show win0_2.index t 1 * 1408 + 1 * q = 1408 * (t.val / 16) + q; rw [e1]; omega

/-- … the rows before the gate half's, -/
theorem blk3 (c : Dev nD) (t : Fin cfg0.N) (r q : ℕ) (hr : r < 8) (hq : q < 1408) :
    rd (fun r l => iblk m c 3 t (ix2 r l)) r q = rd (fun r l => az m c (ix2 r l)) (512 * (t.val % 16) - 8 + r) (2816 + (1408 * (t.val / 16) + q)) := by
  obtain ⟨-, -, -, -, -, -, e0, e1, -, -, -, -, -, -, -, -, -, -⟩ := idx_in t
  have ht : t.val < 32 := lt_of_lt_of_eq t.isLt N_0
  refine rd_eq _ _ _ _ _ _ hr hq (by omega) (by omega) ?_
  unfold iblk
  rw [View.read_apply]
  show V m c main_arg0 _ = m ((c : Thread nD τ).loc main_arg0) _
  rw [V_main_arg0]
  congr 1
  funext a
  apply Fin.ext
  match a with
  | ⟨0, _⟩ => show win0_3.index t 0 * 8 + 1 * r = 512 * (t.val % 16) - 8 + r; rw [e0]; omega
  | ⟨1, _⟩ => show win0_3.index t 1 * 1408 + 1 * q = 2816 + (1408 * (t.val / 16) + q); rw [e1]; omega

/-- … the up half's taps, -/
theorem blk4 (c : Dev nD) (t : Fin cfg0.N) (r q : ℕ) (hr : r < 3) (hq : q < 1408) :
    rd (fun r l => iblk m c 4 t (ix2 r l)) r q = rd (fun r l => aw m c (ix2 r l)) (r) (1408 * (t.val / 16) + q) := by
  obtain ⟨-, -, -, -, -, -, -, -, e0, e1, -, -, -, -, -, -, -, -⟩ := idx_in t
  have ht : t.val < 32 := lt_of_lt_of_eq t.isLt N_0
  refine rd_eq _ _ _ _ _ _ hr hq (by omega) (by omega) ?_
  unfold iblk
  rw [View.read_apply]
  show V m c main_arg2 _ = m ((c : Thread nD τ).loc main_arg2) _
  rw [V_main_arg2]
  congr 1
  funext a
  apply Fin.ext
  match a with
  | ⟨0, _⟩ => show win0_4.index t 0 * 3 + 1 * r = r; rw [e0]; omega
  | ⟨1, _⟩ => show win0_4.index t 1 * 1408 + 1 * q = 1408 * (t.val / 16) + q; rw [e1]; omega

/-- … the gate half's taps, -/
theorem blk5 (c : Dev nD) (t : Fin cfg0.N) (r q : ℕ) (hr : r < 3) (hq : q < 1408) :
    rd (fun r l => iblk m c 5 t (ix2 r l)) r q = rd (fun r l => aw m c (ix2 r l)) (r) (2816 + (1408 * (t.val / 16) + q)) := by
  obtain ⟨-, -, -, -, -, -, -, -, -, -, e0, e1, -, -, -, -, -, -⟩ := idx_in t
  have ht : t.val < 32 := lt_of_lt_of_eq t.isLt N_0
  refine rd_eq _ _ _ _ _ _ hr hq (by omega) (by omega) ?_
  unfold iblk
  rw [View.read_apply]
  show V m c main_arg2 _ = m ((c : Thread nD τ).loc main_arg2) _
  rw [V_main_arg2]
  congr 1
  funext a
  apply Fin.ext
  match a with
  | ⟨0, _⟩ => show win0_5.index t 0 * 3 + 1 * r = r; rw [e0]; omega
  | ⟨1, _⟩ => show win0_5.index t 1 * 1408 + 1 * q = 2816 + (1408 * (t.val / 16) + q); rw [e1]; omega

/-- … the up half's biases, -/
theorem blk6 (c : Dev nD) (t : Fin cfg0.N) (r q : ℕ) (hr : r < 1) (hq : q < 1408) :
    rd (fun r l => iblk m c 6 t (ix2 r l)) r q = rd (fun r l => ab m c (ix2 r l)) (r) (1408 * (t.val / 16) + q) := by
  obtain ⟨-, -, -, -, -, -, -, -, -, -, -, -, e0, e1, -, -, -, -⟩ := idx_in t
  have ht : t.val < 32 := lt_of_lt_of_eq t.isLt N_0
  refine rd_eq _ _ _ _ _ _ hr hq (by omega) (by omega) ?_
  unfold iblk
  rw [View.read_apply]
  show V m c main_arg3 _ = m ((c : Thread nD τ).loc main_arg3) _
  rw [V_main_arg3]
  congr 1
  funext a
  apply Fin.ext
  match a with
  | ⟨0, _⟩ => show win0_6.index t 0 * 1 + 1 * r = r; rw [e0]; omega
  | ⟨1, _⟩ => show win0_6.index t 1 * 1408 + 1 * q = 1408 * (t.val / 16) + q; rw [e1]; omega

/-- … the gate half's biases, -/
theorem blk7 (c : Dev nD) (t : Fin cfg0.N) (r q : ℕ) (hr : r < 1) (hq : q < 1408) :
    rd (fun r l => iblk m c 7 t (ix2 r l)) r q = rd (fun r l => ab m c (ix2 r l)) (r) (2816 + (1408 * (t.val / 16) + q)) := by
  obtain ⟨-, -, -, -, -, -, -, -, -, -, -, -, -, -, e0, e1, -, -⟩ := idx_in t
  have ht : t.val < 32 := lt_of_lt_of_eq t.isLt N_0
  refine rd_eq _ _ _ _ _ _ hr hq (by omega) (by omega) ?_
  unfold iblk
  rw [View.read_apply]
  show V m c main_arg3 _ = m ((c : Thread nD τ).loc main_arg3) _
  rw [V_main_arg3]
  congr 1
  funext a
  apply Fin.ext
  match a with
  | ⟨0, _⟩ => show win0_7.index t 0 * 1 + 1 * r = r; rw [e0]; omega
  | ⟨1, _⟩ => show win0_7.index t 1 * 1408 + 1 * q = 2816 + (1408 * (t.val / 16) + q); rw [e1]; omega

/-- … the gradient's. -/
theorem blk8 (c : Dev nD) (t : Fin cfg0.N) (r q : ℕ) (hr : r < 512) (hq : q < 1408) :
    rd (fun r l => iblk m c 8 t (ix2 r l)) r q = rd (fun r l => ad m c (ix2 r l)) (512 * (t.val % 16) + r) (1408 * (t.val / 16) + q) := by
  obtain ⟨-, -, -, -, -, -, -, -, -, -, -, -, -, -, -, -, e0, e1⟩ := idx_in t
  have ht : t.val < 32 := lt_of_lt_of_eq t.isLt N_0
  refine rd_eq _ _ _ _ _ _ hr hq (by omega) (by omega) ?_
  unfold iblk
  rw [View.read_apply]
  show V m c main_arg1 _ = m ((c : Thread nD τ).loc main_arg1) _
  rw [V_main_arg1]
  congr 1
  funext a
  apply Fin.ext
  match a with
  | ⟨0, _⟩ => show win0_8.index t 0 * 512 + 1 * r = 512 * (t.val % 16) + r; rw [e0]; omega
  | ⟨1, _⟩ => show win0_8.index t 1 * 1408 + 1 * q = 1408 * (t.val / 16) + q; rw [e1]; omega

/-- A point's column of the up half with the rows before it is the array's. -/
theorem ext_up (c : Dev nD) (t : Fin cfg0.N) (q r : ℕ) (hq : q < 1408) (hr : r < 514) :
    ext (iblk m c 0 t) (iblk m c 2 t) (keep (grid0.coords t)) q r = zc (az m c) (1408 * (t.val / 16) + q) (512 * (t.val % 16) + r) := by
  have ht : t.val < 32 := lt_of_lt_of_eq t.isLt N_0
  unfold ext zc
  by_cases h : r < 2
  · rw [if_pos h, keep_eq]
    by_cases h0 : t.val % 16 = 0
    · rw [if_pos h0, mul_zero, if_pos (by omega)]
    · rw [if_neg h0, mul_one, if_neg (by omega)]
      refine (blk2 m c t (6 + r) q (by omega) hq).trans ?_
      exact congrArg (fun n => rd (fun r l => az m c (ix2 r l)) n _) (by omega)
  · rw [if_neg h, if_neg (by omega)]
    refine (blk0 m c t (r - 2) q (by omega) hq).trans ?_
    exact congrArg (fun n => rd (fun r l => az m c (ix2 r l)) n _) (by omega)

/-- A point's column of the gate half with the rows before it is the array's. -/
theorem ext_gate (c : Dev nD) (t : Fin cfg0.N) (q r : ℕ) (hq : q < 1408) (hr : r < 514) :
    ext (iblk m c 1 t) (iblk m c 3 t) (keep (grid0.coords t)) q r = zc (az m c) (2816 + (1408 * (t.val / 16) + q)) (512 * (t.val % 16) + r) := by
  have ht : t.val < 32 := lt_of_lt_of_eq t.isLt N_0
  unfold ext zc
  by_cases h : r < 2
  · rw [if_pos h, keep_eq]
    by_cases h0 : t.val % 16 = 0
    · rw [if_pos h0, mul_zero, if_pos (by omega)]
    · rw [if_neg h0, mul_one, if_neg (by omega)]
      refine (blk3 m c t (6 + r) q (by omega) hq).trans ?_
      exact congrArg (fun n => rd (fun r l => az m c (ix2 r l)) n _) (by omega)
  · rw [if_neg h, if_neg (by omega)]
    refine (blk1 m c t (r - 2) q (by omega) hq).trans ?_
    exact congrArg (fun n => rd (fun r l => az m c (ix2 r l)) n _) (by omega)

/-- A point's up half after the taps is the array's. -/
theorem up_eq (c : Dev nD) (t : Fin cfg0.N) (q r : ℕ) (hq : q < 1408) (hr : r < 512) :
    cv (ext (iblk m c 0 t) (iblk m c 2 t) (keep (grid0.coords t)) q) (fun j => rd (fun r l => iblk m c 4 t (ix2 r l)) j q)
        (rd (fun r l => iblk m c 6 t (ix2 r l)) 0 q) r
      = half (az m c) (aw m c) (ab m c) (1408 * (t.val / 16) + q) (512 * (t.val % 16) + r) := by
  unfold half cv
  dsimp only
  rw [ext_up m c t q r hq (by omega), ext_up m c t q (r + 1) hq (by omega), ext_up m c t q (r + 2) hq (by omega),
    blk4 m c t 0 q (by omega) hq, blk4 m c t 1 q (by omega) hq, blk4 m c t 2 q (by omega) hq, blk6 m c t 0 q (by omega) hq]
  rfl

/-- A point's gate half after the taps is the array's. -/
theorem gate_eq (c : Dev nD) (t : Fin cfg0.N) (q r : ℕ) (hq : q < 1408) (hr : r < 512) :
    cv (ext (iblk m c 1 t) (iblk m c 3 t) (keep (grid0.coords t)) q) (fun j => rd (fun r l => iblk m c 5 t (ix2 r l)) j q)
        (rd (fun r l => iblk m c 7 t (ix2 r l)) 0 q) r
      = half (az m c) (aw m c) (ab m c) (2816 + (1408 * (t.val / 16) + q)) (512 * (t.val % 16) + r) := by
  unfold half cv
  dsimp only
  rw [ext_gate m c t q r hq (by omega), ext_gate m c t q (r + 1) hq (by omega), ext_gate m c t q (r + 2) hq (by omega),
    blk5 m c t 0 q (by omega) hq, blk5 m c t 1 q (by omega) hq, blk5 m c t 2 q (by omega) hq, blk7 m c t 0 q (by omega) hq]
  rfl

/-- A point's gradients are the array's. -/
theorem dU_eq (c : Dev nD) (t : Fin cfg0.N) (q r : ℕ) (hq : q < 1408) (hr : r < 512) :
    dU (iblk m c 1 t) (iblk m c 3 t) (iblk m c 5 t) (iblk m c 7 t) (iblk m c 8 t) (keep (grid0.coords t)) q r
      = GU (az m c) (ad m c) (aw m c) (ab m c) (1408 * (t.val / 16) + q) (512 * (t.val % 16) + r) := by
  unfold dU GU
  rw [gate_eq m c t q r hq hr, blk8 m c t r q hr hq]

/-- A point's gradient of the gate half is the array's. -/
theorem dG_eq (c : Dev nD) (t : Fin cfg0.N) (q r : ℕ) (hq : q < 1408) (hr : r < 512) :
    dG (iblk m c 0 t) (iblk m c 1 t) (iblk m c 2 t) (iblk m c 3 t) (iblk m c 4 t) (iblk m c 5 t) (iblk m c 6 t) (iblk m c 7 t) (iblk m c 8 t)
        (keep (grid0.coords t)) q r
      = GG (az m c) (ad m c) (aw m c) (ab m c) (1408 * (t.val / 16) + q) (512 * (t.val % 16) + r) := by
  unfold dG GG
  rw [up_eq m c t q r hq hr, gate_eq m c t q r hq hr, blk8 m c t r q hr hq]

/-- A number that each point adds its rows' sum to is, after a point, the sum over the rows so far. -/
theorem sums_eq {α : Type} (left : Fin cfg0.N → α → α) (z : α) (rdr : α → EReal) (f : ℕ → ℕ → EReal) (hz : rdr z = 0)
    (hl : ∀ t a, rdr (left t a) = rdr a + ∑ r ∈ Finset.range 512, f (t.val / 16) (512 * (t.val % 16) + r)) :
    ∀ (n : ℕ) (h : n < cfg0.N), rdr (sums left z n h) = ∑ r ∈ Finset.range (512 * (n % 16 + 1)), f (n / 16) r
  | n, h => by
    rw [sum_block, ← Finset.sum_range (fun r => f (n / 16) (512 * (n % 16) + r))]
    by_cases h0 : n % 16 = 0
    · refine (congrArg rdr (sums_zero left z ⟨n, h⟩ h0)).trans ((hl _ _).trans ?_)
      rw [hz, h0, Nat.mul_zero, Finset.sum_range_zero]
    · refine (congrArg rdr (sums_next left z ⟨n, h⟩ h0)).trans ((hl _ _).trans ?_)
      have ih := sums_eq left z rdr f hz hl (n - 1) (Nat.lt_of_le_of_lt (Nat.sub_le _ _) h)
      dsimp only
      rw [ih, show (n - 1) % 16 + 1 = n % 16 by omega, show (n - 1) / 16 = n / 16 by omega]

/-- The up half's bias gradient after a point. -/
theorem sum13_eq (c : Dev nD) (n : ℕ) (h : n < cfg0.N) (q : Fin 1408) :
    @Eq EReal (sum13 m c n h (ix2 0 q)) (∑ r ∈ Finset.range (512 * (n % 16 + 1)), GU (az m c) (ad m c) (aw m c) (ab m c) (1408 * (n / 16) + q.val) r) := by
  refine sums_eq (point13 m c) (k0_pay1 (F := Ideal)) (fun a => a (ix2 0 q)) (fun j r => GU (az m c) (ad m c) (aw m c) (ab m c) (1408 * j + q.val) r)
    Ideal.ofBits_zero_f32 (fun t a => ?_) n h
  refine (add13 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (iblk m c 0 t) (iblk m c 1 t) (iblk m c 2 t) (iblk m c 3 t) (iblk m c 4 t) (iblk m c 5 t) (iblk m c 6 t) (iblk m c 7 t) (iblk m c 8 t) a q).trans (congrArg (fun z : EReal => a (ix2 0 q) + z) ?_)
  exact Finset.sum_congr rfl fun r hr => dU_eq m c t q.val r q.isLt (Finset.mem_range.mp hr)

/-- The gate half's bias gradient after a point. -/
theorem sum14_eq (c : Dev nD) (n : ℕ) (h : n < cfg0.N) (q : Fin 1408) :
    @Eq EReal (sum14 m c n h (ix2 0 q)) (∑ r ∈ Finset.range (512 * (n % 16 + 1)), GG (az m c) (ad m c) (aw m c) (ab m c) (1408 * (n / 16) + q.val) r) := by
  refine sums_eq (point14 m c) (k0_pay2 (F := Ideal)) (fun a => a (ix2 0 q)) (fun j r => GG (az m c) (ad m c) (aw m c) (ab m c) (1408 * j + q.val) r)
    Ideal.ofBits_zero_f32 (fun t a => ?_) n h
  refine (add14 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (iblk m c 0 t) (iblk m c 1 t) (iblk m c 2 t) (iblk m c 3 t) (iblk m c 4 t) (iblk m c 5 t) (iblk m c 6 t) (iblk m c 7 t) (iblk m c 8 t) a q).trans (congrArg (fun z : EReal => a (ix2 0 q) + z) ?_)
  exact Finset.sum_congr rfl fun r hr => dG_eq m c t q.val r q.isLt (Finset.mem_range.mp hr)

/-- The up half's taps' gradient after a point. -/
theorem sum15_eq (c : Dev nD) (n : ℕ) (h : n < cfg0.N) (j : Fin 3) (q : Fin 1408) :
    @Eq EReal (sum15 m c n h (ix2 j q)) (∑ r ∈ Finset.range (512 * (n % 16 + 1)), GU (az m c) (ad m c) (aw m c) (ab m c) (1408 * (n / 16) + q.val) r
      * zc (az m c) (1408 * (n / 16) + q.val) (r + j.val)) := by
  refine sums_eq (point15 m c) (k0_pay3 (F := Ideal)) (fun a => a (ix2 j q)) (fun i r => GU (az m c) (ad m c) (aw m c) (ab m c) (1408 * i + q.val) r
      * zc (az m c) (1408 * i + q.val) (r + j.val))
    Ideal.ofBits_zero_f32 (fun t a => ?_) n h
  refine (add15 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (iblk m c 0 t) (iblk m c 1 t) (iblk m c 2 t) (iblk m c 3 t) (iblk m c 4 t) (iblk m c 5 t) (iblk m c 6 t) (iblk m c 7 t) (iblk m c 8 t) a j q).trans (congrArg (fun z : EReal => a (ix2 j q) + z) ?_)
  refine Finset.sum_congr rfl fun r hr => ?_
  have hr' := Finset.mem_range.mp hr
  have hj := j.isLt
  rw [dU_eq m c t q.val r q.isLt hr', ext_up m c t q.val (r + j.val) q.isLt (by omega), Nat.add_assoc]

/-- The gate half's taps' gradient after a point. -/
theorem sum16_eq (c : Dev nD) (n : ℕ) (h : n < cfg0.N) (j : Fin 3) (q : Fin 1408) :
    @Eq EReal (sum16 m c n h (ix2 j q)) (∑ r ∈ Finset.range (512 * (n % 16 + 1)), GG (az m c) (ad m c) (aw m c) (ab m c) (1408 * (n / 16) + q.val) r
      * zc (az m c) (2816 + (1408 * (n / 16) + q.val)) (r + j.val)) := by
  refine sums_eq (point16 m c) (k0_pay4 (F := Ideal)) (fun a => a (ix2 j q)) (fun i r => GG (az m c) (ad m c) (aw m c) (ab m c) (1408 * i + q.val) r
      * zc (az m c) (2816 + (1408 * i + q.val)) (r + j.val))
    Ideal.ofBits_zero_f32 (fun t a => ?_) n h
  refine (add16 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (iblk m c 0 t) (iblk m c 1 t) (iblk m c 2 t) (iblk m c 3 t) (iblk m c 4 t) (iblk m c 5 t) (iblk m c 6 t) (iblk m c 7 t) (iblk m c 8 t) a j q).trans (congrArg (fun z : EReal => a (ix2 j q) + z) ?_)
  refine Finset.sum_congr rfl fun r hr => ?_
  have hr' := Finset.mem_range.mp hr
  have hj := j.isLt
  rw [dG_eq m c t q.val r q.isLt hr', ext_gate m c t q.val (r + j.val) q.isLt (by omega), Nat.add_assoc]

end Cert.GateIdeal.Val
-- ==== Proof.GateRef.lean ====
module

public import proofs.«01_k».proof.Proof.GateGlob
public import proofs.«01_k».proof.Proof.Gen.GateRefIdeal.Read
public import proofs.«01_k».proof.Proof.Gen.Pre_gate_finite

@[expose] public section

set_option maxRecDepth 16384

noncomputable section

open Idealize.ShloMosaic Idealize.ShloMosaic.TcCoe Idealize.SL.Sem

namespace Cert.GateIdeal.Ref

open Cert.GateRefIdeal Cert.GateRefIdeal.Gen Cert.GateRefIdeal.Read Cert.Common
open Cert.ConvIdeal.Val (rd)
open Cert.GateIdeal.Val (lg gU gG cv zc half GU GG)

variable (x0 : Vec Ideal S8192x5632 .bf16) (x1 : Vec Ideal S8192x2816 .bf16) (x2 : Vec Ideal S3x5632 .f32) (x3 : Vec Ideal S1x5632 .f32)

/-- A matrix at its own numbers. -/
theorem rd_at {a b : ℕ} (X : Fin a → Fin b → EReal) (r : Fin a) (q : Fin b) (R Q : ℕ) (hr : R = r.val) (hq : Q = q.val) : rd X R Q = X r q := by
  subst hr hq
  exact dif_pos ⟨r.isLt, q.isLt⟩

/-- The array with two rows of noughts put first. -/
theorem v2_apply (r : Fin 8194) (q : Fin 5632) : @Eq EReal (val_main_v2 (F := Ideal) x0 (ix2 r q)) (zc x0 q.val r.val) := by
  unfold val_main_v2 val_main_v1 val_main_v0 val_main_cst zc
  pointwise
  by_cases h : r.val < 2
  · rw [dif_pos h, if_pos h]
  · rw [dif_neg h, if_neg h]
    exact (rd_at (fun r l => x0 (ix2 r l)) ⟨r.val - 2, by omega⟩ q _ _ rfl rfl).symm

/-- The taps and the bias over the array. -/
theorem v26_apply (r : Fin 8192) (q : Fin 5632) :
    @Eq EReal (val_main_v26 (F := Ideal) x0 x2 x3 (ix2 r q)) (half x0 x2 x3 q.val r.val) := by
  unfold val_main_v26 val_main_v25 val_main_v24 val_main_v23 val_main_v22 val_main_v21 val_main_v20 val_main_v19 val_main_v18 val_main_v17 val_main_v16
    val_main_v15 val_main_v14 val_main_v13 val_main_v12 val_main_v11 val_main_v10 val_main_v9 val_main_v8 val_main_v7 val_main_v6 val_main_v5 val_main_v4
    val_main_v3 val_main_cst_0 half cv
  pointwise [v2_apply]
  rw [rd_at (fun r l => x2 (ix2 r l)) 0 q 0 q.val rfl rfl, rd_at (fun r l => x2 (ix2 r l)) 1 q 1 q.val rfl rfl,
    rd_at (fun r l => x2 (ix2 r l)) 2 q 2 q.val rfl rfl, rd_at (fun r l => x3 (ix2 r l)) 0 q 0 q.val rfl rfl, Nat.add_comm 1 r.val, Nat.add_comm 2 r.val]

/-- The up half and the gate half of it. -/
theorem v27_apply (r : Fin 8192) (q : Fin 2816) :
    @Eq EReal (val_main_v27 (F := Ideal) x0 x2 x3 (ix2 r q)) (half x0 x2 x3 q.val r.val) := by
  unfold val_main_v27
  pointwise [v26_apply]

/-- The gate half of it. -/
theorem v28_apply (r : Fin 8192) (q : Fin 2816) :
    @Eq EReal (val_main_v28 (F := Ideal) x0 x2 x3 (ix2 r q)) (half x0 x2 x3 (2816 + q.val) r.val) := by
  unfold val_main_v28
  pointwise [v26_apply]

/-- The logistic function of the gate half. -/
theorem s_apply (r : Fin 8192) (q : Fin 2816) :
    @Eq EReal (val_main_v29_2 (F := Ideal) x0 x2 x3 (ix2 r q)) (lg (half x0 x2 x3 (2816 + q.val) r.val)) := by
  unfold val_main_v29_2 val_main_call0_v4 val_main_call0_cst_0 val_main_call0_v3 val_main_call0_v2 val_main_call0_cst val_main_call0_v1 val_main_call0_v0 lg
  pointwise [v28_apply]
  rw [zero_sub]

/-- The gradient of the up half. -/
theorem v32_apply (r : Fin 8192) (q : Fin 2816) : @Eq EReal (val_main_v32 (F := Ideal) x0 x1 x2 x3 (ix2 r q)) (GU x0 x1 x2 x3 q.val r.val) := by
  unfold val_main_v32 val_main_v29_0 val_main_v31 GU gU
  pointwise [v28_apply, s_apply]
  rw [rd_at (fun r l => x1 (ix2 r l)) r q r.val q.val rfl rfl, mul_comm]

/-- The product rule's two terms are the kernel's one product, over reals. -/
theorem grad_real {D U : EReal} (G : EReal) (hD : ∃ d : ℝ, D = d) (hU : ∃ u : ℝ, U = u) (hG : ∃ g : ℝ, G = g) :
    D * U * lg G + G * (D * U) * (lg G * (1 - lg G)) = gG D U G := by
  obtain ⟨d, rfl⟩ := hD
  obtain ⟨u, rfl⟩ := hU
  obtain ⟨g, rfl⟩ := hG
  have hl : lg (g : EReal) = ((1 / (1 + Real.exp (-g)) : ℝ) : EReal) := by
    have hp : (1 + Real.exp (-g)) ≠ 0 := by positivity
    unfold lg
    rw [zero_sub, ← EReal.coe_neg, Ideal.exp_coe, ← EReal.coe_one, ← EReal.coe_add, Ideal.div_coe hp]
    norm_cast
    rw [one_mul]
  unfold gG
  rw [hl]
  norm_cast
  ring

/-- A magnitude below the infinite one is a real number's. -/
theorem real_of_lt {x : EReal} (h : Ideal.cmp .olt (max x (-x)) (Ideal.ofBits .f32 0x7F800000#32) = 1#1) : ∃ r : ℝ, x = r := by
  have ht : Ideal.ofBits .f32 0x7F800000#32 = ⊤ := by simp [Ideal.ofBits, Ideal.ieee]
  rw [ht] at h
  have hl : max x (-x) < ⊤ := by
    by_contra hn
    rw [Ideal.cmp] at h
    simp only [decide_eq_false hn] at h
    exact absurd h (by decide)
  induction x with
  | bot => simp at hl
  | top => simp at hl
  | coe r => exact ⟨r, rfl⟩

/-- Every entry that can be read is real when the array's are. -/
theorem rd_real {R C : ℕ} (X : Fin R → Fin C → EReal) (h : ∀ r q, ∃ v : ℝ, X r q = v) (r q : ℕ) : ∃ v : ℝ, rd X r q = v := by
  unfold rd
  split
  · exact h _ _
  · exact ⟨0, rfl⟩

section real

variable (h0 : ∀ i, ∃ v : ℝ, @Eq EReal (x0 i) v) (h1 : ∀ i, ∃ v : ℝ, @Eq EReal (x1 i) v)
  (h2 : ∀ i, ∃ v : ℝ, @Eq EReal (x2 i) v) (h3 : ∀ i, ∃ v : ℝ, @Eq EReal (x3 i) v)
include h0 h2 h3

/-- The convolution of real arrays is real. -/
theorem half_real (q r : ℕ) : ∃ v : ℝ, half x0 x2 x3 q r = v := by
  have hz : ∀ k, ∃ v : ℝ, zc x0 q k = v := fun k => by
    unfold zc
    split
    · exact ⟨0, rfl⟩
    · exact rd_real _ (fun _ _ => h0 _) _ _
  obtain ⟨z0, e0⟩ := hz r
  obtain ⟨z1, e1⟩ := hz (r + 1)
  obtain ⟨z2, e2⟩ := hz (r + 2)
  obtain ⟨w0, d0⟩ := rd_real (fun r l => x2 (ix2 r l)) (fun _ _ => h2 _) 0 q
  obtain ⟨w1, d1⟩ := rd_real (fun r l => x2 (ix2 r l)) (fun _ _ => h2 _) 1 q
  obtain ⟨w2, d2⟩ := rd_real (fun r l => x2 (ix2 r l)) (fun _ _ => h2 _) 2 q
  obtain ⟨b, eb⟩ := rd_real (fun r l => x3 (ix2 r l)) (fun _ _ => h3 _) 0 q
  refine ⟨w0 * z0 + w1 * z1 + w2 * z2 + b, ?_⟩
  unfold half cv
  dsimp only
  rw [e0, e1, e2, d0, d1, d2, eb]
  norm_cast

include h1

/-- The gradient of the gate half. -/
theorem v34_apply (r : Fin 8192) (q : Fin 2816) : @Eq EReal (val_main_v34 (F := Ideal) x0 x1 x2 x3 (ix2 r q)) (GG x0 x1 x2 x3 q.val r.val) := by
  unfold val_main_v34 val_main_call1_v1 val_main_call1_v2 val_main_call1_v0 val_main_v33 val_main_v31 val_main_v29_1 val_main_call0_v7 val_main_call0_v6 val_main_call0_cst_1 GG
  pointwise [v28_apply, v27_apply, s_apply]
  rw [rd_at (fun r l => x1 (ix2 r l)) r q r.val q.val rfl rfl]
  exact grad_real _ (h1 _) (half_real x0 x2 x3 h0 h2 h3 _ _) (half_real x0 x2 x3 h0 h2 h3 _ _)

/-- The two gradients side by side, column by column. -/
theorem v35_up (r : Fin 8192) (q : Fin 5632) (p : ℕ) (hp : p < 2816) (hq : q.val = p) :
    @Eq EReal (val_main_v35 (F := Ideal) x0 x1 x2 x3 (ix2 r q)) (GU x0 x1 x2 x3 p r.val) := by
  unfold val_main_v35
  pointwise [v32_apply, v34_apply x0 x1 x2 x3 h0 h1 h2 h3]
  rw [dif_pos (by omega), hq]

/-- A column of the second half is the gate half's gradient. -/
theorem v35_gate (r : Fin 8192) (q : Fin 5632) (p : ℕ) (hq : q.val = 2816 + p) :
    @Eq EReal (val_main_v35 (F := Ideal) x0 x1 x2 x3 (ix2 r q)) (GG x0 x1 x2 x3 p r.val) := by
  unfold val_main_v35
  pointwise [v32_apply, v34_apply x0 x1 x2 x3 h0 h1 h2 h3]
  rw [dif_neg (by omega), hq, Nat.add_sub_cancel_left]

/-- The two gradients. -/
theorem v59_apply (r : Fin 8192) (q : Fin 2816) :
    @Eq EReal (val_main_v59 (F := Ideal) x0 x1 x2 x3 (ix2 r q)) (GU x0 x1 x2 x3 q.val r.val) := by
  unfold val_main_v59 val_main_v58
  pointwise []
  exact v35_up x0 x1 x2 x3 h0 h1 h2 h3 _ _ _ q.isLt rfl

/-- The gate half's gradient, as the reference returns it. -/
theorem v60_apply (r : Fin 8192) (q : Fin 2816) :
    @Eq EReal (val_main_v60 (F := Ideal) x0 x1 x2 x3 (ix2 r q)) (GG x0 x1 x2 x3 q.val r.val) := by
  unfold val_main_v60 val_main_v58
  pointwise []
  exact v35_gate x0 x1 x2 x3 h0 h1 h2 h3 _ _ _ rfl

/-- The gradients of the two biases. -/
theorem v61_apply (q : Fin 2816) :
    @Eq EReal (val_main_v61 (F := Ideal) x0 x1 x2 x3 (ix2 0 q)) (∑ r ∈ Finset.range 8192, GU x0 x1 x2 x3 q.val r) := by
  unfold val_main_v61 val_main_v37 val_main_v36 val_main_cst_1
  pointwise []
  rw [Finset.sum_range]
  exact Finset.sum_congr rfl fun r _ => v35_up x0 x1 x2 x3 h0 h1 h2 h3 _ _ _ q.isLt rfl

/-- The gradient of the gate half's bias. -/
theorem v62_apply (q : Fin 2816) :
    @Eq EReal (val_main_v62 (F := Ideal) x0 x1 x2 x3 (ix2 0 q)) (∑ r ∈ Finset.range 8192, GG x0 x1 x2 x3 q.val r) := by
  unfold val_main_v62 val_main_v37 val_main_v36 val_main_cst_1
  pointwise []
  rw [Finset.sum_range]
  exact Finset.sum_congr rfl fun r _ => v35_gate x0 x1 x2 x3 h0 h1 h2 h3 _ _ _ rfl

omit h0 h1 h2 h3 in
/-- The tap gradients before they are cut in two. -/
theorem v57_apply (j : Fin 3) (q : Fin 5632) : @Eq EReal (val_main_v57 (F := Ideal) x0 x1 x2 x3 (ix2 j q))
     (∑ r : Fin 8192, val_main_v35 (F := Ideal) x0 x1 x2 x3 (ix2 r q) * zc x0 q.val (r.val + j.val)) := by
  unfold val_main_v57 val_main_v56 val_main_v55 val_main_v54 val_main_v53 val_main_v52 val_main_v51 val_main_v50 val_main_v49 val_main_v48 val_main_v47
    val_main_v46 val_main_v45 val_main_v44 val_main_v43 val_main_v42 val_main_v41 val_main_v40 val_main_v39 val_main_v38
    val_main_v20 val_main_v13 val_main_v5 val_main_cst_2 val_main_cst_3 val_main_cst_4 val_main_cst_5 val_main_cst_6 val_main_cst_7 val_main_cst_8 val_main_cst_9 val_main_cst_10
  pointwise [v2_apply]
  have h : ∀ f : Fin 8192 → EReal, ∑ _x : Fin 1, ∑ x, f x = ∑ x, f x := fun f => Fin.sum_univ_one _
  obtain ⟨j, hj⟩ := j
  dsimp only
  rw [h, h, h]
  match j, hj with
  | 0, _ => rw [dif_neg (by omega), dif_neg (by omega), dif_pos (by omega), zero_add, zero_add]; rfl
  | 1, _ =>
    rw [dif_neg (by omega), dif_pos (by omega), dif_neg (by omega), zero_add, add_zero]
    exact Finset.sum_congr rfl fun r _ => by rw [Nat.add_comm]
  | 2, _ =>
    rw [dif_pos (by omega), dif_neg (by omega), dif_neg (by omega), add_zero, add_zero]
    exact Finset.sum_congr rfl fun r _ => by rw [Nat.add_comm]

/-- The gradients of the two halves' taps. -/
theorem v63_apply (j : Fin 3) (q : Fin 2816) :
    @Eq EReal (val_main_v63 (F := Ideal) x0 x1 x2 x3 (ix2 j q))
      (∑ r ∈ Finset.range 8192, GU x0 x1 x2 x3 q.val r * zc x0 q.val (r + j.val)) := by
  unfold val_main_v63
  pointwise [v57_apply]
  rw [Finset.sum_range]
  exact Finset.sum_congr rfl fun r _ => by rw [v35_up x0 x1 x2 x3 h0 h1 h2 h3 _ _ _ q.isLt rfl]

/-- The gradient of the gate half's taps. -/
theorem v64_apply (j : Fin 3) (q : Fin 2816) :
    @Eq EReal (val_main_v64 (F := Ideal) x0 x1 x2 x3 (ix2 j q))
      (∑ r ∈ Finset.range 8192, GG x0 x1 x2 x3 q.val r * zc x0 (2816 + q.val) (r + j.val)) := by
  unfold val_main_v64
  pointwise [v57_apply]
  rw [Finset.sum_range]
  exact Finset.sum_congr rfl fun r _ => by rw [v35_gate x0 x1 x2 x3 h0 h1 h2 h3 _ _ _ rfl]

end real

/-- The precondition makes every entry of the four arrays a real number. -/
theorem pre_real (h : (Cert.Pre_gate_finite.fn (F := Ideal) x0 x1 x2 x3).1 = (fun _ => 1#1)
      ∧ (Cert.Pre_gate_finite.fn (F := Ideal) x0 x1 x2 x3).2.1 = (fun _ => 1#1)
      ∧ (Cert.Pre_gate_finite.fn (F := Ideal) x0 x1 x2 x3).2.2.1 = (fun _ => 1#1)
      ∧ (Cert.Pre_gate_finite.fn (F := Ideal) x0 x1 x2 x3).2.2.2 = (fun _ => 1#1)) :
    (∀ i, ∃ v : ℝ, @Eq EReal (x0 i) v) ∧ (∀ i, ∃ v : ℝ, @Eq EReal (x1 i) v)
      ∧ (∀ i, ∃ v : ℝ, @Eq EReal (x2 i) v) ∧ ∀ i, ∃ v : ℝ, @Eq EReal (x3 i) v := by
  obtain ⟨a, b, c, d⟩ := h
  exact ⟨fun i => real_of_lt (congrFun a i), fun i => real_of_lt (congrFun b i),
    fun i => real_of_lt (congrFun c i), fun i => real_of_lt (congrFun d i)⟩

end Cert.GateIdeal.Ref
-- ==== Proof.GateRes.lean ====
module

public import proofs.«01_k».proof.Proof.GateSum
public import proofs.«01_k».proof.Proof.GateRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GateIdeal.Val

open Cert.GateIdeal Cert.GateIdeal.Gen Cert.GateIdeal.Loop Cert.Common
open Cert.ConvIdeal.Val (rd)
open Cert.GateRefIdeal.Read (val_main_v59 val_main_v60 val_main_v61 val_main_v62 val_main_v63 val_main_v64)

variable (m : (ℓ : Loc nD τ sig) → Buf (Elt Ideal) ℓ) (c : Dev nD)
  (h0 : ∀ i, ∃ v : ℝ, @Eq EReal (az m c i) v) (h1 : ∀ i, ∃ v : ℝ, @Eq EReal (ad m c i) v)
  (h2 : ∀ i, ∃ v : ℝ, @Eq EReal (aw m c i) v) (h3 : ∀ i, ∃ v : ℝ, @Eq EReal (ab m c i) v)

/-- A result row and column of a point's block. -/
def row (t : Fin cfg0.N) (p : Fin 512) : Fin 8192 := ⟨512 * (t.val % 16) + p.val, by omega⟩
/-- A result column of a point's block. -/
def lane (t : Fin cfg0.N) (q : Fin 1408) : Fin 2816 :=
  ⟨1408 * (t.val / 16) + q.val, by have ht : t.val < 32 := lt_of_lt_of_eq t.isLt N_0; omega⟩

/-- A gradient block that a point leaves is the arrays' there. -/
theorem block11_apply (t : Fin cfg0.N) (y : S512x1408.Idx) :
    @Eq EReal (block11 m c t y) (GU (az m c) (ad m c) (aw m c) (ab m c) (lane t (y 1)).val (row t (y 0)).val) := by
  unfold block11 pieces11
  rw [left11]
  exact dU_eq m c t (y 1).val (y 0).val (y 1).isLt (y 0).isLt

/-- The same of the gate half. -/
theorem block12_apply (t : Fin cfg0.N) (y : S512x1408.Idx) :
    @Eq EReal (block12 m c t y) (GG (az m c) (ad m c) (aw m c) (ab m c) (lane t (y 1)).val (row t (y 0)).val) := by
  unfold block12 pieces12
  rw [left12]
  exact dG_eq m c t (y 1).val (y 0).val (y 1).isLt (y 0).isLt

include h0 h1 h2 h3

/-- The gradient of the up half is the reference's. -/
theorem res9 : (dats m 0 c).arrAt 9 cfg0.N = val_main_v59 (F := Ideal) (az m c) (ad m c) (aw m c) (ab m c) := by
  refine (dats m 0 c).arrAt_eq_of_covers 9 _ (by decide +kernel) fun t hf y => ?_
  obtain ⟨e0, e1, -, -, -, -, -, -, -, -, -, -⟩ := idx_out t
  blk_simp
  rw [after9]
  have e : (win0_9.blk t).view.emb y = ix2 (row t (y 0)) (lane t (y 1)) := by
    funext a
    apply Fin.ext
    match a with
    | ⟨0, _⟩ => show win0_9.index t 0 * 512 + 1 * (y 0).val = 512 * (t.val % 16) + (y 0).val; rw [e0]; omega
    | ⟨1, _⟩ => show win0_9.index t 1 * 1408 + 1 * (y 1).val = 1408 * (t.val / 16) + (y 1).val; rw [e1]; omega
  rw [e]
  exact (block11_apply m c t y).trans (Ref.v59_apply (az m c) (ad m c) (aw m c) (ab m c) h0 h1 h2 h3 (row t (y 0)) (lane t (y 1))).symm

/-- The gradient of the gate half is the reference's. -/
theorem res10 : (dats m 0 c).arrAt 10 cfg0.N = val_main_v60 (F := Ideal) (az m c) (ad m c) (aw m c) (ab m c) := by
  refine (dats m 0 c).arrAt_eq_of_covers 10 _ (by decide +kernel) fun t hf y => ?_
  obtain ⟨-, -, e0, e1, -, -, -, -, -, -, -, -⟩ := idx_out t
  blk_simp
  rw [after10]
  have e : (win0_10.blk t).view.emb y = ix2 (row t (y 0)) (lane t (y 1)) := by
    funext a
    apply Fin.ext
    match a with
    | ⟨0, _⟩ => show win0_10.index t 0 * 512 + 1 * (y 0).val = 512 * (t.val % 16) + (y 0).val; rw [e0]; omega
    | ⟨1, _⟩ => show win0_10.index t 1 * 1408 + 1 * (y 1).val = 1408 * (t.val / 16) + (y 1).val; rw [e1]; omega
  rw [e]
  exact (block12_apply m c t y).trans (Ref.v60_apply (az m c) (ad m c) (aw m c) (ab m c) h0 h1 h2 h3 (row t (y 0)) (lane t (y 1))).symm

/-- The gradient of the up half's bias is the reference's. -/
theorem res11 : (dats m 0 c).arrAt 11 cfg0.N = val_main_v61 (F := Ideal) (az m c) (ad m c) (aw m c) (ab m c) := by
  refine (dats m 0 c).arrAt_eq_of_covers 11 _ (by decide +kernel) fun t hf y => ?_
  obtain ⟨-, -, -, -, e0, e1, -, -, -, -, -, -⟩ := idx_out t
  blk_simp
  rw [after11]
  have e : (win0_11.blk t).view.emb y = ix2 0 (lane t (y 1)) := by
    funext a
    apply Fin.ext
    match a with
    | ⟨0, _⟩ => show win0_11.index t 0 * 1 + 1 * (y 0).val = 0; rw [e0]; have hy : (y 0).val < 1 := (y 0).isLt; omega
    | ⟨1, _⟩ => show win0_11.index t 1 * 1408 + 1 * (y 1).val = 1408 * (t.val / 16) + (y 1).val; rw [e1]; omega
  rw [e]
  refine Eq.trans ?_ (Ref.v61_apply (az m c) (ad m c) (aw m c) (ab m c) h0 h1 h2 h3 (lane t (y 1))).symm
  have hy : y = ix2 0 (y 1) := by
    funext a
    match a with
    | ⟨0, _⟩ => exact Subsingleton.elim (α := Fin 1) _ _
    | ⟨1, _⟩ => rfl
  refine (congrArg (sum13 m c t.val t.isLt) hy).trans ?_
  refine (sum13_eq m c t.val t.isLt (y 1)).trans ?_
  rw [flush11 t hf]
  rfl

/-- The gradient of the gate half's bias is the reference's. -/
theorem res12 : (dats m 0 c).arrAt 12 cfg0.N = val_main_v62 (F := Ideal) (az m c) (ad m c) (aw m c) (ab m c) := by
  refine (dats m 0 c).arrAt_eq_of_covers 12 _ (by decide +kernel) fun t hf y => ?_
  obtain ⟨-, -, -, -, -, -, e0, e1, -, -, -, -⟩ := idx_out t
  blk_simp
  rw [after12]
  have e : (win0_12.blk t).view.emb y = ix2 0 (lane t (y 1)) := by
    funext a
    apply Fin.ext
    match a with
    | ⟨0, _⟩ => show win0_12.index t 0 * 1 + 1 * (y 0).val = 0; rw [e0]; have hy : (y 0).val < 1 := (y 0).isLt; omega
    | ⟨1, _⟩ => show win0_12.index t 1 * 1408 + 1 * (y 1).val = 1408 * (t.val / 16) + (y 1).val; rw [e1]; omega
  rw [e]
  refine Eq.trans ?_ (Ref.v62_apply (az m c) (ad m c) (aw m c) (ab m c) h0 h1 h2 h3 (lane t (y 1))).symm
  have hy : y = ix2 0 (y 1) := by
    funext a
    match a with
    | ⟨0, _⟩ => exact Subsingleton.elim (α := Fin 1) _ _
    | ⟨1, _⟩ => rfl
  refine (congrArg (sum14 m c t.val t.isLt) hy).trans ?_
  refine (sum14_eq m c t.val t.isLt (y 1)).trans ?_
  rw [flush12 t hf]
  rfl

/-- The gradient of the up half's taps is the reference's. -/
theorem res13 : (dats m 0 c).arrAt 13 cfg0.N = val_main_v63 (F := Ideal) (az m c) (ad m c) (aw m c) (ab m c) := by
  refine (dats m 0 c).arrAt_eq_of_covers 13 _ (by decide +kernel) fun t hf y => ?_
  obtain ⟨-, -, -, -, -, -, -, -, e0, e1, -, -⟩ := idx_out t
  blk_simp
  rw [after13]
  have e : (win0_13.blk t).view.emb y = ix2 (y 0) (lane t (y 1)) := by
    funext a
    apply Fin.ext
    match a with
    | ⟨0, _⟩ => show win0_13.index t 0 * 3 + 1 * (y 0).val = (y 0).val; rw [e0]; omega
    | ⟨1, _⟩ => show win0_13.index t 1 * 1408 + 1 * (y 1).val = 1408 * (t.val / 16) + (y 1).val; rw [e1]; omega
  rw [e]
  refine Eq.trans ?_ (Ref.v63_apply (az m c) (ad m c) (aw m c) (ab m c) h0 h1 h2 h3 (y 0) (lane t (y 1))).symm
  have hy : y = ix2 (y 0) (y 1) := by
    funext a
    match a with
    | ⟨0, _⟩ => rfl
    | ⟨1, _⟩ => rfl
  refine (congrArg (sum15 m c t.val t.isLt) hy).trans ?_
  refine (sum15_eq m c t.val t.isLt (y 0) (y 1)).trans ?_
  rw [flush13 t hf]
  rfl

/-- The gradient of the gate half's taps is the reference's. -/
theorem res14 : (dats m 0 c).arrAt 14 cfg0.N = val_main_v64 (F := Ideal) (az m c) (ad m c) (aw m c) (ab m c) := by
  refine (dats m 0 c).arrAt_eq_of_covers 14 _ (by decide +kernel) fun t hf y => ?_
  obtain ⟨-, -, -, -, -, -, -, -, -, -, e0, e1⟩ := idx_out t
  blk_simp
  rw [after14]
  have e : (win0_14.blk t).view.emb y = ix2 (y 0) (lane t (y 1)) := by
    funext a
    apply Fin.ext
    match a with
    | ⟨0, _⟩ => show win0_14.index t 0 * 3 + 1 * (y 0).val = (y 0).val; rw [e0]; omega
    | ⟨1, _⟩ => show win0_14.index t 1 * 1408 + 1 * (y 1).val = 1408 * (t.val / 16) + (y 1).val; rw [e1]; omega
  rw [e]
  refine Eq.trans ?_ (Ref.v64_apply (az m c) (ad m c) (aw m c) (ab m c) h0 h1 h2 h3 (y 0) (lane t (y 1))).symm
  have hy : y = ix2 (y 0) (y 1) := by
    funext a
    match a with
    | ⟨0, _⟩ => rfl
    | ⟨1, _⟩ => rfl
  refine (congrArg (sum16 m c t.val t.isLt) hy).trans ?_
  refine (sum16_eq m c t.val t.isLt (y 0) (y 1)).trans ?_
  rw [flush14 t hf]
  rfl

omit h0 h1 h2 h3 in
/-- The run, with every result read: from real operands each ends as the reference's, and the operands as they began. -/
theorem run_res (ρ : Dev nD → PrngReg) (hr : ∀ c, (∀ i, ∃ v : ℝ, @Eq EReal (az m c i) v) ∧ (∀ i, ∃ v : ℝ, @Eq EReal (ad m c i) v)
      ∧ (∀ i, ∃ v : ℝ, @Eq EReal (aw m c i) v) ∧ ∀ i, ∃ v : ℝ, @Eq EReal (ab m c i) v) :
    θ_run defs (onTc (τ := τ) (main (F := Ideal))) ⟨m, fun _ => 0, ρ⟩ fun r => ∀ c : Dev nD,
      r.2.mem ((c.tc : Thread nD τ).loc main_v0_0) = val_main_v59 (F := Ideal) (az m c) (ad m c) (aw m c) (ab m c)
      ∧ r.2.mem ((c.tc : Thread nD τ).loc main_v0_1) = val_main_v60 (F := Ideal) (az m c) (ad m c) (aw m c) (ab m c)
      ∧ r.2.mem ((c.tc : Thread nD τ).loc main_v0_2) = val_main_v61 (F := Ideal) (az m c) (ad m c) (aw m c) (ab m c)
      ∧ r.2.mem ((c.tc : Thread nD τ).loc main_v0_3) = val_main_v62 (F := Ideal) (az m c) (ad m c) (aw m c) (ab m c)
      ∧ r.2.mem ((c.tc : Thread nD τ).loc main_v0_4) = val_main_v63 (F := Ideal) (az m c) (ad m c) (aw m c) (ab m c)
      ∧ r.2.mem ((c.tc : Thread nD τ).loc main_v0_5) = val_main_v64 (F := Ideal) (az m c) (ad m c) (aw m c) (ab m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    obtain ⟨h0, h1, h2, h3⟩ := hr c
    exact ⟨((h.1 c).1 9).trans (res9 m c h0 h1 h2 h3),
      ((h.1 c).1 10).trans (res10 m c h0 h1 h2 h3),
      ((h.1 c).1 11).trans (res11 m c h0 h1 h2 h3),
      ((h.1 c).1 12).trans (res12 m c h0 h1 h2 h3),
      ((h.1 c).1 13).trans (res13 m c h0 h1 h2 h3),
      ((h.1 c).1 14).trans (res14 m c h0 h1 h2 h3),
      h.2.1 c⟩)
    (θ_run_and (run_main m ρ) (frame_any m ρ))

end Cert.GateIdeal.Val
-- ==== Proof.PostRef.lean ====
module

public import proofs.«01_k».proof.Proof.Common
public import proofs.«01_k».proof.Proof.Gen.PostRefIdeal.Read
public import proofs.«01_k».proof.Proof.NormAlg

@[expose] public section

set_option maxRecDepth 16384

noncomputable section

open Idealize.ShloMosaic Idealize.ShloMosaic.TcCoe Idealize.SL.Sem

namespace Cert.PostRefIdeal.Val

open Cert.PostRefIdeal Cert.PostRefIdeal.Gen Cert.PostRefIdeal.Read Cert.Common Cert.NormAlg

/-- The derivative of the mean square's reciprocal root against a row `y` of cotangents, spread over the row. -/
def spread (y x : Fin 1024 → EReal) : EReal :=
  Ideal.div ((∑ j : Fin 1024, x j * y j) * (Ideal.ofBits .f32 0xBF000000#32 * Ideal.div (Ideal.rsqrt (ms x)) (ms x)))
    (Ideal.ofBits .f32 0x44800000#32)

variable (x0 : Vec Ideal S8192x1024 .f32) (x1 : Vec Ideal S1x1024 .f32) (x2 : Vec Ideal S8192x1024 .f32)

/-- The mean square of a row. -/
theorem v6_apply (r : Fin 8192) (z : Fin 1) : val_main_v6 (F := Ideal) x0 (ix2 r z) = ms fun j => x0 (ix2 r j) := by
  unfold val_main_v6 val_main_v5 val_main_v4 val_main_v3 val_main_v2 val_main_v1 val_main_v0 val_main_cst val_main_cst_0 val_main_cst_1 ms
  pointwise

/-- The reciprocal root of it. -/
theorem v7_apply (r : Fin 8192) (z : Fin 1) :
    val_main_v7 (F := Ideal) x0 (ix2 r z) = Ideal.rsqrt (ms fun j => x0 (ix2 r j)) := by
  unfold val_main_v7
  pointwise [v6_apply]

/-- The derivative of that root. -/
theorem v10_apply (r : Fin 8192) (z : Fin 1) :
    val_main_v10 (F := Ideal) x0 (ix2 r z) = (Ideal.ofBits .f32 0xBF000000#32 *
      Ideal.div (Ideal.rsqrt (ms fun j => x0 (ix2 r j))) (ms fun j => x0 (ix2 r j)) : EReal) := by
  unfold val_main_v10 val_main_v9 val_main_v8 val_main_cst_2
  pointwise [v6_apply, v7_apply]

/-- A normed row. -/
theorem v12_apply (r : Fin 8192) (q : Fin 1024) :
    val_main_v12 (F := Ideal) x0 (ix2 r q) = (x0 (ix2 r q) * Ideal.rsqrt (ms fun j => x0 (ix2 r j)) : EReal) := by
  unfold val_main_v12 val_main_v11
  pointwise [v7_apply]

/-- The gradient of the norm's weight. -/
theorem v17_apply (z : Fin 1) (q : Fin 1024) :
    val_main_v17 (F := Ideal) x0 x2 (ix2 z q) = (∑ r : Fin 8192,
      x0 (ix2 r q) * Ideal.rsqrt (ms fun j => x0 (ix2 r j)) * x2 (ix2 r q) : EReal) := by
  unfold val_main_v17 val_main_v16 val_main_v15 val_main_cst_3
  pointwise [v12_apply]

/-- The cotangent times the norm's weight. -/
theorem v19_apply (r : Fin 8192) (q : Fin 1024) :
    val_main_v19 (F := Ideal) x1 x2 (ix2 r q) = (x2 (ix2 r q) * x1 (ix2 0 q) : EReal) := by
  unfold val_main_v19 val_main_v18
  pointwise

/-- A row's sum against its gradient. -/
theorem v22_apply (r : Fin 8192) (z : Fin 1) :
    val_main_v22 (F := Ideal) x0 x1 x2 (ix2 r z) = (∑ j : Fin 1024,
      x0 (ix2 r j) * (x2 (ix2 r j) * x1 (ix2 0 j)) : EReal) := by
  unfold val_main_v22 val_main_v21 val_main_v20 val_main_cst_4
  pointwise [v19_apply]

/-- What the mean square's gradient spreads over a row. -/
theorem v29_apply (r : Fin 8192) (q : Fin 1024) :
    val_main_v29 (F := Ideal) x0 x1 x2 (ix2 r q) =
      spread (fun j => (x2 (ix2 r j) * x1 (ix2 0 j) : EReal)) (fun j => x0 (ix2 r j)) := by
  unfold val_main_v29 val_main_v28 val_main_v27 val_main_v26 val_main_v25 val_main_cst_5 val_main_cst_6 spread
  pointwise [v22_apply, v10_apply]
  exact Fin.sum_univ_one (M := EReal) _

/-- The gradient of the normed array. -/
theorem v34_apply (r : Fin 8192) (q : Fin 1024) :
    val_main_v34 (F := Ideal) x0 x1 x2 (ix2 r q) =
      (x2 (ix2 r q) * x1 (ix2 0 q) * Ideal.rsqrt (ms fun j => x0 (ix2 r j))
        + x0 (ix2 r q) * spread (fun j => (x2 (ix2 r j) * x1 (ix2 0 j) : EReal)) (fun j => x0 (ix2 r j))
        + spread (fun j => (x2 (ix2 r j) * x1 (ix2 0 j) : EReal)) (fun j => x0 (ix2 r j)) * x0 (ix2 r q) : EReal) := by
  unfold val_main_v34 val_main_v33 val_main_v32 val_main_v31 val_main_v30 val_main_v24 val_main_v23
  pointwise [v19_apply, v29_apply, v7_apply]

end Cert.PostRefIdeal.Val
-- ==== Proof.PostVal.lean ====
module

public import proofs.«01_k».proof.Proof.Common
public import proofs.«01_k».proof.Proof.Gen.PostIdeal.Value
public import proofs.«01_k».proof.Proof.PostRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.PostIdeal.Val

open Cert.PostIdeal Cert.PostIdeal.Gen Cert.Common

/-- The reciprocal root mean square of a row. -/
abbrev rstd (x : Fin 1024 → EReal) : EReal := Ideal.rsqrt (Cert.NormAlg.ms x)

/-- The norm's gradient at one entry of a row, as the kernel computes it. -/
def knorm (d g x : Fin 1024 → EReal) (q : Fin 1024) : EReal :=
  rstd x * (d q * g q - x q * rstd x *
    Ideal.div (∑ j : Fin 1024, d j * g j * (x j * rstd x)) (Ideal.ofBits .f32 0x44800000#32))

/-- The sum begins at nought. -/
theorem pay1_apply (z : Fin 1) (q : Fin 1024) : k0_pay1 (F := Ideal) (ix2 z q) = (0 : EReal) := by
  unfold k0_pay1
  pointwise

/-- A row's reciprocal root mean square. -/
theorem pay2_apply (x : Vec Ideal S1024x1024 .f32) (p : Fin 1024) (z : Fin 1) :
    k0_pay2 (F := Ideal) x (ix2 p z) = rstd fun j => x (ix2 p j) := by
  unfold k0_pay2 rstd Cert.NormAlg.ms
  pointwise

/-- A normed block. -/
theorem pay3_apply (x : Vec Ideal S1024x1024 .f32) (p : Fin 1024) (q : Fin 1024) :
    k0_pay3 (F := Ideal) x (ix2 p q) = (x (ix2 p q) * rstd (fun j => x (ix2 p j)) : EReal) := by
  unfold k0_pay3
  pointwise [pay2_apply]

/-- A block of the normed array's gradient. -/
theorem pay4_apply (x d : Vec Ideal S1024x1024 .f32) (g : Vec Ideal S1x1024 .f32) (p : Fin 1024) (q : Fin 1024) :
    k0_pay4 (F := Ideal) x d g (ix2 p q)
      = knorm (fun j => d (ix2 p j)) (fun j => g (ix2 0 j)) (fun j => x (ix2 p j)) q := by
  unfold k0_pay4 knorm
  pointwise [pay2_apply, pay3_apply]

/-- A block's part of the norm's weight's gradient, added. -/
theorem pay5_apply (x d : Vec Ideal S1024x1024 .f32) (v : Vec Ideal S1x1024 .f32) (z : Fin 1) (q : Fin 1024) :
    k0_pay5 (F := Ideal) x d v (ix2 z q)
      = (v (ix2 z q) + ∑ k : Fin 1024, d (ix2 k q) * (x (ix2 k q) * rstd (fun j => x (ix2 k j))) : EReal) := by
  unfold k0_pay5
  pointwise [pay3_apply]

section Cases

variable {F : FTy → Type} [FloatOps F] (m : (ℓ : Loc nD τ sig) → Buf (Elt F) ℓ)

/-- What the first point leaves: its rows' block, and the norm weight's gradient started from zero. -/
theorem outs_A (c : Dev nD) (t : Fin cfg0.N) (h0 : t.val % 8 = 0) :
    outsAt0 m c t.val t.isLt =
      (k0_pay4 (iblk m c 0 t) (iblk m c 2 t) (iblk m c 1 t), k0_pay5 (iblk m c 0 t) (iblk m c 2 t) k0_pay1) := by
  rw [outsAt0_A m c t h0]
  refine Prod.ext ?_ ?_
  · dsimp only
    frame_out
  · dsimp only
    frame_out

/-- What a later point leaves: its rows' block, and the gradient with the point's rows added. -/
theorem outs_B (c : Dev nD) (t : Fin cfg0.N) (h0 : ¬t.val % 8 = 0) :
    outsAt0 m c t.val t.isLt =
      (k0_pay4 (iblk m c 0 t) (iblk m c 2 t) (iblk m c 1 t),
       k0_pay5 (iblk m c 0 t) (iblk m c 2 t) (outsAt0 m c (t.val - 1) (Nat.lt_of_le_of_lt (Nat.sub_le _ _) t.isLt)).2) := by
  rw [outsAt0_B m c t h0]
  refine Prod.ext ?_ ?_
  · dsimp only
    frame_out
  · dsimp only
    frame_out

end Cases

variable (m : (ℓ : Loc nD τ sig) → Buf (Elt Ideal) ℓ)

/-- The index maps: the row block is the point's for the blocks by rows, and the norm's weight stays where it is. -/
theorem idx_in : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0 :=
  (by decide +kernel : ∀ t : Fin grid0.N, _)

/-- The array row of a point's block row. -/
def row (t : Fin cfg0.N) (p : Fin 1024) : Fin 8192 :=
  ⟨1024 * t.val + p.val, by have := lt_of_lt_of_eq t.isLt N_0; have := p.isLt; omega⟩

/-- A block of operand 0 is the array's there. -/
theorem iblk0 (c : Dev nD) (t : Fin cfg0.N) (p : Fin 1024) (q : Fin 1024) :
    iblk m c 0 t (ix2 p q) = m ((c : Thread nD τ).loc main_arg0) (ix2 (row t p) q) := by
  obtain ⟨h0, h1, -⟩ := idx_in t
  unfold iblk
  rw [View.read_apply]
  show V m c main_arg0 _ = m ((c : Thread nD τ).loc main_arg0) _
  rw [V_main_arg0]
  congr 1
  funext a
  apply Fin.ext
  match a with
  | ⟨0, _⟩ => show win0_0.index t 0 * 1024 + 1 * p.val = 1024 * t.val + p.val; rw [h0]; omega
  | ⟨1, _⟩ => show win0_0.index t 1 * 1024 + 1 * q.val = q.val; rw [h1]; omega

/-- A block of operand 1 is the array's there. -/
theorem iblk1 (c : Dev nD) (t : Fin cfg0.N) (z : Fin 1) (q : Fin 1024) :
    iblk m c 1 t (ix2 z q) = m ((c : Thread nD τ).loc main_arg1) (ix2 z q) := by
  obtain ⟨-, -, h0, h1, -⟩ := idx_in t
  unfold iblk
  rw [View.read_apply]
  show V m c main_arg1 _ = m ((c : Thread nD τ).loc main_arg1) _
  rw [V_main_arg1]
  congr 1
  funext a
  apply Fin.ext
  match a with
  | ⟨0, _⟩ => show win0_1.index t 0 * 1 + 1 * z.val = z.val; rw [h0]; omega
  | ⟨1, _⟩ => show win0_1.index t 1 * 1024 + 1 * q.val = q.val; rw [h1]; omega

/-- A block of operand 2 is the array's there. -/
theorem iblk2 (c : Dev nD) (t : Fin cfg0.N) (p : Fin 1024) (q : Fin 1024) :
    iblk m c 2 t (ix2 p q) = m ((c : Thread nD τ).loc main_arg2) (ix2 (row t p) q) := by
  obtain ⟨-, -, -, -, h0, h1, -⟩ := idx_in t
  unfold iblk
  rw [View.read_apply]
  show V m c main_arg2 _ = m ((c : Thread nD τ).loc main_arg2) _
  rw [V_main_arg2]
  congr 1
  funext a
  apply Fin.ext
  match a with
  | ⟨0, _⟩ => show win0_2.index t 0 * 1024 + 1 * p.val = 1024 * t.val + p.val; rw [h0]; omega
  | ⟨1, _⟩ => show win0_2.index t 1 * 1024 + 1 * q.val = q.val; rw [h1]; omega

open Cert.PostRefIdeal.Read Cert.PostRefIdeal.Val

/-- What a point leaves in the rows' block is the reference's first result there. -/
theorem out_dy (c : Dev nD) (t : Fin cfg0.N) (p : Fin 1024) (q : Fin 1024) :
    (outsAt0 m c t.val t.isLt).1 (ix2 p q)
      = val_main_v34 (F := Ideal) (m ((c : Thread nD τ).loc main_arg0)) (m ((c : Thread nD τ).loc main_arg1))
          (m ((c : Thread nD τ).loc main_arg2)) (ix2 (row t p) q) := by
  have h : (outsAt0 m c t.val t.isLt).1 = k0_pay4 (iblk m c 0 t) (iblk m c 2 t) (iblk m c 1 t) := by
    by_cases h0 : t.val % 8 = 0
    · rw [outs_A m c t h0]
    · rw [outs_B m c t h0]
  rw [h, pay4_apply, v34_apply]
  unfold knorm spread
  simp only [iblk0, iblk1, iblk2]
  refine (zero_add (_ : EReal)).symm.trans ((Cert.NormAlg.grad_eq _ _ 0 _ _).trans ?_)
  rw [zero_add]

/-- One row's part of the norm weight's gradient; zero past the array. -/
def term (x d : S8192x1024.Idx → EReal) (q : Fin 1024) (k : ℕ) : EReal :=
  if h : k < 8192 then x (ix2 ⟨k, h⟩ q) * Ideal.rsqrt (Cert.NormAlg.ms fun j => x (ix2 ⟨k, h⟩ j)) * d (ix2 ⟨k, h⟩ q) else 0

/-- The parts at the arrays the kernel is launched on. -/
abbrev termAt (c : Dev nD) (q : Fin 1024) (k : ℕ) : EReal :=
  term (m ((c : Thread nD τ).loc main_arg0)) (m ((c : Thread nD τ).loc main_arg2)) q k

/-- What a point adds to the norm weight's gradient is its rows' parts. -/
theorem pay5_block (c : Dev nD) (t : Fin cfg0.N) (v : Vec Ideal S1x1024 .f32) (z : Fin 1) (q : Fin 1024) :
    k0_pay5 (F := Ideal) (iblk m c 0 t) (iblk m c 2 t) v (ix2 z q)
      = (v (ix2 z q) + ∑ k : Fin 1024, termAt m c q (1024 * t.val + k.val) : EReal) := by
  have ht : t.val < 8 := lt_of_lt_of_eq t.isLt N_0
  rw [pay5_apply]
  congr 1
  refine Finset.sum_congr rfl fun k _ => ?_
  rw [termAt, term, dif_pos (by have := k.isLt; omega)]
  simp only [iblk0, iblk2]
  exact mul_comm _ _

/-- After point `n` the norm weight's gradient holds the parts of the rows up to its block's end. -/
theorem acc_eq (c : Dev nD) : ∀ (n : ℕ) (hn : n < cfg0.N) (z : Fin 1) (q : Fin 1024),
    (outsAt0 m c n hn).2 (ix2 z q) = (∑ k ∈ Finset.range (1024 * (n + 1)), termAt m c q k : EReal)
  | 0, hn, z, q => by
    rw [outs_A m c ⟨0, hn⟩ rfl]
    dsimp only
    rw [pay5_block, pay1_apply, sum_block]
    simp only [Nat.mul_zero, Finset.range_zero, Finset.sum_empty]
  | n + 1, hn, z, q => by
    have hN : n + 1 < 8 := lt_of_lt_of_eq hn N_0
    rw [outs_B m c ⟨n + 1, hn⟩ (by dsimp only; omega)]
    dsimp only
    rw [pay5_block, sum_block]
    show (outsAt0 m c n _).2 (ix2 z q) + _ = _
    rw [acc_eq c n (Nat.lt_of_succ_lt hn) z q]

/-- The first result array is the reference's. -/
theorem res_dy (c : Dev nD) : (dats m 0 c).arrAt 3 cfg0.N
      = val_main_v34 (F := Ideal) (m ((c : Thread nD τ).loc main_arg0)) (m ((c : Thread nD τ).loc main_arg1))
          (m ((c : Thread nD τ).loc main_arg2)) := by
  refine (dats m 0 c).arrAt_eq_of_covers 3 _ (by decide +kernel) fun t hf y => ?_
  obtain ⟨-, -, -, -, -, -, h0, h1, -⟩ := idx_in t
  blk_simp
  rw [after0_3]
  have e : (win0_3.blk t).view.emb y = ix2 (row t (y 0)) (y 1) := by
    funext a
    apply Fin.ext
    match a with
    | ⟨0, _⟩ => show win0_3.index t 0 * 1024 + 1 * (y 0).val = 1024 * t.val + (y 0).val; rw [h0]; omega
    | ⟨1, _⟩ => show win0_3.index t 1 * 1024 + 1 * (y 1).val = (y 1).val; rw [h1]; omega
  have hy : y = ix2 (y 0) (y 1) := by
    funext a
    match a with
    | ⟨0, _⟩ => rfl
    | ⟨1, _⟩ => rfl
  rw [e]
  exact (congrArg _ hy).trans (out_dy m c t (y 0) (y 1))

/-- The second result array is the reference's. -/
theorem res_dg (c : Dev nD) : (dats m 0 c).arrAt 4 cfg0.N
      = val_main_v17 (F := Ideal) (m ((c : Thread nD τ).loc main_arg0)) (m ((c : Thread nD τ).loc main_arg2)) := by
  refine (dats m 0 c).arrAt_eq_of_covers 4 _ (by decide +kernel) fun t hf y => ?_
  obtain ⟨-, -, -, -, -, -, -, -, h0, h1⟩ := idx_in t
  have ht : t.val = 7 := by
    have := (flush0_4 t).mp hf
    have := lt_of_lt_of_eq t.isLt N_0
    omega
  blk_simp
  rw [after0_4]
  have e : (win0_4.blk t).view.emb y = ix2 (y 0) (y 1) := by
    funext a
    apply Fin.ext
    match a with
    | ⟨0, _⟩ => show win0_4.index t 0 * 1 + 1 * (y 0).val = (y 0).val; rw [h0]; omega
    | ⟨1, _⟩ => show win0_4.index t 1 * 1024 + 1 * (y 1).val = (y 1).val; rw [h1]; omega
  have hy : y = ix2 (y 0) (y 1) := by
    funext a
    match a with
    | ⟨0, _⟩ => rfl
    | ⟨1, _⟩ => rfl
  rw [e]
  refine (congrArg _ hy).trans ((acc_eq m c t.val t.isLt (y 0) (y 1)).trans ?_)
  refine Eq.trans ?_ (v17_apply _ _ (y 0) (y 1)).symm
  rw [ht, Finset.sum_range]
  exact Finset.sum_congr rfl fun k _ => dif_pos k.isLt

end Cert.PostIdeal.Val
-- ==== Proof.UpFwdFrame.lean ====
module

public import proofs.«01_k».proof.Proof.Common
public import proofs.«01_k».proof.Proof.Gen.UpFwdIdeal.Skeleton
public import proofs.«01_k».proof.Proof.Gen.UpFwdIdeal.Launch
public import proofs.«01_k».proof.Proof.Gen.UpFwdIdeal.Points
public import Idealize.ShloMosaic.Lib.Pipeline.ValueKit
public import Idealize.ShloMosaic.Lib.Pipeline.FrameBody
public import Idealize.ShloMosaic.Lib.Pipeline.Frame
public import Idealize.ShloMosaic.Lib.Tactic
public import Idealize.ShloMosaic.Lib.WordCmp
public import Idealize.ShloMosaic.Lib.Claim

@[expose] public section

set_option maxRecDepth 16384

noncomputable section

namespace Cert.UpFwdIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.UpFwdIdeal Cert.UpFwdIdeal.Gen Cert.Common

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch finds in an array. -/
abbrev V (c : Dev nD) (b : Ref sig .tc) : Buf (Elt F) ((c : Thread nD τ).loc b) := m ((c : Thread nD τ).loc b)

/-- The program is the one launch. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- The block of a window at a point, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The rows' block normed: what the body leaves in the first result's buffer. -/
def normed (c : Dev nD) (t : Fin cfg0.N) : Vec F S1024x1024 .bf16 := k0_pay1 (iblk m c 0 t) (iblk m c 1 t)

/-- The product of it with the weight's block: what the body leaves in the second result's buffer. -/
def product (c : Dev nD) (t : Fin cfg0.N) : Vec F S1024x1408 .bf16 := k0_pay2 (normed m c t) (iblk m c 2 t)

/-- The first column block is the one whose body norms the rows. -/
theorem first_iff : ∀ t : Fin cfg0.N, k0_cond1 (grid0.coords t) = 1#1 ↔ t.val % 4 = 0 :=
  (by decide +kernel : ∀ t : Fin grid0.N, k0_cond1 (grid0.coords t) = 1#1 ↔ t.val % 4 = 0)

/-- The blocks a point reads and writes: its group's rows, all of the norm's weight, its column block of the weight. -/
theorem idx_in : ∀ t : Fin cfg0.N, win0_0.index t (0 : Fin 2) = t.val / 4 ∧ win0_0.index t (1 : Fin 2) = 0
    ∧ win0_1.index t (0 : Fin 2) = 0 ∧ win0_1.index t (1 : Fin 2) = 0
    ∧ win0_2.index t (0 : Fin 2) = t.val % 4 ∧ win0_2.index t (1 : Fin 2) = 0
    ∧ win0_3.index t (0 : Fin 2) = t.val / 4 ∧ win0_3.index t (1 : Fin 2) = 0
    ∧ win0_4.index t (0 : Fin 2) = t.val / 4 ∧ win0_4.index t (1 : Fin 2) = t.val % 4 :=
  (by decide +kernel : ∀ t : Fin grid0.N, _)

section Body

variable (c : Dev nD) (i : grid0.Coords)
  (arg2 : Memref sig .tc .vmem S1024x1024 .f32) (harg2 : arg2.IsWhole) (arg3 : Memref sig .tc .vmem S1x1024 .f32) (harg3 : arg3.IsWhole)
  (arg4 : Memref sig .tc .vmem S1408x1024 .bf16) (harg4 : arg4.IsWhole) (arg5 : Memref sig .tc .vmem S1024x1024 .bf16) (harg5 : arg5.IsWhole)
  (arg6 : Memref sig .tc .vmem S1024x1408 .bf16) (harg6 : arg6.IsWhole)
  (x : Vec F S1024x1024 .f32) (g : Vec F S1x1024 .f32) (w : Vec F S1408x1024 .bf16) (h : Vec F S1024x1024 .bf16)

set_option maxHeartbeats 1000000 in
/-- The body at the first column block: it norms the rows, and multiplies them. -/
theorem run_first (h0 : k0_cond1 i = 1#1) (E : Set ℕ) (K : PUnit → sProp 𝕄) :
    iprop(owns (c : Thread nD τ) arg2 fullShare x ∗ owns (c : Thread nD τ) arg3 fullShare g ∗ owns (c : Thread nD τ) arg4 fullShare w
        ∗ (∃ d, owns (c : Thread nD τ) arg5 fullShare d) ∗ (∃ d, owns (c : Thread nD τ) arg6 fullShare d)
        ∗ (iprop(owns (c : Thread nD τ) arg2 fullShare x ∗ owns (c : Thread nD τ) arg3 fullShare g ∗ owns (c : Thread nD τ) arg4 fullShare w
            ∗ owns (c : Thread nD τ) arg5 fullShare (k0_pay1 x g) ∗ owns (c : Thread nD τ) arg6 fullShare (k0_pay2 (k0_pay1 x g) w)) -∗ K ⟨⟩))
      ⊢ wp frame (wpE (defs₀ (F := F)) Variants.none c none) E (cc0_ffn_up i arg2 harg2 arg3 harg3 arg4 harg4 arg5 harg5 arg6 harg6) K := by
  simp only [cc0_ffn_up_eq_skeleton]
  unfold cc0_ffn_up_skel owns
  iintro ⟨⟨%f2, %hf2, H2⟩, ⟨%f3, %hf3, H3⟩, ⟨%f4, %hf4, H4⟩, ⟨%d5, %f5, -, H5⟩, ⟨%d6, %f6, -, H6⟩, Hk⟩
  subst hf2 hf3 hf4
  sl_exec (disch := first | sl_exact h0)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (View.cover_of_tiled _ S1024x1024.size (by rfl))]
    frame_out
  iexists _; isplitr
  swap; · iexact H6
  ipureintro
  rw [View.read_writes_eq_canon _ _ _ (View.cover_of_tiled _ S1024x1408.size (by rfl))]
  frame_out

set_option maxHeartbeats 1000000 in
/-- The body at a later column block: it multiplies the rows normed before. -/
theorem run_next (h0 : ¬k0_cond1 i = 1#1) (E : Set ℕ) (K : PUnit → sProp 𝕄) :
    iprop(owns (c : Thread nD τ) arg2 fullShare x ∗ owns (c : Thread nD τ) arg3 fullShare g ∗ owns (c : Thread nD τ) arg4 fullShare w
        ∗ owns (c : Thread nD τ) arg5 fullShare h ∗ (∃ d, owns (c : Thread nD τ) arg6 fullShare d)
        ∗ (iprop(owns (c : Thread nD τ) arg2 fullShare x ∗ owns (c : Thread nD τ) arg3 fullShare g ∗ owns (c : Thread nD τ) arg4 fullShare w
            ∗ owns (c : Thread nD τ) arg5 fullShare h ∗ owns (c : Thread nD τ) arg6 fullShare (k0_pay2 h w)) -∗ K ⟨⟩))
      ⊢ wp frame (wpE (defs₀ (F := F)) Variants.none c none) E (cc0_ffn_up i arg2 harg2 arg3 harg3 arg4 harg4 arg5 harg5 arg6 harg6) K := by
  simp only [cc0_ffn_up_eq_skeleton]
  unfold cc0_ffn_up_skel owns
  iintro ⟨⟨%f2, %hf2, H2⟩, ⟨%f3, %hf3, H3⟩, ⟨%f4, %hf4, H4⟩, ⟨%f5, %hf5, H5⟩, ⟨%d6, %f6, -, H6⟩, Hk⟩
  subst hf2 hf3 hf4 hf5
  sl_exec (disch := first | sl_exact h0)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  rw [View.read_writes_eq_canon _ _ _ (View.cover_of_tiled _ S1024x1408.size (by rfl))]
  frame_out

end Body

/-- The data of the pipeline: what each window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => normed m c t
    | ⟨4, _⟩ => product m c t
  Φ _ := Pipeline.ΦA spec0 c
  q _ := fullShare
  owed _ := 0

/-- The pipeline finds every array as launched. -/
theorem A_eq (c : Dev nD) (w : Fin cfg0.W) : (dats m 0 c).A w = V m c (Pipeline.arrRef spec0 w) := by
  dsimp only [dats]

/-- What the rows' buffer holds after a point. -/
theorem after0 (c : Dev nD) (t : Fin cfg0.N) : (dats m 0 c).after 0 t = iblk m c 0 t := by dsimp only [dats]
/-- What the norm's weight's buffer holds after a point. -/
theorem after1 (c : Dev nD) (t : Fin cfg0.N) : (dats m 0 c).after 1 t = iblk m c 1 t := by dsimp only [dats]
/-- What the weight's buffer holds after a point. -/
theorem after2 (c : Dev nD) (t : Fin cfg0.N) : (dats m 0 c).after 2 t = iblk m c 2 t := by dsimp only [dats]
/-- What the first result's buffer holds after a point. -/
theorem after3 (c : Dev nD) (t : Fin cfg0.N) : (dats m 0 c).after 3 t = normed m c t := by dsimp only [dats]
/-- What the second result's buffer holds after a point. -/
theorem after4 (c : Dev nD) (t : Fin cfg0.N) : (dats m 0 c).after 4 t = product m c t := by dsimp only [dats]

/-- What the rows' buffer holds before a point: their block. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
/-- What the norm's weight's buffer holds before a point: its block. -/
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
/-- What the weight's buffer holds before a point: its block. -/
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)

/-- The rows' block is the same at two points of one group. -/
theorem iblk0_congr (c : Dev nD) (s t : Fin cfg0.N) (h : s.val / 4 = t.val / 4) :
    (iblk m c 0 s : Vec F S1024x1024 .f32) = iblk m c 0 t := by
  funext y
  unfold iblk
  rw [View.read_apply, View.read_apply]
  refine congrArg (V m c (Pipeline.arrRef spec0 0)) ?_
  funext a
  apply Fin.ext
  match a with
  | ⟨0, _⟩ => show win0_0.index s 0 * 1024 + 1 * (y 0).val = win0_0.index t 0 * 1024 + 1 * (y 0).val
              rw [(idx_in s).1, (idx_in t).1, h]
  | ⟨1, _⟩ => show win0_0.index s 1 * 1024 + 1 * (y 1).val = win0_0.index t 1 * 1024 + 1 * (y 1).val
              rw [(idx_in s).2.1, (idx_in t).2.1]

/-- The norm's weight's block is the same at every point. -/
theorem iblk1_congr (c : Dev nD) (s t : Fin cfg0.N) : (iblk m c 1 s : Vec F S1x1024 .f32) = iblk m c 1 t := by
  funext y
  unfold iblk
  rw [View.read_apply, View.read_apply]
  congr 1

/-- So is the normed block at two points of one group. -/
theorem normed_congr (c : Dev nD) (s t : Fin cfg0.N) (h : s.val / 4 = t.val / 4) : normed m c s = normed m c t := by
  unfold normed
  rw [iblk0_congr m c s t h, iblk1_congr m c s t]

/-- The first result is stored at a group's first point only. -/
theorem idle_iff (t : Fin cfg0.N) : cfg0.idle 3 (cfg0.grid.coords t) = true ↔ ¬t.val % 4 = 0 := by
  rw [← first_iff t]
  show (!(k0_cond1 (grid0.coords t) == 1#1)) = true ↔ _
  simp

/-- At a group's later points the first result's buffer holds the block its first point stored. -/
theorem before3 (c : Dev nD) : ∀ (n : ℕ) (hn : n < cfg0.N) (h : ¬n % 4 = 0) (d), (dats m 0 c).before 3 ⟨n, hn⟩ d = normed m c ⟨n, hn⟩
  | 0, hn, h, d => absurd (Nat.zero_mod _) h
  | n + 1, hn, h, d => by
    have hl : n < cfg0.N := Nat.lt_of_succ_lt hn
    have hf : (cfg0.win 3).flush ⟨n, hl⟩ = false := Bool.eq_false_iff.mpr fun e => by
      have := (flush0_3 _).mp e
      dsimp only at this
      omega
    refine ((dats m 0 c).before_of_pos 3 ⟨n + 1, hn⟩ (Nat.succ_ne_zero n) ((cfg0.win 3).fetch_out rfl _) d).trans ?_
    refine (if_neg (by
      show ¬(cfg0.win 3).flush ⟨n, hl⟩ = true
      rw [hf]; exact Bool.false_ne_true)).trans ?_
    refine Eq.trans ?_ (normed_congr m c ⟨n, hl⟩ ⟨n + 1, hn⟩ (by dsimp only; omega))
    show (dats m 0 c).left 3 ⟨n, hl⟩ d = _
    unfold Dat.left
    by_cases h0 : n % 4 = 0
    · rw [Bool.eq_false_iff.mpr (fun e => (idle_iff ⟨n, hl⟩).mp e h0)]
      show (dats m 0 c).kept 3 ⟨n, hl⟩ d = _
      unfold Dat.kept
      rw [Pipeline.fill_of_clip_none 3 _ (fun _ => rfl) d ((dats m 0 c).after 3 _), Window.fill_cut, after3]
    · rw [(idle_iff ⟨n, hl⟩).mpr h0]
      exact before3 c n hl h0 d

/-- What the body leaves in the first result's buffer, however the point is counted. -/
theorem leaves3 (c : Dev nD) (t : Fin cfg0.N) :
    owns (c : Thread nD τ) (st0_3 t) fullShare (normed m c t) ⊢ ((dats m 0 c).leavesExact 3 t : sProp 𝕄) := by
  by_cases h0 : t.val % 4 = 0
  · unfold Dat.leavesExact
    rw [Bool.eq_false_iff.mpr (fun e => (idle_iff t).mp e h0)]
    dsimp only
    rw [after3]
  · cases hf : (cfg0.win 3).flush t
    · rw [(dats m 0 c).leavesExact_idle 3 t ((idle_iff t).mpr h0) hf]
      simp only [before3 m c t.val t.isLt h0]
      iintro H
      iexists normed m c t
      iexact H
    · unfold Dat.leavesExact
      rw [(idle_iff t).mpr h0, hf]
      dsimp only
      rw [after3]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t
    ∗ owns (c : Thread nD τ) (st0_4 t) fullShare ((dats m 0 c).after 4 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl, after0, after1, after2, after4]
  by_cases h0 : t.val % 4 = 0
  · iintro ⟨HΦ, Ho, ⟨%d0, H0⟩, ⟨%d1, H1⟩, ⟨%d2, H2⟩, ⟨%d3, H3⟩, ⟨%d4, H4⟩⟩
    iapply (run_first c (grid0.coords t) _ _ _ _ _ _ _ _ _ _ (iblk m c 0 t) (iblk m c 1 t) (iblk m c 2 t) ((first_iff t).mpr h0) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]
    · iapply (leaves3 m c t)
      iexact H3
    iexact H4
  · simp only [before3 m c t.val t.isLt h0]
    iintro ⟨HΦ, Ho, ⟨%d0, H0⟩, ⟨%d1, H1⟩, ⟨%d2, H2⟩, ⟨%d3, H3⟩, ⟨%d4, H4⟩⟩
    iapply (run_next c (grid0.coords t) _ _ _ _ _ _ _ _ _ _ (iblk m c 0 t) (iblk m c 1 t) (iblk m c 2 t) (normed m c t)
      (fun e => h0 ((first_iff t).mp e)) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]
    · iapply (leaves3 m c t)
      iexact H3
    iexact H4

/-- The body table's row at point `t` is the body. -/
theorem row (t : Fin cfg0.N) : defs₀ (F := F) .tc cfg0.body (cfg0.bodyArgs t (cfg0.slots t)) = bodyAt0 t := by
  unfold defs₀; rw [Defs.onTc_tc]

/-- The body's obligation at every point. -/
theorem obligation (c : Dev nD) : BodyObligation (dats (F := F) m 0 c) (defs₀ (F := F)) Variants.none () Set.univ := fun t => by
  rw [bigSep_W0, bigSep_W0, row]
  exact triple_restated (sound_body m c t) rfl .rfl fun _ => .rfl

set_option backward.isDefEq.respectTransparency.types false in
set_option maxHeartbeats 800000 in
/-- Every execution ends, with the arrays at what the data say and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- What every execution ends with: the counters at zero, the two results at what the data say, the operands unchanged. -/
theorem run_any : θ_run defs (onTc (τ := τ) (main (F := F))) ⟨m, fun _ => 0, ρ⟩ (fun r => (∀ c : Dev nD,
      r.2.mem ((c.tc : Thread nD τ).loc main_v0_0) = (dats m 0 c).arrAt 3 cfg0.N
      ∧ r.2.mem ((c.tc : Thread nD τ).loc main_v0_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c).1 3, (h.1 c).1 4,
    ((h.1 c).1 0).trans (((dats m 0 c).arrAt_in 0 rfl _).trans (A_eq m c 0)),
    ((h.1 c).1 1).trans (((dats m 0 c).arrAt_in 1 rfl _).trans (A_eq m c 1)),
    ((h.1 c).1 2).trans (((dats m 0 c).arrAt_in 2 rfl _).trans (A_eq m c 2))⟩, h.2⟩) (run_quiescent m ρ)

/-- The frame at any values: the operands end unchanged and the counters at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2.2, h.2⟩) (run_any m ρ)

end Cert.UpFwdIdeal.Run
-- ==== Proof.UpFwdVal.lean ====
module

public import proofs.«01_k».proof.Proof.UpFwdFrame
public import proofs.«01_k».proof.Proof.NormAlg
public import proofs.«01_k».proof.Proof.Gen.UpFwdRefIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.UpFwdIdeal.Val

open Cert.UpFwdIdeal Cert.UpFwdIdeal.Gen Cert.UpFwdIdeal.Run Cert.Common

/-- A row normed and weighted, at one entry. -/
def weighted (x : Fin 1024 → EReal) (g : EReal) (q : Fin 1024) : EReal := x q * Ideal.rsqrt (Cert.NormAlg.ms x) * g

/-- An entry of a point's normed block. -/
theorem pay1_apply (x : Vec Ideal S1024x1024 .f32) (g : Vec Ideal S1x1024 .f32) (p q : Fin 1024) :
    k0_pay1 (F := Ideal) x g (ix2 p q) = weighted (fun j => x (ix2 p j)) (g (ix2 0 q)) q := by
  unfold k0_pay1 weighted Cert.NormAlg.ms
  pointwise

/-- An entry of a point's product: a normed row against a row of the weight. -/
theorem pay2_apply (h : Vec Ideal S1024x1024 .bf16) (w : Vec Ideal S1408x1024 .bf16) (p : Fin 1024) (q : Fin 1408) :
    k0_pay2 (F := Ideal) h w (ix2 p q) = (∑ k : Fin 1024, h (ix2 p k) * w (ix2 q k) : EReal) := by
  unfold k0_pay2
  pointwise

variable (m : (ℓ : Loc nD τ sig) → Buf (Elt Ideal) ℓ)

/-- A point's row of the arrays. -/
def line (t : Fin cfg0.N) (p : Fin 1024) : Fin 8192 :=
  ⟨1024 * (t.val / 4) + p.val, by have := p.isLt; have : t.val < 32 := lt_of_lt_of_eq t.isLt N_0; omega⟩

/-- A point's row of the weight, which is its column of the product. -/
def lane (t : Fin cfg0.N) (q : Fin 1408) : Fin 5632 := ⟨1408 * (t.val % 4) + q.val, by have := q.isLt; omega⟩

/-- The rows' block at a point, read off the array. -/
theorem iblk0 (c : Dev nD) (t : Fin cfg0.N) (p q : Fin 1024) :
    iblk m c 0 t (ix2 p q) = m ((c : Thread nD τ).loc main_arg0) (ix2 (line t p) q) := by
  obtain ⟨h0, h1, -⟩ := idx_in t
  unfold iblk
  rw [View.read_apply]
  show m ((c : Thread nD τ).loc main_arg0) _ = m ((c : Thread nD τ).loc main_arg0) _
  congr 1
  funext a
  apply Fin.ext
  match a with
  | ⟨0, _⟩ => show win0_0.index t 0 * 1024 + 1 * p.val = 1024 * (t.val / 4) + p.val; rw [h0]; omega
  | ⟨1, _⟩ => show win0_0.index t 1 * 1024 + 1 * q.val = q.val; rw [h1]; omega

/-- The norm's weight's block at a point is the whole of it. -/
theorem iblk1 (c : Dev nD) (t : Fin cfg0.N) (z : Fin 1) (q : Fin 1024) :
    iblk m c 1 t (ix2 z q) = m ((c : Thread nD τ).loc main_arg1) (ix2 z q) := by
  obtain ⟨-, -, h0, h1, -⟩ := idx_in t
  unfold iblk
  rw [View.read_apply]
  show m ((c : Thread nD τ).loc main_arg1) _ = m ((c : Thread nD τ).loc main_arg1) _
  congr 1
  funext a
  apply Fin.ext
  match a with
  | ⟨0, _⟩ => show win0_1.index t 0 * 1 + 1 * z.val = z.val; rw [h0]; omega
  | ⟨1, _⟩ => show win0_1.index t 1 * 1024 + 1 * q.val = q.val; rw [h1]; omega

/-- The weight's block at a point, read off the array. -/
theorem iblk2 (c : Dev nD) (t : Fin cfg0.N) (q : Fin 1408) (k : Fin 1024) :
    iblk m c 2 t (ix2 q k) = m ((c : Thread nD τ).loc main_arg2) (ix2 (lane t q) k) := by
  obtain ⟨-, -, -, -, h0, h1, -⟩ := idx_in t
  unfold iblk
  rw [View.read_apply]
  show m ((c : Thread nD τ).loc main_arg2) _ = m ((c : Thread nD τ).loc main_arg2) _
  congr 1
  funext a
  apply Fin.ext
  match a with
  | ⟨0, _⟩ => show win0_2.index t 0 * 1408 + 1 * q.val = 1408 * (t.val % 4) + q.val; rw [h0]; omega
  | ⟨1, _⟩ => show win0_2.index t 1 * 1024 + 1 * k.val = k.val; rw [h1]; omega

section Reference

open Cert.UpFwdRefIdeal Cert.UpFwdRefIdeal.Gen Cert.UpFwdRefIdeal.Read

variable (x : Vec Ideal S8192x1024 .f32) (g : Vec Ideal S1x1024 .f32) (w : Vec Ideal S5632x1024 .bf16)

/-- The reciprocal root mean square of a row. -/
theorem v7_apply (r : Fin 8192) (z : Fin 1) : val_main_v7 (F := Ideal) x (ix2 r z)
    = Ideal.rsqrt (Cert.NormAlg.ms fun j => x (ix2 r j)) := by
  unfold val_main_v7 val_main_v6 val_main_v5 val_main_v4 val_main_v3 val_main_v2 val_main_v1 val_main_v0 val_main_cst val_main_cst_0
    val_main_cst_1 Cert.NormAlg.ms
  pointwise

/-- The reference's first result at an entry: the row normed. -/
theorem v12_apply (r : Fin 8192) (q : Fin 1024) : val_main_v12 (F := Ideal) x g (ix2 r q)
    = weighted (fun j => x (ix2 r j)) (g (ix2 0 q)) q := by
  unfold val_main_v12 val_main_v11 val_main_v10 val_main_v9 val_main_v8 weighted
  pointwise [v7_apply]

/-- The reference's second result at an entry: the normed row against a row of the weight. -/
theorem v17_apply (r : Fin 8192) (q : Fin 5632) : val_main_v17 (F := Ideal) x g w (ix2 r q)
    = (∑ k : Fin 1024, val_main_v12 (F := Ideal) x g (ix2 r k) * w (ix2 q k) : EReal) := by
  unfold val_main_v17 val_main_v16 val_main_v15 val_main_v14 val_main_v13
  pointwise

end Reference

open Cert.UpFwdRefIdeal.Read

/-- A point's normed block is the reference's on its rows. -/
theorem normed_block (c : Dev nD) (t : Fin cfg0.N) (p q : Fin 1024) : normed m c t (ix2 p q)
      = val_main_v12 (F := Ideal) (m ((c : Thread nD τ).loc main_arg0)) (m ((c : Thread nD τ).loc main_arg1)) (ix2 (line t p) q) := by
  unfold normed
  rw [pay1_apply, v12_apply]
  simp only [iblk0, iblk1]

/-- A point's product is the reference's on its rows and columns. -/
theorem product_block (c : Dev nD) (t : Fin cfg0.N) (p : Fin 1024) (q : Fin 1408) : product m c t (ix2 p q)
      = val_main_v17 (F := Ideal) (m ((c : Thread nD τ).loc main_arg0)) (m ((c : Thread nD τ).loc main_arg1))
          (m ((c : Thread nD τ).loc main_arg2)) (ix2 (line t p) (lane t q)) := by
  unfold product
  rw [pay2_apply, v17_apply]
  simp only [normed_block, iblk2]

/-- The first result array is the reference's. -/
theorem res_h (c : Dev nD) : (dats m 0 c).arrAt 3 cfg0.N
      = val_main_v12 (F := Ideal) (m ((c : Thread nD τ).loc main_arg0)) (m ((c : Thread nD τ).loc main_arg1)) := by
  refine (dats m 0 c).arrAt_eq_of_covers 3 _ (by decide +kernel) fun t hf y => ?_
  obtain ⟨-, -, -, -, -, -, h0, h1, -⟩ := idx_in t
  blk_simp
  rw [after3]
  have e : (win0_3.blk t).view.emb y = ix2 (line t (y 0)) (y 1) := by
    funext a
    apply Fin.ext
    match a with
    | ⟨0, _⟩ => show win0_3.index t 0 * 1024 + 1 * (y 0).val = 1024 * (t.val / 4) + (y 0).val; rw [h0]; omega
    | ⟨1, _⟩ => show win0_3.index t 1 * 1024 + 1 * (y 1).val = (y 1).val; rw [h1]; omega
  have hy : y = ix2 (y 0) (y 1) := by
    funext a
    match a with
    | ⟨0, _⟩ => rfl
    | ⟨1, _⟩ => rfl
  rw [e]
  exact (congrArg _ hy).trans (normed_block m c t (y 0) (y 1))

/-- The second result array is the reference's. -/
theorem res_z (c : Dev nD) : (dats m 0 c).arrAt 4 cfg0.N
      = val_main_v17 (F := Ideal) (m ((c : Thread nD τ).loc main_arg0)) (m ((c : Thread nD τ).loc main_arg1))
          (m ((c : Thread nD τ).loc main_arg2)) := by
  refine (dats m 0 c).arrAt_eq_of_covers 4 _ (by decide +kernel) fun t hf y => ?_
  obtain ⟨-, -, -, -, -, -, -, -, h0, h1⟩ := idx_in t
  blk_simp
  rw [after4]
  have e : (win0_4.blk t).view.emb y = ix2 (line t (y 0)) (lane t (y 1)) := by
    funext a
    apply Fin.ext
    match a with
    | ⟨0, _⟩ => show win0_4.index t 0 * 1024 + 1 * (y 0).val = 1024 * (t.val / 4) + (y 0).val; rw [h0]; omega
    | ⟨1, _⟩ => show win0_4.index t 1 * 1408 + 1 * (y 1).val = 1408 * (t.val % 4) + (y 1).val; rw [h1]; omega
  have hy : y = ix2 (y 0) (y 1) := by
    funext a
    match a with
    | ⟨0, _⟩ => rfl
    | ⟨1, _⟩ => rfl
  rw [e]
  exact (congrArg _ hy).trans (product_block m c t (y 0) (y 1))

end Cert.UpFwdIdeal.Val
-- ==== Proof.DownFwdVal.lean ====
module

public import proofs.«01_k».proof.Proof.Common
public import proofs.«01_k».proof.Proof.NormAlg
public import proofs.«01_k».proof.Proof.Gen.DownFwdIdeal.Value
public import proofs.«01_k».proof.Proof.Gen.DownFwdRefIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DownFwdIdeal.Val

open Cert.DownFwdIdeal Cert.DownFwdIdeal.Gen Cert.Common

/-- A row normed and weighted, added to the residual, at one entry. -/
def resnorm (x : EReal) (y : Fin 1024 → EReal) (g : EReal) (q : Fin 1024) : EReal :=
  x + y q * Ideal.rsqrt (Cert.NormAlg.ms y) * g

/-- An entry of a point's product: a row of the activations against a column of the weight. -/
theorem pay1_apply (a : Vec Ideal S512x2816 .bf16) (w : Vec Ideal S2816x1024 .bf16) (p : Fin 512) (q : Fin 1024) :
    k0_pay1 (F := Ideal) a w (ix2 p q) = (∑ k : Fin 2816, a (ix2 p k) * w (ix2 k q) : EReal) := by
  unfold k0_pay1
  pointwise

/-- An entry of a point's second block: the product's row normed, added to the residual. -/
theorem pay2_apply (a : Vec Ideal S512x2816 .bf16) (w : Vec Ideal S2816x1024 .bf16) (x : Vec Ideal S512x1024 .f32)
    (g : Vec Ideal S1x1024 .f32) (p : Fin 512) (q : Fin 1024) :
    k0_pay2 (F := Ideal) a w x g (ix2 p q)
      = resnorm (x (ix2 p q)) (fun j => k0_pay1 (F := Ideal) a w (ix2 p j)) (g (ix2 0 q)) q := by
  unfold k0_pay2 resnorm Cert.NormAlg.ms
  pointwise

/-- The first block a point stores. -/
theorem out4_eq (a : Vec Ideal S512x2816 .bf16) (w : Vec Ideal S2816x1024 .bf16) (x : Vec Ideal S512x1024 .f32)
    (g : Vec Ideal S1x1024 .f32) : out0_4 (F := Ideal) a w x g = k0_pay1 (F := Ideal) a w := by
  unfold out0_4
  rw [View.canon_unit_zero (S := S512x1024) hz2, View.ld_unit_zero (S := S512x2816) hz2, View.ld_unit_zero (S := S2816x1024) hz2]

/-- The second block a point stores. -/
theorem out5_eq (a : Vec Ideal S512x2816 .bf16) (w : Vec Ideal S2816x1024 .bf16) (x : Vec Ideal S512x1024 .f32)
    (g : Vec Ideal S1x1024 .f32) : out0_5 (F := Ideal) a w x g = k0_pay2 (F := Ideal) a w x g := by
  unfold out0_5
  rw [View.canon_unit_zero (S := S512x1024) hz2, View.ld_unit_zero (S := S512x2816) hz2, View.ld_unit_zero (S := S2816x1024) hz2,
    View.ld_unit_zero (S := S512x1024) hz2, View.ld_unit_zero (S := S1x1024) hz2]

variable (m : (ℓ : Loc nD τ sig) → Buf (Elt Ideal) ℓ)

/-- The blocks a point reads and writes: its own rows of the activations, the residual and the results, the whole weight
    and the norm's weight. -/
theorem idx_in : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- A point's row of the arrays. -/
def row (t : Fin cfg0.N) (p : Fin 512) : Fin 8192 :=
  ⟨512 * t.val + p.val, by have := p.isLt; have : t.val < 16 := lt_of_lt_of_eq t.isLt N_0; omega⟩

/-- The activations' block at a point, read off the array. -/
theorem iblk0 (c : Dev nD) (t : Fin cfg0.N) (p : Fin 512) (k : Fin 2816) :
    iblk m c 0 t (ix2 p k) = m ((c : Thread nD τ).loc main_arg0) (ix2 (row t p) k) := by
  obtain ⟨h0, h1, -⟩ := idx_in t
  unfold iblk
  rw [View.read_apply]
  show V m c main_arg0 _ = m ((c : Thread nD τ).loc main_arg0) _
  rw [V_main_arg0]
  congr 1
  funext a
  apply Fin.ext
  match a with
  | ⟨0, _⟩ => show win0_0.index t 0 * 512 + 1 * p.val = 512 * t.val + p.val; rw [h0]; omega
  | ⟨1, _⟩ => show win0_0.index t 1 * 2816 + 1 * k.val = k.val; rw [h1]; omega

/-- The weight's block at a point is the whole weight. -/
theorem iblk1 (c : Dev nD) (t : Fin cfg0.N) (k : Fin 2816) (q : Fin 1024) :
    iblk m c 1 t (ix2 k q) = m ((c : Thread nD τ).loc main_arg1) (ix2 k q) := by
  obtain ⟨-, -, h0, h1, -⟩ := idx_in t
  unfold iblk
  rw [View.read_apply]
  show V m c main_arg1 _ = m ((c : Thread nD τ).loc main_arg1) _
  rw [V_main_arg1]
  congr 1
  funext a
  apply Fin.ext
  match a with
  | ⟨0, _⟩ => show win0_1.index t 0 * 2816 + 1 * k.val = k.val; rw [h0]; omega
  | ⟨1, _⟩ => show win0_1.index t 1 * 1024 + 1 * q.val = q.val; rw [h1]; omega

/-- The residual's block at a point, read off the array. -/
theorem iblk2 (c : Dev nD) (t : Fin cfg0.N) (p : Fin 512) (q : Fin 1024) :
    iblk m c 2 t (ix2 p q) = m ((c : Thread nD τ).loc main_arg2) (ix2 (row t p) q) := by
  obtain ⟨-, -, -, -, h0, h1, -⟩ := idx_in t
  unfold iblk
  rw [View.read_apply]
  show V m c main_arg2 _ = m ((c : Thread nD τ).loc main_arg2) _
  rw [V_main_arg2]
  congr 1
  funext a
  apply Fin.ext
  match a with
  | ⟨0, _⟩ => show win0_2.index t 0 * 512 + 1 * p.val = 512 * t.val + p.val; rw [h0]; omega
  | ⟨1, _⟩ => show win0_2.index t 1 * 1024 + 1 * q.val = q.val; rw [h1]; omega

/-- The norm's weight's block at a point is the whole of it. -/
theorem iblk3 (c : Dev nD) (t : Fin cfg0.N) (z : Fin 1) (q : Fin 1024) :
    iblk m c 3 t (ix2 z q) = m ((c : Thread nD τ).loc main_arg3) (ix2 z q) := by
  obtain ⟨-, -, -, -, -, -, h0, h1, -⟩ := idx_in t
  unfold iblk
  rw [View.read_apply]
  show V m c main_arg3 _ = m ((c : Thread nD τ).loc main_arg3) _
  rw [V_main_arg3]
  congr 1
  funext a
  apply Fin.ext
  match a with
  | ⟨0, _⟩ => show win0_3.index t 0 * 1 + 1 * z.val = z.val; rw [h0]; omega
  | ⟨1, _⟩ => show win0_3.index t 1 * 1024 + 1 * q.val = q.val; rw [h1]; omega

section Reference

open Cert.DownFwdRefIdeal Cert.DownFwdRefIdeal.Gen Cert.DownFwdRefIdeal.Read

variable (a : Vec Ideal S8192x2816 .bf16) (w : Vec Ideal S2816x1024 .bf16) (x : Vec Ideal S8192x1024 .f32) (g : Vec Ideal S1x1024 .f32)

/-- The reference's first result at an entry: the same sum. -/
theorem v2_apply (r : Fin 8192) (q : Fin 1024) :
    val_main_v2 (F := Ideal) a w (ix2 r q) = (∑ k : Fin 2816, a (ix2 r k) * w (ix2 k q) : EReal) := by
  unfold val_main_v2 val_main_v1 val_main_v0
  pointwise

/-- The reciprocal root mean square of a row of it. -/
theorem v10_apply (r : Fin 8192) (z : Fin 1) : val_main_v10 (F := Ideal) a w (ix2 r z)
    = Ideal.rsqrt (Cert.NormAlg.ms fun j => val_main_v2 (F := Ideal) a w (ix2 r j)) := by
  unfold val_main_v10 val_main_v9 val_main_v8 val_main_v7 val_main_v6 val_main_v5 val_main_v4 val_main_v3 val_main_cst val_main_cst_0
    val_main_cst_1 Cert.NormAlg.ms
  pointwise

/-- The reference's second result at an entry: the row normed, added to the residual. -/
theorem v15_apply (r : Fin 8192) (q : Fin 1024) : val_main_v15 (F := Ideal) a w x g (ix2 r q)
    = resnorm (x (ix2 r q)) (fun j => val_main_v2 (F := Ideal) a w (ix2 r j)) (g (ix2 0 q)) q := by
  unfold val_main_v15 val_main_v14 val_main_v13 val_main_v12 val_main_v11 resnorm
  pointwise [v10_apply]

end Reference

open Cert.DownFwdRefIdeal.Read

/-- A point's product is the reference's on its rows. -/
theorem pay1_block (c : Dev nD) (t : Fin cfg0.N) (p : Fin 512) (q : Fin 1024) :
    k0_pay1 (F := Ideal) (iblk m c 0 t) (iblk m c 1 t) (ix2 p q)
      = val_main_v2 (F := Ideal) (m ((c : Thread nD τ).loc main_arg0)) (m ((c : Thread nD τ).loc main_arg1)) (ix2 (row t p) q) := by
  rw [pay1_apply, v2_apply]
  simp only [iblk0, iblk1]

/-- A point's second block is the reference's on its rows. -/
theorem pay2_block (c : Dev nD) (t : Fin cfg0.N) (p : Fin 512) (q : Fin 1024) :
    k0_pay2 (F := Ideal) (iblk m c 0 t) (iblk m c 1 t) (iblk m c 2 t) (iblk m c 3 t) (ix2 p q)
      = val_main_v15 (F := Ideal) (m ((c : Thread nD τ).loc main_arg0)) (m ((c : Thread nD τ).loc main_arg1))
          (m ((c : Thread nD τ).loc main_arg2)) (m ((c : Thread nD τ).loc main_arg3)) (ix2 (row t p) q) := by
  rw [pay2_apply, v15_apply]
  simp only [pay1_block, iblk2, iblk3]

/-- The first result array is the reference's. -/
theorem res_y (c : Dev nD) : (dats m 0 c).arrAt 4 cfg0.N
      = val_main_v2 (F := Ideal) (m ((c : Thread nD τ).loc main_arg0)) (m ((c : Thread nD τ).loc main_arg1)) := by
  refine (dats m 0 c).arrAt_eq_of_covers 4 _ (by decide +kernel) fun t hf y => ?_
  obtain ⟨-, -, -, -, -, -, -, -, h0, h1, -⟩ := idx_in t
  blk_simp
  rw [after0_4, out4_eq]
  have e : (win0_4.blk t).view.emb y = ix2 (row t (y 0)) (y 1) := by
    funext a
    apply Fin.ext
    match a with
    | ⟨0, _⟩ => show win0_4.index t 0 * 512 + 1 * (y 0).val = 512 * t.val + (y 0).val; rw [h0]; omega
    | ⟨1, _⟩ => show win0_4.index t 1 * 1024 + 1 * (y 1).val = (y 1).val; rw [h1]; omega
  have hy : y = ix2 (y 0) (y 1) := by
    funext a
    match a with
    | ⟨0, _⟩ => rfl
    | ⟨1, _⟩ => rfl
  rw [e]
  exact (congrArg _ hy).trans (pay1_block m c t (y 0) (y 1))

/-- The second result array is the reference's. -/
theorem res_out (c : Dev nD) : (dats m 0 c).arrAt 5 cfg0.N
      = val_main_v15 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 5 _ (by decide +kernel) fun t hf y => ?_
  obtain ⟨-, -, -, -, -, -, -, -, -, -, h0, h1⟩ := idx_in t
  blk_simp
  rw [after0_5, out5_eq]
  have e : (win0_5.blk t).view.emb y = ix2 (row t (y 0)) (y 1) := by
    funext a
    apply Fin.ext
    match a with
    | ⟨0, _⟩ => show win0_5.index t 0 * 512 + 1 * (y 0).val = 512 * t.val + (y 0).val; rw [h0]; omega
    | ⟨1, _⟩ => show win0_5.index t 1 * 1024 + 1 * (y 1).val = (y 1).val; rw [h1]; omega
  have hy : y = ix2 (y 0) (y 1) := by
    funext a
    match a with
    | ⟨0, _⟩ => rfl
    | ⟨1, _⟩ => rfl
  rw [e]
  exact (congrArg _ hy).trans (pay2_block m c t (y 0) (y 1))

end Cert.DownFwdIdeal.Val
-- ==== Proof.AttnDxRef.lean ====
module

public import proofs.«01_k».proof.Proof.Common
public import proofs.«01_k».proof.Proof.Gen.AttnDxRefIdeal.Read
public import proofs.«01_k».proof.Proof.NormAlg

@[expose] public section

set_option maxRecDepth 16384

noncomputable section

open Idealize.ShloMosaic Idealize.ShloMosaic.TcCoe Idealize.SL.Sem

namespace Cert.AttnDxRefIdeal.Val

open Cert.AttnDxRefIdeal Cert.AttnDxRefIdeal.Gen Cert.AttnDxRefIdeal.Read Cert.Common Cert.NormAlg

variable (x0 : Vec Ideal S8192x512 .bf16) (x1 : Vec Ideal S8192x1024 .bf16) (x2 : Vec Ideal S8192x512 .bf16)
  (x3 : Vec Ideal S8192x1024 .bf16) (x4 : Vec Ideal S8192x512 .bf16) (x5 : Vec Ideal S8192x1024 .bf16)
  (x6 : Vec Ideal S4608x1024 .bf16) (x7 : Vec Ideal S8192x1024 .f32) (x8 : Vec Ideal S1x1024 .f32) (x9 : Vec Ideal S8192x1024 .f32)

/-- The mean square of a row. -/
theorem v14_apply (r : Fin 8192) (z : Fin 1) : val_main_v14 (F := Ideal) x7 (ix2 r z) = ms fun j => x7 (ix2 r j) := by
  unfold val_main_v14 val_main_v13 val_main_v12 val_main_v11 val_main_v10 val_main_v9 val_main_v8 val_main_cst val_main_cst_0 val_main_cst_1 ms
  pointwise

/-- The reciprocal root of it. -/
theorem v15_apply (r : Fin 8192) (z : Fin 1) :
    val_main_v15 (F := Ideal) x7 (ix2 r z) = Ideal.rsqrt (ms fun j => x7 (ix2 r j)) := by
  unfold val_main_v15
  pointwise [v14_apply]

/-- The derivative of that root. -/
theorem v18_apply (r : Fin 8192) (z : Fin 1) :
    val_main_v18 (F := Ideal) x7 (ix2 r z) = (Ideal.ofBits .f32 0xBF000000#32 *
      Ideal.div (Ideal.rsqrt (ms fun j => x7 (ix2 r j))) (ms fun j => x7 (ix2 r j)) : EReal) := by
  unfold val_main_v18 val_main_v17 val_main_v16 val_main_cst_2
  pointwise [v14_apply, v15_apply]

/-- A normed row. -/
theorem v20_apply (r : Fin 8192) (q : Fin 1024) :
    val_main_v20 (F := Ideal) x7 (ix2 r q) = (x7 (ix2 r q) * Ideal.rsqrt (ms fun j => x7 (ix2 r j)) : EReal) := by
  unfold val_main_v20 val_main_v19
  pointwise [v15_apply]

/-- A block of 512 columns of the joined cotangents: the queries' three groups, the keys', then the values'. -/
def piece (b : Fin 9) (r : Fin 8192) (k : Fin 512) : EReal :=
  match b with
  | 0 => x0 (ix2 r k) | 1 => x2 (ix2 r k) | 2 => x4 (ix2 r k)
  | 3 => x1 (ix2 r ⟨k.val, by omega⟩) | 4 => x3 (ix2 r ⟨k.val, by omega⟩) | 5 => x5 (ix2 r ⟨k.val, by omega⟩)
  | 6 => x1 (ix2 r ⟨512 + k.val, by omega⟩) | 7 => x3 (ix2 r ⟨512 + k.val, by omega⟩) | 8 => x5 (ix2 r ⟨512 + k.val, by omega⟩)

/-- The joined cotangents, read block by block. -/
theorem joined (b : Fin 9) (r : Fin 8192) (k : Fin 512) (j : Fin 4608) (h : j.val = 512 * b.val + k.val) :
    @Eq EReal (val_main_v7 (F := Ideal) x0 x1 x2 x3 x4 x5 (ix2 r j)) (piece x0 x1 x2 x3 x4 x5 b r k) := by
  unfold val_main_v7 val_main_v6 val_main_v5 val_main_v4 val_main_v3 val_main_v2 val_main_v1 val_main_v0
  pointwise
  fin_cases b <;> unfold piece <;> dsimp only at h ⊢ <;> simp (disch := omega) only [dif_pos, dif_neg]
  all_goals
    refine congrArg _ (congrArg (ix2 r) (Fin.ext ?_))
    dsimp only
    omega

/-- A block's product with the rows of the weight it meets. -/
def part (b : Fin 9) (r : Fin 8192) (q : Fin 1024) : EReal :=
  ∑ k : Fin 512, piece x0 x1 x2 x3 x4 x5 b r k * x6 (ix2 ⟨512 * b.val + k.val, by omega⟩ q)

/-- The cotangent of the normed row. -/
theorem v26_apply (r : Fin 8192) (q : Fin 1024) :
    @Eq EReal (val_main_v26 (F := Ideal) x0 x1 x2 x3 x4 x5 x6 (ix2 r q)) (∑ b : Fin 9, part x0 x1 x2 x3 x4 x5 x6 b r q) := by
  unfold val_main_v26 val_main_v24 val_main_v23
  pointwise
  unfold part
  rw [← Fintype.sum_prod_type']
  refine (Fintype.sum_equiv (finProdFinEquiv (m := 9) (n := 512)) _ _ fun y => ?_).symm
  have e : (finProdFinEquiv y).val = 512 * y.1.val + y.2.val := Nat.add_comm _ _
  rw [joined x0 x1 x2 x3 x4 x5 y.1 r y.2 _ e]
  exact congrArg (fun a => piece x0 x1 x2 x3 x4 x5 y.1 r y.2 * x6 (ix2 a q)) (Fin.ext e.symm)

/-- The gradient of the norm's weight. -/
theorem v29_apply (z : Fin 1) (q : Fin 1024) :
    val_main_v29 (F := Ideal) x0 x1 x2 x3 x4 x5 x6 x7 (ix2 z q) = (∑ r : Fin 8192,
      x7 (ix2 r q) * Ideal.rsqrt (ms fun j => x7 (ix2 r j)) * val_main_v26 (F := Ideal) x0 x1 x2 x3 x4 x5 x6 (ix2 r q) : EReal) := by
  unfold val_main_v29 val_main_v28 val_main_v27 val_main_cst_3
  pointwise [v20_apply]

/-- The product times the norm's weight. -/
theorem v31_apply (r : Fin 8192) (q : Fin 1024) :
    val_main_v31 (F := Ideal) x0 x1 x2 x3 x4 x5 x6 x8 (ix2 r q) = (val_main_v26 (F := Ideal) x0 x1 x2 x3 x4 x5 x6 (ix2 r q) * x8 (ix2 0 q) : EReal) := by
  unfold val_main_v31 val_main_v30
  pointwise

/-- A row's sum against its gradient. -/
theorem v34_apply (r : Fin 8192) (z : Fin 1) :
    val_main_v34 (F := Ideal) x0 x1 x2 x3 x4 x5 x6 x7 x8 (ix2 r z) = (∑ j : Fin 1024,
      x7 (ix2 r j) * (val_main_v26 (F := Ideal) x0 x1 x2 x3 x4 x5 x6 (ix2 r j) * x8 (ix2 0 j)) : EReal) := by
  unfold val_main_v34 val_main_v33 val_main_v32 val_main_cst_4
  pointwise [v31_apply]

/-- What the mean square's gradient spreads over a row. -/
theorem v42_apply (r : Fin 8192) (q : Fin 1024) :
    val_main_v42 (F := Ideal) x0 x1 x2 x3 x4 x5 x6 x7 x8 (ix2 r q) =
      spread (fun j => (val_main_v26 (F := Ideal) x0 x1 x2 x3 x4 x5 x6 (ix2 r j) * x8 (ix2 0 j) : EReal)) (fun j => x7 (ix2 r j)) := by
  unfold val_main_v42 val_main_v41 val_main_v40 val_main_v39 val_main_v38 val_main_cst_5 val_main_cst_6 spread
  pointwise [v34_apply, v18_apply]
  exact Fin.sum_univ_one (M := EReal) _

/-- The gradient of the layer's input. -/
theorem v46_apply (r : Fin 8192) (q : Fin 1024) :
    val_main_v46 (F := Ideal) x0 x1 x2 x3 x4 x5 x6 x7 x8 x9 (ix2 r q) =
      (x9 (ix2 r q) + val_main_v26 (F := Ideal) x0 x1 x2 x3 x4 x5 x6 (ix2 r q) * x8 (ix2 0 q) * Ideal.rsqrt (ms fun j => x7 (ix2 r j))
        + x7 (ix2 r q) * spread (fun j => (val_main_v26 (F := Ideal) x0 x1 x2 x3 x4 x5 x6 (ix2 r j) * x8 (ix2 0 j) : EReal)) (fun j => x7 (ix2 r j))
        + spread (fun j => (val_main_v26 (F := Ideal) x0 x1 x2 x3 x4 x5 x6 (ix2 r j) * x8 (ix2 0 j) : EReal)) (fun j => x7 (ix2 r j)) * x7 (ix2 r q) : EReal) := by
  unfold val_main_v46 val_main_v45 val_main_v44 val_main_v43 val_main_v37 val_main_v36 val_main_v35
  pointwise [v31_apply, v42_apply, v15_apply]

end Cert.AttnDxRefIdeal.Val
-- ==== Proof.AttnDxVal.lean ====
module

public import proofs.«01_k».proof.Proof.Common
public import proofs.«01_k».proof.Proof.Gen.AttnDxIdeal.Value
public import proofs.«01_k».proof.Proof.AttnDxRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AttnDxIdeal.Val

open Cert.AttnDxIdeal Cert.AttnDxIdeal.Gen Cert.Common Cert.NormAlg

/-- The first six products of a block's pieces with their rows of the weight, added in order. -/
theorem pay4_apply (a0 : Vec Ideal S256x512 .bf16) (w0 : Vec Ideal S512x1024 .bf16) (a1 : Vec Ideal S256x512 .bf16) (w1 : Vec Ideal S512x1024 .bf16)
    (a2 : Vec Ideal S256x512 .bf16) (w2 : Vec Ideal S512x1024 .bf16) (a3 : Vec Ideal S256x512 .bf16) (w3 : Vec Ideal S512x1024 .bf16)
    (a4 : Vec Ideal S256x512 .bf16) (w4 : Vec Ideal S512x1024 .bf16) (a5 : Vec Ideal S256x512 .bf16) (w5 : Vec Ideal S512x1024 .bf16)
    (p : Fin 256) (q : Fin 1024) :
    k0_pay4 (F := Ideal) a0 w0 a1 w1 a2 w2 a3 w3 a4 w4 a5 w5 (ix2 p q)
      = ((∑ k : Fin 512, a0 (ix2 p k) * w0 (ix2 k q)) + (∑ k : Fin 512, a1 (ix2 p k) * w1 (ix2 k q))
        + (∑ k : Fin 512, a2 (ix2 p k) * w2 (ix2 k q)) + (∑ k : Fin 512, a3 (ix2 p k) * w3 (ix2 k q))
        + (∑ k : Fin 512, a4 (ix2 p k) * w4 (ix2 k q)) + (∑ k : Fin 512, a5 (ix2 p k) * w5 (ix2 k q)) : EReal) := by
  unfold k0_pay4
  pointwise

/-- The last three products added. -/
theorem pay5_apply (v : FVec Ideal S256x1024 .f32) (a0 : Vec Ideal S256x512 .bf16) (w0 : Vec Ideal S512x1024 .bf16)
    (a1 : Vec Ideal S256x512 .bf16) (w1 : Vec Ideal S512x1024 .bf16) (a2 : Vec Ideal S256x512 .bf16) (w2 : Vec Ideal S512x1024 .bf16)
    (p : Fin 256) (q : Fin 1024) :
    k0_pay5 (F := Ideal) v a0 w0 a1 w1 a2 w2 (ix2 p q)
      = (v (ix2 p q) + (∑ k : Fin 512, a0 (ix2 p k) * w0 (ix2 k q)) + (∑ k : Fin 512, a1 (ix2 p k) * w1 (ix2 k q))
        + (∑ k : Fin 512, a2 (ix2 p k) * w2 (ix2 k q)) : EReal) := by
  unfold k0_pay5
  pointwise

/-- A row's reciprocal root mean square. -/
theorem pay6_apply (x : Vec Ideal S256x1024 .f32) (p : Fin 256) (z : Fin 1) :
    k0_pay6 (F := Ideal) x (ix2 p z) = rstd fun j => x (ix2 p j) := by
  unfold k0_pay6 rstd ms
  pointwise

/-- A normed block. -/
theorem normed_apply (x : Vec Ideal S256x1024 .f32) (p : Fin 256) (q : Fin 1024) :
    k0_pay7 (F := Ideal) x (ix2 p q) = (x (ix2 p q) * rstd (fun j => x (ix2 p j)) : EReal) := by
  unfold k0_pay7
  pointwise [pay6_apply]

/-- The product through the norm, and the residual added. -/
theorem pay1_apply (v : FVec Ideal S256x1024 .f32) (a0 : Vec Ideal S256x512 .bf16) (w0 : Vec Ideal S512x1024 .bf16)
    (a1 : Vec Ideal S256x512 .bf16) (w1 : Vec Ideal S512x1024 .bf16) (a2 : Vec Ideal S256x512 .bf16) (w2 : Vec Ideal S512x1024 .bf16)
    (x : Vec Ideal S256x1024 .f32) (g : Vec Ideal S1x1024 .f32) (r : Vec Ideal S256x1024 .f32) (p : Fin 256) (q : Fin 1024) :
    k0_pay1 (F := Ideal) (k0_pay6 x) (k0_pay8 v a0 w0 a1 w1 a2 w2 g) r (k0_pay9 v a0 w0 a1 w1 a2 w2 x g) (ix2 p q) = (r (ix2 p q) +
      knorm (fun j => k0_pay5 (F := Ideal) v a0 w0 a1 w1 a2 w2 (ix2 p j)) (fun j => g (ix2 0 j)) (fun j => x (ix2 p j)) q : EReal) := by
  have h8 : ∀ j : Fin 1024, k0_pay8 (F := Ideal) v a0 w0 a1 w1 a2 w2 g (ix2 p j)
      = (k0_pay5 (F := Ideal) v a0 w0 a1 w1 a2 w2 (ix2 p j) * g (ix2 0 j) : EReal) := fun j => by
    unfold k0_pay8
    pointwise
  have h9 : k0_pay9 (F := Ideal) v a0 w0 a1 w1 a2 w2 x g (ix2 p q) = (x (ix2 p q) * rstd (fun j => x (ix2 p j)) *
      Ideal.div (∑ j : Fin 1024, k0_pay5 (F := Ideal) v a0 w0 a1 w1 a2 w2 (ix2 p j) * g (ix2 0 j) * (x (ix2 p j) * rstd fun j => x (ix2 p j)))
        (Ideal.ofBits .f32 0x44800000#32) : EReal) := by
    unfold k0_pay9
    pointwise [h8, normed_apply]
  unfold k0_pay1 knorm
  pointwise [pay6_apply, h8, h9]

/-- A block's part of the norm's weight's gradient, added. -/
theorem add_apply (d x : Vec Ideal S256x1024 .f32) (v : Vec Ideal S1x1024 .f32) (z : Fin 1) (q : Fin 1024) :
    k0_pay2 (F := Ideal) d x v (ix2 z q) = (v (ix2 z q) + ∑ k : Fin 256, d (ix2 k q) * x (ix2 k q) : EReal) := by
  unfold k0_pay2
  pointwise

/-- The sum begins at nought. -/
theorem zero_apply (z : Fin 1) (q : Fin 1024) : k0_pay3 (F := Ideal) (ix2 z q) = (0 : EReal) := by
  unfold k0_pay3
  pointwise

section Cases

variable {F : FTy → Type} [FloatOps F] (m : (ℓ : Loc nD τ sig) → Buf (Elt F) ℓ)

/-- The first six products of the point's pieces. -/
abbrev dh6 (c : Dev nD) (t : Fin cfg0.N) : FVec F S256x1024 .f32 :=
  k0_pay4 (iblk m c 0 t) (iblk m c 9 t) (iblk m c 1 t) (iblk m c 10 t) (iblk m c 2 t) (iblk m c 11 t)
    (iblk m c 3 t) (iblk m c 12 t) (iblk m c 4 t) (iblk m c 13 t) (iblk m c 5 t) (iblk m c 14 t)

/-- The point's cotangents of the normed rows. -/
abbrev dh (c : Dev nD) (t : Fin cfg0.N) : FVec F S256x1024 .f32 :=
  k0_pay5 (dh6 m c t) (iblk m c 6 t) (iblk m c 15 t) (iblk m c 7 t) (iblk m c 16 t) (iblk m c 8 t) (iblk m c 17 t)

/-- The point's rows of the layer's input's gradient. -/
abbrev dx (c : Dev nD) (t : Fin cfg0.N) : FVec F S256x1024 .f32 :=
  k0_pay1 (k0_pay6 (iblk m c 18 t))
    (k0_pay8 (dh6 m c t) (iblk m c 6 t) (iblk m c 15 t) (iblk m c 7 t) (iblk m c 16 t) (iblk m c 8 t) (iblk m c 17 t) (iblk m c 19 t))
    (iblk m c 20 t)
    (k0_pay9 (dh6 m c t) (iblk m c 6 t) (iblk m c 15 t) (iblk m c 7 t) (iblk m c 16 t) (iblk m c 8 t) (iblk m c 17 t) (iblk m c 18 t)
      (iblk m c 19 t))

/-- The norm weight's gradient with the point's rows added. -/
abbrev dg (c : Dev nD) (t : Fin cfg0.N) (v : Vec F S1x1024 .f32) : FVec F S1x1024 .f32 :=
  k0_pay2 (dh m c t) (k0_pay7 (iblk m c 18 t)) v

/-- What the first point of the run leaves: its rows' block, and the norm weight's gradient started from zero. -/
theorem outs_A (c : Dev nD) (t : Fin cfg0.N) (h0 : t.val % 32 = 0) : outsAt0 m c t.val t.isLt = (dx m c t, dg m c t k0_pay3) := by
  rw [outsAt0_A m c t h0]
  refine Prod.ext ?_ ?_
  · dsimp only
    frame_out
  · dsimp only
    frame_out

/-- What a later point leaves: its rows' block, and the gradient with the point's rows added. -/
theorem outs_B (c : Dev nD) (t : Fin cfg0.N) (h0 : ¬t.val % 32 = 0) :
    outsAt0 m c t.val t.isLt = (dx m c t, dg m c t (outsAt0 m c (t.val - 1) (Nat.lt_of_le_of_lt (Nat.sub_le _ _) t.isLt)).2) := by
  rw [outsAt0_B m c t h0]
  refine Prod.ext ?_ ?_
  · dsimp only
    frame_out
  · dsimp only
    frame_out

end Cases

variable (m : (ℓ : Loc nD τ sig) → Buf (Elt Ideal) ℓ)

/-- The array row of a point's block row. -/
def row (t : Fin cfg0.N) (p : Fin 256) : Fin 8192 :=
  ⟨256 * t.val + p.val, by have := lt_of_lt_of_eq t.isLt N_0; have := p.isLt; omega⟩

/-- The index maps: the row block is the point's for the blocks by rows, and the other operands stay where they are. -/
theorem idx : ∀ t : Fin cfg0.N, win0_0.index t = ![t.val, 0]
    ∧ win0_1.index t = ![t.val, 0]
    ∧ win0_2.index t = ![t.val, 1]
    ∧ win0_3.index t = ![t.val, 0]
    ∧ win0_4.index t = ![t.val, 0]
    ∧ win0_5.index t = ![t.val, 1]
    ∧ win0_6.index t = ![t.val, 0]
    ∧ win0_7.index t = ![t.val, 0]
    ∧ win0_8.index t = ![t.val, 1]
    ∧ win0_9.index t = ![0, 0]
    ∧ win0_10.index t = ![3, 0]
    ∧ win0_11.index t = ![6, 0]
    ∧ win0_12.index t = ![1, 0]
    ∧ win0_13.index t = ![4, 0]
    ∧ win0_14.index t = ![7, 0]
    ∧ win0_15.index t = ![2, 0]
    ∧ win0_16.index t = ![5, 0]
    ∧ win0_17.index t = ![8, 0]
    ∧ win0_18.index t = ![t.val, 0]
    ∧ win0_19.index t = ![0, 0]
    ∧ win0_20.index t = ![t.val, 0]
    ∧ win0_21.index t = ![t.val, 0]
    ∧ win0_22.index t = ![0, 0] :=
  (by decide +kernel : ∀ t : Fin grid0.N, _)

/-- A piece's block is the joined cotangents' columns that meet its rows of the weight. -/
theorem piece_eq (c : Dev nD) (t : Fin cfg0.N) (p : Fin 256) (k : Fin 512) :
    iblk m c 0 t (ix2 p k) = m ((c : Thread nD τ).loc main_arg0) (ix2 (row t p) k)
    ∧ iblk m c 1 t (ix2 p k) = m ((c : Thread nD τ).loc main_arg1) (ix2 (row t p) ⟨k.val, by omega⟩)
    ∧ iblk m c 2 t (ix2 p k) = m ((c : Thread nD τ).loc main_arg1) (ix2 (row t p) ⟨512 + k.val, by omega⟩)
    ∧ iblk m c 3 t (ix2 p k) = m ((c : Thread nD τ).loc main_arg2) (ix2 (row t p) k)
    ∧ iblk m c 4 t (ix2 p k) = m ((c : Thread nD τ).loc main_arg3) (ix2 (row t p) ⟨k.val, by omega⟩)
    ∧ iblk m c 5 t (ix2 p k) = m ((c : Thread nD τ).loc main_arg3) (ix2 (row t p) ⟨512 + k.val, by omega⟩)
    ∧ iblk m c 6 t (ix2 p k) = m ((c : Thread nD τ).loc main_arg4) (ix2 (row t p) k)
    ∧ iblk m c 7 t (ix2 p k) = m ((c : Thread nD τ).loc main_arg5) (ix2 (row t p) ⟨k.val, by omega⟩)
    ∧ iblk m c 8 t (ix2 p k) = m ((c : Thread nD τ).loc main_arg5) (ix2 (row t p) ⟨512 + k.val, by omega⟩) := by
  unfold row
  refine ⟨?_, ?_, ?_, ?_, ?_, ?_, ?_, ?_, ?_⟩ <;> blk_ext [iblk, V, idx t]

/-- A piece's rows of the weight. -/
theorem rows_eq (c : Dev nD) (t : Fin cfg0.N) (k : Fin 512) (q : Fin 1024) :
    iblk m c 9 t (ix2 k q) = m ((c : Thread nD τ).loc main_arg6) (ix2 ⟨512 * ((0 : Fin 9)).val + k.val, by omega⟩ q)
    ∧ iblk m c 10 t (ix2 k q) = m ((c : Thread nD τ).loc main_arg6) (ix2 ⟨512 * ((3 : Fin 9)).val + k.val, by omega⟩ q)
    ∧ iblk m c 11 t (ix2 k q) = m ((c : Thread nD τ).loc main_arg6) (ix2 ⟨512 * ((6 : Fin 9)).val + k.val, by omega⟩ q)
    ∧ iblk m c 12 t (ix2 k q) = m ((c : Thread nD τ).loc main_arg6) (ix2 ⟨512 * ((1 : Fin 9)).val + k.val, by omega⟩ q)
    ∧ iblk m c 13 t (ix2 k q) = m ((c : Thread nD τ).loc main_arg6) (ix2 ⟨512 * ((4 : Fin 9)).val + k.val, by omega⟩ q)
    ∧ iblk m c 14 t (ix2 k q) = m ((c : Thread nD τ).loc main_arg6) (ix2 ⟨512 * ((7 : Fin 9)).val + k.val, by omega⟩ q)
    ∧ iblk m c 15 t (ix2 k q) = m ((c : Thread nD τ).loc main_arg6) (ix2 ⟨512 * ((2 : Fin 9)).val + k.val, by omega⟩ q)
    ∧ iblk m c 16 t (ix2 k q) = m ((c : Thread nD τ).loc main_arg6) (ix2 ⟨512 * ((5 : Fin 9)).val + k.val, by omega⟩ q)
    ∧ iblk m c 17 t (ix2 k q) = m ((c : Thread nD τ).loc main_arg6) (ix2 ⟨512 * ((8 : Fin 9)).val + k.val, by omega⟩ q) := by
  refine ⟨?_, ?_, ?_, ?_, ?_, ?_, ?_, ?_, ?_⟩ <;> blk_ext [iblk, V, idx t]

/-- The layer's input's block is the array's there. -/
theorem blkx (c : Dev nD) (t : Fin cfg0.N) (p : Fin 256) (q : Fin 1024) :
    iblk m c 18 t (ix2 p q) = m ((c : Thread nD τ).loc main_arg7) (ix2 (row t p) q) := by
  unfold row
  blk_ext [iblk, V, idx t]

/-- The norm's weight's block is the whole weight. -/
theorem blkg (c : Dev nD) (t : Fin cfg0.N) (z : Fin 1) (q : Fin 1024) :
    iblk m c 19 t (ix2 z q) = m ((c : Thread nD τ).loc main_arg8) (ix2 z q) := by
  blk_ext [iblk, V, idx t]

/-- The residual's block is the array's there. -/
theorem blkr (c : Dev nD) (t : Fin cfg0.N) (p : Fin 256) (q : Fin 1024) :
    iblk m c 20 t (ix2 p q) = m ((c : Thread nD τ).loc main_arg9) (ix2 (row t p) q) := by
  unfold row
  blk_ext [iblk, V, idx t]

open Cert.AttnDxRefIdeal.Read Cert.AttnDxRefIdeal.Val

/-- A sum over nine blocks, written out. -/
theorem sum_nine (f : Fin 9 → EReal) : ∑ b, f b = f 0 + f 1 + f 2 + f 3 + f 4 + f 5 + f 6 + f 7 + f 8 := by
  rw [Fin.sum_univ_castSucc, Fin.sum_univ_eight]
  rfl

/-- Nine terms taken group by group add up to the same as in their order. -/
theorem by_groups (f : Fin 9 → EReal) : f 0 + f 3 + f 6 + f 1 + f 4 + f 7 + f 2 + f 5 + f 8
    = f 0 + f 1 + f 2 + f 3 + f 4 + f 5 + f 6 + f 7 + f 8 := by
  ac_rfl

/-- The point's cotangents of the normed rows are the reference's. -/
theorem dh_block (c : Dev nD) (t : Fin cfg0.N) (p : Fin 256) (q : Fin 1024) :
    dh m c t (ix2 p q) = val_main_v26 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (ix2 (row t p) q) := by
  have hp := fun k => piece_eq m c t p k
  have hw := fun k => rows_eq m c t k q
  refine (pay5_apply _ _ _ _ _ _ _ p q).trans ?_
  rw [show dh6 m c t (ix2 p q) = _ from pay4_apply _ _ _ _ _ _ _ _ _ _ _ _ p q, v26_apply, sum_nine]
  simp only [hp, hw]
  exact by_groups fun b => part (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) b (row t p) q

/-- What a point leaves in the rows' block is the reference's first result there. -/
theorem out_dx (c : Dev nD) (t : Fin cfg0.N) (p : Fin 256) (q : Fin 1024) :
    (outsAt0 m c t.val t.isLt).1 (ix2 p q) = val_main_v46 (F := Ideal) (m ((c : Thread nD τ).loc main_arg0))
        (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (ix2 (row t p) q) := by
  have h : (outsAt0 m c t.val t.isLt).1 = dx m c t := by
    by_cases h0 : t.val % 32 = 0
    · rw [outs_A m c t h0]
    · rw [outs_B m c t h0]
  rw [h]
  refine (pay1_apply _ _ _ _ _ _ _ _ _ _ p q).trans ?_
  rw [v46_apply]
  unfold knorm spread
  simp only [dh_block, blkx, blkg, blkr]
  exact grad_eq _ _ _ _ _

/-- One row's part of the norm weight's gradient; zero past the array. -/
def term (x d : S8192x1024.Idx → EReal) (q : Fin 1024) (k : ℕ) : EReal :=
  if h : k < 8192 then x (ix2 ⟨k, h⟩ q) * Ideal.rsqrt (ms fun j => x (ix2 ⟨k, h⟩ j)) * d (ix2 ⟨k, h⟩ q) else 0

/-- The parts at the arrays the kernel is launched on. -/
abbrev termAt (c : Dev nD) (q : Fin 1024) (k : ℕ) : EReal :=
  term (m ((c : Thread nD τ).loc main_arg7)) (val_main_v26 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))) q k

/-- What a point adds to the norm weight's gradient is its rows' parts. -/
theorem dg_block (c : Dev nD) (t : Fin cfg0.N) (v : Vec Ideal S1x1024 .f32) (z : Fin 1) (q : Fin 1024) :
    dg m c t v (ix2 z q) = (v (ix2 z q) + ∑ k : Fin 256, termAt m c q (256 * t.val + k.val) : EReal) := by
  have ht : t.val < 32 := lt_of_lt_of_eq t.isLt N_0
  refine (add_apply _ _ v z q).trans ?_
  congr 1
  refine Finset.sum_congr rfl fun k _ => ?_
  rw [termAt, term, dif_pos (by have := k.isLt; omega), normed_apply, dh_block]
  simp only [blkx]
  exact mul_comm _ _

/-- After point `n` the norm weight's gradient holds the parts of the rows up to its block's end. -/
theorem acc_eq (c : Dev nD) : ∀ (n : ℕ) (hn : n < cfg0.N) (z : Fin 1) (q : Fin 1024),
    (outsAt0 m c n hn).2 (ix2 z q) = (∑ k ∈ Finset.range (256 * (n + 1)), termAt m c q k : EReal)
  | 0, hn, z, q => by
    rw [outs_A m c ⟨0, hn⟩ rfl]
    dsimp only
    rw [dg_block, zero_apply, sum_block]
    simp only [Nat.mul_zero, Finset.range_zero, Finset.sum_empty]
  | n + 1, hn, z, q => by
    have hN : n + 1 < 32 := lt_of_lt_of_eq hn N_0
    rw [outs_B m c ⟨n + 1, hn⟩ (by dsimp only; omega)]
    dsimp only
    rw [dg_block, sum_block]
    show (outsAt0 m c n _).2 (ix2 z q) + _ = _
    rw [acc_eq c n (Nat.lt_of_succ_lt hn) z q]

/-- The first result array is the reference's. -/
theorem res_dx (c : Dev nD) : (dats m 0 c).arrAt 21 cfg0.N = val_main_v46 (F := Ideal) (m ((c : Thread nD τ).loc main_arg0))
    (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) := by
  refine (dats m 0 c).arrAt_eq_of_covers 21 _ (by decide +kernel) fun t hf y => ?_
  have h0 : win0_21.index t = ![t.val, 0] := (idx t).2.2.2.2.2.2.2.2.2.2.2.2.2.2.2.2.2.2.2.2.2.1
  blk_simp
  rw [after0_21]
  have e : (win0_21.blk t).view.emb y = ix2 (row t (y 0)) (y 1) := by
    funext a
    apply Fin.ext
    match a with
    | ⟨0, _⟩ => show win0_21.index t 0 * 256 + 1 * (y 0).val = 256 * t.val + (y 0).val; rw [h0]; show t.val * 256 + _ = _; omega
    | ⟨1, _⟩ => show win0_21.index t 1 * 1024 + 1 * (y 1).val = (y 1).val; rw [h0]; show 0 * 1024 + _ = _; omega
  have hy : y = ix2 (y 0) (y 1) := by
    funext a
    match a with
    | ⟨0, _⟩ => rfl
    | ⟨1, _⟩ => rfl
  rw [e]
  exact (congrArg _ hy).trans (out_dx m c t (y 0) (y 1))

/-- The second result array is the reference's. -/
theorem res_dg (c : Dev nD) : (dats m 0 c).arrAt 22 cfg0.N = val_main_v29 (F := Ideal) (m ((c : Thread nD τ).loc main_arg0))
    (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7)) := by
  refine (dats m 0 c).arrAt_eq_of_covers 22 _ (by decide +kernel) fun t hf y => ?_
  have h0 : win0_22.index t = ![0, 0] := (idx t).2.2.2.2.2.2.2.2.2.2.2.2.2.2.2.2.2.2.2.2.2.2
  have ht : t.val = 31 := by
    have := (flush0_22 t).mp hf
    have := lt_of_lt_of_eq t.isLt N_0
    omega
  blk_simp
  rw [after0_22]
  have e : (win0_22.blk t).view.emb y = ix2 (y 0) (y 1) := by
    funext a
    apply Fin.ext
    match a with
    | ⟨0, _⟩ => show win0_22.index t 0 * 1 + 1 * (y 0).val = (y 0).val; rw [h0]; show 0 * 1 + _ = _; omega
    | ⟨1, _⟩ => show win0_22.index t 1 * 1024 + 1 * (y 1).val = (y 1).val; rw [h0]; show 0 * 1024 + _ = _; omega
  have hy : y = ix2 (y 0) (y 1) := by
    funext a
    match a with
    | ⟨0, _⟩ => rfl
    | ⟨1, _⟩ => rfl
  rw [e]
  refine (congrArg _ hy).trans ((acc_eq m c t.val t.isLt (y 0) (y 1)).trans ?_)
  refine Eq.trans ?_ (v29_apply _ _ _ _ _ _ _ _ (y 0) (y 1)).symm
  rw [ht, Finset.sum_range]
  exact Finset.sum_congr rfl fun k _ => dif_pos k.isLt

end Cert.AttnDxIdeal.Val
-- ==== Proof.ConvDxRef.lean ====
module

public import proofs.«01_k».proof.Proof.Common
public import proofs.«01_k».proof.Proof.Gen.ConvDxRefIdeal.Read
public import proofs.«01_k».proof.Proof.NormAlg

@[expose] public section

set_option maxRecDepth 16384

noncomputable section

open Idealize.ShloMosaic Idealize.ShloMosaic.TcCoe Idealize.SL.Sem

namespace Cert.ConvDxRefIdeal.Val

open Cert.ConvDxRefIdeal Cert.ConvDxRefIdeal.Gen Cert.ConvDxRefIdeal.Read Cert.Common Cert.NormAlg

variable (x0 : Vec Ideal S8192x2048 .bf16) (x1 : Vec Ideal S2048x1024 .bf16) (x2 : Vec Ideal S8192x1024 .f32)
  (x3 : Vec Ideal S1x1024 .f32) (x4 : Vec Ideal S8192x1024 .f32)

/-- The mean square of a row. -/
theorem v6_apply (r : Fin 8192) (z : Fin 1) : val_main_v6 (F := Ideal) x2 (ix2 r z) = ms fun j => x2 (ix2 r j) := by
  unfold val_main_v6 val_main_v5 val_main_v4 val_main_v3 val_main_v2 val_main_v1 val_main_v0 val_main_cst val_main_cst_0 val_main_cst_1 ms
  pointwise

/-- The reciprocal root of it. -/
theorem v7_apply (r : Fin 8192) (z : Fin 1) :
    val_main_v7 (F := Ideal) x2 (ix2 r z) = Ideal.rsqrt (ms fun j => x2 (ix2 r j)) := by
  unfold val_main_v7
  pointwise [v6_apply]

/-- The derivative of that root. -/
theorem v10_apply (r : Fin 8192) (z : Fin 1) :
    val_main_v10 (F := Ideal) x2 (ix2 r z) = (Ideal.ofBits .f32 0xBF000000#32 *
      Ideal.div (Ideal.rsqrt (ms fun j => x2 (ix2 r j))) (ms fun j => x2 (ix2 r j)) : EReal) := by
  unfold val_main_v10 val_main_v9 val_main_v8 val_main_cst_2
  pointwise [v6_apply, v7_apply]

/-- A normed row. -/
theorem v12_apply (r : Fin 8192) (q : Fin 1024) :
    val_main_v12 (F := Ideal) x2 (ix2 r q) = (x2 (ix2 r q) * Ideal.rsqrt (ms fun j => x2 (ix2 r j)) : EReal) := by
  unfold val_main_v12 val_main_v11
  pointwise [v7_apply]

/-- The cotangent of the normed row. -/
theorem v19_apply (r : Fin 8192) (q : Fin 1024) :
    val_main_v19 (F := Ideal) x0 x1 (ix2 r q) = (∑ k : Fin 2048, x0 (ix2 r k) * x1 (ix2 k q) : EReal) := by
  unfold val_main_v19 val_main_v18 val_main_v16 val_main_v15
  pointwise

/-- The gradient of the norm's weight. -/
theorem v22_apply (z : Fin 1) (q : Fin 1024) :
    val_main_v22 (F := Ideal) x0 x1 x2 (ix2 z q) = (∑ r : Fin 8192,
      x2 (ix2 r q) * Ideal.rsqrt (ms fun j => x2 (ix2 r j)) * val_main_v19 (F := Ideal) x0 x1 (ix2 r q) : EReal) := by
  unfold val_main_v22 val_main_v21 val_main_v20 val_main_cst_3
  pointwise [v12_apply]

/-- The product times the norm's weight. -/
theorem v24_apply (r : Fin 8192) (q : Fin 1024) :
    val_main_v24 (F := Ideal) x0 x1 x3 (ix2 r q) = (val_main_v19 (F := Ideal) x0 x1 (ix2 r q) * x3 (ix2 0 q) : EReal) := by
  unfold val_main_v24 val_main_v23
  pointwise

/-- A row's sum against its gradient. -/
theorem v27_apply (r : Fin 8192) (z : Fin 1) :
    val_main_v27 (F := Ideal) x0 x1 x2 x3 (ix2 r z) = (∑ j : Fin 1024,
      x2 (ix2 r j) * (val_main_v19 (F := Ideal) x0 x1 (ix2 r j) * x3 (ix2 0 j)) : EReal) := by
  unfold val_main_v27 val_main_v26 val_main_v25 val_main_cst_4
  pointwise [v24_apply]

/-- What the mean square's gradient spreads over a row. -/
theorem v35_apply (r : Fin 8192) (q : Fin 1024) :
    val_main_v35 (F := Ideal) x0 x1 x2 x3 (ix2 r q) =
      spread (fun j => (val_main_v19 (F := Ideal) x0 x1 (ix2 r j) * x3 (ix2 0 j) : EReal)) (fun j => x2 (ix2 r j)) := by
  unfold val_main_v35 val_main_v34 val_main_v33 val_main_v32 val_main_v31 val_main_cst_5 val_main_cst_6 spread
  pointwise [v27_apply, v10_apply]
  exact Fin.sum_univ_one (M := EReal) _

/-- The gradient of the layer's input. -/
theorem v39_apply (r : Fin 8192) (q : Fin 1024) :
    val_main_v39 (F := Ideal) x0 x1 x2 x3 x4 (ix2 r q) =
      (x4 (ix2 r q) + val_main_v19 (F := Ideal) x0 x1 (ix2 r q) * x3 (ix2 0 q) * Ideal.rsqrt (ms fun j => x2 (ix2 r j))
        + x2 (ix2 r q) * spread (fun j => (val_main_v19 (F := Ideal) x0 x1 (ix2 r j) * x3 (ix2 0 j) : EReal)) (fun j => x2 (ix2 r j))
        + spread (fun j => (val_main_v19 (F := Ideal) x0 x1 (ix2 r j) * x3 (ix2 0 j) : EReal)) (fun j => x2 (ix2 r j)) * x2 (ix2 r q) : EReal) := by
  unfold val_main_v39 val_main_v38 val_main_v37 val_main_v36 val_main_v30 val_main_v29 val_main_v28
  pointwise [v24_apply, v35_apply, v7_apply]

end Cert.ConvDxRefIdeal.Val
-- ==== Proof.ConvDxVal.lean ====
module

public import proofs.«01_k».proof.Proof.Common
public import proofs.«01_k».proof.Proof.Gen.ConvDxIdeal.Value
public import proofs.«01_k».proof.Proof.ConvDxRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ConvDxIdeal.Val

open Cert.ConvDxIdeal Cert.ConvDxIdeal.Gen Cert.Common Cert.NormAlg

/-- A block's product with the weight. -/
theorem pay3_apply (a : Vec Ideal S256x2048 .bf16) (w : Vec Ideal S2048x1024 .bf16) (p : Fin 256) (q : Fin 1024) :
    k0_pay3 (F := Ideal) a w (ix2 p q) = (∑ k : Fin 2048, a (ix2 p k) * w (ix2 k q) : EReal) := by
  unfold k0_pay3
  pointwise

/-- A row's reciprocal root mean square. -/
theorem pay4_apply (x : Vec Ideal S256x1024 .f32) (p : Fin 256) (z : Fin 1) :
    k0_pay4 (F := Ideal) x (ix2 p z) = rstd fun j => x (ix2 p j) := by
  unfold k0_pay4 rstd ms
  pointwise

/-- A normed block. -/
theorem normed_apply (x : Vec Ideal S256x1024 .f32) (p : Fin 256) (q : Fin 1024) :
    k0_pay5 (F := Ideal) x (ix2 p q) = (x (ix2 p q) * rstd (fun j => x (ix2 p j)) : EReal) := by
  unfold k0_pay5
  pointwise [pay4_apply]

/-- The product through the norm, and the residual added. -/
theorem pay6_apply (a : Vec Ideal S256x2048 .bf16) (w : Vec Ideal S2048x1024 .bf16) (x : Vec Ideal S256x1024 .f32)
    (g : Vec Ideal S1x1024 .f32) (r : Vec Ideal S256x1024 .f32) (p : Fin 256) (q : Fin 1024) :
    k0_pay6 (F := Ideal) a w x g r (ix2 p q) = (r (ix2 p q) +
      knorm (fun j => k0_pay3 (F := Ideal) a w (ix2 p j)) (fun j => g (ix2 0 j)) (fun j => x (ix2 p j)) q : EReal) := by
  unfold k0_pay6 knorm
  pointwise [pay4_apply, normed_apply]

/-- A block's part of the norm's weight's gradient, added. -/
theorem add_apply (d x : Vec Ideal S256x1024 .f32) (v : Vec Ideal S1x1024 .f32) (z : Fin 1) (q : Fin 1024) :
    k0_pay1 (F := Ideal) d x (k0_pay7 v) (ix2 z q) = (v (ix2 z q) + ∑ k : Fin 256, d (ix2 k q) * x (ix2 k q) : EReal) := by
  unfold k0_pay1 k0_pay7
  pointwise

/-- The sum begins at nought. -/
theorem zero_apply (z : Fin 1) (q : Fin 1024) : k0_pay2 (F := Ideal) (ix2 z q) = (0 : EReal) := by
  unfold k0_pay2
  pointwise

section Cases

variable {F : FTy → Type} [FloatOps F] (m : (ℓ : Loc nD τ sig) → Buf (Elt F) ℓ)

/-- The point's cotangents of the normed rows. -/
abbrev dh (c : Dev nD) (t : Fin cfg0.N) : FVec F S256x1024 .f32 := k0_pay3 (iblk m c 0 t) (iblk m c 1 t)

/-- The point's rows of the layer's input's gradient. -/
abbrev dx (c : Dev nD) (t : Fin cfg0.N) : FVec F S256x1024 .f32 :=
  k0_pay6 (iblk m c 0 t) (iblk m c 1 t) (iblk m c 2 t) (iblk m c 3 t) (iblk m c 4 t)

/-- The norm weight's gradient with the point's rows added. -/
abbrev dg (c : Dev nD) (t : Fin cfg0.N) (v : Vec F S1x1024 .f32) : FVec F S1x1024 .f32 :=
  k0_pay1 (dh m c t) (k0_pay5 (iblk m c 2 t)) (k0_pay7 v)

/-- What the first point of the run leaves: its rows' block, and the norm weight's gradient started from zero. -/
theorem outs_A (c : Dev nD) (t : Fin cfg0.N) (h0 : t.val % 32 = 0) : outsAt0 m c t.val t.isLt = (dx m c t, dg m c t k0_pay2) := by
  rw [outsAt0_A m c t h0]
  refine Prod.ext ?_ ?_
  · dsimp only
    frame_out
  · dsimp only
    frame_out

/-- What a later point leaves: its rows' block, and the gradient with the point's rows added. -/
theorem outs_B (c : Dev nD) (t : Fin cfg0.N) (h0 : ¬t.val % 32 = 0) :
    outsAt0 m c t.val t.isLt = (dx m c t, dg m c t (outsAt0 m c (t.val - 1) (Nat.lt_of_le_of_lt (Nat.sub_le _ _) t.isLt)).2) := by
  rw [outsAt0_B m c t h0]
  refine Prod.ext ?_ ?_
  · dsimp only
    frame_out
  · dsimp only
    frame_out

end Cases

variable (m : (ℓ : Loc nD τ sig) → Buf (Elt Ideal) ℓ)

/-- The array row of a point's block row. -/
def row (t : Fin cfg0.N) (p : Fin 256) : Fin 8192 :=
  ⟨256 * t.val + p.val, by have := lt_of_lt_of_eq t.isLt N_0; have := p.isLt; omega⟩

/-- The index maps: the row block is the point's for the blocks by rows, and the other operands stay where they are. -/
theorem idx : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![t.val, 0]
    ∧ win0_6.index t = ![0, 0] :=
  (by decide +kernel : ∀ t : Fin grid0.N, _)

/-- The blocks, read off the arrays. -/
theorem blk0 (c : Dev nD) (t : Fin cfg0.N) (p : Fin 256) (k : Fin 2048) :
    iblk m c 0 t (ix2 p k) = m ((c : Thread nD τ).loc main_arg0) (ix2 (row t p) k) := by
  unfold row
  blk_ext [iblk, V, idx t]

/-- The weight's block is the whole weight. -/
theorem blk1 (c : Dev nD) (t : Fin cfg0.N) (k : Fin 2048) (q : Fin 1024) :
    iblk m c 1 t (ix2 k q) = m ((c : Thread nD τ).loc main_arg1) (ix2 k q) := by
  blk_ext [iblk, V, idx t]

/-- The layer's input's block is the array's there. -/
theorem blkx (c : Dev nD) (t : Fin cfg0.N) (p : Fin 256) (q : Fin 1024) :
    iblk m c 2 t (ix2 p q) = m ((c : Thread nD τ).loc main_arg2) (ix2 (row t p) q) := by
  unfold row
  blk_ext [iblk, V, idx t]

/-- The norm's weight's block is the whole weight. -/
theorem blkg (c : Dev nD) (t : Fin cfg0.N) (z : Fin 1) (q : Fin 1024) :
    iblk m c 3 t (ix2 z q) = m ((c : Thread nD τ).loc main_arg3) (ix2 z q) := by
  blk_ext [iblk, V, idx t]

/-- The residual's block is the array's there. -/
theorem blkr (c : Dev nD) (t : Fin cfg0.N) (p : Fin 256) (q : Fin 1024) :
    iblk m c 4 t (ix2 p q) = m ((c : Thread nD τ).loc main_arg4) (ix2 (row t p) q) := by
  unfold row
  blk_ext [iblk, V, idx t]

open Cert.ConvDxRefIdeal.Read Cert.ConvDxRefIdeal.Val

/-- The point's cotangents of the normed rows are the reference's. -/
theorem dh_block (c : Dev nD) (t : Fin cfg0.N) (p : Fin 256) (q : Fin 1024) :
    dh m c t (ix2 p q) = val_main_v19 (F := Ideal) (m ((c : Thread nD τ).loc main_arg0)) (m ((c : Thread nD τ).loc main_arg1)) (ix2 (row t p) q) := by
  refine (pay3_apply _ _ p q).trans ?_
  rw [v19_apply]
  simp only [blk0, blk1]

/-- What a point leaves in the rows' block is the reference's first result there. -/
theorem out_dx (c : Dev nD) (t : Fin cfg0.N) (p : Fin 256) (q : Fin 1024) :
    (outsAt0 m c t.val t.isLt).1 (ix2 p q) = val_main_v39 (F := Ideal) (m ((c : Thread nD τ).loc main_arg0))
        (m ((c : Thread nD τ).loc main_arg1)) (m ((c : Thread nD τ).loc main_arg2)) (m ((c : Thread nD τ).loc main_arg3))
        (m ((c : Thread nD τ).loc main_arg4)) (ix2 (row t p) q) := by
  have h : (outsAt0 m c t.val t.isLt).1 = dx m c t := by
    by_cases h0 : t.val % 32 = 0
    · rw [outs_A m c t h0]
    · rw [outs_B m c t h0]
  rw [h]
  refine (pay6_apply _ _ _ _ _ p q).trans ?_
  rw [v39_apply]
  unfold knorm spread
  simp only [dh_block, blkx, blkg, blkr]
  exact grad_eq _ _ _ _ _

/-- One row's part of the norm weight's gradient; zero past the array. -/
def term (x d : S8192x1024.Idx → EReal) (q : Fin 1024) (k : ℕ) : EReal :=
  if h : k < 8192 then x (ix2 ⟨k, h⟩ q) * Ideal.rsqrt (ms fun j => x (ix2 ⟨k, h⟩ j)) * d (ix2 ⟨k, h⟩ q) else 0

/-- The parts at the arrays the kernel is launched on. -/
abbrev termAt (c : Dev nD) (q : Fin 1024) (k : ℕ) : EReal :=
  term (m ((c : Thread nD τ).loc main_arg2)) (val_main_v19 (F := Ideal) (m ((c : Thread nD τ).loc main_arg0))
      (m ((c : Thread nD τ).loc main_arg1))) q k

/-- What a point adds to the norm weight's gradient is its rows' parts. -/
theorem dg_block (c : Dev nD) (t : Fin cfg0.N) (v : Vec Ideal S1x1024 .f32) (z : Fin 1) (q : Fin 1024) :
    dg m c t v (ix2 z q) = (v (ix2 z q) + ∑ k : Fin 256, termAt m c q (256 * t.val + k.val) : EReal) := by
  have ht : t.val < 32 := lt_of_lt_of_eq t.isLt N_0
  refine (add_apply _ _ v z q).trans ?_
  congr 1
  refine Finset.sum_congr rfl fun k _ => ?_
  rw [termAt, term, dif_pos (by have := k.isLt; omega), normed_apply, dh_block]
  simp only [blkx]
  exact mul_comm _ _

/-- After point `n` the norm weight's gradient holds the parts of the rows up to its block's end. -/
theorem acc_eq (c : Dev nD) : ∀ (n : ℕ) (hn : n < cfg0.N) (z : Fin 1) (q : Fin 1024),
    (outsAt0 m c n hn).2 (ix2 z q) = (∑ k ∈ Finset.range (256 * (n + 1)), termAt m c q k : EReal)
  | 0, hn, z, q => by
    rw [outs_A m c ⟨0, hn⟩ rfl]
    dsimp only
    rw [dg_block, zero_apply, sum_block]
    simp only [Nat.mul_zero, Finset.range_zero, Finset.sum_empty]
  | n + 1, hn, z, q => by
    have hN : n + 1 < 32 := lt_of_lt_of_eq hn N_0
    rw [outs_B m c ⟨n + 1, hn⟩ (by dsimp only; omega)]
    dsimp only
    rw [dg_block, sum_block]
    show (outsAt0 m c n _).2 (ix2 z q) + _ = _
    rw [acc_eq c n (Nat.lt_of_succ_lt hn) z q]

/-- The first result array is the reference's. -/
theorem res_dx (c : Dev nD) : (dats m 0 c).arrAt 5 cfg0.N = val_main_v39 (F := Ideal) (m ((c : Thread nD τ).loc main_arg0))
    (m ((c : Thread nD τ).loc main_arg1)) (m ((c : Thread nD τ).loc main_arg2)) (m ((c : Thread nD τ).loc main_arg3))
        (m ((c : Thread nD τ).loc main_arg4)) := by
  refine (dats m 0 c).arrAt_eq_of_covers 5 _ (by decide +kernel) fun t hf y => ?_
  have h0 : win0_5.index t = ![t.val, 0] := (idx t).2.2.2.2.2.1
  blk_simp
  rw [after0_5]
  have e : (win0_5.blk t).view.emb y = ix2 (row t (y 0)) (y 1) := by
    funext a
    apply Fin.ext
    match a with
    | ⟨0, _⟩ => show win0_5.index t 0 * 256 + 1 * (y 0).val = 256 * t.val + (y 0).val; rw [h0]; show t.val * 256 + _ = _; omega
    | ⟨1, _⟩ => show win0_5.index t 1 * 1024 + 1 * (y 1).val = (y 1).val; rw [h0]; show 0 * 1024 + _ = _; omega
  have hy : y = ix2 (y 0) (y 1) := by
    funext a
    match a with
    | ⟨0, _⟩ => rfl
    | ⟨1, _⟩ => rfl
  rw [e]
  exact (congrArg _ hy).trans (out_dx m c t (y 0) (y 1))

/-- The second result array is the reference's. -/
theorem res_dg (c : Dev nD) : (dats m 0 c).arrAt 6 cfg0.N = val_main_v22 (F := Ideal) (m ((c : Thread nD τ).loc main_arg0))
    (m ((c : Thread nD τ).loc main_arg1)) (m ((c : Thread nD τ).loc main_arg2)) := by
  refine (dats m 0 c).arrAt_eq_of_covers 6 _ (by decide +kernel) fun t hf y => ?_
  have h0 : win0_6.index t = ![0, 0] := (idx t).2.2.2.2.2.2
  have ht : t.val = 31 := by
    have := (flush0_6 t).mp hf
    have := lt_of_lt_of_eq t.isLt N_0
    omega
  blk_simp
  rw [after0_6]
  have e : (win0_6.blk t).view.emb y = ix2 (y 0) (y 1) := by
    funext a
    apply Fin.ext
    match a with
    | ⟨0, _⟩ => show win0_6.index t 0 * 1 + 1 * (y 0).val = (y 0).val; rw [h0]; show 0 * 1 + _ = _; omega
    | ⟨1, _⟩ => show win0_6.index t 1 * 1024 + 1 * (y 1).val = (y 1).val; rw [h0]; show 0 * 1024 + _ = _; omega
  have hy : y = ix2 (y 0) (y 1) := by
    funext a
    match a with
    | ⟨0, _⟩ => rfl
    | ⟨1, _⟩ => rfl
  rw [e]
  refine (congrArg _ hy).trans ((acc_eq m c t.val t.isLt (y 0) (y 1)).trans ?_)
  refine Eq.trans ?_ (v22_apply _ _ _ (y 0) (y 1)).symm
  rw [ht, Finset.sum_range]
  exact Finset.sum_congr rfl fun k _ => dif_pos k.isLt

end Cert.ConvDxIdeal.Val
-- ==== Proof.DwUpUCases.lean ====
module

public import proofs.«01_k».proof.Proof.Common
public import proofs.«01_k».proof.Proof.Gen.DwUpUIdeal.Frame
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.DwUpUIdeal.Val

open Cert.DwUpUIdeal Cert.DwUpUIdeal.Gen Cert.Common

section Cases
variable {F : FTy → Type} [FloatOps F]

/-- The first point of a sweep leaves, in the accumulator, the point's product added to zero. -/
theorem sout_A (c : Dev nD) (i : grid0.Coords) (a2 : Memref sig .tc .vmem S2048x1408 .bf16) (h2 : a2.IsWhole)
    (a3 : Memref sig .tc .vmem S2048x1024 .bf16) (h3 : a3.IsWhole) (a4 : Memref sig .tc .vmem S1x1408x1024 .bf16) (h4 : a4.IsWhole)
    (a5 : Memref sig .tc .vmem S1408x1024 .f32) (h5 : a5.IsWhole) (hc0 : cond0_0 i) (hc1 : ¬cond0_1 i)
    (x0 : Vec F S2048x1408 .bf16) (x1 : Vec F S2048x1024 .bf16) :
    sout0_A_0 c i a2 h2 a3 h3 a4 h4 a5 h5 hc0 hc1 x0 x1 = k0_pay2 k0_pay1 x0 x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1408x1024) hz2, View.readCov_unit_zero (S := S1408x1024) _ hz2]
  simp only [View.readAt_eq_ld, h2.read_unread, h3.read_unread, View.ld_unit_zero (S := S2048x1408) hz2, View.ld_unit_zero (S := S2048x1024) hz2]

/-- A middle point of a sweep adds its product to the accumulator. -/
theorem sout_B (c : Dev nD) (i : grid0.Coords) (a2 : Memref sig .tc .vmem S2048x1408 .bf16) (h2 : a2.IsWhole)
    (a3 : Memref sig .tc .vmem S2048x1024 .bf16) (h3 : a3.IsWhole) (a4 : Memref sig .tc .vmem S1x1408x1024 .bf16) (h4 : a4.IsWhole)
    (a5 : Memref sig .tc .vmem S1408x1024 .f32) (h5 : a5.IsWhole) (hc0 : ¬cond0_0 i) (hc1 : ¬cond0_1 i)
    (x0 : Vec F S2048x1408 .bf16) (x1 : Vec F S2048x1024 .bf16) (xs : Vec F S1408x1024 .f32) :
    sout0_B_0 c i a2 h2 a3 h3 a4 h4 a5 h5 hc0 hc1 x0 x1 xs = k0_pay2 xs x0 x1 := by
  unfold sout0_B_0
  rw [View.read_writes_eq_canon _ _ _ (scover0_B_0 c i a2 h2 a3 h3 a4 h4 a5 h5 hc0 hc1 x0 x1 xs)]
  unfold kernelRun0_B
  dsimp only
  rw [View.canon_unit_zero (S := S1408x1024) hz2]
  simp only [View.readAt_eq_ld, h2.read_unread, h3.read_unread, h5.read_unread, View.ld_unit_zero (S := S2048x1408) hz2,
    View.ld_unit_zero (S := S2048x1024) hz2, View.ld_unit_zero (S := S1408x1024) hz2]

/-- So does the last point of a sweep. -/
theorem sout_C (c : Dev nD) (i : grid0.Coords) (a2 : Memref sig .tc .vmem S2048x1408 .bf16) (h2 : a2.IsWhole)
    (a3 : Memref sig .tc .vmem S2048x1024 .bf16) (h3 : a3.IsWhole) (a4 : Memref sig .tc .vmem S1x1408x1024 .bf16) (h4 : a4.IsWhole)
    (a5 : Memref sig .tc .vmem S1408x1024 .f32) (h5 : a5.IsWhole) (hc0 : ¬cond0_0 i) (hc1 : cond0_1 i)
    (x0 : Vec F S2048x1408 .bf16) (x1 : Vec F S2048x1024 .bf16) (xs : Vec F S1408x1024 .f32) :
    sout0_C_0 c i a2 h2 a3 h3 a4 h4 a5 h5 hc0 hc1 x0 x1 xs = k0_pay2 xs x0 x1 := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero (S := S1408x1024) hz2]
  simp only [View.readAt_eq_ld, h2.read_unread, h3.read_unread, h5.read_unread, View.ld_unit_zero (S := S2048x1408) hz2,
    View.ld_unit_zero (S := S2048x1024) hz2, View.ld_unit_zero (S := S1408x1024) hz2]

/-- The last point of a sweep stores the finished accumulator into the result's block. -/
theorem out_C (c : Dev nD) (i : grid0.Coords) (a2 : Memref sig .tc .vmem S2048x1408 .bf16) (h2 : a2.IsWhole)
    (a3 : Memref sig .tc .vmem S2048x1024 .bf16) (h3 : a3.IsWhole) (a4 : Memref sig .tc .vmem S1x1408x1024 .bf16) (h4 : a4.IsWhole)
    (a5 : Memref sig .tc .vmem S1408x1024 .f32) (h5 : a5.IsWhole) (hc0 : ¬cond0_0 i) (hc1 : cond0_1 i)
    (x0 : Vec F S2048x1408 .bf16) (x1 : Vec F S2048x1024 .bf16) (xs : Vec F S1408x1024 .f32) :
    out0_C_2 c i a2 h2 a3 h3 a4 h4 a5 h5 hc0 hc1 x0 x1 xs = k0_pay3 (k0_pay2 xs x0 x1) := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero (S := S1x1408x1024) hz3, View.readCov_unit_zero (S := S1408x1024) _ hz2]
  simp only [View.readAt_eq_ld, h2.read_unread, h3.read_unread, h5.read_unread, View.ld_unit_zero (S := S2048x1408) hz2,
    View.ld_unit_zero (S := S2048x1024) hz2, View.ld_unit_zero (S := S1408x1024) hz2]

end Cases

end Cert.DwUpUIdeal.Val
-- ==== Proof.DwUpUVal.lean ====
module

public import proofs.«01_k».proof.Proof.DwUpUCases
public import proofs.«01_k».proof.Proof.Gen.DwUpURefIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DwUpUIdeal.Val

open Cert.DwUpUIdeal Cert.DwUpUIdeal.Gen Cert.Common

/-- The cleared accumulator is zero. -/
theorem pay1_apply (p : Fin 1408) (q : Fin 1024) : (k0_pay1 (F := Ideal)) (ix2 p q) = (0 : EReal) := by
  unfold k0_pay1
  pointwise

/-- One point's update at an entry: the sum over the point's rows is added. -/
theorem pay2_apply (v : Vec Ideal S1408x1024 .f32) (x : Vec Ideal S2048x1408 .bf16) (y : Vec Ideal S2048x1024 .bf16)
    (p : Fin 1408) (q : Fin 1024) :
    k0_pay2 (F := Ideal) v x y (ix2 p q) = (v (ix2 p q) + ∑ k : Fin 2048, x (ix2 k p) * y (ix2 k q) : EReal) := by
  unfold k0_pay2
  pointwise

/-- The stored block holds the accumulator's entries. -/
theorem pay3_apply (v : Vec Ideal S1408x1024 .f32) (z : Fin 1) (p : Fin 1408) (q : Fin 1024) :
    k0_pay3 (F := Ideal) v (ix3 z p q) = v (ix2 p q) := by
  unfold k0_pay3
  pointwise

variable (m : (ℓ : Loc nD τ sig) → Buf (Elt Ideal) ℓ)

/-- The index maps of the two operands: row block `t % 4`, column block `t / 4` of the left one. -/
theorem idx_in : ∀ t : Fin cfg0.N, win0_0.index t (0 : Fin 2) = t.val % 4 ∧ win0_0.index t (1 : Fin 2) = t.val / 4
    ∧ win0_1.index t (0 : Fin 2) = t.val % 4 ∧ win0_1.index t (1 : Fin 2) = 0 :=
  (by decide +kernel : ∀ t : Fin grid0.N, _)

/-- The left operand's block at a point, read off the array. -/
theorem iblk0 (c : Dev nD) (t : Fin cfg0.N) (k : Fin 2048) (p : Fin 1408) (K : Fin 8192) (P : Fin 2816)
    (hK : K.val = 2048 * (t.val % 4) + k.val) (hP : P.val = 1408 * (t.val / 4) + p.val) :
    iblk m c 0 t (ix2 k p) = m ((c : Thread nD τ).loc main_arg0) (ix2 K P) := by
  obtain ⟨h0, h1, -, -⟩ := idx_in t
  unfold iblk
  rw [View.read_apply]
  show V m c main_arg0 _ = m ((c : Thread nD τ).loc main_arg0) _
  rw [V_main_arg0]
  congr 1
  funext a
  apply Fin.ext
  match a with
  | ⟨0, _⟩ => show win0_0.index t 0 * 2048 + 1 * k.val = K.val; rw [h0]; omega
  | ⟨1, _⟩ => show win0_0.index t 1 * 1408 + 1 * p.val = P.val; rw [h1]; omega

/-- The right operand's block at a point, read off the array. -/
theorem iblk1 (c : Dev nD) (t : Fin cfg0.N) (k : Fin 2048) (q : Fin 1024) (K : Fin 8192)
    (hK : K.val = 2048 * (t.val % 4) + k.val) :
    iblk m c 1 t (ix2 k q) = m ((c : Thread nD τ).loc main_arg1) (ix2 K q) := by
  obtain ⟨-, -, h0, h1⟩ := idx_in t
  unfold iblk
  rw [View.read_apply]
  show V m c main_arg1 _ = m ((c : Thread nD τ).loc main_arg1) _
  rw [V_main_arg1]
  congr 1
  funext a
  apply Fin.ext
  match a with
  | ⟨0, _⟩ => show win0_1.index t 0 * 2048 + 1 * k.val = K.val; rw [h0]; omega
  | ⟨1, _⟩ => show win0_1.index t 1 * 1024 + 1 * q.val = q.val; rw [h1]; omega

/-- One term of the result's sum: row `k` of the operands, at output row `p` and column `q`; zero past the arrays. -/
def term (A : S8192x2816.Idx → EReal) (B : S8192x1024.Idx → EReal) (p q k : ℕ) : EReal :=
  if h : p < 2816 ∧ q < 1024 ∧ k < 8192 then A (ix2 ⟨k, h.2.2⟩ ⟨p, h.1⟩) * B (ix2 ⟨k, h.2.2⟩ ⟨q, h.2.1⟩) else 0

/-- The terms at the arrays the kernel is launched on. -/
abbrev termAt (c : Dev nD) (p q k : ℕ) : EReal :=
  term (m ((c : Thread nD τ).loc main_arg0)) (m ((c : Thread nD τ).loc main_arg1)) p q k

/-- What a point adds to the accumulator is its rows' terms. -/
theorem pay2_block (c : Dev nD) (t : Fin cfg0.N) (v : Vec Ideal S1408x1024 .f32) (p : Fin 1408) (q : Fin 1024) :
    k0_pay2 (F := Ideal) v (iblk m c 0 t) (iblk m c 1 t) (ix2 p q)
      = (v (ix2 p q) + ∑ k : Fin 2048, termAt m c (1408 * (t.val / 4) + p.val) q.val (2048 * (t.val % 4) + k.val) : EReal) := by
  have ht : t.val < 8 := lt_of_lt_of_eq t.isLt N_0
  rw [pay2_apply]
  congr 1
  refine Finset.sum_congr rfl fun k _ => ?_
  have hb : 1408 * (t.val / 4) + p.val < 2816 ∧ q.val < 1024 ∧ 2048 * (t.val % 4) + k.val < 8192 := by
    have := p.isLt; have := k.isLt; exact ⟨by omega, q.isLt, by omega⟩
  rw [termAt, term, dif_pos hb, iblk0 m c t k p ⟨_, hb.2.2⟩ ⟨_, hb.1⟩ rfl rfl, iblk1 m c t k q ⟨_, hb.2.2⟩ rfl]

/-- After point `n` the accumulator holds the terms of the rows its sweep has reached. -/
theorem acc_eq (c : Dev nD) : ∀ (n : ℕ) (hn : n < cfg0.N) (p : Fin 1408) (q : Fin 1024),
    (outsAt0 m c n hn).2 (ix2 p q)
      = (∑ k ∈ Finset.range (2048 * (n % 4 + 1)), termAt m c (1408 * (n / 4) + p.val) q.val k : EReal)
  | n, hn, p, q => by
    by_cases h0 : n % 4 = 0
    · rw [outsAt0_A m c ⟨n, hn⟩ h0 (by dsimp only; omega)]
      dsimp only
      rw [sout_A, pay2_block, pay1_apply, sum_block]
      dsimp only
      rw [h0]
      simp only [Nat.mul_zero, Finset.range_zero, Finset.sum_empty]
    · obtain ⟨n, rfl⟩ : ∃ n', n = n' + 1 := ⟨n - 1, by omega⟩
      have ih := acc_eq c n (Nat.lt_of_succ_lt hn) p q
      have hm : (n + 1) % 4 = n % 4 + 1 := by omega
      have hd : (n + 1) / 4 = n / 4 := by omega
      by_cases h1 : (n + 1) % 4 = 3
      · rw [outsAt0_C m c ⟨n + 1, hn⟩ h0 h1]
        dsimp only
        rw [sout_C, pay2_block, sum_block]
        show (outsAt0 m c n _).2 (ix2 p q) + _ = _
        rw [ih, hm, hd]
      · rw [outsAt0_B m c ⟨n + 1, hn⟩ h0 h1]
        dsimp only
        rw [sout_B, pay2_block, sum_block]
        show (outsAt0 m c n _).2 (ix2 p q) + _ = _
        rw [ih, hm, hd]

/-- The result's block at a sweep's last point holds the accumulator's entries. -/
theorem out_eq (c : Dev nD) (n : ℕ) (hn : n < cfg0.N) (h3 : n % 4 = 3) (z : Fin 1) (p : Fin 1408) (q : Fin 1024) :
    (outsAt0 m c n hn).1 (ix3 z p q) = (outsAt0 m c n hn).2 (ix2 p q) := by
  rw [outsAt0_C m c ⟨n, hn⟩ (by dsimp only; omega) h3]
  dsimp only
  rw [out_C, sout_C, pay3_apply]

/-- The result's rows a point writes: those of the first half, up to row 2816. -/
theorem idx_out : ∀ t : Fin cfg0.N, win0_2.index t (0 : Fin 3) = 0 ∧ win0_2.index t (1 : Fin 3) = t.val / 4 ∧ win0_2.index t (2 : Fin 3) = 0 :=
  (by decide +kernel : ∀ t : Fin grid0.N, _)

/-- The result is written back at a sweep's last point only. -/
theorem flush_out : ∀ t : Fin cfg0.N, (cfg0.win 2).flush t = true → t.val % 4 = 3 :=
  (by decide +kernel : ∀ t : Fin grid0.N, _)

/-- What the call writes: the sum over all the rows, in the first half; the other half is never written. -/
def whole (A : S8192x2816.Idx → EReal) (B : S8192x1024.Idx → EReal) : S1x5632x1024.Idx → EReal :=
  fun i => ∑ k : Fin 8192, term A B (i 1).val (i 2).val k.val

/-- The call's array after the run, at a row of the first half. -/
theorem res_first (c : Dev nD) (z : Fin 1) (p : Fin 5632) (q : Fin 1024) (hp : p.val < 2816) :
    @Eq EReal ((dats m 0 c).arrAt 2 cfg0.N (ix3 z p q))
      (∑ k : Fin 8192, termAt m c p.val q.val k.val) := by
  have h := congrFun ((dats m 0 c).arrAt_eq_of_coversWhere 2 (whole (m ((c : Thread nD τ).loc main_arg0)) (m ((c : Thread nD τ).loc main_arg1)))
    (P := fun i => (i 1).val < 2816) (fun β => β (1 : Fin _) < 2) (by decide +kernel) (fun t hf y => ?_)
    (fun j => by blk_simp [Pipeline.Window.cell_apply]; omega)) (ix3 z p q)
  · exact h.trans (if_pos hp)
  · obtain ⟨h0, h1, h2⟩ := idx_out t
    have h3 := flush_out t hf
    have ht : t.val < 8 := lt_of_lt_of_eq t.isLt N_0
    have hy1 : (y 1).val < 1408 := (y 1).isLt
    have hy0 : (y 0).val < 1 := (y 0).isLt
    blk_simp
    rw [after0_2]
    have e : (win0_2.blk t).view.emb y = ix3 (y 0) (⟨1408 * (t.val / 4) + (y 1).val, by omega⟩ : Fin 5632) (y 2) := by
      funext a
      apply Fin.ext
      match a with
      | ⟨0, _⟩ => show win0_2.index t 0 * 1 + 1 * (y 0).val = (y 0).val; rw [h0]; omega
      | ⟨1, _⟩ => show win0_2.index t 1 * 1408 + 1 * (y 1).val = 1408 * (t.val / 4) + (y 1).val; rw [h1]; omega
      | ⟨2, _⟩ => show win0_2.index t 2 * 1024 + 1 * (y 2).val = (y 2).val; rw [h2]; omega
    have hy : y = ix3 (y 0) (y 1) (y 2) := by
      funext a
      match a with
      | ⟨0, _⟩ => rfl
      | ⟨1, _⟩ => rfl
      | ⟨2, _⟩ => rfl
    rw [e]
    refine (congrArg _ hy).trans ((out_eq m c t.val t.isLt h3 (y 0) (y 1) (y 2)).trans ((acc_eq m c t.val t.isLt (y 1) (y 2)).trans ?_))
    rw [h3, Finset.sum_range]
    rfl

open Cert.DwUpURefIdeal Cert.DwUpURefIdeal.Gen Cert.DwUpURefIdeal.Read in
/-- The reference's result: the sum over all the rows. -/
theorem ref_apply (A : Vec Ideal S8192x2816 .bf16) (B : Vec Ideal S8192x1024 .bf16) (z : Fin 1) (p : Fin 2816) (q : Fin 1024) :
    @Eq EReal (val_main_v10 (F := Ideal) A B (ix3 z p q)) (∑ k : Fin 8192, term A B p.val q.val k.val) := by
  unfold val_main_v10 val_main_v9 val_main_v8 val_main_v7 val_main_v6 val_main_v5 val_main_v1
  pointwise
  refine Finset.sum_congr rfl fun k _ => ?_
  rw [term, dif_pos ⟨p.isLt, q.isLt, k.isLt⟩]

section Run
variable {F : FTy → Type} [FloatOps F] (m : (ℓ : Loc nD τ sig) → Buf (Elt F) ℓ) (ρ : Dev nD → PrngReg)

/-- The run of the whole program: the result is the first half of the call's array, and the arguments are unchanged. -/
theorem run_half : θ_run defs (onTc (τ := τ) (main (F := F))) ⟨m, fun _ => 0, ρ⟩ fun r => ∀ c : Dev nD,
      r.2.mem ((c : Thread nD τ).loc main_v1) = extractStridedSlice S1x2816x1024 ![0, 0, 0] ((dats m 0 c).arrAt 2 cfg0.N) slices_S1x5632x1024_S1x2816x1024_0_0_0
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).2 main_v1 (Pipeline.mem_restRefs_of main_v1 (by decide) (by decide))).trans (by
      unfold Pipeline.afterTail₀
      after_results
      exact congrArg (extractStridedSlice S1x2816x1024 ![0, 0, 0] · slices_S1x5632x1024_S1x2816x1024_0_0_0)
        (Pipeline.withArrays_arr spec0 (by decide) c (V0 m c) (fun w => (dats m 0 c).arrAt w cfg0.N) 2)),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩) (run_main m ρ)

end Run

/-- The program's result is the reference's. -/
theorem res (c : Dev nD) : extractStridedSlice S1x2816x1024 ![0, 0, 0] ((dats m 0 c).arrAt 2 cfg0.N) slices_S1x5632x1024_S1x2816x1024_0_0_0
      = Cert.DwUpURefIdeal.Read.val_main_v10 (F := Ideal) (m ((c : Thread nD τ).loc main_arg0)) (m ((c : Thread nD τ).loc main_arg1)) := by
  funext i
  obtain ⟨z, p, q, rfl⟩ : ∃ z p q, i = ix3 z p q := ⟨i 0, i 1, i 2, by
    funext a
    match a with
    | ⟨0, _⟩ => rfl
    | ⟨1, _⟩ => rfl
    | ⟨2, _⟩ => rfl⟩
  have hp : p.val < 2816 := p.isLt
  refine Eq.trans ?_ (ref_apply _ _ z p q).symm
  refine Eq.trans (congrArg ((dats m 0 c).arrAt 2 cfg0.N) (?_ : _ = ix3 z (⟨p.val, by omega⟩ : Fin 5632) q)) (res_first m c z _ q hp)
  funext a
  apply Fin.ext
  match a with
  | ⟨0, _⟩ => show 0 + z.val = z.val; omega
  | ⟨1, _⟩ => show 0 + p.val = p.val; omega
  | ⟨2, _⟩ => show 0 + q.val = q.val; omega

end Cert.DwUpUIdeal.Val
-- ==== Proof.PwWCases.lean ====
module

public import proofs.«01_k».proof.Proof.Common
public import proofs.«01_k».proof.Proof.Gen.PwWIdeal.Value

@[expose] public section

set_option maxRecDepth 16384

noncomputable section

open Idealize.ShloMosaic Idealize.ShloMosaic.TcCoe Idealize.SL.Sem
open Idealize.ShloMosaic.Pipeline (Dat)

namespace Cert.PwWIdeal.Val

open Cert.PwWIdeal Cert.PwWIdeal.Gen Cert.Common

section Cases
variable {F : FTy → Type} [FloatOps F]

/-- The first point of a sweep leaves, in the accumulator, the point's product added to zero. -/
theorem sout_A (c : Dev nD) (i : grid0.Coords) (a2 : Memref sig .tc .vmem S2048x1024 .bf16) (h2 : a2.IsWhole)
    (a3 : Memref sig .tc .vmem S2048x1024 .bf16) (h3 : a3.IsWhole) (a4 : Memref sig .tc .vmem S1x1024x1024 .bf16) (h4 : a4.IsWhole)
    (a5 : Memref sig .tc .vmem S1024x1024 .f32) (h5 : a5.IsWhole) (hc0 : cond0_0 i) (hc1 : ¬cond0_1 i)
    (x0 : Vec F S2048x1024 .bf16) (x1 : Vec F S2048x1024 .bf16) :
    sout0_A_0 c i a2 h2 a3 h3 a4 h4 a5 h5 hc0 hc1 x0 x1 = k0_pay2 k0_pay1 x0 x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1024x1024) hz2, View.readCov_unit_zero (S := S1024x1024) _ hz2]
  simp only [View.readAt_eq_ld, h2.read_unread, h3.read_unread, View.ld_unit_zero (S := S2048x1024) hz2, View.ld_unit_zero (S := S2048x1024) hz2]

/-- A middle point of a sweep adds its product to the accumulator. -/
theorem sout_B (c : Dev nD) (i : grid0.Coords) (a2 : Memref sig .tc .vmem S2048x1024 .bf16) (h2 : a2.IsWhole)
    (a3 : Memref sig .tc .vmem S2048x1024 .bf16) (h3 : a3.IsWhole) (a4 : Memref sig .tc .vmem S1x1024x1024 .bf16) (h4 : a4.IsWhole)
    (a5 : Memref sig .tc .vmem S1024x1024 .f32) (h5 : a5.IsWhole) (hc0 : ¬cond0_0 i) (hc1 : ¬cond0_1 i)
    (x0 : Vec F S2048x1024 .bf16) (x1 : Vec F S2048x1024 .bf16) (xs : Vec F S1024x1024 .f32) :
    sout0_B_0 c i a2 h2 a3 h3 a4 h4 a5 h5 hc0 hc1 x0 x1 xs = k0_pay2 xs x0 x1 := by
  unfold sout0_B_0
  rw [View.read_writes_eq_canon _ _ _ (scover0_B_0 c i a2 h2 a3 h3 a4 h4 a5 h5 hc0 hc1 x0 x1 xs)]
  unfold kernelRun0_B
  dsimp only
  rw [View.canon_unit_zero (S := S1024x1024) hz2]
  simp only [View.readAt_eq_ld, h2.read_unread, h3.read_unread, h5.read_unread, View.ld_unit_zero (S := S2048x1024) hz2,
    View.ld_unit_zero (S := S2048x1024) hz2, View.ld_unit_zero (S := S1024x1024) hz2]

/-- So does the last point of a sweep. -/
theorem sout_C (c : Dev nD) (i : grid0.Coords) (a2 : Memref sig .tc .vmem S2048x1024 .bf16) (h2 : a2.IsWhole)
    (a3 : Memref sig .tc .vmem S2048x1024 .bf16) (h3 : a3.IsWhole) (a4 : Memref sig .tc .vmem S1x1024x1024 .bf16) (h4 : a4.IsWhole)
    (a5 : Memref sig .tc .vmem S1024x1024 .f32) (h5 : a5.IsWhole) (hc0 : ¬cond0_0 i) (hc1 : cond0_1 i)
    (x0 : Vec F S2048x1024 .bf16) (x1 : Vec F S2048x1024 .bf16) (xs : Vec F S1024x1024 .f32) :
    sout0_C_0 c i a2 h2 a3 h3 a4 h4 a5 h5 hc0 hc1 x0 x1 xs = k0_pay2 xs x0 x1 := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero (S := S1024x1024) hz2]
  simp only [View.readAt_eq_ld, h2.read_unread, h3.read_unread, h5.read_unread, View.ld_unit_zero (S := S2048x1024) hz2,
    View.ld_unit_zero (S := S2048x1024) hz2, View.ld_unit_zero (S := S1024x1024) hz2]

/-- The last point of a sweep stores the finished accumulator into the result's block. -/
theorem out_C (c : Dev nD) (i : grid0.Coords) (a2 : Memref sig .tc .vmem S2048x1024 .bf16) (h2 : a2.IsWhole)
    (a3 : Memref sig .tc .vmem S2048x1024 .bf16) (h3 : a3.IsWhole) (a4 : Memref sig .tc .vmem S1x1024x1024 .bf16) (h4 : a4.IsWhole)
    (a5 : Memref sig .tc .vmem S1024x1024 .f32) (h5 : a5.IsWhole) (hc0 : ¬cond0_0 i) (hc1 : cond0_1 i)
    (x0 : Vec F S2048x1024 .bf16) (x1 : Vec F S2048x1024 .bf16) (xs : Vec F S1024x1024 .f32) :
    out0_C_2 c i a2 h2 a3 h3 a4 h4 a5 h5 hc0 hc1 x0 x1 xs = k0_pay3 (k0_pay2 xs x0 x1) := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero (S := S1x1024x1024) hz3, View.readCov_unit_zero (S := S1024x1024) _ hz2]
  simp only [View.readAt_eq_ld, h2.read_unread, h3.read_unread, h5.read_unread, View.ld_unit_zero (S := S2048x1024) hz2,
    View.ld_unit_zero (S := S2048x1024) hz2, View.ld_unit_zero (S := S1024x1024) hz2]

end Cases

end Cert.PwWIdeal.Val
-- ==== Proof.PwWVal.lean ====
module

public import proofs.«01_k».proof.Proof.PwWCases
public import proofs.«01_k».proof.Proof.Gen.PwWRefIdeal.Read
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.PwWIdeal.Val

open Cert.PwWIdeal Cert.PwWIdeal.Gen Cert.Common

/-- The cleared accumulator is zero. -/
theorem pay1_apply (p : Fin 1024) (q : Fin 1024) : (k0_pay1 (F := Ideal)) (ix2 p q) = (0 : EReal) := by
  unfold k0_pay1
  pointwise

/-- One point's update at an entry: the sum over the point's rows is added. -/
theorem pay2_apply (v : Vec Ideal S1024x1024 .f32) (x : Vec Ideal S2048x1024 .bf16) (y : Vec Ideal S2048x1024 .bf16)
    (p : Fin 1024) (q : Fin 1024) :
    k0_pay2 (F := Ideal) v x y (ix2 p q) = (v (ix2 p q) + ∑ k : Fin 2048, x (ix2 k p) * y (ix2 k q) : EReal) := by
  unfold k0_pay2
  pointwise

/-- The stored block holds the accumulator's entries. -/
theorem pay3_apply (v : Vec Ideal S1024x1024 .f32) (z : Fin 1) (p : Fin 1024) (q : Fin 1024) :
    k0_pay3 (F := Ideal) v (ix3 z p q) = v (ix2 p q) := by
  unfold k0_pay3
  pointwise

variable (m : (ℓ : Loc nD τ sig) → Buf (Elt Ideal) ℓ)

/-- The index maps of the two operands: row block `t % 4`, column block `t / 4` of the left one. -/
theorem idx_in : ∀ t : Fin cfg0.N, win0_0.index t (0 : Fin 2) = t.val % 4 ∧ win0_0.index t (1 : Fin 2) = t.val / 4
    ∧ win0_1.index t (0 : Fin 2) = t.val % 4 ∧ win0_1.index t (1 : Fin 2) = 0 :=
  (by decide +kernel : ∀ t : Fin grid0.N, _)

/-- The left operand's block at a point, read off the array. -/
theorem iblk0 (c : Dev nD) (t : Fin cfg0.N) (k : Fin 2048) (p : Fin 1024) (K : Fin 8192) (P : Fin 2048)
    (hK : K.val = 2048 * (t.val % 4) + k.val) (hP : P.val = 1024 * (t.val / 4) + p.val) :
    iblk m c 0 t (ix2 k p) = m ((c : Thread nD τ).loc main_arg0) (ix2 K P) := by
  obtain ⟨h0, h1, -, -⟩ := idx_in t
  unfold iblk
  rw [View.read_apply]
  show V m c main_arg0 _ = m ((c : Thread nD τ).loc main_arg0) _
  rw [V_main_arg0]
  congr 1
  funext a
  apply Fin.ext
  match a with
  | ⟨0, _⟩ => show win0_0.index t 0 * 2048 + 1 * k.val = K.val; rw [h0]; omega
  | ⟨1, _⟩ => show win0_0.index t 1 * 1024 + 1 * p.val = P.val; rw [h1]; omega

/-- The right operand's block at a point, read off the array. -/
theorem iblk1 (c : Dev nD) (t : Fin cfg0.N) (k : Fin 2048) (q : Fin 1024) (K : Fin 8192)
    (hK : K.val = 2048 * (t.val % 4) + k.val) :
    iblk m c 1 t (ix2 k q) = m ((c : Thread nD τ).loc main_arg1) (ix2 K q) := by
  obtain ⟨-, -, h0, h1⟩ := idx_in t
  unfold iblk
  rw [View.read_apply]
  show V m c main_arg1 _ = m ((c : Thread nD τ).loc main_arg1) _
  rw [V_main_arg1]
  congr 1
  funext a
  apply Fin.ext
  match a with
  | ⟨0, _⟩ => show win0_1.index t 0 * 2048 + 1 * k.val = K.val; rw [h0]; omega
  | ⟨1, _⟩ => show win0_1.index t 1 * 1024 + 1 * q.val = q.val; rw [h1]; omega

/-- One term of the result's sum: row `k` of the operands, at output row `p` and column `q`; zero past the arrays. -/
def term (A : S8192x2048.Idx → EReal) (B : S8192x1024.Idx → EReal) (p q k : ℕ) : EReal :=
  if h : p < 2048 ∧ q < 1024 ∧ k < 8192 then A (ix2 ⟨k, h.2.2⟩ ⟨p, h.1⟩) * B (ix2 ⟨k, h.2.2⟩ ⟨q, h.2.1⟩) else 0

/-- The terms at the arrays the kernel is launched on. -/
abbrev termAt (c : Dev nD) (p q k : ℕ) : EReal :=
  term (m ((c : Thread nD τ).loc main_arg0)) (m ((c : Thread nD τ).loc main_arg1)) p q k

/-- What a point adds to the accumulator is its rows' terms. -/
theorem pay2_block (c : Dev nD) (t : Fin cfg0.N) (v : Vec Ideal S1024x1024 .f32) (p : Fin 1024) (q : Fin 1024) :
    k0_pay2 (F := Ideal) v (iblk m c 0 t) (iblk m c 1 t) (ix2 p q)
      = (v (ix2 p q) + ∑ k : Fin 2048, termAt m c (1024 * (t.val / 4) + p.val) q.val (2048 * (t.val % 4) + k.val) : EReal) := by
  have ht : t.val < 8 := lt_of_lt_of_eq t.isLt N_0
  rw [pay2_apply]
  congr 1
  refine Finset.sum_congr rfl fun k _ => ?_
  have hb : 1024 * (t.val / 4) + p.val < 2048 ∧ q.val < 1024 ∧ 2048 * (t.val % 4) + k.val < 8192 := by
    have := p.isLt; have := k.isLt; exact ⟨by omega, q.isLt, by omega⟩
  rw [termAt, term, dif_pos hb, iblk0 m c t k p ⟨_, hb.2.2⟩ ⟨_, hb.1⟩ rfl rfl, iblk1 m c t k q ⟨_, hb.2.2⟩ rfl]

/-- After point `n` the accumulator holds the terms of the rows its sweep has reached. -/
theorem acc_eq (c : Dev nD) : ∀ (n : ℕ) (hn : n < cfg0.N) (p : Fin 1024) (q : Fin 1024),
    (outsAt0 m c n hn).2 (ix2 p q)
      = (∑ k ∈ Finset.range (2048 * (n % 4 + 1)), termAt m c (1024 * (n / 4) + p.val) q.val k : EReal)
  | n, hn, p, q => by
    by_cases h0 : n % 4 = 0
    · rw [outsAt0_A m c ⟨n, hn⟩ h0 (by dsimp only; omega)]
      dsimp only
      rw [sout_A, pay2_block, pay1_apply, sum_block]
      dsimp only
      rw [h0]
      simp only [Nat.mul_zero, Finset.range_zero, Finset.sum_empty]
    · obtain ⟨n, rfl⟩ : ∃ n', n = n' + 1 := ⟨n - 1, by omega⟩
      have ih := acc_eq c n (Nat.lt_of_succ_lt hn) p q
      have hm : (n + 1) % 4 = n % 4 + 1 := by omega
      have hd : (n + 1) / 4 = n / 4 := by omega
      by_cases h1 : (n + 1) % 4 = 3
      · rw [outsAt0_C m c ⟨n + 1, hn⟩ h0 h1]
        dsimp only
        rw [sout_C, pay2_block, sum_block]
        show (outsAt0 m c n _).2 (ix2 p q) + _ = _
        rw [ih, hm, hd]
      · rw [outsAt0_B m c ⟨n + 1, hn⟩ h0 h1]
        dsimp only
        rw [sout_B, pay2_block, sum_block]
        show (outsAt0 m c n _).2 (ix2 p q) + _ = _
        rw [ih, hm, hd]

/-- The result's block at a sweep's last point holds the accumulator's entries. -/
theorem out_eq (c : Dev nD) (n : ℕ) (hn : n < cfg0.N) (h3 : n % 4 = 3) (z : Fin 1) (p : Fin 1024) (q : Fin 1024) :
    (outsAt0 m c n hn).1 (ix3 z p q) = (outsAt0 m c n hn).2 (ix2 p q) := by
  rw [outsAt0_C m c ⟨n, hn⟩ (by dsimp only; omega) h3]
  dsimp only
  rw [out_C, sout_C, pay3_apply]

/-- The kernel's result array: at row `p` and column `q`, the sum over all the rows of the operands. -/
theorem G2_apply (c : Dev nD) (i : S1x2048x1024.Idx) :
    @Eq EReal (Value.G2 m c i) (∑ k : Fin 8192, termAt m c (i 1).val (i 2).val k.val) := by
  have h1 : (i 1).val < 2048 := (i 1).isLt
  have h2 : (i 2).val < 1024 := (i 2).isLt
  have h0 : (i 0).val < 1 := (i 0).isLt
  have hp : Value.pt2Of i = 4 * ((i 1).val / 1024) + 3 := by
    show 4 * (2 * ((i 0).val / 1 - 0) + 1 * ((i 1).val / 1024 - 0) + 1 * ((i 2).val / 1024 - 0)) + 3 = _
    omega
  have hN : Value.pt2Of i < cfg0.N := by rw [show cfg0.N = 8 from N_0, hp]; omega
  have hl : Value.loc2Of i = ix3 ⟨(i 0).val % 1, Nat.mod_lt _ (by decide)⟩ ⟨(i 1).val % 1024, Nat.mod_lt _ (by decide)⟩ ⟨(i 2).val % 1024, Nat.mod_lt _ (by decide)⟩ := by
    funext a
    match a with
    | ⟨0, _⟩ => rfl
    | ⟨1, _⟩ => rfl
    | ⟨2, _⟩ => rfl
  unfold Value.G2
  rw [dif_pos hN, ← Value.outsAt0_sweep m c _ hN, hl, out_eq m c _ hN (by rw [hp]; omega), acc_eq]
  rw [hp, show 2048 * ((4 * ((i 1).val / 1024) + 3) % 4 + 1) = 8192 by omega,
    show (4 * ((i 1).val / 1024) + 3) / 4 = (i 1).val / 1024 by omega]
  rw [Finset.sum_range]
  refine Finset.sum_congr rfl fun k _ => ?_
  dsimp only
  rw [show 1024 * ((i 1).val / 1024) + (i 1).val % 1024 = (i 1).val by omega, show (i 2).val % 1024 = (i 2).val by omega]

end Cert.PwWIdeal.Val

namespace Cert.PwWIdeal.Val

open Cert.PwWRefIdeal Cert.PwWRefIdeal.Read

/-- The reference's result at an entry: the same sum. -/
theorem ref_apply (A : Vec Ideal S8192x2048 .bf16) (B : Vec Ideal S8192x1024 .bf16) (z : Fin 1) (p : Fin 2048) (q : Fin 1024) :
    @Eq EReal (val_main_v10 (F := Ideal) A B (ix3 z p q)) (∑ k : Fin 8192, term A B p.val q.val k.val) := by
  unfold val_main_v10 val_main_v9 val_main_v8 val_main_v7 val_main_v6 val_main_v5 val_main_v1
  pointwise
  refine Finset.sum_congr rfl fun k _ => ?_
  rw [term, dif_pos ⟨p.isLt, q.isLt, k.isLt⟩]

/-- The kernel's result is the reference's. -/
theorem res (m : (ℓ : Loc nD τ sig) → Buf (Elt Ideal) ℓ) (c : Dev nD) :
    Value.G2 m c = val_main_v10 (F := Ideal) (m ((c : Thread nD τ).loc main_arg0)) (m ((c : Thread nD τ).loc main_arg1)) := by
  funext i
  obtain ⟨z, p, q, rfl⟩ : ∃ z p q, i = ix3 z p q := ⟨i 0, i 1, i 2, by
    funext a
    match a with
    | ⟨0, _⟩ => rfl
    | ⟨1, _⟩ => rfl
    | ⟨2, _⟩ => rfl⟩
  exact (G2_apply m c (ix3 z p q)).trans (ref_apply _ _ z p q).symm

end Cert.PwWIdeal.Val
-- ==== Proof.lean ====
/- The proofs of the claims of `Cert.Claim`: each call's frames, and its value against its reference. -/
module

public import proofs.«01_k».proof.Defs
public import proofs.«01_k».proof.Proof.Gen.Conv
public import proofs.«01_k».proof.Proof.Gen.Conv.Skeleton
public import proofs.«01_k».proof.Proof.Gen.Conv.Loops
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Loops
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.Gate
public import proofs.«01_k».proof.Proof.Gen.Gate.Skeleton
public import proofs.«01_k».proof.Proof.Gen.Gate.Loops
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Loops
public import proofs.«01_k».proof.Proof.Gen.GateIdeal.Launch
public import proofs.«01_k».proof.Proof.Gen.GateIdeal.Points
public import proofs.«01_k».proof.Proof.Gen.GateIdeal.Frame
public import proofs.«01_k».proof.Proof.Gen.GateRefIdeal
public import proofs.«01_k».proof.Proof.Gen.DwUp
public import proofs.«01_k».proof.Proof.Gen.DwUp.Skeleton
public import proofs.«01_k».proof.Proof.Gen.DwUp.Launch
public import proofs.«01_k».proof.Proof.Gen.DwUp.Points
public import proofs.«01_k».proof.Proof.Gen.DwUp.Frame
public import proofs.«01_k».proof.Proof.Gen.DwUpIdeal
public import proofs.«01_k».proof.Proof.Gen.DwUpIdeal.Skeleton
public import proofs.«01_k».proof.Proof.Gen.DwUpIdeal.Launch
public import proofs.«01_k».proof.Proof.Gen.DwUpIdeal.Points
public import proofs.«01_k».proof.Proof.Gen.DwUpIdeal.Frame
public import proofs.«01_k».proof.Proof.Gen.DwUpRefIdeal
public import proofs.«01_k».proof.Proof.Gen.Dact
public import proofs.«01_k».proof.Proof.Gen.Dact.Skeleton
public import proofs.«01_k».proof.Proof.Gen.Dact.Launch
public import proofs.«01_k».proof.Proof.Gen.Dact.Points
public import proofs.«01_k».proof.Proof.Gen.Dact.Frame
public import proofs.«01_k».proof.Proof.Gen.DactIdeal
public import proofs.«01_k».proof.Proof.Gen.DactIdeal.Skeleton
public import proofs.«01_k».proof.Proof.Gen.DactIdeal.Launch
public import proofs.«01_k».proof.Proof.Gen.DactIdeal.Points
public import proofs.«01_k».proof.Proof.Gen.DactIdeal.Frame
public import proofs.«01_k».proof.Proof.Gen.DactRefIdeal
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostRefIdeal
public import proofs.«01_k».proof.Proof.Gen.UpFwd
public import proofs.«01_k».proof.Proof.Gen.UpFwdIdeal
public import proofs.«01_k».proof.Proof.Gen.UpFwdIdeal.Skeleton
public import proofs.«01_k».proof.Proof.Gen.UpFwdIdeal.Launch
public import proofs.«01_k».proof.Proof.Gen.UpFwdIdeal.Points
public import proofs.«01_k».proof.Proof.Gen.UpFwdRefIdeal
public import proofs.«01_k».proof.Proof.Gen.DownFwd
public import proofs.«01_k».proof.Proof.Gen.DownFwd.Skeleton
public import proofs.«01_k».proof.Proof.Gen.DownFwd.Launch
public import proofs.«01_k».proof.Proof.Gen.DownFwd.Points
public import proofs.«01_k».proof.Proof.Gen.DownFwd.Frame
public import proofs.«01_k».proof.Proof.Gen.DownFwdIdeal
public import proofs.«01_k».proof.Proof.Gen.DownFwdIdeal.Skeleton
public import proofs.«01_k».proof.Proof.Gen.DownFwdIdeal.Launch
public import proofs.«01_k».proof.Proof.Gen.DownFwdIdeal.Points
public import proofs.«01_k».proof.Proof.Gen.DownFwdIdeal.Frame
public import proofs.«01_k».proof.Proof.Gen.DownFwdRefIdeal
public import proofs.«01_k».proof.Proof.Gen.AttnDx
public import proofs.«01_k».proof.Proof.Gen.AttnDx.Skeleton
public import proofs.«01_k».proof.Proof.Gen.AttnDx.Launch
public import proofs.«01_k».proof.Proof.Gen.AttnDx.Points
public import proofs.«01_k».proof.Proof.Gen.AttnDx.Frame
public import proofs.«01_k».proof.Proof.Gen.AttnDxIdeal
public import proofs.«01_k».proof.Proof.Gen.AttnDxIdeal.Skeleton
public import proofs.«01_k».proof.Proof.Gen.AttnDxIdeal.Launch
public import proofs.«01_k».proof.Proof.Gen.AttnDxIdeal.Points
public import proofs.«01_k».proof.Proof.Gen.AttnDxIdeal.Frame
public import proofs.«01_k».proof.Proof.Gen.AttnDxRefIdeal
public import proofs.«01_k».proof.Proof.Gen.AttnDxIdeal.Value
public import proofs.«01_k».proof.Proof.Gen.AttnDxRefIdeal.Run
public import proofs.«01_k».proof.Proof.Gen.AttnDxRefIdeal.Read
public import proofs.«01_k».proof.Proof.Gen.ConvDx
public import proofs.«01_k».proof.Proof.Gen.ConvDx.Skeleton
public import proofs.«01_k».proof.Proof.Gen.ConvDx.Launch
public import proofs.«01_k».proof.Proof.Gen.ConvDx.Points
public import proofs.«01_k».proof.Proof.Gen.ConvDx.Frame
public import proofs.«01_k».proof.Proof.Gen.ConvDxIdeal
public import proofs.«01_k».proof.Proof.Gen.ConvDxIdeal.Skeleton
public import proofs.«01_k».proof.Proof.Gen.ConvDxIdeal.Launch
public import proofs.«01_k».proof.Proof.Gen.ConvDxIdeal.Points
public import proofs.«01_k».proof.Proof.Gen.ConvDxIdeal.Frame
public import proofs.«01_k».proof.Proof.Gen.ConvDxRefIdeal
public import proofs.«01_k».proof.Proof.Gen.ConvDxIdeal.Value
public import proofs.«01_k».proof.Proof.Gen.ConvDxRefIdeal.Run
public import proofs.«01_k».proof.Proof.Gen.ConvDxRefIdeal.Read
public import proofs.«01_k».proof.Proof.Gen.DwUpU
public import proofs.«01_k».proof.Proof.Gen.DwUpU.Skeleton
public import proofs.«01_k».proof.Proof.Gen.DwUpU.Launch
public import proofs.«01_k».proof.Proof.Gen.DwUpU.Points
public import proofs.«01_k».proof.Proof.Gen.DwUpU.Frame
public import proofs.«01_k».proof.Proof.Gen.DwUpUIdeal
public import proofs.«01_k».proof.Proof.Gen.DwUpUIdeal.Skeleton
public import proofs.«01_k».proof.Proof.Gen.DwUpUIdeal.Launch
public import proofs.«01_k».proof.Proof.Gen.DwUpUIdeal.Points
public import proofs.«01_k».proof.Proof.Gen.DwUpUIdeal.Frame
public import proofs.«01_k».proof.Proof.Gen.DwUpURefIdeal
public import proofs.«01_k».proof.Proof.Gen.DwUpURefIdeal.Run
public import proofs.«01_k».proof.Proof.Gen.DwUpURefIdeal.Read
public import proofs.«01_k».proof.Proof.Gen.PwW
public import proofs.«01_k».proof.Proof.Gen.PwW.Skeleton
public import proofs.«01_k».proof.Proof.Gen.PwW.Launch
public import proofs.«01_k».proof.Proof.Gen.PwW.Points
public import proofs.«01_k».proof.Proof.Gen.PwW.Frame
public import proofs.«01_k».proof.Proof.Gen.PwWIdeal
public import proofs.«01_k».proof.Proof.Gen.PwWIdeal.Skeleton
public import proofs.«01_k».proof.Proof.Gen.PwWIdeal.Launch
public import proofs.«01_k».proof.Proof.Gen.PwWIdeal.Points
public import proofs.«01_k».proof.Proof.Gen.PwWIdeal.Frame
public import proofs.«01_k».proof.Proof.Gen.PwWIdeal.Value
public import proofs.«01_k».proof.Proof.Gen.PwWRefIdeal
public import proofs.«01_k».proof.Proof.Gen.PwWRefIdeal.Run
public import proofs.«01_k».proof.Proof.Gen.PwWRefIdeal.Read
public import proofs.«01_k».proof.Proof.Gen.Pre_gate_finite
public import proofs.«01_k».proof.Proof.Gen.ConvIdeal.Value
public import proofs.«01_k».proof.Proof.Gen.ConvRefIdeal.Run
public import proofs.«01_k».proof.Proof.Gen.ConvRefIdeal.Read
public import proofs.«01_k».proof.Proof.Gen.UpIdeal.Value
public import proofs.«01_k».proof.Proof.Gen.UpRefIdeal.Run
public import proofs.«01_k».proof.Proof.Gen.UpRefIdeal.Read
public import proofs.«01_k».proof.Proof.Gen.DownIdeal.Value
public import proofs.«01_k».proof.Proof.Gen.DownRefIdeal.Run
public import proofs.«01_k».proof.Proof.Gen.DownRefIdeal.Read
public import proofs.«01_k».proof.Proof.Gen.DactIdeal.Value
public import proofs.«01_k».proof.Proof.Gen.DactRefIdeal.Run
public import proofs.«01_k».proof.Proof.Gen.DactRefIdeal.Read
public import proofs.«01_k».proof.Proof.Gen.DwUpIdeal.Value
public import proofs.«01_k».proof.Proof.Gen.DwUpRefIdeal.Run
public import proofs.«01_k».proof.Proof.Gen.DwUpRefIdeal.Read
public import proofs.«01_k».proof.Proof.Gen.GateRefIdeal.Run
public import proofs.«01_k».proof.Proof.Gen.GateRefIdeal.Read
public import proofs.«01_k».proof.Proof.Gen.PostIdeal.Value
public import proofs.«01_k».proof.Proof.Gen.PostRefIdeal.Run
public import proofs.«01_k».proof.Proof.Gen.PostRefIdeal.Read
public import proofs.«01_k».proof.Proof.Gen.UpFwdRefIdeal.Run
public import proofs.«01_k».proof.Proof.Gen.UpFwdRefIdeal.Read
public import proofs.«01_k».proof.Proof.Gen.DownFwdIdeal.Value
public import proofs.«01_k».proof.Proof.Gen.DownFwdRefIdeal.Run
public import proofs.«01_k».proof.Proof.Gen.DownFwdRefIdeal.Read
public import proofs.«01_k».proof.Proof.ConvVal
public import proofs.«01_k».proof.Proof.UpVal
public import proofs.«01_k».proof.Proof.DownVal
public import proofs.«01_k».proof.Proof.DwUpVal
public import proofs.«01_k».proof.Proof.DactVal
public import proofs.«01_k».proof.Proof.GateRes
public import proofs.«01_k».proof.Proof.PostVal
public import proofs.«01_k».proof.Proof.UpFwdVal
public import proofs.«01_k».proof.Proof.DownFwdVal
public import proofs.«01_k».proof.Proof.AttnDxVal
public import proofs.«01_k».proof.Proof.ConvDxVal
public import proofs.«01_k».proof.Proof.DwUpUVal
public import proofs.«01_k».proof.Proof.PwWVal
public import Idealize.ShloMosaic.Adequacy
public import Idealize.ShloMosaic.Init

@[expose] public section

noncomputable section

namespace Cert.Proof

open Idealize.ShloMosaic Idealize.SL.Sem

/-! ## The ConvFFN's convolution, in its input -/

/-- The convolution's gradient kernel runs and leaves its arguments. -/
theorem frame_conv : Cert.quiescent_Conv := fun m ρ _ => Cert.Conv.Gen.frame m ρ

/-- The same of its idealization. -/
theorem frame_conv_ideal : Cert.quiescent_ConvIdeal := fun m ρ _ => Cert.ConvIdeal.Gen.frame m ρ

/-- Its reference runs and leaves its arguments; it has no semaphore. -/
theorem frame_conv_ref : Cert.quiescent_ConvRefIdeal := fun m ρ _ =>
  (θ_run Cert.ConvRefIdeal.defs _ _).mono (fun r h => ⟨fun c => (h c).2, Idealize.ShloMosaic.sem_eq_zero_of_no_sems (by decide) r.2⟩) (Cert.ConvRefIdeal.Value.run m ρ)

/-- The kernel's gradient is the reference's at every element, from any arguments. -/
theorem value_conv : Cert.algebraic_ConvIdeal_ConvRefIdeal := fun m ρ m' ρ' _ hag =>
  ⟨fun c => Cert.ConvRefIdeal.Read.val_main_v41 (F := Ideal) (m ((c.tc : Thread _ _).loc Cert.ConvIdeal.main_arg0)) (m ((c.tc : Thread _ _).loc Cert.ConvIdeal.main_arg1)),
    (θ_run Cert.ConvIdeal.defs _ _).mono (fun _ h c => ⟨(h c).1.trans (Cert.ConvIdeal.Val.res m c), (h c).2⟩) (Cert.ConvIdeal.Value.run_blocks m ρ),
    (θ_run Cert.ConvRefIdeal.defs _ _).mono (fun _ h c => ⟨(h c).1.trans ((Cert.ConvRefIdeal.Read.val_main_v41_eq (F := Ideal) _ _).trans
      (by rw [(hag c).1, (hag c).2])), (h c).2⟩) (Cert.ConvRefIdeal.Value.run m' ρ')⟩

/-! ## The ConvFFN's up-projection and its norm, in the layer's input and the norm's weight -/

/-- The up-projection's gradient kernel runs and leaves its arguments. -/
theorem frame_up : Cert.quiescent_Up := fun m ρ _ => Cert.Up.Gen.frame m ρ

/-- The same of its idealization. -/
theorem frame_up_ideal : Cert.quiescent_UpIdeal := fun m ρ _ => Cert.UpIdeal.Gen.frame m ρ

/-- Its reference runs and leaves its arguments; it has no semaphore. -/
theorem frame_up_ref : Cert.quiescent_UpRefIdeal := fun m ρ _ =>
  (θ_run Cert.UpRefIdeal.defs _ _).mono (fun r h => ⟨fun c => (h c).2.2, Idealize.ShloMosaic.sem_eq_zero_of_no_sems (by decide) r.2⟩) (Cert.UpRefIdeal.Value.run m ρ)

/-- The kernel's two gradients are the reference's at every element, from any arguments. -/
theorem value_up : Cert.algebraic_UpIdeal_UpRefIdeal := fun m ρ m' ρ' _ hag =>
  ⟨fun c => Cert.UpRefIdeal.Read.val_main_v41 (F := Ideal) (m ((c.tc : Thread _ _).loc Cert.UpIdeal.main_arg0)) (m ((c.tc : Thread _ _).loc Cert.UpIdeal.main_arg1))
      (m ((c.tc : Thread _ _).loc Cert.UpIdeal.main_arg2)) (m ((c.tc : Thread _ _).loc Cert.UpIdeal.main_arg3))
      (m ((c.tc : Thread _ _).loc Cert.UpIdeal.main_arg4)) (m ((c.tc : Thread _ _).loc Cert.UpIdeal.main_arg5)),
    fun c => Cert.UpRefIdeal.Read.val_main_v24 (F := Ideal) (m ((c.tc : Thread _ _).loc Cert.UpIdeal.main_arg0)) (m ((c.tc : Thread _ _).loc Cert.UpIdeal.main_arg1))
      (m ((c.tc : Thread _ _).loc Cert.UpIdeal.main_arg2)) (m ((c.tc : Thread _ _).loc Cert.UpIdeal.main_arg3)),
    (θ_run Cert.UpIdeal.defs _ _).mono (fun _ h c => ⟨(h c).1.trans (Cert.UpIdeal.Val.res_dx m c), (h c).2.1.trans (Cert.UpIdeal.Val.res_dg m c), (h c).2.2⟩)
      (Cert.UpIdeal.Value.run_blocks m ρ),
    (θ_run Cert.UpRefIdeal.defs _ _).mono (fun _ h c => ⟨(h c).1.trans ((Cert.UpRefIdeal.Read.val_main_v41_eq (F := Ideal) m' c).trans
        (by rw [(hag c).1, (hag c).2.1, (hag c).2.2.1, (hag c).2.2.2.1, (hag c).2.2.2.2.1, (hag c).2.2.2.2.2])),
      (h c).2.1.trans ((Cert.UpRefIdeal.Read.val_main_v24_eq (F := Ideal) _ _ _ _).trans
        (by rw [(hag c).1, (hag c).2.1, (hag c).2.2.1, (hag c).2.2.2.1])), (h c).2.2⟩) (Cert.UpRefIdeal.Value.run m' ρ')⟩

/-! ## The ConvFFN's down-projection, in its weight -/

/-- The weight's gradient kernel runs and leaves its arguments. -/
theorem frame_down : Cert.quiescent_Down := fun m ρ _ => Cert.Down.Gen.frame m ρ

/-- The same of its idealization. -/
theorem frame_down_ideal : Cert.quiescent_DownIdeal := fun m ρ _ => Cert.DownIdeal.Gen.frame m ρ

/-- Its reference runs and leaves its arguments; it has no semaphore. -/
theorem frame_down_ref : Cert.quiescent_DownRefIdeal := fun m ρ _ =>
  (θ_run Cert.DownRefIdeal.defs _ _).mono (fun r h => ⟨fun c => (h c).2, Idealize.ShloMosaic.sem_eq_zero_of_no_sems (by decide) r.2⟩) (Cert.DownRefIdeal.Value.run m ρ)

/-- The kernel's gradient is the reference's at every element, from any arguments. -/
theorem value_down : Cert.algebraic_DownIdeal_DownRefIdeal := fun m ρ m' ρ' _ hag =>
  ⟨fun c => Cert.DownRefIdeal.Read.val_main_v8 (F := Ideal) (m ((c.tc : Thread _ _).loc Cert.DownIdeal.main_arg0)) (m ((c.tc : Thread _ _).loc Cert.DownIdeal.main_arg1)),
    (θ_run Cert.DownIdeal.defs _ _).mono (fun _ h c => ⟨(h c).1.trans (funext fun i => (Cert.DownIdeal.Val.G2_apply m c i).trans
      (Cert.DownIdeal.Val.ref_apply _ _ i).symm), (h c).2⟩) (Cert.DownIdeal.Value.run m ρ),
    (θ_run Cert.DownRefIdeal.defs _ _).mono (fun _ h c => ⟨(h c).1.trans ((Cert.DownRefIdeal.Read.val_main_v8_eq (F := Ideal) _ _).trans
      (by rw [(hag c).1, (hag c).2])), (h c).2⟩) (Cert.DownRefIdeal.Value.run m' ρ')⟩

/-! ## The ConvFFN's gate and its convolution, in both halves and in the taps and biases -/

/-- The gate's gradient kernel runs and leaves its arguments. -/
theorem frame_gate_ideal : Cert.quiescent_GateIdeal := fun m ρ _ => Cert.GateIdeal.Loop.frame_any (F := Ideal) m ρ

set_option maxRecDepth 65536 in
set_option smartUnfolding false in
/-- The same of the program at its words: the run is the one above, read at other values. -/
theorem frame_gate : Cert.quiescent_Gate := fun m ρ _ =>
  (θ_run Cert.GateIdeal.defs _ _).mono (fun _ h => h) (Cert.GateIdeal.Loop.frame_any (F := Bits) m ρ)

/-- The first again, from the memories that the value's precondition admits. -/
theorem frame_gate_pre : Cert.quiescent_GateIdeal_pre_gate_finite := fun m ρ _ => frame_gate_ideal m ρ trivial

/-- The reference runs and leaves its arguments. -/
theorem frame_gate_ref : Cert.quiescent_GateRefIdeal := fun m ρ _ =>
  (θ_run Cert.GateRefIdeal.defs _ _).mono (fun r h => ⟨fun c => (h c).2.2.2.2.2.2, Idealize.ShloMosaic.sem_eq_zero_of_no_sems (by decide) r.2⟩) (Cert.GateRefIdeal.Value.run m ρ)

/-- The same from the memories that the precondition admits. -/
theorem frame_gate_ref_pre : Cert.quiescent_GateRefIdeal_pre_gate_finite := fun m ρ _ => frame_gate_ref m ρ trivial

/-- A stage of the reference over equal operands. -/
theorem stage_eq {A B C D E : Type} (f : A → B → C → D → E) {a a' : A} {b b' : B} {c c' : C} {d d' : D}
    (h : a' = a ∧ b' = b ∧ c' = c ∧ d' = d) : f a' b' c' d' = f a b c d := by
  obtain ⟨rfl, rfl, rfl, rfl⟩ := h
  rfl

/-- All six gradients are the reference's at every element, from real arguments. -/
theorem value_gate : Cert.algebraic_GateIdeal_GateRefIdeal_pre_gate_finite := fun m ρ m' ρ' hp hag =>
  ⟨_, _, _, _, _, _, Cert.GateIdeal.Val.run_res m ρ fun c => Cert.GateIdeal.Ref.pre_real _ _ _ _ (hp c),
    (θ_run Cert.GateRefIdeal.defs _ _).mono (fun _ h c =>
      ⟨(h c).1.trans ((Cert.GateRefIdeal.Read.val_main_v59_eq m' c).trans (stage_eq _ (hag c))),
        (h c).2.1.trans ((Cert.GateRefIdeal.Read.val_main_v60_eq m' c).trans (stage_eq _ (hag c))),
        (h c).2.2.1.trans ((Cert.GateRefIdeal.Read.val_main_v61_eq m' c).trans (stage_eq _ (hag c))),
        (h c).2.2.2.1.trans ((Cert.GateRefIdeal.Read.val_main_v62_eq m' c).trans (stage_eq _ (hag c))),
        (h c).2.2.2.2.1.trans ((Cert.GateRefIdeal.Read.val_main_v63_eq m' c).trans (stage_eq _ (hag c))),
        (h c).2.2.2.2.2.1.trans ((Cert.GateRefIdeal.Read.val_main_v64_eq m' c).trans (stage_eq _ (hag c))), (h c).2.2.2.2.2.2⟩)
      (Cert.GateRefIdeal.Value.run m' ρ')⟩

/-! ## The ConvFFN's up-projection, in the gate's half of its weight -/

/-- The weight's gradient kernel runs and leaves its arguments. -/
theorem frame_dwup : Cert.quiescent_DwUp := fun m ρ _ => Cert.DwUp.Gen.frame m ρ

/-- The same of its idealization. -/
theorem frame_dwup_ideal : Cert.quiescent_DwUpIdeal := fun m ρ _ => Cert.DwUpIdeal.Gen.frame m ρ

/-- Its reference runs and leaves its arguments; it has no semaphore. -/
theorem frame_dwup_ref : Cert.quiescent_DwUpRefIdeal := fun m ρ _ =>
  (θ_run Cert.DwUpRefIdeal.defs _ _).mono (fun r h => ⟨fun c => (h c).2, Idealize.ShloMosaic.sem_eq_zero_of_no_sems (by decide) r.2⟩) (Cert.DwUpRefIdeal.Value.run m ρ)

/-- The kernel's gradient is the reference's at every element, from any arguments. -/
theorem value_dwup : Cert.algebraic_DwUpIdeal_DwUpRefIdeal := fun m ρ m' ρ' _ hag =>
  ⟨fun c => Cert.DwUpRefIdeal.Read.val_main_v12 (F := Ideal) (m ((c.tc : Thread _ _).loc Cert.DwUpIdeal.main_arg0)) (m ((c.tc : Thread _ _).loc Cert.DwUpIdeal.main_arg1)) (m ((c.tc : Thread _ _).loc Cert.DwUpIdeal.main_arg2)),
    (θ_run Cert.DwUpIdeal.defs _ _).mono (fun _ h c => ⟨(h c).1.trans (Cert.DwUpIdeal.Val.res m c), (h c).2⟩) (Cert.DwUpIdeal.Value.run_blocks m ρ),
    (θ_run Cert.DwUpRefIdeal.defs _ _).mono (fun _ h c => ⟨(h c).1.trans ((Cert.DwUpRefIdeal.Read.val_main_v12_eq (F := Ideal) _ _ _).trans
      (by rw [(hag c).1, (hag c).2.1, (hag c).2.2])), (h c).2⟩) (Cert.DwUpRefIdeal.Value.run m' ρ')⟩

/-! ## The ConvFFN's down-projection, in its activations -/

/-- The activations' gradient kernel runs and leaves its arguments. -/
theorem frame_dact : Cert.quiescent_Dact := fun m ρ _ => Cert.Dact.Gen.frame m ρ

/-- The same of its idealization. -/
theorem frame_dact_ideal : Cert.quiescent_DactIdeal := fun m ρ _ => Cert.DactIdeal.Gen.frame m ρ

/-- Its reference runs and leaves its arguments; it has no semaphore. -/
theorem frame_dact_ref : Cert.quiescent_DactRefIdeal := fun m ρ _ =>
  (θ_run Cert.DactRefIdeal.defs _ _).mono (fun r h => ⟨fun c => (h c).2, Idealize.ShloMosaic.sem_eq_zero_of_no_sems (by decide) r.2⟩) (Cert.DactRefIdeal.Value.run m ρ)

/-- The kernel's gradient is the reference's at every element, from any arguments. -/
theorem value_dact : Cert.algebraic_DactIdeal_DactRefIdeal := fun m ρ m' ρ' _ hag =>
  ⟨fun c => Cert.DactRefIdeal.Read.val_main_v5 (F := Ideal) (m ((c.tc : Thread _ _).loc Cert.DactIdeal.main_arg0)) (m ((c.tc : Thread _ _).loc Cert.DactIdeal.main_arg1)),
    (θ_run Cert.DactIdeal.defs _ _).mono (fun _ h c => ⟨(h c).1.trans (Cert.DactIdeal.Val.res m c), (h c).2⟩) (Cert.DactIdeal.Value.run_blocks m ρ),
    (θ_run Cert.DactRefIdeal.defs _ _).mono (fun _ h c => ⟨(h c).1.trans ((Cert.DactRefIdeal.Read.val_main_v5_eq (F := Ideal) _ _).trans
      (by rw [(hag c).1, (hag c).2])), (h c).2⟩) (Cert.DactRefIdeal.Value.run m' ρ')⟩

/-! ## The norm after the ConvFFN, in the layer's result and the norm's weight -/

/-- The norm's gradient kernel runs and leaves its arguments. -/
theorem frame_post : Cert.quiescent_Post := fun m ρ _ => Cert.Post.Gen.frame m ρ

/-- The same of its idealization. -/
theorem frame_post_ideal : Cert.quiescent_PostIdeal := fun m ρ _ => Cert.PostIdeal.Gen.frame m ρ

/-- Its reference runs and leaves its arguments; it has no semaphore. -/
theorem frame_post_ref : Cert.quiescent_PostRefIdeal := fun m ρ _ =>
  (θ_run Cert.PostRefIdeal.defs _ _).mono (fun r h => ⟨fun c => (h c).2.2, Idealize.ShloMosaic.sem_eq_zero_of_no_sems (by decide) r.2⟩) (Cert.PostRefIdeal.Value.run m ρ)

/-- The kernel's two gradients are the reference's at every element, from any arguments. -/
theorem value_post : Cert.algebraic_PostIdeal_PostRefIdeal := fun m ρ m' ρ' _ hag =>
  ⟨fun c => Cert.PostRefIdeal.Read.val_main_v34 (F := Ideal) (m ((c.tc : Thread _ _).loc Cert.PostIdeal.main_arg0)) (m ((c.tc : Thread _ _).loc Cert.PostIdeal.main_arg1))
      (m ((c.tc : Thread _ _).loc Cert.PostIdeal.main_arg2)),
    fun c => Cert.PostRefIdeal.Read.val_main_v17 (F := Ideal) (m ((c.tc : Thread _ _).loc Cert.PostIdeal.main_arg0)) (m ((c.tc : Thread _ _).loc Cert.PostIdeal.main_arg2)),
    (θ_run Cert.PostIdeal.defs _ _).mono (fun _ h c => ⟨(h c).1.trans (Cert.PostIdeal.Val.res_dy m c), (h c).2.1.trans (Cert.PostIdeal.Val.res_dg m c), (h c).2.2⟩)
      (Cert.PostIdeal.Value.run_blocks m ρ),
    (θ_run Cert.PostRefIdeal.defs _ _).mono (fun _ h c => ⟨(h c).1.trans ((Cert.PostRefIdeal.Read.val_main_v34_eq (F := Ideal) _ _ _).trans
        (by rw [(hag c).1, (hag c).2.1, (hag c).2.2])),
      (h c).2.1.trans ((Cert.PostRefIdeal.Read.val_main_v17_eq (F := Ideal) _ _).trans
        (by rw [(hag c).1, (hag c).2.2])), (h c).2.2⟩) (Cert.PostRefIdeal.Value.run m' ρ')⟩

/-! ## The ConvFFN's norm and up-projection, forward -/

/-- The up-projection kernel runs and leaves its arguments. -/
theorem frame_upfwd_ideal : Cert.quiescent_UpFwdIdeal := fun m ρ _ => Cert.UpFwdIdeal.Run.frame_any (F := Ideal) m ρ

set_option maxRecDepth 65536 in
set_option smartUnfolding false in
/-- The same of the program at its words: the run is the one above, read at other values. -/
theorem frame_upfwd : Cert.quiescent_UpFwd := fun m ρ _ =>
  (θ_run Cert.UpFwdIdeal.defs _ _).mono (fun _ h => h) (Cert.UpFwdIdeal.Run.frame_any (F := Bits) m ρ)

/-- Its reference runs and leaves its arguments; it has no semaphore. -/
theorem frame_upfwd_ref : Cert.quiescent_UpFwdRefIdeal := fun m ρ _ =>
  (θ_run Cert.UpFwdRefIdeal.defs _ _).mono (fun r h => ⟨fun c => (h c).2.2, Idealize.ShloMosaic.sem_eq_zero_of_no_sems (by decide) r.2⟩) (Cert.UpFwdRefIdeal.Value.run m ρ)

/-- The normed rows and their product are the reference's at every element, from any arguments. -/
theorem value_upfwd : Cert.algebraic_UpFwdIdeal_UpFwdRefIdeal := fun m ρ m' ρ' _ hag =>
  ⟨fun c => Cert.UpFwdRefIdeal.Read.val_main_v12 (F := Ideal) (m ((c.tc : Thread _ _).loc Cert.UpFwdIdeal.main_arg0)) (m ((c.tc : Thread _ _).loc Cert.UpFwdIdeal.main_arg1)),
    fun c => Cert.UpFwdRefIdeal.Read.val_main_v17 (F := Ideal) (m ((c.tc : Thread _ _).loc Cert.UpFwdIdeal.main_arg0)) (m ((c.tc : Thread _ _).loc Cert.UpFwdIdeal.main_arg1))
      (m ((c.tc : Thread _ _).loc Cert.UpFwdIdeal.main_arg2)),
    (θ_run Cert.UpFwdIdeal.defs _ _).mono (fun _ h c => ⟨(h.1 c).1.trans (Cert.UpFwdIdeal.Val.res_h m c), (h.1 c).2.1.trans (Cert.UpFwdIdeal.Val.res_z m c), (h.1 c).2.2⟩)
      (Cert.UpFwdIdeal.Run.run_any m ρ),
    (θ_run Cert.UpFwdRefIdeal.defs _ _).mono (fun _ h c => ⟨(h c).1.trans ((Cert.UpFwdRefIdeal.Read.val_main_v12_eq (F := Ideal) _ _).trans
        (by rw [(hag c).1, (hag c).2.1])),
      (h c).2.1.trans ((Cert.UpFwdRefIdeal.Read.val_main_v17_eq (F := Ideal) _ _ _).trans
        (by rw [(hag c).1, (hag c).2.1, (hag c).2.2])), (h c).2.2⟩) (Cert.UpFwdRefIdeal.Value.run m' ρ')⟩

/-! ## The ConvFFN's down-projection, its norm and the residual, forward -/

/-- The down-projection kernel runs and leaves its arguments. -/
theorem frame_downfwd : Cert.quiescent_DownFwd := fun m ρ _ => Cert.DownFwd.Gen.frame m ρ

/-- The same of its idealization. -/
theorem frame_downfwd_ideal : Cert.quiescent_DownFwdIdeal := fun m ρ _ => Cert.DownFwdIdeal.Gen.frame m ρ

/-- Its reference runs and leaves its arguments; it has no semaphore. -/
theorem frame_downfwd_ref : Cert.quiescent_DownFwdRefIdeal := fun m ρ _ =>
  (θ_run Cert.DownFwdRefIdeal.defs _ _).mono (fun r h => ⟨fun c => (h c).2.2, Idealize.ShloMosaic.sem_eq_zero_of_no_sems (by decide) r.2⟩) (Cert.DownFwdRefIdeal.Value.run m ρ)

/-- The product and the layer's result are the reference's at every element, from any arguments. -/
theorem value_downfwd : Cert.algebraic_DownFwdIdeal_DownFwdRefIdeal := fun m ρ m' ρ' _ hag =>
  ⟨fun c => Cert.DownFwdRefIdeal.Read.val_main_v2 (F := Ideal) (m ((c.tc : Thread _ _).loc Cert.DownFwdIdeal.main_arg0)) (m ((c.tc : Thread _ _).loc Cert.DownFwdIdeal.main_arg1)),
    fun c => Cert.DownFwdRefIdeal.Read.val_main_v15 (F := Ideal) (m ((c.tc : Thread _ _).loc Cert.DownFwdIdeal.main_arg0)) (m ((c.tc : Thread _ _).loc Cert.DownFwdIdeal.main_arg1))
      (m ((c.tc : Thread _ _).loc Cert.DownFwdIdeal.main_arg2)) (m ((c.tc : Thread _ _).loc Cert.DownFwdIdeal.main_arg3)),
    (θ_run Cert.DownFwdIdeal.defs _ _).mono (fun _ h c => ⟨(h c).1.trans (Cert.DownFwdIdeal.Val.res_y m c), (h c).2.1.trans (Cert.DownFwdIdeal.Val.res_out m c), (h c).2.2⟩)
      (Cert.DownFwdIdeal.Value.run_blocks m ρ),
    (θ_run Cert.DownFwdRefIdeal.defs _ _).mono (fun _ h c => ⟨(h c).1.trans ((Cert.DownFwdRefIdeal.Read.val_main_v2_eq (F := Ideal) _ _).trans
        (by rw [(hag c).1, (hag c).2.1])),
      (h c).2.1.trans ((Cert.DownFwdRefIdeal.Read.val_main_v15_eq (F := Ideal) _ _ _ _).trans
        (by rw [(hag c).1, (hag c).2.1, (hag c).2.2.1, (hag c).2.2.2])), (h c).2.2⟩) (Cert.DownFwdRefIdeal.Value.run m' ρ')⟩

/-! ## The attention's projection and the norm before it, in the layer's input -/

/-- The projection's input gradient kernel runs and leaves its arguments. -/
theorem frame_attndx : Cert.quiescent_AttnDx := fun m ρ _ => Cert.AttnDx.Gen.frame m ρ

/-- The same of its idealization. -/
theorem frame_attndx_ideal : Cert.quiescent_AttnDxIdeal := fun m ρ _ => Cert.AttnDxIdeal.Gen.frame m ρ

/-- Its reference runs and leaves its arguments; it has no semaphore. -/
theorem frame_attndx_ref : Cert.quiescent_AttnDxRefIdeal := fun m ρ _ =>
  (θ_run Cert.AttnDxRefIdeal.defs _ _).mono (fun r h => ⟨fun c => (h c).2.2, Idealize.ShloMosaic.sem_eq_zero_of_no_sems (by decide) r.2⟩) (Cert.AttnDxRefIdeal.Value.run m ρ)

/-- The layer's input's gradient and the norm's weight's are the reference's at every element, from any arguments. -/
theorem value_attndx : Cert.algebraic_AttnDxIdeal_AttnDxRefIdeal := fun m ρ m' ρ' _ hag =>
  ⟨fun c => Cert.AttnDxRefIdeal.Read.val_main_v46 (F := Ideal) (m ((c.tc : Thread _ _).loc Cert.AttnDxIdeal.main_arg0)) (m ((c.tc : Thread _ _).loc Cert.AttnDxIdeal.main_arg1))
      (m ((c.tc : Thread _ _).loc Cert.AttnDxIdeal.main_arg2)) (m ((c.tc : Thread _ _).loc Cert.AttnDxIdeal.main_arg3))
      (m ((c.tc : Thread _ _).loc Cert.AttnDxIdeal.main_arg4)) (m ((c.tc : Thread _ _).loc Cert.AttnDxIdeal.main_arg5))
      (m ((c.tc : Thread _ _).loc Cert.AttnDxIdeal.main_arg6)) (m ((c.tc : Thread _ _).loc Cert.AttnDxIdeal.main_arg7))
      (m ((c.tc : Thread _ _).loc Cert.AttnDxIdeal.main_arg8)) (m ((c.tc : Thread _ _).loc Cert.AttnDxIdeal.main_arg9)),
    fun c => Cert.AttnDxRefIdeal.Read.val_main_v29 (F := Ideal) (m ((c.tc : Thread _ _).loc Cert.AttnDxIdeal.main_arg0)) (m ((c.tc : Thread _ _).loc Cert.AttnDxIdeal.main_arg1))
      (m ((c.tc : Thread _ _).loc Cert.AttnDxIdeal.main_arg2)) (m ((c.tc : Thread _ _).loc Cert.AttnDxIdeal.main_arg3))
      (m ((c.tc : Thread _ _).loc Cert.AttnDxIdeal.main_arg4)) (m ((c.tc : Thread _ _).loc Cert.AttnDxIdeal.main_arg5))
      (m ((c.tc : Thread _ _).loc Cert.AttnDxIdeal.main_arg6)) (m ((c.tc : Thread _ _).loc Cert.AttnDxIdeal.main_arg7)),
    (θ_run Cert.AttnDxIdeal.defs _ _).mono (fun _ h c => ⟨(h c).1.trans (Cert.AttnDxIdeal.Val.res_dx m c), (h c).2.1.trans (Cert.AttnDxIdeal.Val.res_dg m c), (h c).2.2⟩)
      (Cert.AttnDxIdeal.Value.run_blocks m ρ),
    (θ_run Cert.AttnDxRefIdeal.defs _ _).mono (fun _ h c => ⟨(h c).1.trans ((Cert.AttnDxRefIdeal.Read.val_main_v46_eq (F := Ideal) _ _).trans
        (by rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2])),
      (h c).2.1.trans ((Cert.AttnDxRefIdeal.Read.val_main_v29_eq (F := Ideal) _ _ _ _ _ _ _ _).trans
        (by rw [(hag c).1, (hag c).2.1, (hag c).2.2.1, (hag c).2.2.2.1, (hag c).2.2.2.2.1, (hag c).2.2.2.2.2.1, (hag c).2.2.2.2.2.2.1, (hag c).2.2.2.2.2.2.2.1])), (h c).2.2⟩) (Cert.AttnDxRefIdeal.Value.run m' ρ')⟩

/-! ## The Conformer convolution's first product and the norm before it, in the layer's input -/

/-- The first product's input gradient kernel runs and leaves its arguments. -/
theorem frame_convdx : Cert.quiescent_ConvDx := fun m ρ _ => Cert.ConvDx.Gen.frame m ρ

/-- The same of its idealization. -/
theorem frame_convdx_ideal : Cert.quiescent_ConvDxIdeal := fun m ρ _ => Cert.ConvDxIdeal.Gen.frame m ρ

/-- Its reference runs and leaves its arguments; it has no semaphore. -/
theorem frame_convdx_ref : Cert.quiescent_ConvDxRefIdeal := fun m ρ _ =>
  (θ_run Cert.ConvDxRefIdeal.defs _ _).mono (fun r h => ⟨fun c => (h c).2.2, Idealize.ShloMosaic.sem_eq_zero_of_no_sems (by decide) r.2⟩) (Cert.ConvDxRefIdeal.Value.run m ρ)

/-- The layer's input's gradient and the norm's weight's are the reference's at every element, from any arguments. -/
theorem value_convdx : Cert.algebraic_ConvDxIdeal_ConvDxRefIdeal := fun m ρ m' ρ' _ hag =>
  ⟨fun c => Cert.ConvDxRefIdeal.Read.val_main_v39 (F := Ideal) (m ((c.tc : Thread _ _).loc Cert.ConvDxIdeal.main_arg0)) (m ((c.tc : Thread _ _).loc Cert.ConvDxIdeal.main_arg1))
      (m ((c.tc : Thread _ _).loc Cert.ConvDxIdeal.main_arg2)) (m ((c.tc : Thread _ _).loc Cert.ConvDxIdeal.main_arg3))
      (m ((c.tc : Thread _ _).loc Cert.ConvDxIdeal.main_arg4)),
    fun c => Cert.ConvDxRefIdeal.Read.val_main_v22 (F := Ideal) (m ((c.tc : Thread _ _).loc Cert.ConvDxIdeal.main_arg0)) (m ((c.tc : Thread _ _).loc Cert.ConvDxIdeal.main_arg1))
      (m ((c.tc : Thread _ _).loc Cert.ConvDxIdeal.main_arg2)),
    (θ_run Cert.ConvDxIdeal.defs _ _).mono (fun _ h c => ⟨(h c).1.trans (Cert.ConvDxIdeal.Val.res_dx m c), (h c).2.1.trans (Cert.ConvDxIdeal.Val.res_dg m c), (h c).2.2⟩)
      (Cert.ConvDxIdeal.Value.run_blocks m ρ),
    (θ_run Cert.ConvDxRefIdeal.defs _ _).mono (fun _ h c => ⟨(h c).1.trans ((Cert.ConvDxRefIdeal.Read.val_main_v39_eq (F := Ideal) _ _).trans
        (by rw [(hag c).1, (hag c).2.1, (hag c).2.2.1, (hag c).2.2.2.1, (hag c).2.2.2.2])),
      (h c).2.1.trans ((Cert.ConvDxRefIdeal.Read.val_main_v22_eq (F := Ideal) _ _ _).trans
        (by rw [(hag c).1, (hag c).2.1, (hag c).2.2.1])), (h c).2.2⟩) (Cert.ConvDxRefIdeal.Value.run m' ρ')⟩

/-! ## The ConvFFN's up-projection, in the first half of its weight -/

/-- The kernel of the weight gradient's first half runs and leaves its arguments. -/
theorem frame_dwupu : Cert.quiescent_DwUpU := fun m ρ _ => Cert.DwUpU.Gen.frame m ρ

/-- The same of its idealization. -/
theorem frame_dwupu_ideal : Cert.quiescent_DwUpUIdeal := fun m ρ _ => Cert.DwUpUIdeal.Gen.frame m ρ

/-- Its reference runs and leaves its arguments; it has no semaphore. -/
theorem frame_dwupu_ref : Cert.quiescent_DwUpURefIdeal := fun m ρ _ =>
  (θ_run Cert.DwUpURefIdeal.defs _ _).mono (fun r h => ⟨fun c => (h c).2, Idealize.ShloMosaic.sem_eq_zero_of_no_sems (by decide) r.2⟩) (Cert.DwUpURefIdeal.Value.run m ρ)

/-- The first half of the weight's gradient is the reference's at every element, from any arguments. -/
theorem value_dwupu : Cert.algebraic_DwUpUIdeal_DwUpURefIdeal := fun m ρ m' ρ' _ hag =>
  ⟨fun c => Cert.DwUpURefIdeal.Read.val_main_v10 (F := Ideal) (m ((c.tc : Thread _ _).loc Cert.DwUpUIdeal.main_arg0)) (m ((c.tc : Thread _ _).loc Cert.DwUpUIdeal.main_arg1)),
    (θ_run Cert.DwUpUIdeal.defs _ _).mono (fun _ h c => ⟨(h c).1.trans (Cert.DwUpUIdeal.Val.res m c), (h c).2⟩) (Cert.DwUpUIdeal.Val.run_half m ρ),
    (θ_run Cert.DwUpURefIdeal.defs _ _).mono (fun _ h c => ⟨(h c).1.trans ((Cert.DwUpURefIdeal.Read.val_main_v10_eq (F := Ideal) _ _).trans
      (by rw [(hag c).1, (hag c).2])), (h c).2⟩) (Cert.DwUpURefIdeal.Value.run m' ρ')⟩

/-! ## The Conformer convolution's first product, in its weight -/

/-- The first product's weight gradient kernel runs and leaves its arguments. -/
theorem frame_pww : Cert.quiescent_PwW := fun m ρ _ => Cert.PwW.Gen.frame m ρ

/-- The same of its idealization. -/
theorem frame_pww_ideal : Cert.quiescent_PwWIdeal := fun m ρ _ => Cert.PwWIdeal.Gen.frame m ρ

/-- Its reference runs and leaves its arguments; it has no semaphore. -/
theorem frame_pww_ref : Cert.quiescent_PwWRefIdeal := fun m ρ _ =>
  (θ_run Cert.PwWRefIdeal.defs _ _).mono (fun r h => ⟨fun c => (h c).2, Idealize.ShloMosaic.sem_eq_zero_of_no_sems (by decide) r.2⟩) (Cert.PwWRefIdeal.Value.run m ρ)

/-- The weight's gradient is the reference's at every element, from any arguments. -/
theorem value_pww : Cert.algebraic_PwWIdeal_PwWRefIdeal := fun m ρ m' ρ' _ hag =>
  ⟨fun c => Cert.PwWRefIdeal.Read.val_main_v10 (F := Ideal) (m ((c.tc : Thread _ _).loc Cert.PwWIdeal.main_arg0)) (m ((c.tc : Thread _ _).loc Cert.PwWIdeal.main_arg1)),
    (θ_run Cert.PwWIdeal.defs _ _).mono (fun _ h c => ⟨(h c).1.trans (Cert.PwWIdeal.Val.res m c), (h c).2⟩) (Cert.PwWIdeal.Value.run m ρ),
    (θ_run Cert.PwWRefIdeal.defs _ _).mono (fun _ h c => ⟨(h c).1.trans ((Cert.PwWRefIdeal.Read.val_main_v10_eq (F := Ideal) _ _).trans
      (by rw [(hag c).1, (hag c).2])), (h c).2⟩) (Cert.PwWRefIdeal.Value.run m' ρ')⟩

/-- All the claims. -/
theorem claim : Cert.Claim := ⟨Cert.Conv.Gen.facts, Cert.ConvIdeal.Gen.facts, Cert.ConvRefIdeal.Gen.facts,
  Cert.Up.Gen.facts, Cert.UpIdeal.Gen.facts, Cert.UpRefIdeal.Gen.facts,
  Cert.Down.Gen.facts, Cert.DownIdeal.Gen.facts, Cert.DownRefIdeal.Gen.facts,
  Cert.Gate.Gen.facts, Cert.GateIdeal.Gen.facts, Cert.GateRefIdeal.Gen.facts,
  Cert.DwUp.Gen.facts, Cert.DwUpIdeal.Gen.facts, Cert.DwUpRefIdeal.Gen.facts,
  Cert.Dact.Gen.facts, Cert.DactIdeal.Gen.facts, Cert.DactRefIdeal.Gen.facts,
  Cert.Post.Gen.facts, Cert.PostIdeal.Gen.facts, Cert.PostRefIdeal.Gen.facts,
  Cert.UpFwd.Gen.facts, Cert.UpFwdIdeal.Gen.facts, Cert.UpFwdRefIdeal.Gen.facts,
  Cert.DownFwd.Gen.facts, Cert.DownFwdIdeal.Gen.facts, Cert.DownFwdRefIdeal.Gen.facts,
  Cert.AttnDx.Gen.facts, Cert.AttnDxIdeal.Gen.facts, Cert.AttnDxRefIdeal.Gen.facts,
  Cert.ConvDx.Gen.facts, Cert.ConvDxIdeal.Gen.facts, Cert.ConvDxRefIdeal.Gen.facts,
  Cert.DwUpU.Gen.facts, Cert.DwUpUIdeal.Gen.facts, Cert.DwUpURefIdeal.Gen.facts,
  Cert.PwW.Gen.facts, Cert.PwWIdeal.Gen.facts, Cert.PwWRefIdeal.Gen.facts, Cert.Pre_gate_finite.Gen.facts,
  frame_conv, frame_conv_ideal, frame_conv_ref, frame_up, frame_up_ideal, frame_up_ref, frame_down, frame_down_ideal, frame_down_ref, frame_gate, frame_gate_ideal, frame_gate_pre, frame_gate_ref,
  frame_gate_ref_pre, frame_dwup, frame_dwup_ideal, frame_dwup_ref, frame_dact, frame_dact_ideal, frame_dact_ref,
  frame_post, frame_post_ideal, frame_post_ref, frame_upfwd, frame_upfwd_ideal, frame_upfwd_ref, frame_downfwd, frame_downfwd_ideal, frame_downfwd_ref,
  frame_attndx, frame_attndx_ideal, frame_attndx_ref, frame_convdx, frame_convdx_ideal, frame_convdx_ref, frame_dwupu, frame_dwupu_ideal, frame_dwupu_ref, frame_pww, frame_pww_ideal, frame_pww_ref,
  trivial, value_conv, trivial, value_up, trivial, value_down, trivial, value_gate, trivial, value_dwup, trivial, value_dact,
  trivial, value_post, trivial, value_upfwd, trivial, value_downfwd,
  trivial, value_attndx, trivial, value_convdx, trivial, value_dwupu, trivial, value_pww⟩

end Cert.Proof

end
